-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_below [hPre_below : Cert.Pre_below.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_below.fn (F := Ideal) (m ((c.tc : Thread Cert.Kernel8Ideal.nD Cert.Kernel8Ideal.τ).loc Cert.Kernel8Ideal.main_arg0))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_below [hPre_below : Cert.Pre_below.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_below.fn (F := Ideal) (m ((c.tc : Thread Cert.Reference8Ideal.nD Cert.Reference8Ideal.τ).loc Cert.Reference8Ideal.main_arg0))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Kernel8Ideal_pre_below [hKernel8Ideal : Cert.Kernel8Ideal.Facts] [hPre_below : Cert.Pre_below.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_below m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8Ideal_pre_below [hReference8Ideal : Cert.Reference8Ideal.Facts] [hPre_below : Cert.Pre_below.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_below m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  IdealRules.named_const.Statement Cert.KernelIdeal.κ "sl2e" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "l2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)) (v3 : (c : Dev Cert.Kernel5Ideal.nD) → Buf (Elt Ideal) ((c.tc : Thread Cert.Kernel5Ideal.nD Cert.Kernel5Ideal.τ).loc Cert.Kernel5Ideal.main_v16_3)) (v4 : (c : Dev Cert.Kernel5Ideal.nD) → Buf (Elt Ideal) ((c.tc : Thread Cert.Kernel5Ideal.nD Cert.Kernel5Ideal.τ).loc Cert.Kernel5Ideal.main_v16_4)) (v5 : (c : Dev Cert.Kernel5Ideal.nD) → Buf (Elt Ideal) ((c.tc : Thread Cert.Kernel5Ideal.nD Cert.Kernel5Ideal.τ).loc Cert.Kernel5Ideal.main_v16_5)) (v6 : (c : Dev Cert.Kernel5Ideal.nD) → Buf (Elt Ideal) ((c.tc : Thread Cert.Kernel5Ideal.nD Cert.Kernel5Ideal.τ).loc Cert.Kernel5Ideal.main_v16_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_v16_3) = v3 c
          ∧ r.2.mem ((c.tc : Thread Cert.Kernel5Ideal.nD Cert.Kernel5Ideal.τ).loc Cert.Kernel5Ideal.main_v16_4) = v4 c
          ∧ r.2.mem ((c.tc : Thread Cert.Kernel5Ideal.nD Cert.Kernel5Ideal.τ).loc Cert.Kernel5Ideal.main_v16_5) = v5 c
          ∧ r.2.mem ((c.tc : Thread Cert.Kernel5Ideal.nD Cert.Kernel5Ideal.τ).loc Cert.Kernel5Ideal.main_v16_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v37) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_v39) = v4 c
          ∧ r.2.mem ((c.tc : Thread Cert.Reference5Ideal.nD Cert.Reference5Ideal.τ).loc Cert.Reference5Ideal.main_v40) = v5 c
          ∧ r.2.mem ((c.tc : Thread Cert.Reference5Ideal.nD Cert.Reference5Ideal.τ).loc Cert.Reference5Ideal.main_v41) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)) (v2 : (c : Dev Cert.Kernel6Ideal.nD) → Buf (Elt Ideal) ((c.tc : Thread Cert.Kernel6Ideal.nD Cert.Kernel6Ideal.τ).loc Cert.Kernel6Ideal.main_v16_2)) (v3 : (c : Dev Cert.Kernel6Ideal.nD) → Buf (Elt Ideal) ((c.tc : Thread Cert.Kernel6Ideal.nD Cert.Kernel6Ideal.τ).loc Cert.Kernel6Ideal.main_v20)) (v4 : (c : Dev Cert.Kernel6Ideal.nD) → Buf (Elt Ideal) ((c.tc : Thread Cert.Kernel6Ideal.nD Cert.Kernel6Ideal.τ).loc Cert.Kernel6Ideal.main_v16_4)) (v5 : (c : Dev Cert.Kernel6Ideal.nD) → Buf (Elt Ideal) ((c.tc : Thread Cert.Kernel6Ideal.nD Cert.Kernel6Ideal.τ).loc Cert.Kernel6Ideal.main_v16_5)) (v6 : (c : Dev Cert.Kernel6Ideal.nD) → Buf (Elt Ideal) ((c.tc : Thread Cert.Kernel6Ideal.nD Cert.Kernel6Ideal.τ).loc Cert.Kernel6Ideal.main_v16_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_v16_2) = v2 c
          ∧ r.2.mem ((c.tc : Thread Cert.Kernel6Ideal.nD Cert.Kernel6Ideal.τ).loc Cert.Kernel6Ideal.main_v20) = v3 c
          ∧ r.2.mem ((c.tc : Thread Cert.Kernel6Ideal.nD Cert.Kernel6Ideal.τ).loc Cert.Kernel6Ideal.main_v16_4) = v4 c
          ∧ r.2.mem ((c.tc : Thread Cert.Kernel6Ideal.nD Cert.Kernel6Ideal.τ).loc Cert.Kernel6Ideal.main_v16_5) = v5 c
          ∧ r.2.mem ((c.tc : Thread Cert.Kernel6Ideal.nD Cert.Kernel6Ideal.τ).loc Cert.Kernel6Ideal.main_v16_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v41) = v3 c
          ∧ r.2.mem ((c.tc : Thread Cert.Reference6Ideal.nD Cert.Reference6Ideal.τ).loc Cert.Reference6Ideal.main_v42) = v4 c
          ∧ r.2.mem ((c.tc : Thread Cert.Reference6Ideal.nD Cert.Reference6Ideal.τ).loc Cert.Reference6Ideal.main_v43) = v5 c
          ∧ r.2.mem ((c.tc : Thread Cert.Reference6Ideal.nD Cert.Reference6Ideal.τ).loc Cert.Reference6Ideal.main_v44) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal_pre_below [hKernel8Ideal : Cert.Kernel8Ideal.Facts] [hReference8Ideal : Cert.Reference8Ideal.Facts] [hPre_below : Cert.Pre_below.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_below m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_below : Cert.Pre_below.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_below (hKernel8Ideal := hKernel8Ideal) (hPre_below := hPre_below)
    ∧ quiescent_Reference8Ideal (hReference8Ideal := hReference8Ideal)
    ∧ quiescent_Reference8Ideal_pre_below (hReference8Ideal := hReference8Ideal) (hPre_below := hPre_below)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_below (hKernel8Ideal := hKernel8Ideal) (hReference8Ideal := hReference8Ideal) (hPre_below := hPre_below)
    ∧ preserves_Kernel9_Kernel9Ideal
    ∧ algebraic_Kernel9Ideal_Reference9Ideal (hKernel9Ideal := hKernel9Ideal) (hReference9Ideal := hReference9Ideal)
-- ==== Pre_below.lean ====
abbrev S32768x128 : Shape := ⟨2, ![32768, 128]⟩
abbrev S32768x8 : Shape := ⟨2, ![32768, 8]⟩
abbrev S_ : Shape := ⟨0, ![]⟩

class Facts : Prop where
  slices_S32768x128_S32768x8_0_24 : S32768x128.Slices ![0, 24] S32768x8
  bcast_S_S32768x8 : S_.BroadcastsInDim S32768x8 (![] : Fin 0 → Fin S32768x8.rank)

variable [Facts]

def fn {F : FTy → Type} [FloatOps F] (main_arg0 : FVec F S32768x128 .f32) : IVec S32768x8 1 :=
  let main_v0 : FVec F S32768x8 .f32 := (extractStridedSlice S32768x8 ![0, 24] · slices_S32768x128_S32768x8_0_24) main_arg0
  let main_cst : FVec F S_ .f32 := constant S_ .f32 0x7F800000#32
  let main_v1 : FVec F S32768x8 .f32 := broadcastInDim S32768x8 ![] bcast_S_S32768x8 main_cst
  let main_v2 : IVec S32768x8 1 := cmpf .olt main_v0 main_v1
  main_v2
-- ==== Pre_finite.lean ====
abbrev S16x2048x1024 : Shape := ⟨3, ![16, 2048, 1024]⟩
abbrev S16x2048x2048 : Shape := ⟨3, ![16, 2048, 2048]⟩
abbrev S16x2048x8 : Shape := ⟨3, ![16, 2048, 8]⟩
abbrev S_ : Shape := ⟨0, ![]⟩

class Facts : Prop where
  bcast_S_S16x2048x1024 : S_.BroadcastsInDim S16x2048x1024 (![] : Fin 0 → Fin S16x2048x1024.rank)
  slices_S16x2048x2048_S16x2048x1024_0_0_0 : S16x2048x2048.Slices ![0, 0, 0] S16x2048x1024
  bcast_S_S16x2048x8 : S_.BroadcastsInDim S16x2048x8 (![] : Fin 0 → Fin S16x2048x8.rank)

variable [Facts]

def fn {F : FTy → Type} [FloatOps F] (main_arg0 : FVec F S16x2048x1024 .f32) (main_arg1 : FVec F S16x2048x2048 .f32) (main_arg2 : FVec F S16x2048x8 .f32) : IVec S16x2048x1024 1 × IVec S16x2048x1024 1 × IVec S16x2048x8 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x2048x1024 .f32 := (extractStridedSlice S16x2048x1024 ![0, 0, 0] · slices_S16x2048x2048_S16x2048x1024_0_0_0) main_arg1
  let main_v4 : FVec F S16x2048x1024 .f32 := Host.absf main_v3
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_v7 : FVec F S16x2048x8 .f32 := Host.absf main_arg2
  let main_cst_1 : FVec F S_ .f32 := constant S_ .f32 0x7F800000#32
  let main_v8 : FVec F S16x2048x8 .f32 := broadcastInDim S16x2048x8 ![] bcast_S_S16x2048x8 main_cst_1
  let main_v9 : IVec S16x2048x8 1 := cmpf .olt main_v7 main_v8
  (main_v2, main_v6, main_v9)
-- ==== Kernel.lean ====
abbrev S16x2048x1024 : Shape := ⟨3, ![16, 2048, 1024]⟩
abbrev S16x2048x2048 : Shape := ⟨3, ![16, 2048, 2048]⟩
abbrev S16x2048x8 : Shape := ⟨3, ![16, 2048, 8]⟩
abbrev S_ : Shape := ⟨0, ![]⟩
abbrev S16x2048x128 : Shape := ⟨3, ![16, 2048, 128]⟩
abbrev S16x8x2048 : Shape := ⟨3, ![16, 8, 2048]⟩
abbrev S16x8x4x512 : Shape := ⟨4, ![16, 8, 4, 512]⟩
abbrev S1x512x128 : Shape := ⟨3, ![1, 512, 128]⟩
abbrev S1x2048x128 : Shape := ⟨3, ![1, 2048, 128]⟩
abbrev S1x1x4x512 : Shape := ⟨4, ![1, 1, 4, 512]⟩
abbrev S1x512 : Shape := ⟨2, ![1, 512]⟩
abbrev S128x512 : Shape := ⟨2, ![128, 512]⟩
abbrev S512x128 : Shape := ⟨2, ![512, 128]⟩
abbrev S1x1x1x512 : Shape := ⟨4, ![1, 1, 1, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x2048, .f32⟩
  | .hbm, ⟨2, _⟩ => ⟨S16x2048x8, .f32⟩
  | .hbm, ⟨3, _⟩ => ⟨S_, .i32⟩
  | .hbm, ⟨4, _⟩ => ⟨S_, .f32⟩
  | .hbm, ⟨5, _⟩ => ⟨S16x2048x128, .f32⟩
  | .hbm, ⟨6, _⟩ => ⟨S16x8x2048, .f32⟩
  | .hbm, ⟨7, _⟩ => ⟨S16x8x4x512, .f32⟩
  | .hbm, ⟨8, _⟩ => ⟨S16x2048x1024, .f32⟩
  | .local _ .vmem, ⟨0, _⟩ => ⟨S1x512x128, .f32⟩
  | .local _ .vmem, ⟨1, _⟩ => ⟨S1x512x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x1x4x512, .f32⟩
  | .local _ .vmem, ⟨9, _⟩ => ⟨S1x1x4x512, .f32⟩
  | .local _ .vmem, ⟨10, _⟩ => ⟨S1x512x128, .f32⟩
  | .local _ .vmem, ⟨11, _⟩ => ⟨S1x512x128, .f32⟩
  | .local _ .vmem, ⟨12, _⟩ => ⟨S1x512, .f32⟩
  | .local _ .vmem, ⟨13, _⟩ => ⟨S1x512, .f32⟩
  | .local _ .vmem, ⟨14, _⟩ => ⟨S128x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 4], ![false, false, false]⟩

def k0_off1 (i : grid0.Coords) : Fin 4 → Nat :=
  let c0_11 : Index := 0#32
  let c0_12 : Index := 0#32
  let arg2 : BitVec 32 := BitVec.ofNat 32 (i 2).val
  let v17 : Index := Scalar.indexCast arg2
  let c0_13 : Index := 0#32
  ![0, 0, v17.toNat, 0]
@[reducible] def k0_t1_loop (i : grid0.Coords) : Scf.Loop 32 :=
  let c0_i32_17 : BitVec 32 := 0#32
  let arg2 : BitVec 32 := BitVec.ofNat 32 (i 2).val
  let c1_i32 : BitVec 32 := 1#32
  let v32 : BitVec 32 := Scalar.shrsi arg2 c1_i32
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_19 : BitVec 32 := 1#32
  ⟨c0_i32_17, v37, c1_i32_19⟩
def k0_mult1 (i : grid0.Coords) (k0_t1 : Fin (k0_t1_loop i).trips) : BitVec 32 :=
  let c2_i32 : BitVec 32 := 2#32
  let c0_i32_17 : BitVec 32 := 0#32
  let c1_i32_19 : BitVec 32 := 1#32
  let arg12 : BitVec 32 := Scf.iv c0_i32_17 c1_i32_19 k0_t1
  let v54 : BitVec 32 := Scalar.muli c2_i32 arg12
  let c512_i32 : BitVec 32 := 512#32
  let v57 : BitVec 32 := Scalar.muli v54 c512_i32
  v57
def k0_off2 (i : grid0.Coords) (k0_t1 : Fin (k0_t1_loop i).trips) : Fin 3 → Nat :=
  let c0_36 : Index := 0#32
  let c2_i32 : BitVec 32 := 2#32
  let c0_i32_17 : BitVec 32 := 0#32
  let c1_i32_19 : BitVec 32 := 1#32
  let arg12 : BitVec 32 := Scf.iv c0_i32_17 c1_i32_19 k0_t1
  let v54 : BitVec 32 := Scalar.muli c2_i32 arg12
  let c512_i32 : BitVec 32 := 512#32
  let v57 : BitVec 32 := Scalar.muli v54 c512_i32
  let v58 : BitVec 32 := v57
  let v59 : Index := Scalar.indexCast v58
  let c0_37 : Index := 0#32
  ![0, v59.toNat, 0]
def k0_mult2 (i : grid0.Coords) (k0_t1 : Fin (k0_t1_loop i).trips) : BitVec 32 :=
  let c2_i32_34 : BitVec 32 := 2#32
  let c0_i32_17 : BitVec 32 := 0#32
  let c1_i32_19 : BitVec 32 := 1#32
  let arg12 : BitVec 32 := Scf.iv c0_i32_17 c1_i32_19 k0_t1
  let v55 : BitVec 32 := Scalar.muli c2_i32_34 arg12
  let c1_i32_35 : BitVec 32 := 1#32
  let v56 : BitVec 32 := Scalar.addi v55 c1_i32_35
  let c512_i32_46 : BitVec 32 := 512#32
  let v80 : BitVec 32 := Scalar.muli v56 c512_i32_46
  v80
def k0_off3 (i : grid0.Coords) (k0_t1 : Fin (k0_t1_loop i).trips) : Fin 3 → Nat :=
  let c0_47 : Index := 0#32
  let c2_i32_34 : BitVec 32 := 2#32
  let c0_i32_17 : BitVec 32 := 0#32
  let c1_i32_19 : BitVec 32 := 1#32
  let arg12 : BitVec 32 := Scf.iv c0_i32_17 c1_i32_19 k0_t1
  let v55 : BitVec 32 := Scalar.muli c2_i32_34 arg12
  let c1_i32_35 : BitVec 32 := 1#32
  let v56 : BitVec 32 := Scalar.addi v55 c1_i32_35
  let c512_i32_46 : BitVec 32 := 512#32
  let v80 : BitVec 32 := Scalar.muli v56 c512_i32_46
  let v81 : BitVec 32 := v80
  let v82 : Index := Scalar.indexCast v81
  let c0_48 : Index := 0#32
  ![0, v82.toNat, 0]
@[reducible] def k0_t2_loop (i : grid0.Coords) : Scf.Loop 32 :=
  let c0_i32_17 : BitVec 32 := 0#32
  let arg2 : BitVec 32 := BitVec.ofNat 32 (i 2).val
  let c1_i32 : BitVec 32 := 1#32
  let v32 : BitVec 32 := Scalar.shrsi arg2 c1_i32
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let v34 : BitVec 32 := Scalar.addi c0_i32_17 v33
  let c1_i32_20 : BitVec 32 := 1#32
  ⟨v37, v34, c1_i32_20⟩
def k0_mult3 (i : grid0.Coords) (k0_t2 : Fin (k0_t2_loop i).trips) : BitVec 32 :=
  let c2_i32 : BitVec 32 := 2#32
  let c0_i32_17 : BitVec 32 := 0#32
  let arg2 : BitVec 32 := BitVec.ofNat 32 (i 2).val
  let c1_i32 : BitVec 32 := 1#32
  let v32 : BitVec 32 := Scalar.shrsi arg2 c1_i32
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg12 : BitVec 32 := Scf.iv v37 c1_i32_20 k0_t2
  let v54 : BitVec 32 := Scalar.muli c2_i32 arg12
  let c512_i32 : BitVec 32 := 512#32
  let v57 : BitVec 32 := Scalar.muli v54 c512_i32
  v57
def k0_off4 (i : grid0.Coords) (k0_t2 : Fin (k0_t2_loop i).trips) : Fin 3 → Nat :=
  let c0_36 : Index := 0#32
  let c2_i32 : BitVec 32 := 2#32
  let c0_i32_17 : BitVec 32 := 0#32
  let arg2 : BitVec 32 := BitVec.ofNat 32 (i 2).val
  let c1_i32 : BitVec 32 := 1#32
  let v32 : BitVec 32 := Scalar.shrsi arg2 c1_i32
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg12 : BitVec 32 := Scf.iv v37 c1_i32_20 k0_t2
  let v54 : BitVec 32 := Scalar.muli c2_i32 arg12
  let c512_i32 : BitVec 32 := 512#32
  let v57 : BitVec 32 := Scalar.muli v54 c512_i32
  let v58 : BitVec 32 := v57
  let v59 : Index := Scalar.indexCast v58
  let c0_37 : Index := 0#32
  ![0, v59.toNat, 0]
def k0_mult4 (i : grid0.Coords) (k0_t2 : Fin (k0_t2_loop i).trips) : BitVec 32 :=
  let c2_i32_34 : BitVec 32 := 2#32
  let c0_i32_17 : BitVec 32 := 0#32
  let arg2 : BitVec 32 := BitVec.ofNat 32 (i 2).val
  let c1_i32 : BitVec 32 := 1#32
  let v32 : BitVec 32 := Scalar.shrsi arg2 c1_i32
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg12 : BitVec 32 := Scf.iv v37 c1_i32_20 k0_t2
  let v55 : BitVec 32 := Scalar.muli c2_i32_34 arg12
  let c1_i32_35 : BitVec 32 := 1#32
  let v56 : BitVec 32 := Scalar.addi v55 c1_i32_35
  let c512_i32_46 : BitVec 32 := 512#32
  let v80 : BitVec 32 := Scalar.muli v56 c512_i32_46
  v80
def k0_off5 (i : grid0.Coords) (k0_t2 : Fin (k0_t2_loop i).trips) : Fin 3 → Nat :=
  let c0_47 : Index := 0#32
  let c2_i32_34 : BitVec 32 := 2#32
  let c0_i32_17 : BitVec 32 := 0#32
  let arg2 : BitVec 32 := BitVec.ofNat 32 (i 2).val
  let c1_i32 : BitVec 32 := 1#32
  let v32 : BitVec 32 := Scalar.shrsi arg2 c1_i32
  let v33 : BitVec 32 := Scalar.subi v32 c0_i32_17
  let c1_i32_18 : BitVec 32 := 1#32
  let v35 : BitVec 32 := Scalar.divsi v33 c1_i32_18
  let v36 : BitVec 32 := Scalar.muli v35 c1_i32_18
  let v37 : BitVec 32 := Scalar.addi c0_i32_17 v36
  let c1_i32_20 : BitVec 32 := 1#32
  let arg12 : BitVec 32 := Scf.iv v37 c1_i32_20 k0_t2
  let v55 : BitVec 32 := Scalar.muli c2_i32_34 arg12
  let c1_i32_35 : BitVec 32 := 1#32
  let v56 : BitVec 32 := Scalar.addi v55 c1_i32_35
  let c512_i32_46 : BitVec 32 := 512#32
  let v80 : BitVec 32 := Scalar.muli v56 c512_i32_46
  let v81 : BitVec 32 := v80
  let v82 : Index := Scalar.indexCast v81
  let c0_48 : Index := 0#32
  ![0, v82.toNat, 0]
def k0_cond1 (i : grid0.Coords) : BitVec 1 :=
  let arg2 : BitVec 32 := BitVec.ofNat 32 (i 2).val
  let c1_i32_21 : BitVec 32 := 1#32
  let v38 : BitVec 32 := Scalar.andi arg2 c1_i32_21
  let c1_i32_22 : BitVec 32 := 1#32
  let v39 : BitVec 1 := Scalar.cmpi .eq v38 c1_i32_22
  let v40 : BitVec 32 := Scalar.extui v39
  let c0_i32_23 : BitVec 32 := 0#32
  let v41 : BitVec 1 := Scalar.cmpi .ne v40 c0_i32_23
  v41

def k0_mult5 (i : grid0.Coords) : BitVec 32 :=
  let arg2 : BitVec 32 := BitVec.ofNat 32 (i 2).val
  let c1_i32_34 : BitVec 32 := 1#32
  let v54 : BitVec 32 := Scalar.subi arg2 c1_i32_34
  let c512_i32 : BitVec 32 := 512#32
  let v55 : BitVec 32 := Scalar.muli v54 c512_i32
  v55
def k0_off6 (i : grid0.Coords) : Fin 3 → Nat :=
  let c0_35 : Index := 0#32
  let arg2 : BitVec 32 := BitVec.ofNat 32 (i 2).val
  let c1_i32_34 : BitVec 32 := 1#32
  let v54 : BitVec 32 := Scalar.subi arg2 c1_i32_34
  let c512_i32 : BitVec 32 := 512#32
  let v55 : BitVec 32 := Scalar.muli v54 c512_i32
  let v56 : BitVec 32 := v55
  let v57 : Index := Scalar.indexCast v56
  let c0_36 : Index := 0#32
  ![0, v57.toNat, 0]
def k0_mult6 (i : grid0.Coords) : BitVec 32 :=
  let arg2 : BitVec 32 := BitVec.ofNat 32 (i 2).val
  let c512_i32_45 : BitVec 32 := 512#32
  let v78 : BitVec 32 := Scalar.muli arg2 c512_i32_45
  v78
def k0_off7 (i : grid0.Coords) : Fin 3 → Nat :=
  let c0_46 : Index := 0#32
  let arg2 : BitVec 32 := BitVec.ofNat 32 (i 2).val
  let c512_i32_45 : BitVec 32 := 512#32
  let v78 : BitVec 32 := Scalar.muli arg2 c512_i32_45
  let v79 : BitVec 32 := v78
  let v80 : Index := Scalar.indexCast v79
  let c0_47 : Index := 0#32
  ![0, v80.toNat, 0]
def k0_cond2 (i : grid0.Coords) : BitVec 1 :=
  let arg2 : BitVec 32 := BitVec.ofNat 32 (i 2).val
  let c1_i32_24 : BitVec 32 := 1#32
  let v42 : BitVec 32 := Scalar.andi arg2 c1_i32_24
  let c0_i32_25 : BitVec 32 := 0#32
  let v43 : BitVec 1 := Scalar.cmpi .eq v42 c0_i32_25
  let v44 : BitVec 32 := Scalar.extui v43
  let c0_i32_26 : BitVec 32 := 0#32
  let v45 : BitVec 1 := Scalar.cmpi .ne v44 c0_i32_26
  v45

def k0_mult7 (i : grid0.Coords) : BitVec 32 :=
  let arg2 : BitVec 32 := BitVec.ofNat 32 (i 2).val
  let c512_i32 : BitVec 32 := 512#32
  let v54 : BitVec 32 := Scalar.muli arg2 c512_i32
  v54
def k0_off8 (i : grid0.Coords) : Fin 3 → Nat :=
  let c0_34 : Index := 0#32
  let arg2 : BitVec 32 := BitVec.ofNat 32 (i 2).val
  let c512_i32 : BitVec 32 := 512#32
  let v54 : BitVec 32 := Scalar.muli arg2 c512_i32
  let v55 : BitVec 32 := v54
  let v56 : Index := Scalar.indexCast v55
  let c0_35 : Index := 0#32
  ![0, v56.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "l2e" => some (((Real.log 2)⁻¹ : ℝ) : EReal)
  | "mask" => some ⊥
  | "sl2e" => some (((Real.sqrt 128)⁻¹ * (Real.log 2)⁻¹ : ℝ) : EReal)
  | _ => none
-- ==== ReferenceIdeal.lean ====
abbrev S16x2048x1024 : Shape := ⟨3, ![16, 2048, 1024]⟩
abbrev S16x2048x2048 : Shape := ⟨3, ![16, 2048, 2048]⟩
abbrev S16x2048x8 : Shape := ⟨3, ![16, 2048, 8]⟩
abbrev S2048 : Shape := ⟨1, ![2048]⟩
abbrev S16x2048x8x128 : Shape := ⟨4, ![16, 2048, 8, 128]⟩
abbrev S16x2048x2x8x128 : Shape := ⟨5, ![16, 2048, 2, 8, 128]⟩
abbrev S16x2048x1x8x128 : Shape := ⟨5, ![16, 2048, 1, 8, 128]⟩
abbrev S16x8x2048x2048 : Shape := ⟨4, ![16, 8, 2048, 2048]⟩
abbrev S_ : Shape := ⟨0, ![]⟩
abbrev S16x8x2048 : Shape := ⟨3, ![16, 8, 2048]⟩
abbrev S16x8x2048x1 : Shape := ⟨4, ![16, 8, 2048, 1]⟩
abbrev S16x8x1x2048 : Shape := ⟨4, ![16, 8, 1, 2048]⟩
abbrev S1x2048 : Shape := ⟨2, ![1, 2048]⟩
abbrev S2048x1 : Shape := ⟨2, ![2048, 1]⟩
abbrev S2048x2048 : Shape := ⟨2, ![2048, 2048]⟩
abbrev S16x8x128x2048 : Shape := ⟨4, ![16, 8, 128, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x2048, .f32⟩
  | .hbm, ⟨2, _⟩ => ⟨S16x2048x8, .f32⟩
  | .hbm, ⟨3, _⟩ => ⟨S2048, .i32⟩
  | .hbm, ⟨4, _⟩ => ⟨S16x2048x8x128, .f32⟩
  | .hbm, ⟨5, _⟩ => ⟨S16x2048x2x8x128, .f32⟩
  | .hbm, ⟨6, _⟩ => ⟨S16x2048x1x8x128, .f32⟩
  | .hbm, ⟨7, _⟩ => ⟨S16x2048x8x128, .f32⟩
  | .hbm, ⟨8, _⟩ => ⟨S16x8x2048x2048, .f32⟩
  | .hbm, ⟨9, _⟩ => ⟨S_, .f32⟩
  | .hbm, ⟨10, _⟩ => ⟨S_, .f32⟩
  | .hbm, ⟨11, _⟩ => ⟨S16x8x2048x2048, .f32⟩
  | .hbm, ⟨12, _⟩ => ⟨S16x8x2048x2048, .f32⟩
  | .hbm, ⟨13, _⟩ => ⟨S16x8x2048, .f32⟩
  | .hbm, ⟨14, _⟩ => ⟨S16x8x2048x1, .f32⟩
  | .hbm, ⟨15, _⟩ => ⟨S16x8x2048x2048, .f32⟩
  | .hbm, ⟨16, _⟩ => ⟨S16x8x2048x2048, .f32⟩
  | .hbm, ⟨17, _⟩ => ⟨S16x8x2048, .f32⟩
  | .hbm, ⟨18, _⟩ => ⟨S16x8x1x2048, .f32⟩
  | .hbm, ⟨19, _⟩ => ⟨S16x8x2048x2048, .f32⟩
  | .hbm, ⟨20, _⟩ => ⟨S16x8x2048x2048, .f32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S16x8x2048x2048, .i1⟩
  | .hbm, ⟨29, _⟩ => ⟨S16x8x2048x2048, .f32⟩
  | .hbm, ⟨30, _⟩ => ⟨S16x8x2048x2048, .f32⟩
  | .hbm, ⟨31, _⟩ => ⟨S_, .f32⟩
  | .hbm, ⟨32, _⟩ => ⟨S16x8x2048, .f32⟩
  | .hbm, ⟨33, _⟩ => ⟨S_, .f32⟩
  | .hbm, ⟨34, _⟩ => ⟨S16x8x2048, .f32⟩
  | .hbm, ⟨35, _⟩ => ⟨S16x8x2048, .f32⟩
  | .hbm, ⟨36, _⟩ => ⟨S16x8x2048x1, .f32⟩
  | .hbm, ⟨37, _⟩ => ⟨S16x8x2048x2048, .f32⟩
  | .hbm, ⟨38, _⟩ => ⟨S16x8x2048x2048, .f32⟩
  | .hbm, ⟨39, _⟩ => ⟨S16x8x2048x2048, .f32⟩
  | .hbm, ⟨40, _⟩ => ⟨S_, .f32⟩
  | .hbm, ⟨41, _⟩ => ⟨S16x8x2048, .f32⟩
  | .hbm, ⟨42, _⟩ => ⟨S16x8x2048x1, .f32⟩
  | .hbm, ⟨43, _⟩ => ⟨S16x8x2048x2048, .f32⟩
  | .hbm, ⟨44, _⟩ => ⟨S16x8x2048x2048, .f32⟩
  | .hbm, ⟨45, _⟩ => ⟨S16x2048x1x8x128, .f32⟩
  | .hbm, ⟨46, _⟩ => ⟨S16x2048x8x128, .f32⟩
  | .hbm, ⟨47, _⟩ => ⟨S16x8x128x2048, .f32⟩
  | .hbm, ⟨48, _⟩ => ⟨S16x2048x8x128, .f32⟩
  | .hbm, ⟨49, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel2.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S32768x2048 : Shape := ⟨2, ![32768, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S32768x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8192 : Shape := ⟨3, ![16, 2048, 8192]⟩
abbrev S32768x2048 : Shape := ⟨2, ![32768, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S16x2048x8192, .f32⟩
  | .hbm, ⟨22, _⟩ => ⟨S_, .f32⟩
  | .hbm, ⟨23, _⟩ => ⟨S16x2048x8192, .f32⟩
  | .hbm, ⟨24, _⟩ => ⟨S16x2048x8192, .f32⟩
  | .hbm, ⟨25, _⟩ => ⟨S16x2048x8192, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x2048, .f32⟩
  | .hbm, ⟨40, _⟩ => ⟨S16x2048x2048, .f32⟩
  | .hbm, ⟨41, _⟩ => ⟨S1x1x2048, .f32⟩
  | .hbm, ⟨42, _⟩ => ⟨S16x2048x2048, .f32⟩
  | .hbm, ⟨43, _⟩ => ⟨S16x2048x2048, .f32⟩
  | .hbm, ⟨44, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S32x8x2048 : Shape := ⟨3, ![32, 8, 2048]⟩
abbrev S2048 : Shape := ⟨1, ![2048]⟩
abbrev S2048x8192 : Shape := ⟨2, ![2048, 8192]⟩
abbrev S8192x2048 : Shape := ⟨2, ![8192, 2048]⟩
abbrev S256x2048 : Shape := ⟨2, ![256, 2048]⟩
abbrev S1x2048 : Shape := ⟨2, ![1, 2048]⟩
abbrev S2048x1024 : Shape := ⟨2, ![2048, 1024]⟩
abbrev S1024x2048 : Shape := ⟨2, ![1024, 2048]⟩
abbrev S256 : Shape := ⟨1, ![256]⟩
abbrev S256x1 : Shape := ⟨2, ![256, 1]⟩
abbrev S256x1024 : Shape := ⟨2, ![256, 1024]⟩

abbrev nBuf : Space → Nat
  | .hbm => 11
  | .vmem => 10
  | .smem => 0
  | _ => 0

abbrev bufTy : (tb : Table) → Fin (tcTables nBuf tb) → BufTy
  | .hbm, ⟨0, _⟩ => ⟨S32x8x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S256x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S256x2048, .f32⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S256x2048, .f32⟩
  | .local _ .vmem, ⟨8, _⟩ => ⟨S256x2048, .bf16⟩
  | .local _ .vmem, ⟨9, _⟩ => ⟨S256x2048, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference3Ideal.lean ====
abbrev S32x8x2048 : Shape := ⟨3, ![32, 8, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S32x8x8192 : Shape := ⟨3, ![32, 8, 8192]⟩
abbrev S256x2048 : Shape := ⟨2, ![256, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S32x8x2048, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x2048, .f32⟩
  | .hbm, ⟨17, _⟩ => ⟨S32x8x2048, .f32⟩
  | .hbm, ⟨18, _⟩ => ⟨S1x1x2048, .f32⟩
  | .hbm, ⟨19, _⟩ => ⟨S32x8x2048, .f32⟩
  | .hbm, ⟨20, _⟩ => ⟨S32x8x2048, .f32⟩
  | .hbm, ⟨21, _⟩ => ⟨S32x8x8192, .f32⟩
  | .hbm, ⟨22, _⟩ => ⟨S_, .f32⟩
  | .hbm, ⟨23, _⟩ => ⟨S32x8x8192, .f32⟩
  | .hbm, ⟨24, _⟩ => ⟨S32x8x8192, .f32⟩
  | .hbm, ⟨25, _⟩ => ⟨S32x8x8192, .f32⟩
  | .hbm, ⟨26, _⟩ => ⟨S32x8x2048, .f32⟩
  | .hbm, ⟨27, _⟩ => ⟨S32x8x2048, .f32⟩
  | .hbm, ⟨28, _⟩ => ⟨S32x8x2048, .f32⟩
  | .hbm, ⟨29, _⟩ => ⟨S_, .f32⟩
  | .hbm, ⟨30, _⟩ => ⟨S32x8, .f32⟩
  | .hbm, ⟨31, _⟩ => ⟨S32x8x1, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S_, .f32⟩
  | .hbm, ⟨36, _⟩ => ⟨S32x8x1, .f32⟩
  | .hbm, ⟨37, _⟩ => ⟨S32x8x1, .f32⟩
  | .hbm, ⟨38, _⟩ => ⟨S32x8x1, .f32⟩
  | .hbm, ⟨39, _⟩ => ⟨S32x8x2048, .f32⟩
  | .hbm, ⟨40, _⟩ => ⟨S32x8x2048, .f32⟩
  | .hbm, ⟨41, _⟩ => ⟨S1x1x2048, .f32⟩
  | .hbm, ⟨42, _⟩ => ⟨S32x8x2048, .f32⟩
  | .hbm, ⟨43, _⟩ => ⟨S32x8x2048, .f32⟩
  | .hbm, ⟨44, _⟩ => ⟨S256x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel4.lean ====
abbrev S16x2048x2048 : Shape := ⟨3, ![16, 2048, 2048]⟩
abbrev S16x2048x3x2x4 : Shape := ⟨5, ![16, 2048, 3, 2, 4]⟩
abbrev S16x2048x2x4x128 : Shape := ⟨5, ![16, 2048, 2, 4, 128]⟩
abbrev S16x2048x1024 : Shape := ⟨3, ![16, 2048, 1024]⟩
abbrev S1024 : Shape := ⟨1, ![1024]⟩
abbrev S2048x2048 : Shape := ⟨2, ![2048, 2048]⟩
abbrev S32768x24 : Shape := ⟨2, ![32768, 24]⟩
abbrev S_ : Shape := ⟨0, ![]⟩
abbrev S32768x128 : Shape := ⟨2, ![32768, 128]⟩
abbrev S32768x2048 : Shape := ⟨2, ![32768, 2048]⟩
abbrev S32768x1024 : Shape := ⟨2, ![32768, 1024]⟩
abbrev S1x1024 : Shape := ⟨2, ![1, 1024]⟩
abbrev S512x2048 : Shape := ⟨2, ![512, 2048]⟩
abbrev S512x1024 : Shape := ⟨2, ![512, 1024]⟩
abbrev S512x128 : Shape := ⟨2, ![512, 128]⟩
abbrev S256x128 : Shape := ⟨2, ![256, 128]⟩
abbrev S256x1 : Shape := ⟨2, ![256, 1]⟩
abbrev S256x1024 : Shape := ⟨2, ![256, 1024]⟩
abbrev S256 : Shape := ⟨1, ![256]⟩
abbrev S256x2048 : Shape := ⟨2, ![256, 2048]⟩

abbrev nBuf : Space → Nat
  | .hbm => 22
  | .vmem => 17
  | .smem => 0
  | _ => 0

abbrev bufTy : (tb : Table) → Fin (tcTables nBuf tb) → BufTy
  | .hbm, ⟨0, _⟩ => ⟨S16x2048x2048, .f32⟩
  | .hbm, ⟨1, _⟩ => ⟨S16x2048x3x2x4, .f32⟩
  | .hbm, ⟨2, _⟩ => ⟨S16x2048x2x4x128, .f32⟩
  | .hbm, ⟨3, _⟩ => ⟨S16x2048x2x4x128, .f32⟩
  | .hbm, ⟨4, _⟩ => ⟨S16x2048x2x4x128, .f32⟩
  | .hbm, ⟨5, _⟩ => ⟨S16x2048x1024, .f32⟩
  | .hbm, ⟨6, _⟩ => ⟨S1024, .f32⟩
  | .hbm, ⟨7, _⟩ => ⟨S1024, .f32⟩
  | .hbm, ⟨8, _⟩ => ⟨S2048x2048, .f32⟩
  | .hbm, ⟨9, _⟩ => ⟨S32768x24, .f32⟩
  | .hbm, ⟨10, _⟩ => ⟨S_, .i32⟩
  | .hbm, ⟨11, _⟩ => ⟨S_, .f32⟩
  | .hbm, ⟨12, _⟩ => ⟨S32768x128, .f32⟩
  | .hbm, ⟨13, _⟩ => ⟨S32768x2048, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S2048x2048, .bf16⟩
  | .hbm, ⟨19, _⟩ => ⟨S1x1024, .f32⟩
  | .hbm, ⟨20, _⟩ => ⟨S1x1024, .f32⟩
  | .hbm, ⟨21, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S1x1024, .f32⟩
  | .local _ .vmem, ⟨13, _⟩ => ⟨S1x1024, .f32⟩
  | .local _ .vmem, ⟨14, _⟩ => ⟨S2048x2048, .bf16⟩
  | .local _ .vmem, ⟨15, _⟩ => ⟨S512x2048, .f32⟩
  | .local _ .vmem, ⟨16, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16x2048x2048 : Shape := ⟨3, ![16, 2048, 2048]⟩
abbrev S16x2048x3x2x4 : Shape := ⟨5, ![16, 2048, 3, 2, 4]⟩
abbrev S16x2048x2x4x128 : Shape := ⟨5, ![16, 2048, 2, 4, 128]⟩
abbrev S16x2048x1024 : Shape := ⟨3, ![16, 2048, 1024]⟩
abbrev S1024 : Shape := ⟨1, ![1024]⟩
abbrev S2048x2048 : Shape := ⟨2, ![2048, 2048]⟩
abbrev S16x2048x1x2x4 : Shape := ⟨5, ![16, 2048, 1, 2, 4]⟩
abbrev S16x2048x2x4 : Shape := ⟨4, ![16, 2048, 2, 4]⟩
abbrev S16x2048x2x4x1 : Shape := ⟨5, ![16, 2048, 2, 4, 1]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x2048 : Shape := ⟨2, ![32768, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x3x2x4, .f32⟩
  | .hbm, ⟨2, _⟩ => ⟨S16x2048x2x4x128, .f32⟩
  | .hbm, ⟨3, _⟩ => ⟨S16x2048x2x4x128, .f32⟩
  | .hbm, ⟨4, _⟩ => ⟨S16x2048x2x4x128, .f32⟩
  | .hbm, ⟨5, _⟩ => ⟨S16x2048x1024, .f32⟩
  | .hbm, ⟨6, _⟩ => ⟨S1024, .f32⟩
  | .hbm, ⟨7, _⟩ => ⟨S1024, .f32⟩
  | .hbm, ⟨8, _⟩ => ⟨S2048x2048, .f32⟩
  | .hbm, ⟨9, _⟩ => ⟨S16x2048x1x2x4, .f32⟩
  | .hbm, ⟨10, _⟩ => ⟨S16x2048x2x4, .f32⟩
  | .hbm, ⟨11, _⟩ => ⟨S16x2048x2x4x1, .f32⟩
  | .hbm, ⟨12, _⟩ => ⟨S16x2048x2x4x128, .f32⟩
  | .hbm, ⟨13, _⟩ => ⟨S16x2048x2x4x128, .f32⟩
  | .hbm, ⟨14, _⟩ => ⟨S16x2048x1x2x4, .f32⟩
  | .hbm, ⟨15, _⟩ => ⟨S16x2048x2x4, .f32⟩
  | .hbm, ⟨16, _⟩ => ⟨S16x2048x2x4x1, .f32⟩
  | .hbm, ⟨17, _⟩ => ⟨S16x2048x2x4x128, .f32⟩
  | .hbm, ⟨18, _⟩ => ⟨S16x2048x2x4x128, .f32⟩
  | .hbm, ⟨19, _⟩ => ⟨S16x2048x2x4x128, .f32⟩
  | .hbm, ⟨20, _⟩ => ⟨S16x2048x1x2x4, .f32⟩
  | .hbm, ⟨21, _⟩ => ⟨S16x2048x2x4, .f32⟩
  | .hbm, ⟨22, _⟩ => ⟨S16x2048x2x4x1, .f32⟩
  | .hbm, ⟨23, _⟩ => ⟨S16x2048x2x4x128, .f32⟩
  | .hbm, ⟨24, _⟩ => ⟨S16x2048x2x4x128, .f32⟩
  | .hbm, ⟨25, _⟩ => ⟨S16x2048x2x4x128, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | .hbm, ⟨59, _⟩ => ⟨S16x2048x2048, .f32⟩
  | .hbm, ⟨60, _⟩ => ⟨S16x2048x2048, .f32⟩
  | .hbm, ⟨61, _⟩ => ⟨S16x2048x2048, .f32⟩
  | .hbm, ⟨62, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel5.lean ====
abbrev S16x2048x2048 : Shape := ⟨3, ![16, 2048, 2048]⟩
abbrev S2048 : Shape := ⟨1, ![2048]⟩
abbrev S2048x5664 : Shape := ⟨2, ![2048, 5664]⟩
abbrev S8 : Shape := ⟨1, ![8]⟩
abbrev S2048x2560 : Shape := ⟨2, ![2048, 2560]⟩
abbrev S2048x3072 : Shape := ⟨2, ![2048, 3072]⟩
abbrev S2048x5632 : Shape := ⟨2, ![2048, 5632]⟩
abbrev S2048x24 : Shape := ⟨2, ![2048, 24]⟩
abbrev S2048x8 : Shape := ⟨2, ![2048, 8]⟩
abbrev S_ : Shape := ⟨0, ![]⟩
abbrev S2048x96 : Shape := ⟨2, ![2048, 96]⟩
abbrev S2048x128 : Shape := ⟨2, ![2048, 128]⟩
abbrev S1x128 : Shape := ⟨2, ![1, 128]⟩
abbrev S1 : Shape := ⟨1, ![1]⟩
abbrev S2 : Shape := ⟨1, ![2]⟩
abbrev S32768x2048 : Shape := ⟨2, ![32768, 2048]⟩
abbrev S1x2048 : Shape := ⟨2, ![1, 2048]⟩
abbrev S32768x1024 : Shape := ⟨2, ![32768, 1024]⟩
abbrev S131072x128 : Shape := ⟨2, ![131072, 128]⟩
abbrev S32768x128 : Shape := ⟨2, ![32768, 128]⟩
abbrev S256x2048 : Shape := ⟨2, ![256, 2048]⟩
abbrev S256x1024 : Shape := ⟨2, ![256, 1024]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩

abbrev nBuf : Space → Nat
  | .hbm => 31
  | .vmem => 20
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5664, .f32⟩
  | .hbm, ⟨3, _⟩ => ⟨S8, .f32⟩
  | .hbm, ⟨4, _⟩ => ⟨S2048x2560, .f32⟩
  | .hbm, ⟨5, _⟩ => ⟨S2048x3072, .f32⟩
  | .hbm, ⟨6, _⟩ => ⟨S2048x5632, .f32⟩
  | .hbm, ⟨7, _⟩ => ⟨S2048x5632, .bf16⟩
  | .hbm, ⟨8, _⟩ => ⟨S2048x24, .f32⟩
  | .hbm, ⟨9, _⟩ => ⟨S2048x8, .f32⟩
  | .hbm, ⟨10, _⟩ => ⟨S_, .f32⟩
  | .hbm, ⟨11, _⟩ => ⟨S2048x96, .f32⟩
  | .hbm, ⟨12, _⟩ => ⟨S2048x128, .f32⟩
  | .hbm, ⟨13, _⟩ => ⟨S2048x128, .bf16⟩
  | .hbm, ⟨14, _⟩ => ⟨S_, .f32⟩
  | .hbm, ⟨15, _⟩ => ⟨S1x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S1x128, .f32⟩
  | .hbm, ⟨22, _⟩ => ⟨S32768x2048, .f32⟩
  | .hbm, ⟨23, _⟩ => ⟨S1x2048, .f32⟩
  | .hbm, ⟨24, _⟩ => ⟨S32768x1024, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S32768x1024, .f32⟩
  | .hbm, ⟨29, _⟩ => ⟨S32768x2048, .f32⟩
  | .hbm, ⟨30, _⟩ => ⟨S32768x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x5632, .bf16⟩
  | .local _ .vmem, ⟨4, _⟩ => ⟨S2048x128, .bf16⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S256x1024, .f32⟩
  | .local _ .vmem, ⟨15, _⟩ => ⟨S256x1024, .f32⟩
  | .local _ .vmem, ⟨16, _⟩ => ⟨S256x2048, .f32⟩
  | .local _ .vmem, ⟨17, _⟩ => ⟨S256x2048, .f32⟩
  | .local _ .vmem, ⟨18, _⟩ => ⟨S256x128, .f32⟩
  | .local _ .vmem, ⟨19, _⟩ => ⟨S256x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16x2048x2048 : Shape := ⟨3, ![16, 2048, 2048]⟩
abbrev S2048 : Shape := ⟨1, ![2048]⟩
abbrev S2048x5664 : Shape := ⟨2, ![2048, 5664]⟩
abbrev S8 : Shape := ⟨1, ![8]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x5664 : Shape := ⟨3, ![16, 2048, 5664]⟩
abbrev S16x2048x1024 : Shape := ⟨3, ![16, 2048, 1024]⟩
abbrev S16x2048x512 : Shape := ⟨3, ![16, 2048, 512]⟩
abbrev S16x2048x24 : Shape := ⟨3, ![16, 2048, 24]⟩
abbrev S16x2048x8 : Shape := ⟨3, ![16, 2048, 8]⟩
abbrev S1x1x8 : Shape := ⟨3, ![1, 1, 8]⟩
abbrev S16x2048x96 : Shape := ⟨3, ![16, 2048, 96]⟩
abbrev S16x2048x128 : Shape := ⟨3, ![16, 2048, 128]⟩
abbrev S32768x1024 : Shape := ⟨2, ![32768, 1024]⟩
abbrev S131072x128 : Shape := ⟨2, ![131072, 128]⟩
abbrev S32768x2048 : Shape := ⟨2, ![32768, 2048]⟩
abbrev S32768x128 : Shape := ⟨2, ![32768, 128]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5664, .f32⟩
  | .hbm, ⟨3, _⟩ => ⟨S8, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S1x1x2048, .f32⟩
  | .hbm, ⟨18, _⟩ => ⟨S16x2048x2048, .f32⟩
  | .hbm, ⟨19, _⟩ => ⟨S16x2048x2048, .f32⟩
  | .hbm, ⟨20, _⟩ => ⟨S16x2048x5664, .f32⟩
  | .hbm, ⟨21, _⟩ => ⟨S16x2048x1024, .f32⟩
  | .hbm, ⟨22, _⟩ => ⟨S16x2048x512, .f32⟩
  | .hbm, ⟨23, _⟩ => ⟨S16x2048x512, .f32⟩
  | .hbm, ⟨24, _⟩ => ⟨S16x2048x512, .f32⟩
  | .hbm, ⟨25, _⟩ => ⟨S16x2048x24, .f32⟩
  | .hbm, ⟨26, _⟩ => ⟨S16x2048x1024, .f32⟩
  | .hbm, ⟨27, _⟩ => ⟨S16x2048x2048, .f32⟩
  | .hbm, ⟨28, _⟩ => ⟨S16x2048x8, .f32⟩
  | .hbm, ⟨29, _⟩ => ⟨S16x2048x24, .f32⟩
  | .hbm, ⟨30, _⟩ => ⟨S16x2048x24, .f32⟩
  | .hbm, ⟨31, _⟩ => ⟨S_, .f32⟩
  | .hbm, ⟨32, _⟩ => ⟨S16x2048x24, .f32⟩
  | .hbm, ⟨33, _⟩ => ⟨S16x2048x24, .f32⟩
  | .hbm, ⟨34, _⟩ => ⟨S_, .f32⟩
  | .hbm, ⟨35, _⟩ => ⟨S16x2048x24, .f32⟩
  | .hbm, ⟨36, _⟩ => ⟨S16x2048x24, .f32⟩
  | .hbm, ⟨37, _⟩ => ⟨S1x1x8, .f32⟩
  | .hbm, ⟨38, _⟩ => ⟨S16x2048x8, .f32⟩
  | .hbm, ⟨39, _⟩ => ⟨S16x2048x8, .f32⟩
  | .hbm, ⟨40, _⟩ => ⟨S16x2048x8, .f32⟩
  | .hbm, ⟨41, _⟩ => ⟨S_, .f32⟩
  | .hbm, ⟨42, _⟩ => ⟨S16x2048x8, .f32⟩
  | .hbm, ⟨43, _⟩ => ⟨S16x2048x8, .f32⟩
  | .hbm, ⟨44, _⟩ => ⟨S16x2048x8, .f32⟩
  | .hbm, ⟨45, _⟩ => ⟨S16x2048x8, .f32⟩
  | .hbm, ⟨46, _⟩ => ⟨S16x2048x8, .i1⟩
  | .hbm, ⟨47, _⟩ => ⟨S16x2048x8, .f32⟩
  | .hbm, ⟨48, _⟩ => ⟨S16x2048x8, .f32⟩
  | .hbm, ⟨49, _⟩ => ⟨S16x2048x8, .f32⟩
  | .hbm, ⟨50, _⟩ => ⟨S16x2048x8, .f32⟩
  | .hbm, ⟨51, _⟩ => ⟨S16x2048x8, .f32⟩
  | .hbm, ⟨52, _⟩ => ⟨S16x2048x8, .f32⟩
  | .hbm, ⟨53, _⟩ => ⟨S16x2048x8, .f32⟩
  | .hbm, ⟨54, _⟩ => ⟨S16x2048x8, .f32⟩
  | .hbm, ⟨55, _⟩ => ⟨S16x2048x8, .f32⟩
  | .hbm, ⟨56, _⟩ => ⟨S_, .f32⟩
  | .hbm, ⟨57, _⟩ => ⟨S16x2048x96, .f32⟩
  | .hbm, ⟨58, _⟩ => ⟨S16x2048x96, .f32⟩
  | .hbm, ⟨59, _⟩ => ⟨S_, .f32⟩
  | .hbm, ⟨60, _⟩ => ⟨S16x2048x96, .f32⟩
  | .hbm, ⟨61, _⟩ => ⟨S16x2048x96, .f32⟩
  | .hbm, ⟨62, _⟩ => ⟨S16x2048x96, .f32⟩
  | .hbm, ⟨63, _⟩ => ⟨S16x2048x96, .f32⟩
  | .hbm, ⟨64, _⟩ => ⟨S16x2048x96, .i1⟩
  | .hbm, ⟨65, _⟩ => ⟨S16x2048x96, .f32⟩
  | .hbm, ⟨66, _⟩ => ⟨S16x2048x96, .f32⟩
  | .hbm, ⟨67, _⟩ => ⟨S16x2048x96, .f32⟩
  | .hbm, ⟨68, _⟩ => ⟨S16x2048x96, .f32⟩
  | .hbm, ⟨69, _⟩ => ⟨S16x2048x96, .f32⟩
  | .hbm, ⟨70, _⟩ => ⟨S16x2048x96, .f32⟩
  | .hbm, ⟨71, _⟩ => ⟨S16x2048x96, .f32⟩
  | .hbm, ⟨72, _⟩ => ⟨S16x2048x96, .f32⟩
  | .hbm, ⟨73, _⟩ => ⟨S16x2048x96, .f32⟩
  | .hbm, ⟨74, _⟩ => ⟨S16x2048x128, .f32⟩
  | .hbm, ⟨75, _⟩ => ⟨S32768x1024, .f32⟩
  | .hbm, ⟨76, _⟩ => ⟨S131072x128, .f32⟩
  | .hbm, ⟨77, _⟩ => ⟨S131072x128, .f32⟩
  | .hbm, ⟨78, _⟩ => ⟨S131072x128, .f32⟩
  | .hbm, ⟨79, _⟩ => ⟨S32768x1024, .f32⟩
  | .hbm, ⟨80, _⟩ => ⟨S32768x2048, .f32⟩
  | .hbm, ⟨81, _⟩ => ⟨S32768x128, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_call1_v0 : Ref sig .tc := ⟨.hbm, 58, rfl⟩
abbrev main_call1_call0_cst : Ref sig .tc := ⟨.hbm, 59, rfl⟩
abbrev main_call1_call0_v0 : Ref sig .tc := ⟨.hbm, 60, rfl⟩
abbrev main_call1_call0_v1 : Ref sig .tc := ⟨.hbm, 61, rfl⟩
abbrev main_call1_call0_v2 : Ref sig .tc := ⟨.hbm, 62, rfl⟩
abbrev main_call1_call0_v3 : Ref sig .tc := ⟨.hbm, 63, rfl⟩
abbrev main_call1_call0_v4 : Ref sig .tc := ⟨.hbm, 64, rfl⟩
abbrev main_call1_call0_v5 : Ref sig .tc := ⟨.hbm, 65, rfl⟩
abbrev main_call1_call0_v6 : Ref sig .tc := ⟨.hbm, 66, rfl⟩
abbrev main_call1_call0_v7 : Ref sig .tc := ⟨.hbm, 67, rfl⟩
abbrev main_call1_call0_v8 : Ref sig .tc := ⟨.hbm, 68, rfl⟩
abbrev main_call1_call0_v9 : Ref sig .tc := ⟨.hbm, 69, rfl⟩
abbrev main_call1_call0_v10 : Ref sig .tc := ⟨.hbm, 70, rfl⟩
abbrev main_call1_call0_v11 : Ref sig .tc := ⟨.hbm, 71, rfl⟩
abbrev main_call1_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩

abbrev nD : Nat := 1
abbrev τ : Topo := Topo.v7x

variable {F : FTy → Type} [FloatOps F]
-- ==== Kernel6.lean ====
abbrev S32x8x2048 : Shape := ⟨3, ![32, 8, 2048]⟩
abbrev S32x512x2x2x128 : Shape := ⟨5, ![32, 512, 2, 2, 128]⟩
abbrev S2048 : Shape := ⟨1, ![2048]⟩
abbrev S2048x5664 : Shape := ⟨2, ![2048, 5664]⟩
abbrev S8 : Shape := ⟨1, ![8]⟩
abbrev S2048x2560 : Shape := ⟨2, ![2048, 2560]⟩
abbrev S2048x3072 : Shape := ⟨2, ![2048, 3072]⟩
abbrev S2048x5632 : Shape := ⟨2, ![2048, 5632]⟩
abbrev S2048x24 : Shape := ⟨2, ![2048, 24]⟩
abbrev S2048x8 : Shape := ⟨2, ![2048, 8]⟩
abbrev S_ : Shape := ⟨0, ![]⟩
abbrev S2048x96 : Shape := ⟨2, ![2048, 96]⟩
abbrev S2048x128 : Shape := ⟨2, ![2048, 128]⟩
abbrev S1x128 : Shape := ⟨2, ![1, 128]⟩
abbrev S1 : Shape := ⟨1, ![1]⟩
abbrev S2 : Shape := ⟨1, ![2]⟩
abbrev S256x2048 : Shape := ⟨2, ![256, 2048]⟩
abbrev S1x2048 : Shape := ⟨2, ![1, 2048]⟩
abbrev S256x1024 : Shape := ⟨2, ![256, 1024]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S32x512x512 : Shape := ⟨3, ![32, 512, 512]⟩
abbrev S32x8x512 : Shape := ⟨3, ![32, 8, 512]⟩
abbrev S32x520x512 : Shape := ⟨3, ![32, 520, 512]⟩

abbrev nBuf : Space → Nat
  | .hbm => 36
  | .vmem => 12
  | .smem => 0
  | _ => 0

abbrev bufTy : (tb : Table) → Fin (tcTables nBuf tb) → BufTy
  | .hbm, ⟨0, _⟩ => ⟨S32x8x2048, .f32⟩
  | .hbm, ⟨1, _⟩ => ⟨S32x512x2x2x128, .f32⟩
  | .hbm, ⟨2, _⟩ => ⟨S2048, .f32⟩
  | .hbm, ⟨3, _⟩ => ⟨S2048x5664, .f32⟩
  | .hbm, ⟨4, _⟩ => ⟨S8, .f32⟩
  | .hbm, ⟨5, _⟩ => ⟨S2048x2560, .f32⟩
  | .hbm, ⟨6, _⟩ => ⟨S2048x3072, .f32⟩
  | .hbm, ⟨7, _⟩ => ⟨S2048x5632, .f32⟩
  | .hbm, ⟨8, _⟩ => ⟨S2048x5632, .bf16⟩
  | .hbm, ⟨9, _⟩ => ⟨S2048x24, .f32⟩
  | .hbm, ⟨10, _⟩ => ⟨S2048x8, .f32⟩
  | .hbm, ⟨11, _⟩ => ⟨S_, .f32⟩
  | .hbm, ⟨12, _⟩ => ⟨S2048x96, .f32⟩
  | .hbm, ⟨13, _⟩ => ⟨S2048x128, .f32⟩
  | .hbm, ⟨14, _⟩ => ⟨S2048x128, .bf16⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S256x2048, .f32⟩
  | .hbm, ⟨24, _⟩ => ⟨S1x2048, .f32⟩
  | .hbm, ⟨25, _⟩ => ⟨S256x1024, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S256x1024, .f32⟩
  | .hbm, ⟨30, _⟩ => ⟨S256x2048, .f32⟩
  | .hbm, ⟨31, _⟩ => ⟨S256x128, .f32⟩
  | .hbm, ⟨32, _⟩ => ⟨S32x512x512, .f32⟩
  | .hbm, ⟨33, _⟩ => ⟨S32x8x512, .f32⟩
  | .hbm, ⟨34, _⟩ => ⟨S32x520x512, .f32⟩
  | .hbm, ⟨35, _⟩ => ⟨S32x512x512, .f32⟩
  | .local _ .vmem, ⟨0, _⟩ => ⟨S256x2048, .f32⟩
  | .local _ .vmem, ⟨1, _⟩ => ⟨S1x2048, .f32⟩
  | .local _ .vmem, ⟨2, _⟩ => ⟨S2048x5632, .bf16⟩
  | .local _ .vmem, ⟨3, _⟩ => ⟨S2048x128, .bf16⟩
  | .local _ .vmem, ⟨4, _⟩ => ⟨S1x128, .f32⟩
  | .local _ .vmem, ⟨5, _⟩ => ⟨S256x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S256x1024, .f32⟩
  | .local _ .vmem, ⟨10, _⟩ => ⟨S256x2048, .f32⟩
  | .local _ .vmem, ⟨11, _⟩ => ⟨S256x128, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_v16_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference6Ideal.lean ====
abbrev S32x8x2048 : Shape := ⟨3, ![32, 8, 2048]⟩
abbrev S32x512x2x2x128 : Shape := ⟨5, ![32, 512, 2, 2, 128]⟩
abbrev S2048 : Shape := ⟨1, ![2048]⟩
abbrev S2048x5664 : Shape := ⟨2, ![2048, 5664]⟩
abbrev S8 : Shape := ⟨1, ![8]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S32x8x5664 : Shape := ⟨3, ![32, 8, 5664]⟩
abbrev S32x8x1024 : Shape := ⟨3, ![32, 8, 1024]⟩
abbrev S32x8x512 : Shape := ⟨3, ![32, 8, 512]⟩
abbrev S32x8x24 : Shape := ⟨3, ![32, 8, 24]⟩
abbrev S32x8x8 : Shape := ⟨3, ![32, 8, 8]⟩
abbrev S1x1x8 : Shape := ⟨3, ![1, 1, 8]⟩
abbrev S32x8x96 : Shape := ⟨3, ![32, 8, 96]⟩
abbrev S32x8x128 : Shape := ⟨3, ![32, 8, 128]⟩
abbrev S32x8x2x2x128 : Shape := ⟨5, ![32, 8, 2, 2, 128]⟩
abbrev S32x520x2x2x128 : Shape := ⟨5, ![32, 520, 2, 2, 128]⟩
abbrev S256x1024 : Shape := ⟨2, ![256, 1024]⟩
abbrev S1024x128 : Shape := ⟨2, ![1024, 128]⟩
abbrev S32x512x512 : Shape := ⟨3, ![32, 512, 512]⟩
abbrev S256x2048 : Shape := ⟨2, ![256, 2048]⟩
abbrev S256x128 : Shape := ⟨2, ![256, 128]⟩

abbrev nBuf : Space → Nat
  | .hbm => 86
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x512x2x2x128, .f32⟩
  | .hbm, ⟨2, _⟩ => ⟨S2048, .f32⟩
  | .hbm, ⟨3, _⟩ => ⟨S2048x5664, .f32⟩
  | .hbm, ⟨4, _⟩ => ⟨S8, .f32⟩
  | .hbm, ⟨5, _⟩ => ⟨S32x8x2048, .f32⟩
  | .hbm, ⟨6, _⟩ => ⟨S_, .f32⟩
  | .hbm, ⟨7, _⟩ => ⟨S32x8, .f32⟩
  | .hbm, ⟨8, _⟩ => ⟨S32x8x1, .f32⟩
  | .hbm, ⟨9, _⟩ => ⟨S_, .f32⟩
  | .hbm, ⟨10, _⟩ => ⟨S32x8x1, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S32x8x1, .f32⟩
  | .hbm, ⟨16, _⟩ => ⟨S32x8x2048, .f32⟩
  | .hbm, ⟨17, _⟩ => ⟨S32x8x2048, .f32⟩
  | .hbm, ⟨18, _⟩ => ⟨S1x1x2048, .f32⟩
  | .hbm, ⟨19, _⟩ => ⟨S32x8x2048, .f32⟩
  | .hbm, ⟨20, _⟩ => ⟨S32x8x2048, .f32⟩
  | .hbm, ⟨21, _⟩ => ⟨S32x8x5664, .f32⟩
  | .hbm, ⟨22, _⟩ => ⟨S32x8x1024, .f32⟩
  | .hbm, ⟨23, _⟩ => ⟨S32x8x512, .f32⟩
  | .hbm, ⟨24, _⟩ => ⟨S32x8x512, .f32⟩
  | .hbm, ⟨25, _⟩ => ⟨S32x8x512, .f32⟩
  | .hbm, ⟨26, _⟩ => ⟨S32x8x24, .f32⟩
  | .hbm, ⟨27, _⟩ => ⟨S32x8x1024, .f32⟩
  | .hbm, ⟨28, _⟩ => ⟨S32x8x2048, .f32⟩
  | .hbm, ⟨29, _⟩ => ⟨S32x8x8, .f32⟩
  | .hbm, ⟨30, _⟩ => ⟨S32x8x24, .f32⟩
  | .hbm, ⟨31, _⟩ => ⟨S32x8x24, .f32⟩
  | .hbm, ⟨32, _⟩ => ⟨S_, .f32⟩
  | .hbm, ⟨33, _⟩ => ⟨S32x8x24, .f32⟩
  | .hbm, ⟨34, _⟩ => ⟨S32x8x24, .f32⟩
  | .hbm, ⟨35, _⟩ => ⟨S_, .f32⟩
  | .hbm, ⟨36, _⟩ => ⟨S32x8x24, .f32⟩
  | .hbm, ⟨37, _⟩ => ⟨S32x8x24, .f32⟩
  | .hbm, ⟨38, _⟩ => ⟨S1x1x8, .f32⟩
  | .hbm, ⟨39, _⟩ => ⟨S32x8x8, .f32⟩
  | .hbm, ⟨40, _⟩ => ⟨S32x8x8, .f32⟩
  | .hbm, ⟨41, _⟩ => ⟨S32x8x8, .f32⟩
  | .hbm, ⟨42, _⟩ => ⟨S_, .f32⟩
  | .hbm, ⟨43, _⟩ => ⟨S32x8x8, .f32⟩
  | .hbm, ⟨44, _⟩ => ⟨S32x8x8, .f32⟩
  | .hbm, ⟨45, _⟩ => ⟨S32x8x8, .f32⟩
  | .hbm, ⟨46, _⟩ => ⟨S32x8x8, .f32⟩
  | .hbm, ⟨47, _⟩ => ⟨S32x8x8, .i1⟩
  | .hbm, ⟨48, _⟩ => ⟨S32x8x8, .f32⟩
  | .hbm, ⟨49, _⟩ => ⟨S32x8x8, .f32⟩
  | .hbm, ⟨50, _⟩ => ⟨S32x8x8, .f32⟩
  | .hbm, ⟨51, _⟩ => ⟨S32x8x8, .f32⟩
  | .hbm, ⟨52, _⟩ => ⟨S32x8x8, .f32⟩
  | .hbm, ⟨53, _⟩ => ⟨S32x8x8, .f32⟩
  | .hbm, ⟨54, _⟩ => ⟨S32x8x8, .f32⟩
  | .hbm, ⟨55, _⟩ => ⟨S32x8x8, .f32⟩
  | .hbm, ⟨56, _⟩ => ⟨S32x8x8, .f32⟩
  | .hbm, ⟨57, _⟩ => ⟨S_, .f32⟩
  | .hbm, ⟨58, _⟩ => ⟨S32x8x96, .f32⟩
  | .hbm, ⟨59, _⟩ => ⟨S32x8x96, .f32⟩
  | .hbm, ⟨60, _⟩ => ⟨S_, .f32⟩
  | .hbm, ⟨61, _⟩ => ⟨S32x8x96, .f32⟩
  | .hbm, ⟨62, _⟩ => ⟨S32x8x96, .f32⟩
  | .hbm, ⟨63, _⟩ => ⟨S32x8x96, .f32⟩
  | .hbm, ⟨64, _⟩ => ⟨S32x8x96, .f32⟩
  | .hbm, ⟨65, _⟩ => ⟨S32x8x96, .i1⟩
  | .hbm, ⟨66, _⟩ => ⟨S32x8x96, .f32⟩
  | .hbm, ⟨67, _⟩ => ⟨S32x8x96, .f32⟩
  | .hbm, ⟨68, _⟩ => ⟨S32x8x96, .f32⟩
  | .hbm, ⟨69, _⟩ => ⟨S32x8x96, .f32⟩
  | .hbm, ⟨70, _⟩ => ⟨S32x8x96, .f32⟩
  | .hbm, ⟨71, _⟩ => ⟨S32x8x96, .f32⟩
  | .hbm, ⟨72, _⟩ => ⟨S32x8x96, .f32⟩
  | .hbm, ⟨73, _⟩ => ⟨S32x8x96, .f32⟩
  | .hbm, ⟨74, _⟩ => ⟨S32x8x96, .f32⟩
  | .hbm, ⟨75, _⟩ => ⟨S32x8x128, .f32⟩
  | .hbm, ⟨76, _⟩ => ⟨S32x8x2x2x128, .f32⟩
  | .hbm, ⟨77, _⟩ => ⟨S32x520x2x2x128, .f32⟩
  | .hbm, ⟨78, _⟩ => ⟨S256x1024, .f32⟩
  | .hbm, ⟨79, _⟩ => ⟨S1024x128, .f32⟩
  | .hbm, ⟨80, _⟩ => ⟨S1024x128, .f32⟩
  | .hbm, ⟨81, _⟩ => ⟨S32x512x2x2x128, .f32⟩
  | .hbm, ⟨82, _⟩ => ⟨S32x512x512, .f32⟩
  | .hbm, ⟨83, _⟩ => ⟨S256x1024, .f32⟩
  | .hbm, ⟨84, _⟩ => ⟨S256x2048, .f32⟩
  | .hbm, ⟨85, _⟩ => ⟨S256x128, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_call1_v0 : Ref sig .tc := ⟨.hbm, 59, rfl⟩
abbrev main_call1_call0_cst : Ref sig .tc := ⟨.hbm, 60, rfl⟩
abbrev main_call1_call0_v0 : Ref sig .tc := ⟨.hbm, 61, rfl⟩
abbrev main_call1_call0_v1 : Ref sig .tc := ⟨.hbm, 62, rfl⟩
abbrev main_call1_call0_v2 : Ref sig .tc := ⟨.hbm, 63, rfl⟩
abbrev main_call1_call0_v3 : Ref sig .tc := ⟨.hbm, 64, rfl⟩
abbrev main_call1_call0_v4 : Ref sig .tc := ⟨.hbm, 65, rfl⟩
abbrev main_call1_call0_v5 : Ref sig .tc := ⟨.hbm, 66, rfl⟩
abbrev main_call1_call0_v6 : Ref sig .tc := ⟨.hbm, 67, rfl⟩
abbrev main_call1_call0_v7 : Ref sig .tc := ⟨.hbm, 68, rfl⟩
abbrev main_call1_call0_v8 : Ref sig .tc := ⟨.hbm, 69, rfl⟩
abbrev main_call1_call0_v9 : Ref sig .tc := ⟨.hbm, 70, rfl⟩
abbrev main_call1_call0_v10 : Ref sig .tc := ⟨.hbm, 71, rfl⟩
abbrev main_call1_call0_v11 : Ref sig .tc := ⟨.hbm, 72, rfl⟩
abbrev main_call1_v1 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩

abbrev nD : Nat := 1
abbrev τ : Topo := Topo.v7x

variable {F : FTy → Type} [FloatOps F]
-- ==== Kernel7.lean ====
abbrev S32x8x2048 : Shape := ⟨3, ![32, 8, 2048]⟩
abbrev S32x8x3x2x4 : Shape := ⟨5, ![32, 8, 3, 2, 4]⟩
abbrev S32x8x2x4x128 : Shape := ⟨5, ![32, 8, 2, 4, 128]⟩
abbrev S32x8x1024 : Shape := ⟨3, ![32, 8, 1024]⟩
abbrev S1024 : Shape := ⟨1, ![1024]⟩
abbrev S2048x2048 : Shape := ⟨2, ![2048, 2048]⟩
abbrev S256x24 : Shape := ⟨2, ![256, 24]⟩
abbrev S_ : Shape := ⟨0, ![]⟩
abbrev S256x128 : Shape := ⟨2, ![256, 128]⟩
abbrev S256x2048 : Shape := ⟨2, ![256, 2048]⟩
abbrev S256x1024 : Shape := ⟨2, ![256, 1024]⟩
abbrev S1x1024 : Shape := ⟨2, ![1, 1024]⟩
abbrev S256x1 : Shape := ⟨2, ![256, 1]⟩
abbrev S256 : Shape := ⟨1, ![256]⟩

abbrev nBuf : Space → Nat
  | .hbm => 22
  | .vmem => 10
  | .smem => 0
  | _ => 0

abbrev bufTy : (tb : Table) → Fin (tcTables nBuf tb) → BufTy
  | .hbm, ⟨0, _⟩ => ⟨S32x8x2048, .f32⟩
  | .hbm, ⟨1, _⟩ => ⟨S32x8x3x2x4, .f32⟩
  | .hbm, ⟨2, _⟩ => ⟨S32x8x2x4x128, .f32⟩
  | .hbm, ⟨3, _⟩ => ⟨S32x8x2x4x128, .f32⟩
  | .hbm, ⟨4, _⟩ => ⟨S32x8x2x4x128, .f32⟩
  | .hbm, ⟨5, _⟩ => ⟨S32x8x1024, .f32⟩
  | .hbm, ⟨6, _⟩ => ⟨S1024, .f32⟩
  | .hbm, ⟨7, _⟩ => ⟨S1024, .f32⟩
  | .hbm, ⟨8, _⟩ => ⟨S2048x2048, .f32⟩
  | .hbm, ⟨9, _⟩ => ⟨S256x24, .f32⟩
  | .hbm, ⟨10, _⟩ => ⟨S_, .i32⟩
  | .hbm, ⟨11, _⟩ => ⟨S_, .f32⟩
  | .hbm, ⟨12, _⟩ => ⟨S256x128, .f32⟩
  | .hbm, ⟨13, _⟩ => ⟨S256x2048, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S2048x2048, .bf16⟩
  | .hbm, ⟨19, _⟩ => ⟨S1x1024, .f32⟩
  | .hbm, ⟨20, _⟩ => ⟨S1x1024, .f32⟩
  | .hbm, ⟨21, _⟩ => ⟨S256x2048, .f32⟩
  | .local _ .vmem, ⟨0, _⟩ => ⟨S256x2048, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x128, .f32⟩
  | .local _ .vmem, ⟨6, _⟩ => ⟨S1x1024, .f32⟩
  | .local _ .vmem, ⟨7, _⟩ => ⟨S1x1024, .f32⟩
  | .local _ .vmem, ⟨8, _⟩ => ⟨S2048x2048, .bf16⟩
  | .local _ .vmem, ⟨9, _⟩ => ⟨S256x2048, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference7Ideal.lean ====
abbrev S32x8x2048 : Shape := ⟨3, ![32, 8, 2048]⟩
abbrev S32x8x3x2x4 : Shape := ⟨5, ![32, 8, 3, 2, 4]⟩
abbrev S32x8x2x4x128 : Shape := ⟨5, ![32, 8, 2, 4, 128]⟩
abbrev S32x8x1024 : Shape := ⟨3, ![32, 8, 1024]⟩
abbrev S1024 : Shape := ⟨1, ![1024]⟩
abbrev S2048x2048 : Shape := ⟨2, ![2048, 2048]⟩
abbrev S32x8x1x2x4 : Shape := ⟨5, ![32, 8, 1, 2, 4]⟩
abbrev S32x8x2x4 : Shape := ⟨4, ![32, 8, 2, 4]⟩
abbrev S32x8x2x4x1 : Shape := ⟨5, ![32, 8, 2, 4, 1]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S256x2048 : Shape := ⟨2, ![256, 2048]⟩

abbrev nBuf : Space → Nat
  | .hbm => 63
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x8x3x2x4, .f32⟩
  | .hbm, ⟨2, _⟩ => ⟨S32x8x2x4x128, .f32⟩
  | .hbm, ⟨3, _⟩ => ⟨S32x8x2x4x128, .f32⟩
  | .hbm, ⟨4, _⟩ => ⟨S32x8x2x4x128, .f32⟩
  | .hbm, ⟨5, _⟩ => ⟨S32x8x1024, .f32⟩
  | .hbm, ⟨6, _⟩ => ⟨S1024, .f32⟩
  | .hbm, ⟨7, _⟩ => ⟨S1024, .f32⟩
  | .hbm, ⟨8, _⟩ => ⟨S2048x2048, .f32⟩
  | .hbm, ⟨9, _⟩ => ⟨S32x8x1x2x4, .f32⟩
  | .hbm, ⟨10, _⟩ => ⟨S32x8x2x4, .f32⟩
  | .hbm, ⟨11, _⟩ => ⟨S32x8x2x4x1, .f32⟩
  | .hbm, ⟨12, _⟩ => ⟨S32x8x2x4x128, .f32⟩
  | .hbm, ⟨13, _⟩ => ⟨S32x8x2x4x128, .f32⟩
  | .hbm, ⟨14, _⟩ => ⟨S32x8x1x2x4, .f32⟩
  | .hbm, ⟨15, _⟩ => ⟨S32x8x2x4, .f32⟩
  | .hbm, ⟨16, _⟩ => ⟨S32x8x2x4x1, .f32⟩
  | .hbm, ⟨17, _⟩ => ⟨S32x8x2x4x128, .f32⟩
  | .hbm, ⟨18, _⟩ => ⟨S32x8x2x4x128, .f32⟩
  | .hbm, ⟨19, _⟩ => ⟨S32x8x2x4x128, .f32⟩
  | .hbm, ⟨20, _⟩ => ⟨S32x8x1x2x4, .f32⟩
  | .hbm, ⟨21, _⟩ => ⟨S32x8x2x4, .f32⟩
  | .hbm, ⟨22, _⟩ => ⟨S32x8x2x4x1, .f32⟩
  | .hbm, ⟨23, _⟩ => ⟨S32x8x2x4x128, .f32⟩
  | .hbm, ⟨24, _⟩ => ⟨S32x8x2x4x128, .f32⟩
  | .hbm, ⟨25, _⟩ => ⟨S32x8x2x4x128, .f32⟩
  | .hbm, ⟨26, _⟩ => ⟨S32x8x1024, .f32⟩
  | .hbm, ⟨27, _⟩ => ⟨S32x8x1024, .f32⟩
  | .hbm, ⟨28, _⟩ => ⟨S_, .f32⟩
  | .hbm, ⟨29, _⟩ => ⟨S32x8, .f32⟩
  | .hbm, ⟨30, _⟩ => ⟨S32x8x1, .f32⟩
  | .hbm, ⟨31, _⟩ => ⟨S_, .f32⟩
  | .hbm, ⟨32, _⟩ => ⟨S32x8x1, .f32⟩
  | .hbm, ⟨33, _⟩ => ⟨S32x8x1, .f32⟩
  | .hbm, ⟨34, _⟩ => ⟨S_, .f32⟩
  | .hbm, ⟨35, _⟩ => ⟨S32x8x1, .f32⟩
  | .hbm, ⟨36, _⟩ => ⟨S32x8x1, .f32⟩
  | .hbm, ⟨37, _⟩ => ⟨S32x8x1, .f32⟩
  | .hbm, ⟨38, _⟩ => ⟨S32x8x1024, .f32⟩
  | .hbm, ⟨39, _⟩ => ⟨S32x8x1024, .f32⟩
  | .hbm, ⟨40, _⟩ => ⟨S1x1x1024, .f32⟩
  | .hbm, ⟨41, _⟩ => ⟨S32x8x1024, .f32⟩
  | .hbm, ⟨42, _⟩ => ⟨S32x8x1024, .f32⟩
  | .hbm, ⟨43, _⟩ => ⟨S32x8x1024, .f32⟩
  | .hbm, ⟨44, _⟩ => ⟨S_, .f32⟩
  | .hbm, ⟨45, _⟩ => ⟨S32x8, .f32⟩
  | .hbm, ⟨46, _⟩ => ⟨S32x8x1, .f32⟩
  | .hbm, ⟨47, _⟩ => ⟨S_, .f32⟩
  | .hbm, ⟨48, _⟩ => ⟨S32x8x1, .f32⟩
  | .hbm, ⟨49, _⟩ => ⟨S32x8x1, .f32⟩
  | .hbm, ⟨50, _⟩ => ⟨S_, .f32⟩
  | .hbm, ⟨51, _⟩ => ⟨S32x8x1, .f32⟩
  | .hbm, ⟨52, _⟩ => ⟨S32x8x1, .f32⟩
  | .hbm, ⟨53, _⟩ => ⟨S32x8x1, .f32⟩
  | .hbm, ⟨54, _⟩ => ⟨S32x8x1024, .f32⟩
  | .hbm, ⟨55, _⟩ => ⟨S32x8x1024, .f32⟩
  | .hbm, ⟨56, _⟩ => ⟨S1x1x1024, .f32⟩
  | .hbm, ⟨57, _⟩ => ⟨S32x8x1024, .f32⟩
  | .hbm, ⟨58, _⟩ => ⟨S32x8x1024, .f32⟩
  | .hbm, ⟨59, _⟩ => ⟨S32x8x2048, .f32⟩
  | .hbm, ⟨60, _⟩ => ⟨S32x8x2048, .f32⟩
  | .hbm, ⟨61, _⟩ => ⟨S32x8x2048, .f32⟩
  | .hbm, ⟨62, _⟩ => ⟨S256x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel8.lean ====
abbrev S32768x128 : Shape := ⟨2, ![32768, 128]⟩
abbrev S16x2048x128 : Shape := ⟨3, ![16, 2048, 128]⟩
abbrev S16x128x2048 : Shape := ⟨3, ![16, 128, 2048]⟩
abbrev S1x2048x128 : Shape := ⟨3, ![1, 2048, 128]⟩
abbrev S1x128x2048 : Shape := ⟨3, ![1, 128, 2048]⟩
abbrev S128x128 : Shape := ⟨2, ![128, 128]⟩
abbrev S1x128 : Shape := ⟨2, ![1, 128]⟩
abbrev S1x128x128 : Shape := ⟨3, ![1, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S16x2048x128, .f32⟩
  | .hbm, ⟨2, _⟩ => ⟨S16x2048x128, .f32⟩
  | .hbm, ⟨3, _⟩ => ⟨S16x128x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x128x2048, .f32⟩
  | .local _ .vmem, ⟨5, _⟩ => ⟨S1x128x2048, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S32768x128 : Shape := ⟨2, ![32768, 128]⟩
abbrev S16x2048x128 : Shape := ⟨3, ![16, 2048, 128]⟩
abbrev S16x2048x8 : Shape := ⟨3, ![16, 2048, 8]⟩
abbrev S_ : Shape := ⟨0, ![]⟩
abbrev S16x128x2048 : Shape := ⟨3, ![16, 128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16x2048x128, .f32⟩
  | .hbm, ⟨2, _⟩ => ⟨S16x2048x8, .f32⟩
  | .hbm, ⟨3, _⟩ => ⟨S_, .f32⟩
  | .hbm, ⟨4, _⟩ => ⟨S_, .f32⟩
  | .hbm, ⟨5, _⟩ => ⟨S16x2048x8, .f32⟩
  | .hbm, ⟨6, _⟩ => ⟨S_, .i32⟩
  | .hbm, ⟨7, _⟩ => ⟨S_, .f32⟩
  | .hbm, ⟨8, _⟩ => ⟨S16x2048x128, .f32⟩
  | .hbm, ⟨9, _⟩ => ⟨S16x128x2048, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_c : Ref sig .tc := ⟨.hbm, 6, rfl⟩
abbrev main_call1_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel9.lean ====
abbrev S32x8 : Shape := ⟨2, ![32, 8]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S_ : Shape := ⟨0, ![]⟩
abbrev S2048x128 : Shape := ⟨2, ![2048, 128]⟩
abbrev S8x2048x128 : Shape := ⟨3, ![8, 2048, 128]⟩
abbrev S256x128 : Shape := ⟨2, ![256, 128]⟩
abbrev S8x256x128 : Shape := ⟨3, ![8, 256, 128]⟩
abbrev S1x1 : Shape := ⟨2, ![1, 1]⟩
abbrev S1x256x128 : Shape := ⟨3, ![1, 256, 128]⟩

abbrev nBuf : Space → Nat
  | .hbm => 15
  | .vmem => 4
  | .smem => 1
  | _ => 0

abbrev bufTy : (tb : Table) → Fin (tcTables nBuf tb) → BufTy
  | .hbm, ⟨0, _⟩ => ⟨S32x8, .f32⟩
  | .hbm, ⟨1, _⟩ => ⟨S2048, .i32⟩
  | .hbm, ⟨2, _⟩ => ⟨S2048x1, .i32⟩
  | .hbm, ⟨3, _⟩ => ⟨S128, .i32⟩
  | .hbm, ⟨4, _⟩ => ⟨S1x128, .i32⟩
  | .hbm, ⟨5, _⟩ => ⟨S_, .i32⟩
  | .hbm, ⟨6, _⟩ => ⟨S1x128, .i32⟩
  | .hbm, ⟨7, _⟩ => ⟨S1x128, .i32⟩
  | .hbm, ⟨8, _⟩ => ⟨S_, .i32⟩
  | .hbm, ⟨9, _⟩ => ⟨S1x128, .i32⟩
  | .hbm, ⟨10, _⟩ => ⟨S1x128, .i32⟩
  | .hbm, ⟨11, _⟩ => ⟨S2048x128, .i32⟩
  | .hbm, ⟨12, _⟩ => ⟨S2048x128, .i32⟩
  | .hbm, ⟨13, _⟩ => ⟨S2048x128, .i32⟩
  | .hbm, ⟨14, _⟩ => ⟨S8x2048x128, .f32⟩
  | .local _ .vmem, ⟨0, _⟩ => ⟨S256x128, .i32⟩
  | .local _ .vmem, ⟨1, _⟩ => ⟨S256x128, .i32⟩
  | .local _ .vmem, ⟨2, _⟩ => ⟨S8x256x128, .f32⟩
  | .local _ .vmem, ⟨3, _⟩ => ⟨S8x256x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S32x8 : Shape := ⟨2, ![32, 8]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x128x1 : Shape := ⟨3, ![2048, 128, 1]⟩
abbrev S2048x128x8 : Shape := ⟨3, ![2048, 128, 8]⟩
abbrev S8x2048x128 : Shape := ⟨3, ![8, 2048, 128]⟩

abbrev nBuf : Space → Nat
  | .hbm => 52
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S_, .i32⟩
  | .hbm, ⟨3, _⟩ => ⟨S128, .i32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S2048, .i32⟩
  | .hbm, ⟨9, _⟩ => ⟨S2048x1, .i32⟩
  | .hbm, ⟨10, _⟩ => ⟨S1x128, .i32⟩
  | .hbm, ⟨11, _⟩ => ⟨S2048x128, .i32⟩
  | .hbm, ⟨12, _⟩ => ⟨S2048x128, .i32⟩
  | .hbm, ⟨13, _⟩ => ⟨S2048x128, .i32⟩
  | .hbm, ⟨14, _⟩ => ⟨S_, .i32⟩
  | .hbm, ⟨15, _⟩ => ⟨S2048x128, .i32⟩
  | .hbm, ⟨16, _⟩ => ⟨S2048x128, .i32⟩
  | .hbm, ⟨17, _⟩ => ⟨S_, .i32⟩
  | .hbm, ⟨18, _⟩ => ⟨S2048x128, .i32⟩
  | .hbm, ⟨19, _⟩ => ⟨S2048x128, .i32⟩
  | .hbm, ⟨20, _⟩ => ⟨S2048x128, .f32⟩
  | .hbm, ⟨21, _⟩ => ⟨S_, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x128, .f32⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S2048x128, .i32⟩
  | .hbm, ⟨32, _⟩ => ⟨S_, .i32⟩
  | .hbm, ⟨33, _⟩ => ⟨S2048x128, .i32⟩
  | .hbm, ⟨34, _⟩ => ⟨S2048x128, .i32⟩
  | .hbm, ⟨35, _⟩ => ⟨S_, .i32⟩
  | .hbm, ⟨36, _⟩ => ⟨S2048x128, .i32⟩
  | .hbm, ⟨37, _⟩ => ⟨S2048x128, .i1⟩
  | .hbm, ⟨38, _⟩ => ⟨S_, .i32⟩
  | .hbm, ⟨39, _⟩ => ⟨S2048x128, .i32⟩
  | .hbm, ⟨40, _⟩ => ⟨S2048x128, .i32⟩
  | .hbm, ⟨41, _⟩ => ⟨S2048x128, .i32⟩
  | .hbm, ⟨42, _⟩ => ⟨S_, .i32⟩
  | .hbm, ⟨43, _⟩ => ⟨S2048x128, .i32⟩
  | .hbm, ⟨44, _⟩ => ⟨S2048x128, .i1⟩
  | .hbm, ⟨45, _⟩ => ⟨S_, .i32⟩
  | .hbm, ⟨46, _⟩ => ⟨S2048x128, .i32⟩
  | .hbm, ⟨47, _⟩ => ⟨S2048x128, .i32⟩
  | .hbm, ⟨48, _⟩ => ⟨S2048x128, .i32⟩
  | .hbm, ⟨49, _⟩ => ⟨S2048x128x1, .i32⟩
  | .hbm, ⟨50, _⟩ => ⟨S2048x128x8, .f32⟩
  | .hbm, ⟨51, _⟩ => ⟨S8x2048x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Fox.Body.lean ====
/- What one grid point of the forgetting-attention kernel leaves, as vectors: the running maximum, sum and
   weighted values of 512 queries, stepped over the key blocks before the queries' own block and then over the
   queries' own block. -/
module

public import proofs.«01_k».proof.Proof.Gen.KernelIdeal.Value
public import Idealize.ShloMosaic.Lib.Pipeline.ValueKit
public import Idealize.ShloMosaic.Lib.Pointwise
public import Idealize.ShloMosaic.Lib.VecWindow

@[expose] public section
set_option maxRecDepth 16384
noncomputable section
namespace Cert.KernelIdeal.Fox
open Cert.KernelIdeal Cert.KernelIdeal.Gen Idealize.ShloMosaic Idealize.ShloMosaic.TcCoe Idealize.SL.Sem
open Idealize.ShloMosaic.Pipeline (Dat)
variable {F : FTy → Type} [FloatOps F] [Named F]

/-- Rows `512 j … 512 j + 511` of a batch row's keys, values or cumulative gates. -/
def blk (X : Vec F S1x2048x128 .f32) (j : ℕ) : Vec F S1x512x128 .f32 := fun y =>
  X (ix3 (0 : Fin 1) ⟨(512 * j + (y 1).val) % 2048, Nat.mod_lt _ (by decide)⟩ (y 2))

/-- The running maximum, sum and weighted values. -/
structure St (F : FTy → Type) where
  m : FVec F S1x512 .f32
  l : FVec F S1x512 .f32
  a : FVec F S128x512 .f32

/-- One block of the online softmax: logits `x`, values `v`. -/
def step (c : FVec F S1x512 .f32) (x : FVec F S512x512 .f32) (v : FVec F S128x512 .bf16) (s : St F) : St F :=
  ⟨k0_pay2 c x s.m, k0_pay5 c x s.m s.l, k0_pay6 c v x s.m s.a⟩

/-- The step over key block `j`, all of whose keys lie before the queries. -/
def stepOff (q : FVec F S512x128 .bf16) (c : FVec F S1x512 .f32) (hd : IVec S512x128 1)
    (K V C : Vec F S1x2048x128 .f32) (j : ℕ) (s : St F) : St F :=
  step c (k0_pay26 q hd (blk K j) (blk C j)) (k0_pay25 (blk V j)) s

/-- The step over the queries' own block, under the causal mask. -/
def stepDiag (q : FVec F S512x128 .bf16) (c : FVec F S1x512 .f32) (hd : IVec S512x128 1)
    (K V C : Vec F S1x2048x128 .f32) (j : ℕ) (s : St F) : St F :=
  step c (k0_pay58 q hd k0_pay69 (blk K j) (blk C j)) (k0_pay25 (blk V j)) s

/-- The state after the first `n` key blocks. -/
def st (q : FVec F S512x128 .bf16) (c : FVec F S1x512 .f32) (hd : IVec S512x128 1)
    (K V C : Vec F S1x2048x128 .f32) : ℕ → St F
  | 0 => ⟨k0_pay64, k0_pay65, k0_pay66⟩
  | n + 1 => stepOff q c hd K V C n (st q c hd K V C n)

theorem st_ext {s t : St F} (h1 : s.m = t.m) (h2 : s.l = t.l) (h3 : s.a = t.a) : s = t := by
  cases s; cases t; simp_all

theorem readAt_blk (v : View sig .tc .vmem S1x2048x128 .f32) (f : v.ty.Contents (Elt F)) (off : Fin 3 → ℕ)
    (inb : ∀ a, off a + (![1, 512, 128] : Fin 3 → ℕ) a ≤ S1x2048x128.size a) (j : ℕ) (hoff : off = ![0, 512 * j, 0]) :
    v.readAt (Elt F) (Rect.unit (s := S1x2048x128) off ![1, 512, 128] inb).toLoadRect f = blk (v.read (Elt F) f) j := by
  subst hoff
  have hj : 512 * j + 512 ≤ 2048 := inb 1
  funext y
  refine congrArg (v.read (Elt F) f) ?_
  funext a
  refine Fin.ext ?_
  have y0 : (y 0).val < 1 := (y 0).isLt
  have y1 : (y 1).val < 512 := (y 1).isLt
  fin_cases a
  · show 0 + 1 * (y 0).val = 0
    omega
  · show 512 * j + 1 * (y 1).val = (512 * j + (y 1).val) % 2048
    rw [Nat.mod_eq_of_lt (by omega), Nat.one_mul]
  · show 0 + 1 * (y 2).val = (y 2).val
    omega

theorem ld_blk (X : Vec F S1x2048x128 .f32) (off : Fin 3 → ℕ)
    (inb : ∀ a, off a + (![1, 512, 128] : Fin 3 → ℕ) a ≤ S1x2048x128.size a) (j : ℕ) (hoff : off = ![0, 512 * j, 0]) :
    View.ld (Val := Elt F) (e' := .f32) X (Rect.unit (s := S1x2048x128) off ![1, 512, 128] inb) = blk X j := by
  subst hoff
  have hj : 512 * j + 512 ≤ 2048 := inb 1
  funext y
  refine congrArg X ?_
  funext a
  refine Fin.ext ?_
  have y0 : (y 0).val < 1 := (y 0).isLt
  have y1 : (y 1).val < 512 := (y 1).isLt
  fin_cases a
  · show 0 + 1 * (y 0).val = 0
    omega
  · show 512 * j + 1 * (y 1).val = (512 * j + (y 1).val) % 2048
    rw [Nat.mod_eq_of_lt (by omega), Nat.one_mul]
  · show 0 + 1 * (y 2).val = (y 2).val
    omega

theorem readAt_row (v : View sig .tc .vmem S1x512 .f32) (f : v.ty.Contents (Elt F))
    (inb : ∀ a, (![0, 0] : Fin 2 → ℕ) a + (![1, 512] : Fin 2 → ℕ) a ≤ S1x512.size a) :
    v.readAt (Elt F) (Rect.unit (s := S1x512) ![0, 0] ![1, 512] inb).toLoadRect f = v.read (Elt F) f :=
  View.readAt_full v f inb

theorem readAt_acc (v : View sig .tc .vmem S128x512 .f32) (f : v.ty.Contents (Elt F))
    (inb : ∀ a, (![0, 0] : Fin 2 → ℕ) a + (![128, 512] : Fin 2 → ℕ) a ≤ S128x512.size a) :
    v.readAt (Elt F) (Rect.unit (s := S128x512) ![0, 0] ![128, 512] inb).toLoadRect f = v.read (Elt F) f :=
  View.readAt_full v f inb

theorem readCov_row (v : View sig .tc .vmem S1x512 .f32)
    (inb : ∀ a, (![0, 0] : Fin 2 → ℕ) a + (![1, 512] : Fin 2 → ℕ) a ≤ S1x512.size a) (w : Vec F S1x512 .f32) (L) :
    v.readCov (Val := Elt F) (⟨Rect.unit (s := S1x512) ![0, 0] ![1, 512] inb, w⟩ :: L)
      (Rect.unit (s := S1x512) ![0, 0] ![1, 512] inb).toLoadRect = w :=
  View.readCov_full v inb inb w L

theorem readCov_acc (v : View sig .tc .vmem S128x512 .f32)
    (inb : ∀ a, (![0, 0] : Fin 2 → ℕ) a + (![128, 512] : Fin 2 → ℕ) a ≤ S128x512.size a) (w : Vec F S128x512 .f32) (L) :
    v.readCov (Val := Elt F) (⟨Rect.unit (s := S128x512) ![0, 0] ![128, 512] inb, w⟩ :: L)
      (Rect.unit (s := S128x512) ![0, 0] ![128, 512] inb).toLoadRect = w :=
  View.readCov_full v inb inb w L

theorem read_row (v : View sig .tc .vmem S1x512 .f32) (f : v.ty.Contents (Elt F))
    (inb : ∀ a, (![0, 0] : Fin 2 → ℕ) a + (![1, 512] : Fin 2 → ℕ) a ≤ S1x512.size a) (w : Vec F S1x512 .f32) (L) :
    v.read (Elt F) (v.writes (Elt F) f (⟨Rect.unit (s := S1x512) ![0, 0] ![1, 512] inb, w⟩ :: L)) = w :=
  View.read_writes_full v f inb w L

theorem read_acc (v : View sig .tc .vmem S128x512 .f32) (f : v.ty.Contents (Elt F))
    (inb : ∀ a, (![0, 0] : Fin 2 → ℕ) a + (![128, 512] : Fin 2 → ℕ) a ≤ S128x512.size a) (w : Vec F S128x512 .f32) (L) :
    v.read (Elt F) (v.writes (Elt F) f (⟨Rect.unit (s := S128x512) ![0, 0] ![128, 512] inb, w⟩ :: L)) = w :=
  View.read_writes_full v f inb w L

theorem pay1_eq (x : FVec F S1x512 .f32) : k0_pay1 x = x := shapeCast_self _ _
theorem pay7_eq (c x m) : k0_pay7 (F := F) c x m = k0_pay2 c x m := shapeCast_self _ _
theorem pay30_eq (c x m) : k0_pay30 (F := F) c x m = k0_pay2 c x m := rfl
theorem pay33_eq (c x m l) : k0_pay33 (F := F) c x m l = k0_pay5 c x m l := rfl
theorem pay34_eq (c v x m a) : k0_pay34 (F := F) c v x m a = k0_pay6 c v x m a := rfl
theorem pay28_eq (v) : k0_pay28 (F := F) v = k0_pay25 v := rfl
theorem pay27_eq (q h k c) : k0_pay29 (F := F) q h (k0_pay27 k) c = k0_pay26 q h k c := rfl

variable (c : Dev nD) (i : grid0.Coords) (arg3 : Memref sig .tc .vmem S1x512x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x1x4x512 .f32) (harg7 : arg7.IsWhole) (arg8 : Memref sig .tc .vmem S1x512x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (v4 : FVec F S512x128 .bf16) (v21 : FVec F S1x512 .f32) (v25 : IVec S512x128 1)

theorem off2_eq (k : Fin (k0_t1_loop i).trips) (hk : k.val = 0) : k0_off2 i k = ![0, 512 * (2 * k.val), 0] := by
  unfold k0_off2; rw [hk]; decide

theorem off3_eq (k : Fin (k0_t1_loop i).trips) (hk : k.val = 0) : k0_off3 i k = ![0, 512 * (2 * k.val + 1), 0] := by
  unfold k0_off3; rw [hk]; decide

theorem trip (xk xv xc) (k) (f9 f10 f11) (s : St F) (h9 : arg9.view.read (Elt F) f9 = s.m)
    (h10 : arg10.view.read (Elt F) f10 = s.l) (h11 : arg11.view.read (Elt F) f11 = s.a) :
    let T := tripL_k0_t1 (F := F) Variants.none c none i arg3 harg3 arg4 harg4 arg5 harg5 arg6 harg6 arg7 harg7 arg8 harg8 arg9 harg9 arg10 harg10 arg11 harg11 v4 v21 v25 (harg4.unread xk) (harg5.unread xv) (harg6.unread xc) k f9 f10 f11
    let s' := stepOff v4 v21 v25 xk xv xc (2 * k.val + 1) (stepOff v4 v21 v25 xk xv xc (2 * k.val) s)
    arg9.view.read (Elt F) (arg9.view.writes (Elt F) f9 T.1) = s'.m ∧
    arg10.view.read (Elt F) (arg10.view.writes (Elt F) f10 T.2.1) = s'.l ∧
    arg11.view.read (Elt F) (arg11.view.writes (Elt F) f11 T.2.2) = s'.a := by
  intro T s'
  subst T
  unfold tripL_k0_t1 trip_k0_t1
  dsimp only
  have hk : k.val = 0 := by
    have h1 := k.isLt
    have h2 := (k0_t1_abs i).2.1
    omega
  sl_unfold_run_names
  simp only [read_row, read_acc, readCov_row, readCov_acc, readAt_row, readAt_acc,
    readAt_blk (F := F) _ _ _ _ _ (off2_eq i k hk), readAt_blk (F := F) _ _ _ _ _ (off3_eq i k hk),
    harg4.read_unread, harg5.read_unread, harg6.read_unread, h9, h10, h11]
  subst s'
  simp only [pay1_eq, pay7_eq, pay27_eq, pay28_eq, pay30_eq, pay33_eq, pay34_eq]
  exact ⟨rfl, rfl, rfl⟩

/-- The scratch rows after `n` trips of the loop over pairs of key blocks hold the state after `2 n` blocks. -/
theorem loop (xk xv xc) (g9 g10 g11) (h9 : arg9.view.read (Elt F) g9 = k0_pay64)
    (h10 : arg10.view.read (Elt F) g10 = k0_pay65) (h11 : arg11.view.read (Elt F) g11 = k0_pay66) (n : ℕ)
    (hn : n ≤ (k0_t1_loop i).trips) :
    let T := pb_k0_t1 (F := F) Variants.none c none i arg3 harg3 arg4 harg4 arg5 harg5 arg6 harg6 arg7 harg7 arg8 harg8 arg9 harg9 arg10 harg10 arg11 harg11 v4 v21 v25 (harg4.unread xk) (harg5.unread xv) (harg6.unread xc) g9 g10 g11 n
    let s := st v4 v21 v25 xk xv xc (2 * n)
    arg9.view.read (Elt F) (arg9.view.writes (Elt F) g9 T.1) = s.m ∧
    arg10.view.read (Elt F) (arg10.view.writes (Elt F) g10 T.2.1) = s.l ∧
    arg11.view.read (Elt F) (arg11.view.writes (Elt F) g11 T.2.2) = s.a := by
  induction n with
  | zero => exact ⟨h9, h10, h11⟩
  | succ n ih =>
    obtain ⟨i9, i10, i11⟩ := ih (by omega)
    intro T s
    have hT : T = _ := pb_k0_t1_succ (F := F) Variants.none c none i arg3 harg3 arg4 harg4 arg5 harg5 arg6 harg6 arg7 harg7 arg8 harg8 arg9 harg9 arg10 harg10 arg11 harg11 v4 v21 v25 (harg4.unread xk) (harg5.unread xv) (harg6.unread xc) g9 g10 g11 ⟨n, by omega⟩
    rw [hT]
    simp only [View.writes_append]
    exact trip c i arg3 harg3 arg4 harg4 arg5 harg5 arg6 harg6 arg7 harg7 arg8 harg8 arg9 harg9 arg10 harg10 arg11 harg11 v4 v21 v25 xk xv xc ⟨n, by omega⟩ _ _ _ (st v4 v21 v25 xk xv xc (2 * n)) i9 i10 i11

theorem loopCov (xk xv xc) (in9 in9' in10 in10' in11 in11') (n : ℕ) (hn : n ≤ (k0_t1_loop i).trips) :
    let T := pb_k0_t1 (F := F) Variants.none c none i arg3 harg3 arg4 harg4 arg5 harg5 arg6 harg6 arg7 harg7 arg8 harg8 arg9 harg9 arg10 harg10 arg11 harg11 v4 v21 v25 (harg4.unread xk) (harg5.unread xv) (harg6.unread xc)
      (arg9.view.writes (Elt F) arg9.view.junk [⟨Rect.unit (s := S1x512) ![0, 0] ![1, 512] in9, k0_pay64⟩])
      (arg10.view.writes (Elt F) arg10.view.junk [⟨Rect.unit (s := S1x512) ![0, 0] ![1, 512] in10, k0_pay65⟩])
      (arg11.view.writes (Elt F) arg11.view.junk [⟨Rect.unit (s := S128x512) ![0, 0] ![128, 512] in11, k0_pay66⟩]) n
    let s := st v4 v21 v25 xk xv xc (2 * n)
    arg9.view.readCov (T.1 ++ [⟨Rect.unit (s := S1x512) ![0, 0] ![1, 512] in9, k0_pay64⟩])
      (Rect.unit (s := S1x512) ![0, 0] ![1, 512] in9').toLoadRect = s.m ∧
    arg10.view.readCov (T.2.1 ++ [⟨Rect.unit (s := S1x512) ![0, 0] ![1, 512] in10, k0_pay65⟩])
      (Rect.unit (s := S1x512) ![0, 0] ![1, 512] in10').toLoadRect = s.l ∧
    arg11.view.readCov (T.2.2 ++ [⟨Rect.unit (s := S128x512) ![0, 0] ![128, 512] in11, k0_pay66⟩])
      (Rect.unit (s := S128x512) ![0, 0] ![128, 512] in11').toLoadRect = s.a := by
  intro T s
  obtain ⟨h9, h10, h11⟩ := loop c i arg3 harg3 arg4 harg4 arg5 harg5 arg6 harg6 arg7 harg7 arg8 harg8 arg9 harg9 arg10 harg10 arg11 harg11 v4 v21 v25 xk xv xc
    _ _ _ (read_row arg9.view arg9.view.junk in9 k0_pay64 []) (read_row arg10.view arg10.view.junk in10 k0_pay65 [])
    (read_acc arg11.view arg11.view.junk in11 k0_pay66 []) n hn
  refine ⟨?_, ?_, ?_⟩
  · refine (readAt_row arg9.view (arg9.view.writes (Elt F) arg9.view.junk _) in9').trans ?_
    rw [View.writes_append]; exact h9
  · refine (readAt_row arg10.view (arg10.view.writes (Elt F) arg10.view.junk _) in10').trans ?_
    rw [View.writes_append]; exact h10
  · refine (readAt_acc arg11.view (arg11.view.writes (Elt F) arg11.view.junk _) in11').trans ?_
    rw [View.writes_append]; exact h11

theorem trips1 (x : ℕ) (hx : x < 4) :
    Scf.trips (0#32) (Scalar.addi (0#32) (Scalar.muli (Scalar.divsi (Scalar.subi (Scalar.shrsi (BitVec.ofNat 32 x) 1#32) 0#32) 1#32) 1#32)) 1#32 = x / 2 := by
  interval_cases x <;> decide

theorem trips2 (x : ℕ) (hx : x < 4) :
    Scf.trips (Scalar.addi (0#32) (Scalar.muli (Scalar.divsi (Scalar.subi (Scalar.shrsi (BitVec.ofNat 32 x) 1#32) 0#32) 1#32) 1#32))
      (Scalar.addi (0#32) (Scalar.subi (Scalar.shrsi (BitVec.ofNat 32 x) 1#32) 0#32)) 1#32 = 0 := by
  interval_cases x <;> decide

end Cert.KernelIdeal.Fox
end
end
-- ==== Proof.Fox.Point.lean ====
/- What the kernel writes at each grid point: the state after the key blocks before the queries' block, stepped over
   the queries' own block and divided by its sum. -/
module

public import proofs.«01_k».proof.Proof.Fox.Body

@[expose] public section
set_option maxRecDepth 16384
noncomputable section
namespace Cert.KernelIdeal.Fox
open Cert.KernelIdeal Cert.KernelIdeal.Gen Idealize.ShloMosaic Idealize.ShloMosaic.TcCoe Idealize.SL.Sem
open Idealize.ShloMosaic.Pipeline (Dat)
variable {F : FTy → Type} [FloatOps F] [Named F]
variable (m : (ℓ : Loc nD τ sig) → Buf (Elt F) ℓ) (ρ : Dev nD → PrngReg)

theorem coords2 (t : Fin cfg0.N) : (grid0.coords t 2).val = t.val % 4 := by
  rw [Pipeline.Grid.coords_val (S := 1) (B := 4) t 2 (by decide) (by decide), Nat.div_one]

theorem coords1 (t : Fin cfg0.N) : (grid0.coords t 1).val = t.val / 4 % 8 :=
  Pipeline.Grid.coords_val (S := 4) (B := 8) t 1 (by decide) (by decide)

theorem coords0 (t : Fin cfg0.N) : (grid0.coords t 0).val = t.val / 32 % 16 :=
  Pipeline.Grid.coords_val (S := 32) (B := 16) t 0 (by decide) (by decide)

/-- The scaled queries of point `t`. -/
def qv (c : Dev nD) (t : Fin cfg0.N) : FVec F S512x128 .bf16 := k0_pay63 (iblk m c 0 t)

/-- The queries' cumulative gates of point `t`, in base 2. -/
def cv (c : Dev nD) (t : Fin cfg0.N) : FVec F S1x512 .f32 :=
  k0_pay67 (View.ld (iblk m c 4 t) (Rect.unit (k0_off1 (grid0.coords t)) ![1, 1, 1, 512] (k0_off1_inb (grid0.coords t))))

/-- The state a point writes out. -/
def fin (c : Dev nD) (t : Fin cfg0.N) : St F :=
  stepDiag (qv m c t) (cv m c t) (k0_pay68 (grid0.coords t)) (iblk m c 1 t) (iblk m c 2 t) (iblk m c 3 t) (t.val % 4)
    (st (qv m c t) (cv m c t) (k0_pay68 (grid0.coords t)) (iblk m c 1 t) (iblk m c 2 t) (iblk m c 3 t) (t.val % 4))

theorem trips_eq (t : Fin cfg0.N) : (k0_t1_loop (grid0.coords t)).trips = (grid0.coords t 2).val / 2 :=
  trips1 _ (grid0.coords t 2).isLt

theorem off6_eq : ∀ i : grid0.Coords, k0_cond1 i = 1#1 → k0_off6 i = ![0, 512 * ((i 2).val - 1), 0] := by
  intro i h
  have hlt : (i 2).val < 4 := (i 2).isLt
  unfold k0_cond1 at h
  unfold k0_off6
  generalize (i 2).val = x at h hlt ⊢
  interval_cases x
  · exact absurd h (by decide)
  · decide
  · decide
  · decide

theorem pay21_eq (x : FVec F S1x512 .f32) : k0_pay21 x = x := shapeCast_self _ _
theorem pay62_eq (q c h d k g m l) :
    k0_pay21 (k0_pay62 (F := F) q c h d k g m l) = k0_pay5 c (k0_pay58 q h d k g) m l := rfl
theorem pay22_eq (v q c h d k g m a) : k0_pay22 (k0_pay57 (F := F) v) (k0_pay60 q c h d k g m) (k0_pay61 q c h d k g m) a
    = k0_pay6 c (k0_pay25 v) (k0_pay58 q h d k g) m a := rfl
theorem pay56_eq (c x m) : k0_pay56 (F := F) c x m = k0_pay2 c x m := shapeCast_self _ _
theorem pay54_eq (c x m l) : k0_pay54 (F := F) c x m l = k0_pay5 c x m l := rfl
theorem pay55_eq (c v x m a) : k0_pay55 (F := F) c v x m a = k0_pay6 c v x m a := rfl
theorem pay18_eq (c x m l) : k0_pay18 (F := F) c x m l = k0_pay5 c x m l := rfl
theorem pay19_eq (c v x m a) : k0_pay19 (F := F) c v x m a = k0_pay6 c v x m a := rfl
theorem pay46_eq (q h k c) : k0_pay46 (F := F) q h k c = k0_pay26 q h k c := rfl
theorem pay45_eq (v) : k0_pay45 (F := F) v = k0_pay25 v := rfl
theorem pay48_eq (v) : k0_pay48 (F := F) v = k0_pay25 v := rfl
theorem pay50_eq (q h d k c) : k0_pay50 (F := F) q d (k0_pay47 k) (k0_pay49 h c) = k0_pay58 q h d k c := rfl

theorem outA (c : Dev nD) (t : Fin cfg0.N) (h0 : ¬(t.val % 2 = 1)) (h1 : t.val % 2 = 0) :
    outsAt0 m c t.val t.isLt = k0_pay24 (fin m c t).a (fin m c t).l := by
  conv_lhs => rw [outsAt0_A m c t h0 h1]
  have hlt : (grid0.coords t 2).val < 4 := (grid0.coords t 2).isLt
  frame_out
  simp only [trips1 _ hlt, trips2 _ hlt, pb_k0_t2, List.nil_append]
  obtain ⟨e9, e10, e11⟩ := loopCov (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (qv m c t) (cv m c t) (k0_pay68 (grid0.coords t)) (iblk m c 1 t) (iblk m c 2 t) (iblk m c 3 t)
    inb_S1x512_S1x512_0_0 inb_S1x512_S1x512_0_0 inb_S1x512_S1x512_0_0 inb_S1x512_S1x512_0_0
    inb_S128x512_S128x512_0_0 inb_S128x512_S128x512_0_0
    ((grid0.coords t 2).val / 2) (le_of_eq (trips_eq t).symm)
  erw [e9, e10, e11]
  have e8 := fun (X : Vec F S1x2048x128 .f32) inb =>
    ld_blk (F := F) X (k0_off8 (grid0.coords t)) inb (grid0.coords t 2).val (k0_off8_eq _)
  simp only [e8, pay62_eq, pay22_eq]
  have hc := coords2 t
  have h2 : 2 * ((grid0.coords t 2).val / 2) = t.val % 4 := by omega
  rw [h2, hc]
  rfl

theorem outB (c : Dev nD) (t : Fin cfg0.N) (h0 : t.val % 2 = 1) (h1 : ¬(t.val % 2 = 0)) :
    outsAt0 m c t.val t.isLt = k0_pay24 (fin m c t).a (fin m c t).l := by
  conv_lhs => rw [outsAt0_B m c t h0 h1]
  have hlt : (grid0.coords t 2).val < 4 := (grid0.coords t 2).isLt
  frame_out
  simp only [trips1 _ hlt, trips2 _ hlt, pb_k0_t2, List.nil_append]
  obtain ⟨e9, e10, e11⟩ := loopCov (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    (qv m c t) (cv m c t) (k0_pay68 (grid0.coords t)) (iblk m c 1 t) (iblk m c 2 t) (iblk m c 3 t)
    inb_S1x512_S1x512_0_0 inb_S1x512_S1x512_0_0 inb_S1x512_S1x512_0_0 inb_S1x512_S1x512_0_0
    inb_S128x512_S128x512_0_0 inb_S128x512_S128x512_0_0
    ((grid0.coords t 2).val / 2) (le_of_eq (trips_eq t).symm)
  erw [e9, e10, e11]
  have hc := coords2 t
  have h1' : k0_cond1 (grid0.coords t) = 1#1 := by
    unfold k0_cond1
    have h3 : (grid0.coords t 2).val % 2 = 1 := by omega
    generalize (grid0.coords t 2).val = x at h3 hlt ⊢
    interval_cases x
    · exact absurd h3 (by decide)
    · decide
    · exact absurd h3 (by decide)
    · decide
  have e6 := fun (X : Vec F S1x2048x128 .f32) inb =>
    ld_blk (F := F) X (k0_off6 (grid0.coords t)) inb ((grid0.coords t 2).val - 1) (off6_eq _ h1')
  have e7 := fun (X : Vec F S1x2048x128 .f32) inb =>
    ld_blk (F := F) X (k0_off7 (grid0.coords t)) inb (grid0.coords t 2).val (k0_off7_eq _)
  simp only [e6, e7, pay56_eq, pay54_eq, pay55_eq, pay18_eq, pay19_eq, pay46_eq, pay45_eq, pay48_eq, pay50_eq]
  obtain ⟨r, hr⟩ : ∃ r, t.val % 4 = 2 * r + 1 := ⟨t.val % 4 / 2, by omega⟩
  have a1 : (grid0.coords t 2).val - 1 = 2 * r := by omega
  have a2 : (grid0.coords t 2).val / 2 = r := by omega
  have a3 : (grid0.coords t 2).val = 2 * r + 1 := by omega
  unfold fin
  rw [a1, a2, a3, hr]
  rfl

/-- The block a grid point writes. -/
theorem out (c : Dev nD) (t : Fin cfg0.N) : outsAt0 m c t.val t.isLt = k0_pay24 (fin m c t).a (fin m c t).l := by
  by_cases h : t.val % 2 = 1
  · exact outB m c t h (by omega)
  · exact outA m c t h (by omega)

end Cert.KernelIdeal.Fox
end
end
-- ==== Proof.Softmax.lean ====
/-
# Attention by blocks, over the extended reals

One query attends to keys numbered `0, 1, 2, …`. `X s` is the base-two logit of key `s`: a real
number, or `⊥` where the key is masked. `V s` is one coordinate of the value of key `s`, any
extended real. A flash attention walks the keys block by block with a running maximum, a running
sum of weights and a running weighted sum of values. This file says what the three hold after each
block (`Inv`), that a block keeps it (`Inv.step`), and that their quotient is the softmax-weighted
sum of the values (`Inv.out`); `softmax_out` says the same of the plain softmax with base `e`.
-/
module

public import Idealize.ShloMosaic.Lib.Pointwise
public import Idealize.ShloMosaic.PureOps.Ideal
public import Mathlib.Analysis.SpecialFunctions.Pow.Real

@[expose] public section
noncomputable section
namespace Cert.Attn

open Idealize.ShloMosaic

/-- The weight of a key before any scaling: `2 ^ x`, and `0` for a masked key. -/
def wt (x : EReal) : ℝ := (Ideal.exp2 x).toReal

@[simp] theorem wt_bot : wt ⊥ = 0 := by simp [wt]

@[simp] theorem wt_coe (r : ℝ) : wt (r : EReal) = Real.rpow 2 r := by simp [wt]

theorem wt_nonneg (x : EReal) (hx : x ≠ ⊤) : 0 ≤ wt x := by
  induction x with
  | bot => simp
  | top => exact absurd rfl hx
  | coe r => rw [wt_coe]; exact Real.rpow_nonneg (by norm_num) r

theorem wt_pos (r : ℝ) : 0 < wt (r : EReal) := by
  rw [wt_coe]; exact Real.rpow_pos_of_pos (by norm_num) r

/-- A nonnegative real factor goes into a sum of extended reals. -/
theorem mul_sum {ι : Type*} (S : Finset ι) (r : ℝ) (hr : 0 ≤ r) (f : ι → EReal) :
    (r : EReal) * ∑ i ∈ S, f i = ∑ i ∈ S, (r : EReal) * f i := by
  classical
  induction S using Finset.induction_on with
  | empty => simp
  | insert a S ha ih =>
    rw [Finset.sum_insert ha, Finset.sum_insert ha, ← ih]
    exact EReal.left_distrib_of_nonneg_of_ne_top (by exact_mod_cast hr) (EReal.coe_ne_top r) _ _

/-- A sum of reals is the real sum. -/
theorem coe_sum {ι : Type*} (S : Finset ι) (f : ι → ℝ) :
    ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The maximum of a block with no `⊤` and some real entry is real. -/
theorem fold_max_real {ι : Type*} (S : Finset ι) (x : ι → EReal) (htop : ∀ i ∈ S, x i ≠ ⊤)
    (hreal : ∃ i ∈ S, ∃ r : ℝ, x i = r) : ∃ ξ : ℝ, Finset.fold max ⊥ x S = ξ := by
  have h1 : Finset.fold max ⊥ x S ≠ ⊤ := by
    intro h
    have : (⊤ : EReal) ≤ Finset.fold max ⊥ x S := h.ge
    rw [Finset.le_fold_max] at this
    rcases this with h | ⟨i, hi, h⟩
    · simp at h
    · exact htop i hi (top_le_iff.1 h)
  have h2 : Finset.fold max ⊥ x S ≠ ⊥ := by
    obtain ⟨i, hi, r, hr⟩ := hreal
    intro h
    have : (r : EReal) ≤ Finset.fold max ⊥ x S := Finset.le_fold_max _ |>.2 (.inr ⟨i, hi, hr.ge⟩)
    rw [h] at this
    exact absurd this (by simp)
  exact ⟨_, (EReal.coe_toReal h1 h2).symm⟩

/-- The weight of a key against a running maximum `μ`, the query's own term being `cq`. -/
theorem exp2_sub (x : EReal) (hx : x ≠ ⊤) (μ cq : ℝ) :
    Ideal.exp2 (x - ((μ : EReal) - (cq : EReal)))
      = ((Real.rpow 2 (cq - μ) * wt x : ℝ) : EReal) := by
  induction x with
  | top => exact absurd rfl hx
  | bot => rw [← EReal.coe_sub, EReal.bot_sub]; simp
  | coe r =>
    rw [← EReal.coe_sub, ← EReal.coe_sub, Ideal.exp2_coe, wt_coe]
    congr 1
    show (2 : ℝ) ^ (r - (μ - cq)) = 2 ^ (cq - μ) * 2 ^ r
    rw [← Real.rpow_add (by norm_num)]; congr 1; ring

/-- What the running maximum `m`, the running sum `l` and the running weighted sum `a` hold after
    the first `n` keys: either nothing has been seen, or the maximum is some real `μ` and the sums
    are those of the weights scaled by `2 ^ (cq - μ)`. -/
def Inv (X V : ℕ → EReal) (cq : ℝ) (n : ℕ) (m l a : EReal) : Prop :=
  (n = 0 ∧ m = ⊥ ∧ l = 0 ∧ a = 0) ∨
    ∃ μ : ℝ, m = μ
      ∧ l = ((Real.rpow 2 (cq - μ) * ∑ s ∈ Finset.range n, wt (X s) : ℝ) : EReal)
      ∧ a = ∑ s ∈ Finset.range n, ((Real.rpow 2 (cq - μ) * wt (X s) : ℝ) : EReal) * V s
      ∧ 0 < ∑ s ∈ Finset.range n, wt (X s)

/-- One block of `N` keys keeps the invariant. -/
theorem Inv.step {X V : ℕ → EReal} {cq : ℝ} {n N : ℕ} {m l a : EReal} (h : Inv X V cq n m l a)
    (hX : ∀ s, X s ≠ ⊤) (hsome : ∃ j : Fin N, ∃ r : ℝ, X (n + j.val) = r)
    (x v : Fin N → EReal) (hx : ∀ j, x j = X (n + j.val)) (hv : ∀ j, v j = V (n + j.val))
    (m' l' a' : EReal) (hm' : m' = max m (Finset.fold max ⊥ x Finset.univ + (cq : EReal)))
    (hl' : l' = Ideal.exp2 (m - m') * l + ∑ j, Ideal.exp2 (x j - (m' - (cq : EReal))))
    (ha' : a' = Ideal.exp2 (m - m') * a + ∑ j, v j * Ideal.exp2 (x j - (m' - (cq : EReal)))) :
    Inv X V cq (n + N) m' l' a' := by
  right
  obtain ⟨ξ, hξ⟩ := fold_max_real Finset.univ x (fun i _ => hx i ▸ hX _)
    (by obtain ⟨j, r, hr⟩ := hsome; exact ⟨j, Finset.mem_univ _, r, (hx j).trans hr⟩)
  have hw : ∀ s, 0 ≤ wt (X s) := fun s => wt_nonneg _ (hX s)
  have hpow : ∀ y : ℝ, 0 ≤ Real.rpow 2 y := fun y => Real.rpow_nonneg (by norm_num) y
  have hblock : 0 < ∑ j : Fin N, wt (X (n + j.val)) := by
    obtain ⟨j, r, hr⟩ := hsome
    refine Finset.sum_pos' (fun _ _ => hw _) ⟨j, Finset.mem_univ _, ?_⟩
    rw [hr]; exact wt_pos r
  have hsplit : ∀ f : ℕ → ℝ, ∑ s ∈ Finset.range (n + N), f s
      = ∑ s ∈ Finset.range n, f s + ∑ j : Fin N, f (n + j.val) := fun f => by
    rw [Finset.sum_range_add, ← Fin.sum_univ_eq_sum_range (fun k => f (n + k)) N]
  have hsplitE : ∀ f : ℕ → EReal, ∑ s ∈ Finset.range (n + N), f s
      = ∑ s ∈ Finset.range n, f s + ∑ j : Fin N, f (n + j.val) := fun f => by
    rw [Finset.sum_range_add, ← Fin.sum_univ_eq_sum_range (fun k => f (n + k)) N]
  rcases h with ⟨rfl, rfl, rfl, rfl⟩ | ⟨μ, rfl, rfl, rfl, hpos⟩
  · have hm : m' = ((ξ + cq : ℝ) : EReal) := by rw [hm', hξ, ← EReal.coe_add]; simp
    refine ⟨ξ + cq, hm, ?_, ?_, ?_⟩
    · rw [hl', hm, hsplit]
      simp only [mul_zero, zero_add, Finset.range_zero, Finset.sum_empty, exp2_sub _ (hx _ ▸ hX _)]
      rw [coe_sum, Finset.mul_sum]
      simp only [hx, zero_add]
    · rw [ha', hm, hsplitE]
      simp only [mul_zero, zero_add, Finset.range_zero, Finset.sum_empty, exp2_sub _ (hx _ ▸ hX _)]
      simp only [hx, hv, zero_add, mul_comm]
    · rw [hsplit]; simpa using hblock
  · obtain ⟨μ', hμ'⟩ : ∃ μ' : ℝ, max (μ : EReal) ((ξ : EReal) + (cq : EReal)) = μ' :=
      ⟨max μ (ξ + cq), by rw [← EReal.coe_add]; exact (EReal.coe_strictMono.monotone.map_max).symm⟩
    have hm : m' = (μ' : EReal) := by rw [hm', hξ, hμ']
    have hα : Ideal.exp2 ((μ : EReal) - m') = ((Real.rpow 2 (μ - μ') : ℝ) : EReal) := by
      rw [hm, ← EReal.coe_sub, Ideal.exp2_coe]
    have hmul : Real.rpow 2 (μ - μ') * Real.rpow 2 (cq - μ) = Real.rpow 2 (cq - μ') := by
      show (2 : ℝ) ^ (μ - μ') * 2 ^ (cq - μ) = 2 ^ (cq - μ')
      rw [← Real.rpow_add (by norm_num)]; congr 1; ring
    refine ⟨μ', hm, ?_, ?_, ?_⟩
    · rw [hl', hα, hsplit, hm]
      simp only [exp2_sub _ (hx _ ▸ hX _)]
      rw [coe_sum, ← EReal.coe_mul, ← EReal.coe_add, ← mul_assoc, hmul, mul_add]
      simp only [hx, Finset.mul_sum]
    · rw [ha', hα, hsplitE, hm]
      simp only [exp2_sub _ (hx _ ▸ hX _)]
      rw [mul_sum _ _ (hpow _)]
      congr 1
      · refine Finset.sum_congr rfl fun s _ => ?_
        rw [← mul_assoc, ← EReal.coe_mul, ← mul_assoc, hmul]
      · refine Finset.sum_congr rfl fun j _ => ?_
        rw [hx, hv, mul_comm]
    · rw [hsplit]; exact add_pos hpos hblock

/-- The softmax-weighted sum of the values of the first `n` keys. -/
def attend (X V : ℕ → EReal) (n : ℕ) : EReal :=
  ∑ s ∈ Finset.range n, ((wt (X s) / ∑ s' ∈ Finset.range n, wt (X s') : ℝ) : EReal) * V s

/-- A common positive factor cancels in a quotient of a weighted sum by the sum of its weights. -/
theorem div_weighted {ι : Type*} (S : Finset ι) (w : ι → ℝ) (V : ι → EReal) (k : ℝ)
    (hk : 0 < k) (hpos : 0 < ∑ s ∈ S, w s) :
    Ideal.div (∑ s ∈ S, ((k * w s : ℝ) : EReal) * V s) ((k * ∑ s ∈ S, w s : ℝ) : EReal)
      = ∑ s ∈ S, ((w s / ∑ s' ∈ S, w s' : ℝ) : EReal) * V s := by
  have hne : k * ∑ s ∈ S, w s ≠ 0 := (mul_pos hk hpos).ne'
  rw [Ideal.div_coe hne, mul_comm, mul_sum _ _ (by positivity)]
  refine Finset.sum_congr rfl fun s _ => ?_
  rw [← mul_assoc, ← EReal.coe_mul]
  congr 2
  field_simp

/-- The quotient of the running sums is the softmax-weighted sum. -/
theorem Inv.out {X V : ℕ → EReal} {cq : ℝ} {n : ℕ} {m l a : EReal} (h : Inv X V cq n m l a)
    (hn : n ≠ 0) : Ideal.div a l = attend X V n := by
  rcases h with ⟨h0, -⟩ | ⟨μ, rfl, rfl, rfl, hpos⟩
  · exact absurd h0 hn
  · exact div_weighted _ _ _ _ (Real.rpow_pos_of_pos (by norm_num) _) hpos

/-- Masked keys at the end change nothing. -/
theorem attend_extend (X V : ℕ → EReal) {n n' : ℕ} (hle : n ≤ n')
    (hmask : ∀ s, n ≤ s → s < n' → X s = ⊥) : attend X V n' = attend X V n := by
  have hsub : Finset.range n ⊆ Finset.range n' := Finset.range_mono hle
  have hz : ∀ s ∈ Finset.range n', s ∉ Finset.range n → wt (X s) = 0 := fun s h1 h2 => by
    rw [hmask s (by simpa using h2) (by simpa using h1), wt_bot]
  unfold attend
  rw [← Finset.sum_subset hsub hz]
  refine (Finset.sum_subset hsub fun s h1 h2 => ?_).symm
  rw [hz s h1 h2]; simp

/-- The weight of a key in the plain softmax with base `e`: its logit `y` is `⊥` where the key is
    masked and otherwise `log 2 * (x + cq)`. -/
theorem exp_sub (x y : EReal) (cq M : ℝ)
    (h : (x = ⊥ ∧ y = ⊥) ∨ ∃ r : ℝ, x = r ∧ y = ((Real.log 2 * (r + cq) : ℝ) : EReal)) :
    Ideal.exp (y - (M : EReal)) = ((Real.exp (Real.log 2 * cq - M) * wt x : ℝ) : EReal) := by
  rcases h with ⟨rfl, rfl⟩ | ⟨r, rfl, rfl⟩
  · rw [EReal.bot_sub]; simp
  · rw [← EReal.coe_sub, Ideal.exp_coe, wt_coe]
    congr 1
    show _ = _ * (2 : ℝ) ^ r
    rw [Real.rpow_def_of_pos (by norm_num), ← Real.exp_add]; congr 1; ring

/-- The plain softmax over `N` keys, then the weighted sum of the values, is `attend`. -/
theorem softmax_out {N : ℕ} (X V : ℕ → EReal) (cq : ℝ) (y v : Fin N → EReal)
    (hX : ∀ s, X s ≠ ⊤) (hsome : ∃ j : Fin N, ∃ r : ℝ, X j.val = r)
    (hy : ∀ j : Fin N, (X j.val = ⊥ ∧ y j = ⊥)
      ∨ ∃ r : ℝ, X j.val = r ∧ y j = ((Real.log 2 * (r + cq) : ℝ) : EReal))
    (hv : ∀ j, v j = V j.val) :
    ∑ j, v j * Ideal.div (Ideal.exp (y j - Finset.fold max ⊥ y Finset.univ))
        (∑ j', Ideal.exp (y j' - Finset.fold max ⊥ y Finset.univ))
      = attend X V N := by
  obtain ⟨M, hM⟩ := fold_max_real Finset.univ y
    (fun i _ => by
      rcases hy i with ⟨-, h⟩ | ⟨r, -, h⟩
      · rw [h]; exact bot_ne_top
      · rw [h]; exact EReal.coe_ne_top _)
    (by
      obtain ⟨j, r, hr⟩ := hsome
      rcases hy j with ⟨h, -⟩ | ⟨r', -, h⟩
      · rw [hr] at h; simp at h
      · exact ⟨j, Finset.mem_univ _, _, h⟩)
  rw [hM]
  simp only [exp_sub _ _ cq M (hy _)]
  have hpos : 0 < ∑ j : Fin N, wt (X j.val) := by
    obtain ⟨j, r, hr⟩ := hsome
    exact Finset.sum_pos' (fun _ _ => wt_nonneg _ (hX _))
      ⟨j, Finset.mem_univ _, by rw [hr]; exact wt_pos r⟩
  rw [coe_sum, ← Finset.mul_sum]
  have hk : 0 < Real.exp (Real.log 2 * cq - M) := Real.exp_pos _
  unfold attend
  rw [← Fin.sum_univ_eq_sum_range (fun s => wt (X s)) N,
    ← Fin.sum_univ_eq_sum_range (fun s => ((wt (X s) / ∑ j : Fin N, wt (X j.val) : ℝ) : EReal) * V s) N]
  refine Finset.sum_congr rfl fun j _ => ?_
  rw [hv, Ideal.div_coe (mul_pos hk hpos).ne', ← EReal.coe_mul, mul_comm]
  congr 2
  field_simp

end Cert.Attn
-- ==== Proof.Fox.Ideal.lean ====
/- The forgetting-attention block over the extended reals: each vector operation of a step read at one index, and what
   the block written at a grid point holds: the attention of the query over the keys up to it. -/
module

public import proofs.«01_k».proof.Proof.Fox.Point
public import proofs.«01_k».proof.Proof.Softmax

@[expose] public section
set_option maxRecDepth 16384
noncomputable section
namespace Cert.KernelIdeal.Fox
open Cert.KernelIdeal Cert.KernelIdeal.Gen Idealize.ShloMosaic Idealize.ShloMosaic.TcCoe Idealize.SL.Sem
open Cert.Attn

/-- `1 / log 2`, as the kernel's named constant. -/
theorem named_l2e : Named.named (F := Ideal) Cert.KernelIdeal.κ "l2e" (φ := .f32) 0x3FB8AA3B#32
    = (((Real.log 2)⁻¹ : ℝ) : EReal) := IdealRules.named_const.ideal_named_scalar _ _ _ _ rfl

/-- `1 / (sqrt 128 * log 2)`, as the kernel's named constant. -/
theorem named_sl2e : Named.named (F := Ideal) Cert.KernelIdeal.κ "sl2e" (φ := .f32) 0x3E0293EE#32
    = (((Real.sqrt 128)⁻¹ * (Real.log 2)⁻¹ : ℝ) : EReal) := IdealRules.named_const.ideal_named_scalar _ _ _ _ rfl

/-- The masked logit. -/
theorem named_mask : Named.named (F := Ideal) Cert.KernelIdeal.κ "mask" (φ := .f32) 0xF149F2CA#32 = (⊥ : EReal) :=
  IdealRules.named_const.ideal_named_scalar _ _ _ _ rfl

theorem ofBits_neg_inf : Ideal.ofBits FTy.f32 4286578688#32 = (⊥ : EReal) := by
  simp [Ideal.ofBits, Ideal.ieee]

theorem p2 (c : FVec Ideal S1x512 .f32) (x : FVec Ideal S512x512 .f32) (m : FVec Ideal S1x512 .f32) (r : Fin 512) :
    k0_pay2 (F := Ideal) c x m (ix2 (0 : Fin 1) r)
      = max (m (ix2 (0 : Fin 1) r)) (Finset.fold max (⊥ : EReal) (fun j : Fin 512 => x (ix2 j r)) Finset.univ
          + c (ix2 (0 : Fin 1) r)) := by
  unfold k0_pay2
  pointwise
  rw [ofBits_neg_inf]

theorem p5 (c : FVec Ideal S1x512 .f32) (x : FVec Ideal S512x512 .f32) (m l : FVec Ideal S1x512 .f32) (r : Fin 512) :
    k0_pay5 (F := Ideal) c x m l (ix2 (0 : Fin 1) r)
      = Ideal.exp2 (m (ix2 (0 : Fin 1) r) - k0_pay2 (F := Ideal) c x m (ix2 (0 : Fin 1) r)) * l (ix2 (0 : Fin 1) r)
        + ∑ j : Fin 512, Ideal.exp2 (x (ix2 j r)
            - (k0_pay2 (F := Ideal) c x m (ix2 (0 : Fin 1) r) - c (ix2 (0 : Fin 1) r))) := by
  unfold k0_pay5 k0_pay4 k0_pay3
  pointwise
  rfl

theorem p6 (c : FVec Ideal S1x512 .f32) (v : FVec Ideal S128x512 .bf16) (x : FVec Ideal S512x512 .f32)
    (m : FVec Ideal S1x512 .f32) (a : FVec Ideal S128x512 .f32) (d : Fin 128) (r : Fin 512) :
    k0_pay6 (F := Ideal) c v x m a (ix2 d r)
      = Ideal.exp2 (m (ix2 (0 : Fin 1) r) - k0_pay2 (F := Ideal) c x m (ix2 (0 : Fin 1) r)) * a (ix2 d r)
        + ∑ j : Fin 512, v (ix2 d j) * Ideal.exp2 (x (ix2 j r)
            - (k0_pay2 (F := Ideal) c x m (ix2 (0 : Fin 1) r) - c (ix2 (0 : Fin 1) r))) := by
  unfold k0_pay6 k0_pay4 k0_pay3
  pointwise
  rfl

theorem p24 (a : FVec Ideal S128x512 .f32) (l : FVec Ideal S1x512 .f32) (d : Fin 128) (r : Fin 512) :
    k0_pay24 (F := Ideal) a l (ix3 (0 : Fin 1) r d) = Ideal.div (a (ix2 d r)) (l (ix2 (0 : Fin 1) r)) := by
  unfold k0_pay24
  pointwise

theorem p25 (v : Vec Ideal S1x512x128 .f32) (d : Fin 128) (r : Fin 512) :
    k0_pay25 (F := Ideal) v (ix2 d r) = v (ix3 (0 : Fin 1) r d) := by
  unfold k0_pay25
  pointwise

theorem p63 (q : Vec Ideal S1x512x128 .f32) (d : Fin 128) (r : Fin 512) :
    k0_pay63 (F := Ideal) q (ix2 r d)
      = q (ix3 (0 : Fin 1) r d) * (((Real.sqrt 128)⁻¹ * (Real.log 2)⁻¹ : ℝ) : EReal) := by
  unfold k0_pay63
  pointwise
  rw [named_sl2e]

theorem p67 (q : Vec Ideal S1x1x1x512 .f32) (r : Fin 512) :
    k0_pay67 (F := Ideal) q (ix2 (0 : Fin 1) r)
      = q (ix4 (0 : Fin 1) (0 : Fin 1) (0 : Fin 1) r) * (((Real.log 2)⁻¹ : ℝ) : EReal) := by
  unfold k0_pay67
  pointwise
  rw [named_l2e]

theorem p64 (r : Fin 512) : k0_pay64 (F := Ideal) (ix2 (0 : Fin 1) r) = (⊥ : EReal) := by
  unfold k0_pay64
  pointwise
  rw [named_mask]

theorem p65 (r : Fin 512) : k0_pay65 (F := Ideal) (ix2 (0 : Fin 1) r) = (0 : EReal) := by
  unfold k0_pay65
  pointwise

theorem p66 (d : Fin 128) (r : Fin 512) : k0_pay66 (F := Ideal) (ix2 d r) = (0 : EReal) := by
  unfold k0_pay66
  pointwise

/-- The lane of the padded cumulative gates that holds head `h`. -/
def lane (h : ℕ) : Fin 128 := ⟨(24 + h) % 128, Nat.mod_lt _ (by decide)⟩

/-- A masked sum over the lanes picks the head's lane. -/
theorem lane_sum (h : Fin 8) (f : Fin 128 → EReal) :
    (∑ x : Fin 128, Scalar.select (IntOp.cmpi .eq (BitVec.ofNat 32 x.val) (Scalar.addi 24#32 (BitVec.ofNat 32 h.val)))
      (f x) (0 : EReal)) = f (lane h.val) := by
  have hadd : Scalar.addi 24#32 (BitVec.ofNat 32 h.val) = BitVec.ofNat 32 (24 + h.val) := by
    have := h.isLt
    unfold Scalar.addi IntOp.addi
    rw [BitVec.ofNat_add]
  rw [hadd, Finset.sum_eq_single (lane h.val)]
  · have : IntOp.cmpi .eq (BitVec.ofNat 32 (lane h.val).val) (BitVec.ofNat 32 (24 + h.val)) = 1#1 := by
      have := h.isLt
      rw [WordCmp.cmpi_eq_ofNat_eq_one_iff (by simp [lane]; omega) (by omega)]
      simp [lane]; omega
    rw [this]; rfl
  · intro b _ hb
    have : IntOp.cmpi .eq (BitVec.ofNat 32 b.val) (BitVec.ofNat 32 (24 + h.val)) = 0#1 := by
      have h1 := h.isLt
      have h2 := b.isLt
      rw [WordCmp.cmpi_eq_ofNat_eq_zero_iff (by omega) (by omega)]
      intro h3
      exact hb (Fin.ext (by simp [lane]; omega))
    rw [this]; rfl
  · intro h'; exact absurd (Finset.mem_univ _) h'

theorem p26 (q : FVec Ideal S512x128 .bf16) (i : grid0.Coords) (k g : Vec Ideal S1x512x128 .f32) (j r : Fin 512) :
    k0_pay26 (F := Ideal) q (k0_pay68 i) k g (ix2 j r)
      = (∑ x : Fin 128, k (ix3 (0 : Fin 1) j x) * q (ix2 r x))
        - g (ix3 (0 : Fin 1) j (lane (i 1).val)) * (((Real.log 2)⁻¹ : ℝ) : EReal) := by
  unfold k0_pay26 k0_pay68
  pointwise
  rw [named_l2e, lane_sum (i 1) (fun x => g (ix3 (0 : Fin 1) j x))]

theorem p58 (q : FVec Ideal S512x128 .bf16) (i : grid0.Coords) (k g : Vec Ideal S1x512x128 .f32) (j r : Fin 512) :
    k0_pay58 (F := Ideal) q (k0_pay68 i) k0_pay69 k g (ix2 j r)
      = ((∑ x : Fin 128, k (ix3 (0 : Fin 1) j x) * q (ix2 r x))
        - g (ix3 (0 : Fin 1) j (lane (i 1).val)) * (((Real.log 2)⁻¹ : ℝ) : EReal))
        + (if j.val ≤ r.val then 0 else ⊥) := by
  unfold k0_pay58 k0_pay69 k0_pay68
  pointwise
  rw [named_l2e, named_mask, lane_sum (i 1) (fun x => g (ix3 (0 : Fin 1) j x))]
  congr 1
  have hj := j.isLt
  have hr := r.isLt
  rw [WordCmp.cmpi_sge_ofNat (by omega) (by omega)]
  by_cases hle : j.val ≤ r.val
  · simp [hle, Scalar.select]
  · simp [hle, Scalar.select]

end Cert.KernelIdeal.Fox
end
end
-- ==== Proof.Fox.State.lean ====
/- The running state of one query read at one index: after the key blocks before the query's own block it satisfies
   the invariant of the online softmax, and after the query's own block, under the causal mask, the quotient written
   out is the attention over all keys up to the query. -/
module

public import proofs.«01_k».proof.Proof.Fox.Ideal

@[expose] public section
set_option maxRecDepth 16384
noncomputable section
namespace Cert.KernelIdeal.Fox
open Cert.KernelIdeal Cert.KernelIdeal.Gen Idealize.ShloMosaic Idealize.ShloMosaic.TcCoe Idealize.SL.Sem
open Cert.Attn

/-- A key's number as a row of the keys. -/
def row (s : ℕ) : Fin 2048 := ⟨s % 2048, Nat.mod_lt _ (by decide)⟩

/-- The base-two logit of key `s` before masking: the scaled product, less the key's cumulative gate. -/
def raw (q : FVec Ideal S512x128 .bf16) (K C : Vec Ideal S1x2048x128 .f32) (ln : Fin 128) (r : Fin 512) (s : ℕ) : EReal :=
  (∑ x : Fin 128, K (ix3 (0 : Fin 1) (row s) x) * q (ix2 r x))
    - C (ix3 (0 : Fin 1) (row s) ln) * (((Real.log 2)⁻¹ : ℝ) : EReal)

/-- The base-two logit of key `s` for query `t`: keys after the query are masked. -/
def lg (q : FVec Ideal S512x128 .bf16) (K C : Vec Ideal S1x2048x128 .f32) (ln : Fin 128) (r : Fin 512) (t s : ℕ) : EReal :=
  if s ≤ t then raw q K C ln r s else ⊥

/-- Coordinate `d` of the value of key `s`. -/
def val (V : Vec Ideal S1x2048x128 .f32) (d : Fin 128) (s : ℕ) : EReal := V (ix3 (0 : Fin 1) (row s) d)

theorem blk_at (X : Vec Ideal S1x2048x128 .f32) (n : ℕ) (j : Fin 512) (x : Fin 128) :
    blk X n (ix3 (0 : Fin 1) j x) = X (ix3 (0 : Fin 1) (row (512 * n + j.val)) x) := rfl

variable (q : FVec Ideal S512x128 .bf16) (g : FVec Ideal S1x512 .f32) (i : grid0.Coords)
  (K V C : Vec Ideal S1x2048x128 .f32) (d : Fin 128) (r : Fin 512) (cq : ℝ)

theorem inv_st (t : ℕ) (hg : g (ix2 (0 : Fin 1) r) = (cq : EReal))
    (hraw : ∀ s, ∃ y : ℝ, raw q K C (lane (i 1).val) r s = y) (n : ℕ) (hn : 512 * n ≤ t) :
    Inv (lg q K C (lane (i 1).val) r t) (val V d) cq (512 * n)
      ((st q g (k0_pay68 i) K V C n).m (ix2 (0 : Fin 1) r)) ((st q g (k0_pay68 i) K V C n).l (ix2 (0 : Fin 1) r))
      ((st q g (k0_pay68 i) K V C n).a (ix2 d r)) := by
  have htop : ∀ s, lg q K C (lane (i 1).val) r t s ≠ ⊤ := fun s => by
    unfold lg
    split
    · obtain ⟨y, hy⟩ := hraw s
      rw [hy]; exact EReal.coe_ne_top _
    · exact bot_ne_top
  induction n with
  | zero => exact .inl ⟨rfl, p64 r, p65 r, p66 d r⟩
  | succ n ih =>
    have hlg : ∀ j : Fin 512, lg q K C (lane (i 1).val) r t (512 * n + j.val)
        = raw q K C (lane (i 1).val) r (512 * n + j.val) := fun j =>
      if_pos (by have := j.isLt; omega)
    refine Inv.step (N := 512) (ih (by omega)) htop ⟨⟨0, by decide⟩, ?_⟩
      (fun j => k0_pay26 (F := Ideal) q (k0_pay68 i) (blk K n) (blk C n) (ix2 j r))
      (fun j => k0_pay25 (F := Ideal) (blk V n) (ix2 d j)) ?_ ?_ _ _ _ ?_ ?_ ?_
    · rw [hlg]; exact hraw _
    · intro j
      rw [hlg, p26]; rfl
    · intro j
      rw [p25]; rfl
    · rw [← hg]; exact p2 _ _ _ r
    · rw [← hg]; exact p5 _ _ _ _ r
    · rw [← hg]; exact p6 _ _ _ _ _ d r

/-- What is written for query `t = 512 n + r`: its attention over all 2048 keys, those after it masked. -/
theorem out_at (n : ℕ) (hn : n < 4) (hg : g (ix2 (0 : Fin 1) r) = (cq : EReal))
    (hraw : ∀ s, ∃ y : ℝ, raw q K C (lane (i 1).val) r s = y) :
    k0_pay24 (F := Ideal)
        (stepDiag q g (k0_pay68 i) K V C n (st q g (k0_pay68 i) K V C n)).a
        (stepDiag q g (k0_pay68 i) K V C n (st q g (k0_pay68 i) K V C n)).l (ix3 (0 : Fin 1) r d)
      = attend (lg q K C (lane (i 1).val) r (512 * n + r.val)) (val V d) 2048 := by
  have hr := r.isLt
  have htop : ∀ s, lg q K C (lane (i 1).val) r (512 * n + r.val) s ≠ ⊤ := fun s => by
    unfold lg
    split
    · obtain ⟨y, hy⟩ := hraw s
      rw [hy]; exact EReal.coe_ne_top _
    · exact bot_ne_top
  have h := Inv.step (N := 512) (inv_st q g i K V C d r cq (512 * n + r.val) hg hraw n (by omega)) htop
      ⟨r, by unfold lg; rw [if_pos le_rfl]; exact hraw _⟩
      (fun j => k0_pay58 (F := Ideal) q (k0_pay68 i) k0_pay69 (blk K n) (blk C n) (ix2 j r))
      (fun j => k0_pay25 (F := Ideal) (blk V n) (ix2 d j))
      (fun j => by
        rw [p58]
        show raw q K C (lane (i 1).val) r (512 * n + j.val) + _ = _
        unfold lg
        by_cases hle : j.val ≤ r.val
        · rw [if_pos hle, if_pos (by omega), add_zero]
        · rw [if_neg hle, if_neg (by omega), EReal.add_bot])
      (fun j => by rw [p25]; rfl)
      ((stepDiag q g (k0_pay68 i) K V C n (st q g (k0_pay68 i) K V C n)).m (ix2 (0 : Fin 1) r))
      ((stepDiag q g (k0_pay68 i) K V C n (st q g (k0_pay68 i) K V C n)).l (ix2 (0 : Fin 1) r))
      ((stepDiag q g (k0_pay68 i) K V C n (st q g (k0_pay68 i) K V C n)).a (ix2 d r))
      (by rw [← hg]; exact p2 _ _ _ r) (by rw [← hg]; exact p5 _ _ _ _ r) (by rw [← hg]; exact p6 _ _ _ _ _ d r)
  have hmask : ∀ s, 512 * n + 512 ≤ s → s < 2048 →
      lg q K C (lane (i 1).val) r (512 * n + r.val) s = ⊥ := fun s h1 _ => if_neg (by omega)
  rw [p24, attend_extend _ _ (by omega) hmask]
  exact h.out (by omega)

end Cert.KernelIdeal.Fox
end
end
-- ==== Proof.Fox.Array.lean ====
/- The operands' blocks at a grid point read from the arguments, and the output array: at every index the attention of
   its query over the keys up to it. -/
module

public import proofs.«01_k».proof.Proof.Fox.State
public import Idealize.ShloMosaic.Lib.Pipeline.Covers
public import Idealize.ShloMosaic.Lib.StableHlo.ReadAt

@[expose] public section
set_option maxRecDepth 16384
noncomputable section
namespace Cert.KernelIdeal.Fox
open Cert.KernelIdeal Cert.KernelIdeal.Gen Idealize.ShloMosaic Idealize.ShloMosaic.TcCoe Idealize.SL.Sem
open Idealize.ShloMosaic.Pipeline (Dat)
open Cert.Attn
/-! ## The specification -/

/-- Lane `x` of head `h` among the 1024 lanes of the queries, keys or values. -/
def col (h : Fin 8) (x : Fin 128) : Fin 1024 := ⟨128 * h.val + x.val, by have := h.isLt; have := x.isLt; omega⟩
/-- The same lane of the keys, in the array of keys and values. -/
def kcol (h : Fin 8) (x : Fin 128) : Fin 2048 := ⟨128 * h.val + x.val, by have := h.isLt; have := x.isLt; omega⟩
/-- The same lane of the values, in the array of keys and values. -/
def vcol (h : Fin 8) (x : Fin 128) : Fin 2048 := ⟨1024 + 128 * h.val + x.val, by have := h.isLt; have := x.isLt; omega⟩

/-- The base-two logit of key `s` for query `t` of row `a`, head `h`, before the causal mask and without the query's
    own gate, which is the same for all keys. -/
def score (Q : Vec Ideal S16x2048x1024 .f32) (KV : Vec Ideal S16x2048x2048 .f32) (C : Vec Ideal S16x2048x8 .f32)
    (a : Fin 16) (h : Fin 8) (t : Fin 2048) (s : ℕ) : EReal :=
  (∑ x : Fin 128, KV (ix3 a (row s) (kcol h x))
      * (Q (ix3 a t (col h x)) * (((Real.sqrt 128)⁻¹ * (Real.log 2)⁻¹ : ℝ) : EReal)))
    - C (ix3 a (row s) h) * (((Real.log 2)⁻¹ : ℝ) : EReal)

/-- The logit after the causal mask. -/
def logit (Q : Vec Ideal S16x2048x1024 .f32) (KV : Vec Ideal S16x2048x2048 .f32) (C : Vec Ideal S16x2048x8 .f32)
    (a : Fin 16) (h : Fin 8) (t : Fin 2048) (s : ℕ) : EReal :=
  if s ≤ t.val then score Q KV C a h t s else ⊥

/-- Coordinate `d` of the value of key `s` of row `a`, head `h`. -/
def value (KV : Vec Ideal S16x2048x2048 .f32) (a : Fin 16) (h : Fin 8) (d : Fin 128) (s : ℕ) : EReal :=
  KV (ix3 a (row s) (vcol h d))

/-- The attention's output, as one array. -/
def spec (Q : Vec Ideal S16x2048x1024 .f32) (KV : Vec Ideal S16x2048x2048 .f32) (C : Vec Ideal S16x2048x8 .f32) :
    Vec Ideal S16x2048x1024 .f32 := fun j =>
  attend (logit Q KV C (j 0) ⟨(j 2).val / 128, by have : (j 2).val < 1024 := (j 2).isLt; omega⟩ (j 1))
    (value KV (j 0) ⟨(j 2).val / 128, by have : (j 2).val < 1024 := (j 2).isLt; omega⟩
      ⟨(j 2).val % 128, Nat.mod_lt _ (by decide)⟩) 2048

theorem spec_at (Q : Vec Ideal S16x2048x1024 .f32) (KV : Vec Ideal S16x2048x2048 .f32) (C : Vec Ideal S16x2048x8 .f32)
    (a : Fin 16) (t : Fin 2048) (h : Fin 8) (d : Fin 128) :
    spec Q KV C (ix3 a t (col h d)) = attend (logit Q KV C a h t) (value KV a h d) 2048 := by
  have hd := d.isLt
  have e1 : (⟨(128 * h.val + d.val) / 128, by have := h.isLt; omega⟩ : Fin 8) = h := Fin.ext (by simp; omega)
  have e2 : (⟨(128 * h.val + d.val) % 128, Nat.mod_lt _ (by decide)⟩ : Fin 128) = d := Fin.ext (by simp)
  show attend (logit Q KV C a ⟨(128 * h.val + d.val) / 128, _⟩ t)
    (value KV a ⟨(128 * h.val + d.val) / 128, _⟩ ⟨(128 * h.val + d.val) % 128, _⟩) 2048 = _
  rw [e1, e2]

/-- Queries, keys and cumulative gates are real numbers. -/
structure Finite (Q : Vec Ideal S16x2048x1024 .f32) (KV : Vec Ideal S16x2048x2048 .f32) (C : Vec Ideal S16x2048x8 .f32) : Prop where
  q : ∀ a t e, ∃ y : ℝ, (Q (ix3 a t e) : EReal) = y
  k : ∀ a t h x, ∃ y : ℝ, (KV (ix3 a t (kcol h x)) : EReal) = y
  c : ∀ a t h, ∃ y : ℝ, (C (ix3 a t h) : EReal) = y

/-- A sum of products of reals is real. -/
theorem sum_mul_real {n : ℕ} (f g : Fin n → EReal) (hf : ∀ i, ∃ y : ℝ, f i = y) (hg : ∀ i, ∃ y : ℝ, g i = y) :
    ∃ y : ℝ, ∑ i, f i * g i = y := by
  choose F hF using hf
  choose G hG using hg
  refine ⟨∑ i, F i * G i, ?_⟩
  rw [← coe_sum]
  exact Finset.sum_congr rfl fun i _ => by rw [hF, hG, EReal.coe_mul]

/-- Then every score is real. -/
theorem Finite.score {Q : Vec Ideal S16x2048x1024 .f32} {KV : Vec Ideal S16x2048x2048 .f32} {C : Vec Ideal S16x2048x8 .f32}
    (hf : Finite Q KV C) (a : Fin 16) (h : Fin 8) (t : Fin 2048) (s : ℕ) : ∃ y : ℝ, score Q KV C a h t s = y := by
  obtain ⟨y, hy⟩ := sum_mul_real (fun x : Fin 128 => KV (ix3 a (row s) (kcol h x)))
    (fun x : Fin 128 => Q (ix3 a t (col h x)) * (((Real.sqrt 128)⁻¹ * (Real.log 2)⁻¹ : ℝ) : EReal)) (fun x => hf.k a (row s) h x)
    (fun x => by obtain ⟨y, hy⟩ := hf.q a t (col h x); exact ⟨_, by rw [hy, ← EReal.coe_mul]⟩)
  obtain ⟨z, hz⟩ := hf.c a (row s) h
  unfold Fox.score
  exact ⟨y - z * (Real.log 2)⁻¹, by rw [hz, ← EReal.coe_mul]; exact (congrArg (· - _) hy).trans (EReal.coe_sub _ _).symm⟩

/-! ## The operands' blocks -/

variable (m : (ℓ : Loc nD τ sig) → Buf (Elt Ideal) ℓ)

/-- The block each window is at, by the grid point. -/
theorem idx (t : Fin cfg0.N) :
    win0_0.index t = ![t.val / 32 % 16, t.val % 4, t.val / 4 % 8]
    ∧ win0_1.index t = ![t.val / 32 % 16, 0, t.val / 4 % 8]
    ∧ win0_2.index t = ![t.val / 32 % 16, 0, 8 + t.val / 4 % 8]
    ∧ win0_3.index t = ![t.val / 32 % 16, 0, 0]
    ∧ win0_4.index t = ![t.val / 32 % 16, t.val / 4 % 8, 0, 0]
    ∧ win0_5.index t = ![t.val / 32 % 16, t.val % 4, t.val / 4 % 8] := by
  have h0 := coords0 t
  have h1 := coords1 t
  have h2 := coords2 t
  have e0 : (BitVec.ofNat 32 (grid0.coords t 0).val).toNat = t.val / 32 % 16 := by
    rw [h0, BitVec.toNat_ofNat]; omega
  have e1 : (BitVec.ofNat 32 (grid0.coords t 1).val).toNat = t.val / 4 % 8 := by
    rw [h1, BitVec.toNat_ofNat]; omega
  have e2 : (BitVec.ofNat 32 (grid0.coords t 2).val).toNat = t.val % 4 := by
    rw [h2, BitVec.toNat_ofNat]; omega
  have e3 : (Scalar.addi 8#32 (BitVec.ofNat 32 (grid0.coords t 1).val)).toNat = 8 + t.val / 4 % 8 := by
    rw [h1]; unfold Scalar.addi IntOp.addi; rw [BitVec.toNat_add, BitVec.toNat_ofNat, BitVec.toNat_ofNat]; omega
  refine ⟨?_, ?_, ?_, ?_, ?_, ?_⟩
  · show cc0_transform_0 (grid0.coords t) = _
    unfold cc0_transform_0; rw [← e0, ← e1, ← e2]
  · show cc0_transform_1 (grid0.coords t) = _
    unfold cc0_transform_1; rw [← e0, ← e1]; rfl
  · show cc0_transform_2 (grid0.coords t) = _
    unfold cc0_transform_2; rw [← e0, ← e3]; rfl
  · show cc0_transform_3 (grid0.coords t) = _
    unfold cc0_transform_3; rw [← e0]; rfl
  · show cc0_transform_4 (grid0.coords t) = _
    unfold cc0_transform_4; rw [← e0, ← e1]; rfl
  · show cc0_transform_5 (grid0.coords t) = _
    unfold cc0_transform_5; rw [← e0, ← e1, ← e2]

theorem i0 (c : Dev nD) (t : Fin cfg0.N) (r : Fin 512) (x : Fin 128) (a : Fin 16) (b : Fin 2048) (e : Fin 1024)
    (ha : a.val = t.val / 32 % 16) (hb : b.val = 512 * (t.val % 4) + r.val) (he : e.val = 128 * (t.val / 4 % 8) + x.val) :
    iblk m c 0 t (ix3 (0 : Fin 1) r x) = m ((c : Thread nD τ).loc main_arg0) (ix3 a b e) := by
  blk_ext [iblk, V, idx t]

theorem i1 (c : Dev nD) (t : Fin cfg0.N) (r : Fin 2048) (x : Fin 128) (a : Fin 16)  (e : Fin 2048)
    (ha : a.val = t.val / 32 % 16) (he : e.val = 128 * (t.val / 4 % 8) + x.val) :
    iblk m c 1 t (ix3 (0 : Fin 1) r x) = m ((c : Thread nD τ).loc main_arg1) (ix3 a r e) := by
  blk_ext [iblk, V, idx t]

theorem i2 (c : Dev nD) (t : Fin cfg0.N) (r : Fin 2048) (x : Fin 128) (a : Fin 16)  (e : Fin 2048)
    (ha : a.val = t.val / 32 % 16) (he : e.val = 1024 + 128 * (t.val / 4 % 8) + x.val) :
    iblk m c 2 t (ix3 (0 : Fin 1) r x) = m ((c : Thread nD τ).loc main_arg1) (ix3 a r e) := by
  blk_ext [iblk, V, idx t]

theorem v0_at (c : Dev nD) (a : Fin 16) (r : Fin 2048) (x : Fin 128) (h : Fin 8) (hx : x.val = 24 + h.val) :
    V m c main_v0 (ix3 a r x) = m ((c : Thread nD τ).loc main_arg2) (ix3 a r h) := by
  unfold V hostOps0 hostOps0_1 hostOps0_2
  simp only [List.flatten_cons, List.flatten_nil, List.cons_append, List.nil_append, List.append_nil]
  after_reads_at
  have hh := h.isLt
  rw [dif_pos (by omega)]
  refine congrArg (m ((c : Thread nD τ).loc main_arg2)) ?_
  congr 1
  exact Fin.ext (by simp; omega)

theorem v2_at (c : Dev nD) (a : Fin 16) (h : Fin 8) (x : Fin 4) (r : Fin 512) (b : Fin 2048) (hb : b.val = 512 * x.val + r.val) :
    V m c main_v2 (ix4 a h x r) = m ((c : Thread nD τ).loc main_arg2) (ix3 a b h) := by
  unfold V hostOps0 hostOps0_1 hostOps0_2
  simp only [List.flatten_cons, List.flatten_nil, List.cons_append, List.nil_append, List.append_nil]
  after_reads_at
  refine congrArg (m ((c : Thread nD τ).loc main_arg2)) ?_
  congr 1
  exact Fin.ext (by simp; omega)

theorem i3 (c : Dev nD) (t : Fin cfg0.N) (r : Fin 2048) (x : Fin 128) (a : Fin 16) (h : Fin 8)
   (ha : a.val = t.val / 32 % 16) (hx : x.val = 24 + h.val) :
    iblk m c 3 t (ix3 (0 : Fin 1) r x) = m ((c : Thread nD τ).loc main_arg2) (ix3 a r h) := by
  rw [← v0_at m c a r x h hx]
  blk_simp [iblk]
  refine congrArg (V m c main_v0) ?_
  blk_ext [idx t]
theorem i4 (c : Dev nD) (t : Fin cfg0.N) (r : Fin 512) (x : Fin 4) (a : Fin 16) (h : Fin 8) (b : Fin 2048)
   (ha : a.val = t.val / 32 % 16) (hh : h.val = t.val / 4 % 8) (hb : b.val = 512 * x.val + r.val) :
   iblk m c 4 t (ix4 (0 : Fin 1) (0 : Fin 1) x r) = m ((c : Thread nD τ).loc main_arg2) (ix3 a b h) := by
  rw [← v2_at m c a h x r b hb]
  blk_simp [iblk]
  refine congrArg (V m c main_v2) ?_
  blk_ext [idx t]

theorem i4_ld (c : Dev nD) (t : Fin cfg0.N) (r : Fin 512) (a : Fin 16) (h : Fin 8) (b : Fin 2048)
    (ha : a.val = t.val / 32 % 16) (hh : h.val = t.val / 4 % 8) (hb : b.val = 512 * (t.val % 4) + r.val) :
    View.ld (iblk m c 4 t) (Rect.unit (k0_off1 (grid0.coords t)) ![1, 1, 1, 512] (k0_off1_inb (grid0.coords t)))
        (ix4 (0 : Fin 1) (0 : Fin 1) (0 : Fin 1) r) = m ((c : Thread nD τ).loc main_arg2) (ix3 a b h) := by
  rw [← i4 m c t r ⟨t.val % 4, Nat.mod_lt _ (by decide)⟩ a h b ha hh hb]
  refine congrArg (iblk m c 4 t) ?_
  have h2 := coords2 t
  have e2 : (Scalar.indexCast (BitVec.ofNat 32 (grid0.coords t 2).val)).toNat = t.val % 4 := by
    rw [h2]; unfold Scalar.indexCast; rw [BitVec.toNat_ofNat]; omega
  have eo : k0_off1 (grid0.coords t) = ![0, 0, t.val % 4, 0] := by
    unfold k0_off1; rw [← e2]
  funext x
  apply Fin.ext
  fin_cases x <;> simp [Rect.emb, Rect.unit, eo]

/-! ## The output array -/

/-- The three arguments. -/
abbrev qA (c : Dev nD) : Vec Ideal S16x2048x1024 .f32 := m ((c : Thread nD τ).loc main_arg0)
abbrev kvA (c : Dev nD) : Vec Ideal S16x2048x2048 .f32 := m ((c : Thread nD τ).loc main_arg1)
abbrev cA (c : Dev nD) : Vec Ideal S16x2048x8 .f32 := m ((c : Thread nD τ).loc main_arg2)

theorem flushed_at (c : Dev nD) (t : Fin cfg0.N) (r : Fin 512) (d : Fin 128) (a : Fin 16) (h : Fin 8) (b : Fin 2048)
    (ha : a.val = t.val / 32 % 16) (hh : h.val = t.val / 4 % 8) (hb : b.val = 512 * (t.val % 4) + r.val)
    (hf : Finite (qA m c) (kvA m c) (cA m c)) :
    outsAt0 m c t.val t.isLt (ix3 (0 : Fin 1) r d)
      = attend (logit (qA m c) (kvA m c) (cA m c) a h b) (value (kvA m c) a h d) 2048 := by
  obtain ⟨cq, hcq⟩ := hf.c a b h
  have h1 : (grid0.coords t 1).val = h.val := by rw [coords1, hh]
  have hq : ∀ x : Fin 128, qv m c t (ix2 r x) = qA m c (ix3 a b (col h x))
      * (((Real.sqrt 128)⁻¹ * (Real.log 2)⁻¹ : ℝ) : EReal) := fun x => by
    unfold qv
    rw [p63, i0 m c t r x a b (col h x) ha hb (by simp [col, hh])]
  have hk : ∀ (s : ℕ) (x : Fin 128), iblk m c 1 t (ix3 (0 : Fin 1) (row s) x)
      = kvA m c (ix3 a (row s) (kcol h x)) := fun s x =>
    i1 m c t (row s) x a (kcol h x) ha (by simp [kcol, hh])
  have hc : ∀ s : ℕ, iblk m c 3 t (ix3 (0 : Fin 1) (row s) (lane (grid0.coords t 1).val))
      = cA m c (ix3 a (row s) h) := fun s =>
    i3 m c t (row s) _ a h ha (by have := h.isLt; rw [h1]; simp [lane]; omega)
  have hraw : ∀ s : ℕ, raw (qv m c t) (iblk m c 1 t) (iblk m c 3 t) (lane (grid0.coords t 1).val) r s
      = score (qA m c) (kvA m c) (cA m c) a h b s := fun s => by
    unfold raw score
    rw [hc]
    refine congrArg (· - _) (Finset.sum_congr rfl fun x _ => ?_)
    rw [hk, hq]
  have hg : cv m c t (ix2 (0 : Fin 1) r) = ((cq * (Real.log 2)⁻¹ : ℝ) : EReal) := by
    unfold cv
    rw [p67, i4_ld m c t r a h b ha hh hb, show m ((c : Thread nD τ).loc main_arg2) (ix3 a b h) = (cq : EReal) from hcq, ← EReal.coe_mul]
  rw [out]
  unfold fin
  rw [out_at (qv m c t) (cv m c t) (grid0.coords t) (iblk m c 1 t) (iblk m c 2 t) (iblk m c 3 t) d r _ (t.val % 4)
    (Nat.mod_lt _ (by decide)) hg (fun s => by rw [hraw]; exact hf.score a h b s)]
  have hl : lg (qv m c t) (iblk m c 1 t) (iblk m c 3 t) (lane (grid0.coords t 1).val) r (512 * (t.val % 4) + r.val)
      = logit (qA m c) (kvA m c) (cA m c) a h b := by
    funext s
    unfold lg logit
    rw [← hb, hraw]
  have hv : val (iblk m c 2 t) d = value (kvA m c) a h d := by
    funext s
    exact i2 m c t (row s) d a (vcol h d) ha (by simp [vcol, hh])
  rw [hl, hv]

/-- The output's blocks cover its array. -/
theorem covers : (cfg0.win 5).Covers :=
  (cfg0.win 5).covers_of_indexMap_surj rfl (by decide) fun β => by
    have b0 : (β 0).val < 16 := (β 0).isLt
    have b1 : (β 1).val < 4 := (β 1).isLt
    have b2 : (β 2).val < 8 := (β 2).isLt
    refine ⟨fun a => ⟨(![(β 0).val, (β 2).val, (β 1).val] : Fin 3 → ℕ) a, ?_⟩, fun a => ?_⟩
    · fin_cases a
      exacts [b0, b2, b1]
    · rw [show ∀ i : grid0.Coords, (cfg0.win 5).indexMap i = cc0_transform_5 i from fun _ => rfl]
      unfold cc0_transform_5
      fin_cases a
      · exact (BitVec.toNat_ofNat _ _).trans (Nat.mod_eq_of_lt (by show (β 0).val < _; omega))
      · exact (BitVec.toNat_ofNat _ _).trans (Nat.mod_eq_of_lt (by show (β 1).val < _; omega))
      · exact (BitVec.toNat_ofNat _ _).trans (Nat.mod_eq_of_lt (by show (β 2).val < _; omega))

/-- The output array, as one function of the three arguments. -/
theorem array (c : Dev nD) (hf : Finite (qA m c) (kvA m c) (cA m c)) :
    (dats m 0 c).arrAt 5 cfg0.N = spec (qA m c) (kvA m c) (cA m c) := by
  refine (dats m 0 c).arrAt_eq_of_covers 5 _ covers fun t hfl y => ?_
  blk_simp
  rw [after0_5]
  have ht : t.val < 512 := t.isLt
  obtain ⟨z, r, d, rfl⟩ : ∃ (z : Fin 1) (r : Fin 512) (d : Fin 128), y = ix3 z r d := ⟨y 0, y 1, y 2, by blk_ext⟩
  obtain rfl : z = 0 := Fin.eq_zero z
  have hr := r.isLt
  refine (flushed_at m c t r d ⟨t.val / 32 % 16, Nat.mod_lt _ (by decide)⟩ ⟨t.val / 4 % 8, Nat.mod_lt _ (by decide)⟩
    ⟨512 * (t.val % 4) + r.val, by omega⟩ rfl rfl rfl hf).trans ?_
  rw [← spec_at]
  refine congrArg (spec (qA m c) (kvA m c) (cA m c)) ?_
  unfold col
  blk_ext [idx t]

end Cert.KernelIdeal.Fox
end
end
-- ==== Proof.Fox.Pre.lean ====
/- The precondition read over the extended reals: every query, key and cumulative gate is a real number. -/
module

public import proofs.«01_k».proof.Pre_finite
public import proofs.«01_k».proof.Proof.Fox.Array

@[expose] public section
set_option maxRecDepth 16384
noncomputable section
namespace Cert.Pre_finite
open Cert.Pre_finite Idealize.ShloMosaic Idealize.ShloMosaic.TcCoe

theorem facts : Facts where
  bcast_S_S16x2048x1024 := by decide
  slices_S16x2048x2048_S16x2048x1024_0_0_0 := by decide
  bcast_S_S16x2048x8 := by decide

/-- An extended real below infinity in absolute value is real. -/
theorem real_of_lt (x : EReal)
    (h : BitVec.ofBool (decide (FloatOps.absf (F := Ideal) (φ := .f32) x < Ideal.ofBits .f32 2139095040#32)) = 1#1) :
    ∃ y : ℝ, x = y := by
  have ht : Ideal.ofBits .f32 2139095040#32 = (⊤ : EReal) := by
    simp [Ideal.ofBits, Ideal.ieee]
  rw [ht] at h
  induction x with
  | coe r => exact ⟨r, rfl⟩
  | bot =>
    have e : FloatOps.absf (F := Ideal) (φ := .f32) (⊥ : EReal) = (⊤ : EReal) := by
      show max (⊥ : EReal) (-⊥) = ⊤
      simp
    rw [e] at h
    simp at h
  | top =>
    have e : FloatOps.absf (F := Ideal) (φ := .f32) (⊤ : EReal) = (⊤ : EReal) := by
      show max (⊤ : EReal) (-⊤) = ⊤
      simp
    rw [e] at h
    simp at h

variable [inst : Facts]

theorem finite_of (Q : FVec Ideal S16x2048x1024 .f32) (K : FVec Ideal S16x2048x2048 .f32) (C : FVec Ideal S16x2048x8 .f32)
    (h1 : (fn (F := Ideal) Q K C).1 = fun _ => 1#1) (h2 : (fn (F := Ideal) Q K C).2.1 = fun _ => 1#1)
    (h3 : (fn (F := Ideal) Q K C).2.2 = fun _ => 1#1) : Cert.KernelIdeal.Fox.Finite Q K C where
  q a t e := by
    have h := congrFun h1 (ix3 a t e)
    unfold fn at h
    simp only [pointwise] at h
    exact real_of_lt _ h
  k a t hd x := by
    have h := congrFun h2 (ix3 a t (Cert.KernelIdeal.Fox.col hd x))
    unfold fn at h
    simp only [pointwise] at h
    obtain ⟨y, hy⟩ := real_of_lt _ h
    refine ⟨y, Eq.trans (congrArg K ?_) hy⟩
    congr 1 <;> exact Fin.ext (by simp [Cert.KernelIdeal.Fox.kcol, Cert.KernelIdeal.Fox.col])
  c a t hd := by
    have h := congrFun h3 (ix3 a t hd)
    unfold fn at h
    simp only [pointwise] at h
    exact real_of_lt _ h

end Cert.Pre_finite
end
end
-- ==== Proof.Fox.Ref.lean ====
/- The reference read at one index, operation by operation: the scaled product, the gated and masked logits, the shifted
   exponentials, the weights, and the weighted sum of the values. -/
module

public import proofs.«01_k».proof.Proof.Gen.ReferenceIdeal.Run
public import Idealize.ShloMosaic.Lib.Pointwise
public import Idealize.ShloMosaic.Lib.WordCmp

@[expose] public section
set_option maxRecDepth 16384
noncomputable section
namespace Cert.ReferenceIdeal.Fox
open Cert.ReferenceIdeal Cert.ReferenceIdeal.Gen Cert.ReferenceIdeal.Value Idealize.ShloMosaic Idealize.ShloMosaic.TcCoe Idealize.SL.Sem

variable (Q : FVec Ideal S16x2048x1024 .f32) (KV : FVec Ideal S16x2048x2048 .f32) (C : FVec Ideal S16x2048x8 .f32)

/-- The product of queries and keys over `sqrt 128`. -/
def fDot : FVec Ideal S16x8x2048x2048 .f32 :=
  Host.divf (Host.dotGeneral dot_S16x2048x8x128_S16x2048x8x128_S16x8x2048x2048_3_3_1_1_02_02 none (shapeCast _ Q shapeCasts_S16x2048x1024_S16x2048x8x128) (shapeCast _ (extractStridedSlice S16x2048x1x8x128 ![0, 0, 0, 0, 0] (shapeCast _ KV shapeCasts_S16x2048x2048_S16x2048x2x8x128) slices_S16x2048x2x8x128_S16x2048x1x8x128_0_0_0_0_0) shapeCasts_S16x2048x1x8x128_S16x2048x8x128)) (broadcastInDim S16x8x2048x2048 ![] bcast_S_S16x8x2048x2048 (Host.sqrt (constant S_ .f32 0x43000000#32)))

/-- The product with the gates added, keys after the query masked. -/
def fLog (z : FVec Ideal S16x8x2048x2048 .f32) : FVec Ideal S16x8x2048x2048 .f32 :=
  select (broadcastInDim S16x8x2048x2048 ![2, 3] bcast_S2048x2048_S16x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (subf (addf z (broadcastInDim S16x8x2048x2048 ![0, 1, 2, 3] bcast_S16x8x2048x1_S16x8x2048x2048_0_1_2_3 (broadcastInDim S16x8x2048x1 ![0, 1, 2] bcast_S16x8x2048_S16x8x2048x1_0_1_2 (transpose S16x8x2048 [0, 2, 1] C transposes_S16x2048x8_S16x8x2048_0_2_1)))) (broadcastInDim S16x8x2048x2048 ![0, 1, 2, 3] bcast_S16x8x1x2048_S16x8x2048x2048_0_1_2_3 (broadcastInDim S16x8x1x2048 ![0, 1, 3] bcast_S16x8x2048_S16x8x1x2048_0_1_3 (transpose S16x8x2048 [0, 2, 1] C transposes_S16x2048x8_S16x8x2048_0_2_1)))) (broadcastInDim S16x8x2048x2048 ![] bcast_S_S16x8x2048x2048 (id (constant S_ .f32 0xFF800000#32)))

/-- The largest logit of each query. -/
def fMax (x : FVec Ideal S16x8x2048x2048 .f32) : FVec Ideal S16x8x2048 .f32 :=
  Host.reduce FloatOps.maximumf x (constant S_ .f32 0xFF800000#32) reducesTo_S16x8x2048x2048_S16x8x2048_d3 h_S_

/-- The exponentials, shifted by `y`, the largest logit of each query. -/
def fExp (x : FVec Ideal S16x8x2048x2048 .f32) (y : FVec Ideal S16x8x2048 .f32) : FVec Ideal S16x8x2048x2048 .f32 :=
  Host.exp (subf x (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant S_ .f32 0xFF800000#32)) y))))

/-- The weights. -/
def fWt (e : FVec Ideal S16x8x2048x2048 .f32) : FVec Ideal S16x8x2048x2048 .f32 :=
  Host.divf e (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd e (constant S_ .f32 0x00000000#32) reducesTo_S16x8x2048x2048_S16x8x2048_d3 h_S_)))

/-- The values. -/
def fVal : FVec Ideal S16x2048x8x128 .f32 :=
  shapeCast _ (extractStridedSlice S16x2048x1x8x128 ![0, 0, 1, 0, 0] (shapeCast _ KV shapeCasts_S16x2048x2048_S16x2048x2x8x128) slices_S16x2048x2x8x128_S16x2048x1x8x128_0_0_1_0_0) shapeCasts_S16x2048x1x8x128_S16x2048x8x128

/-- The weighted sum of the values. -/
def fOut (v : FVec Ideal S16x2048x8x128 .f32) (w : FVec Ideal S16x8x2048x2048 .f32) : FVec Ideal S16x2048x1024 .f32 :=
  shapeCast _ (transpose S16x2048x8x128 [0, 3, 1, 2] (Host.dotGeneral dot_S16x2048x8x128_S16x8x2048x2048_S16x8x128x2048_1_3_3_2_02_01 none v w) transposes_S16x8x128x2048_S16x2048x8x128_0_3_1_2) shapeCasts_S16x2048x8x128_S16x2048x1024

theorem res_eq (m : (ℓ : Loc nD τ sig) → Buf (Elt Ideal) ℓ) (c : Dev nD) :
    res_main_v38 m c = fOut (fVal (m ((c : Thread nD τ).loc main_arg1)))
      (fWt (fExp (fLog (m ((c : Thread nD τ).loc main_arg2))
        (fDot (m ((c : Thread nD τ).loc main_arg0)) (m ((c : Thread nD τ).loc main_arg1))))
        (fMax (fLog (m ((c : Thread nD τ).loc main_arg2))
          (fDot (m ((c : Thread nD τ).loc main_arg0)) (m ((c : Thread nD τ).loc main_arg1))))))) := rfl

theorem ofBits_neg_inf : Ideal.ofBits FTy.f32 4286578688#32 = (⊥ : EReal) := by
  simp [Ideal.ofBits, Ideal.ieee]

/-- The scale, `sqrt 128`. -/
theorem sqrt_128 : Ideal.sqrt (Ideal.ofBits FTy.f32 1124073472#32) = ((Real.sqrt 128 : ℝ) : EReal) := by
  have h : Ideal.ofBits FTy.f32 1124073472#32 = ((128 : ℝ) : EReal) := by
    simp [Ideal.ofBits, Ideal.ieee]
    rw [← EReal.coe_mul]
    norm_num
  rw [h]
  show (if (128 : ℝ) < 0 then (⊥ : EReal) else ((Real.sqrt 128 : ℝ) : EReal)) = _
  rw [if_neg (by norm_num)]

/-- Lane `x` of head `h` among 1024 lanes. -/
def rcol (h : Fin 8) (x : Fin 128) : Fin 1024 := ⟨128 * h.val + x.val, by have := h.isLt; have := x.isLt; omega⟩
def rkcol (h : Fin 8) (x : Fin 128) : Fin 2048 := ⟨128 * h.val + x.val, by have := h.isLt; have := x.isLt; omega⟩
def rvcol (h : Fin 8) (x : Fin 128) : Fin 2048 := ⟨1024 + 128 * h.val + x.val, by have := h.isLt; have := x.isLt; omega⟩

theorem fDot_at (a : Fin 16) (h : Fin 8) (t s : Fin 2048) :
    fDot Q KV (ix4 a h t s)
      = Ideal.div (∑ x : Fin 128, Q (ix3 a t (rcol h x)) * KV (ix3 a s (rkcol h x))) ((Real.sqrt 128 : ℝ) : EReal) := by
  unfold fDot
  pointwise
  rw [sqrt_128]
  simp only [rcol, rkcol, Nat.mul_comm 128]

theorem fLog_at (z : FVec Ideal S16x8x2048x2048 .f32) (a : Fin 16) (h : Fin 8) (t s : Fin 2048) :
    fLog C z (ix4 a h t s)
      = if s.val ≤ t.val then z (ix4 a h t s) + C (ix3 a t h) - C (ix3 a s h) else (⊥ : EReal) := by
  unfold fLog
  pointwise
  have ht := t.isLt
  have hs := s.isLt
  rw [WordCmp.cmpi_sle_ofNat (by omega) (by omega)]
  by_cases hle : s.val ≤ t.val
  · simp [hle, Scalar.select]
  · simp only [hle, Scalar.select, if_false]
    exact ofBits_neg_inf

theorem fMax_at (x : FVec Ideal S16x8x2048x2048 .f32) (a : Fin 16) (h : Fin 8) (t : Fin 2048) :
    fMax x (ix3 a h t) = Finset.fold max (⊥ : EReal) (fun s' : Fin 2048 => x (ix4 a h t s')) Finset.univ := by
  unfold fMax
  simp only [pointwise]
  rw [ofBits_neg_inf]

theorem bot_max (x : EReal) : max ⊥ x = x := max_eq_right bot_le

theorem fExp_at (x : FVec Ideal S16x8x2048x2048 .f32) (y : FVec Ideal S16x8x2048 .f32) (a : Fin 16) (h : Fin 8) (t s : Fin 2048) :
    fExp x y (ix4 a h t s) = Ideal.exp (x (ix4 a h t s) - y (ix3 a h t)) := by
  unfold fExp
  pointwise
  rw [ofBits_neg_inf, bot_max]

theorem fWt_at (e : FVec Ideal S16x8x2048x2048 .f32) (a : Fin 16) (h : Fin 8) (t s : Fin 2048) :
    fWt e (ix4 a h t s) = Ideal.div (e (ix4 a h t s)) (∑ s' : Fin 2048, e (ix4 a h t s')) := by
  unfold fWt
  pointwise

theorem fVal_at (a : Fin 16) (s : Fin 2048) (h : Fin 8) (d : Fin 128) :
    fVal KV (ix4 a s h d) = KV (ix3 a s (rvcol h d)) := by
  unfold fVal
  pointwise
  simp only [rvcol, Nat.mul_comm 128]

theorem fOut_at (v : FVec Ideal S16x2048x8x128 .f32) (w : FVec Ideal S16x8x2048x2048 .f32)
    (a : Fin 16) (t : Fin 2048) (h : Fin 8) (d : Fin 128) :
    fOut v w (ix3 a t (rcol h d)) = ∑ s : Fin 2048, v (ix4 a s h d) * w (ix4 a h t s) := by
  unfold fOut
  pointwise
  have hd := d.isLt
  have e1 : ∀ p, (⟨(rcol h d).val / 128, p⟩ : Fin 8) = h := fun p => Fin.ext (by simp [rcol]; omega)
  have e2 : ∀ p, (⟨(rcol h d).val % 128, p⟩ : Fin 128) = d := fun p => Fin.ext (by simp [rcol])
  simp only [e1, e2]

end Cert.ReferenceIdeal.Fox
end
end
-- ==== Proof.Fox.Equation.lean ====
/- Over the reals the reference's softmax attention is the specification the kernel's array was shown to be. -/
module

public import proofs.«01_k».proof.Proof.Fox.Array
public import proofs.«01_k».proof.Proof.Fox.Ref

@[expose] public section
set_option maxRecDepth 16384
noncomputable section
namespace Cert.ReferenceIdeal.Fox
open Cert.ReferenceIdeal Idealize.ShloMosaic Idealize.ShloMosaic.TcCoe Idealize.SL.Sem
open Cert.Attn
open Cert.KernelIdeal.Fox (row col kcol vcol score logit value spec spec_at Finite)

variable {Q : FVec Ideal S16x2048x1024 .f32} {KV : FVec Ideal S16x2048x2048 .f32} {C : FVec Ideal S16x2048x8 .f32}

/-- The reference's logit is `log 2` times the kernel's, once the query's own gate is added to the latter. -/
theorem log_real (hf : Finite Q KV C) (a : Fin 16) (h : Fin 8) (t : Fin 2048) (cq : ℝ)
    (hcq : C (ix3 a t h) = (cq : EReal)) (s : Fin 2048) :
    ∃ r : ℝ, score Q KV C a h t s.val = r
      ∧ fDot Q KV (ix4 a h t s) + C (ix3 a t h) - C (ix3 a s h)
          = ((Real.log 2 * (r + cq * (Real.log 2)⁻¹) : ℝ) : EReal) := by
  have hs : row s.val = s := Fin.ext (Nat.mod_eq_of_lt s.isLt)
  choose q hq using fun x : Fin 128 => hf.q a t (col h x)
  choose k hk using fun x : Fin 128 => hf.k a s h x
  obtain ⟨z, hz⟩ := hf.c a s h
  have hlog : Real.log 2 ≠ 0 := (Real.log_pos (by norm_num)).ne'
  have hsq : Real.sqrt 128 ≠ 0 := (Real.sqrt_pos.2 (by norm_num)).ne'
  have e1 : ∑ x : Fin 128, (KV (ix3 a s (kcol h x)) : EReal)
        * ((Q (ix3 a t (col h x)) : EReal) * (((Real.sqrt 128)⁻¹ * (Real.log 2)⁻¹ : ℝ) : EReal))
      = ((∑ x : Fin 128, k x * (q x * ((Real.sqrt 128)⁻¹ * (Real.log 2)⁻¹)) : ℝ) : EReal) := by
    rw [← coe_sum]
    exact Finset.sum_congr rfl fun x _ => by
      rw [hk, hq, EReal.coe_mul (k x), EReal.coe_mul (q x)]
  have e2 : ∑ x : Fin 128, (Q (ix3 a t (rcol h x)) : EReal) * (KV (ix3 a s (rkcol h x)) : EReal)
      = ((∑ x : Fin 128, q x * k x : ℝ) : EReal) := by
    rw [← coe_sum]
    exact Finset.sum_congr rfl fun x _ => by
      rw [EReal.coe_mul]; exact congrArg₂ (· * ·) (hq x) (hk x)
  refine ⟨(∑ x : Fin 128, k x * (q x * ((Real.sqrt 128)⁻¹ * (Real.log 2)⁻¹))) - z * (Real.log 2)⁻¹, ?_, ?_⟩
  · unfold score
    rw [hs, e1, hz, EReal.coe_sub, EReal.coe_mul]
  · rw [fDot_at, e2, hcq, hz, Ideal.div_coe hsq, ← EReal.coe_mul, ← EReal.coe_add, ← EReal.coe_sub]
    congr 1
    have e3 : ∑ x : Fin 128, k x * (q x * ((Real.sqrt 128)⁻¹ * (Real.log 2)⁻¹))
        = (∑ x : Fin 128, q x * k x) * ((Real.sqrt 128)⁻¹ * (Real.log 2)⁻¹) := by
      rw [Finset.sum_mul]; exact Finset.sum_congr rfl fun x _ => by ring
    rw [e3]
    field_simp
    ring

theorem ref_at (hf : Finite Q KV C) (a : Fin 16) (t : Fin 2048) (h : Fin 8) (d : Fin 128) :
    fOut (fVal KV) (fWt (fExp (fLog C (fDot Q KV)) (fMax (fLog C (fDot Q KV))))) (ix3 a t (rcol h d))
      = attend (logit Q KV C a h t) (value KV a h d) 2048 := by
  obtain ⟨cq, hcq⟩ := hf.c a t h
  rw [fOut_at]
  simp only [fWt_at, fExp_at, fVal_at]
  rw [fMax_at]
  refine softmax_out (N := 2048) (logit Q KV C a h t) (value KV a h d) (cq * (Real.log 2)⁻¹)
    (fun s => fLog C (fDot Q KV) (ix4 a h t s)) (fun s => KV (ix3 a s (rvcol h d))) ?_ ⟨t, ?_⟩ ?_ ?_
  · intro s
    unfold logit
    split
    · obtain ⟨y, hy⟩ := hf.score a h t s
      rw [hy]; exact EReal.coe_ne_top _
    · exact bot_ne_top
  · unfold logit
    rw [if_pos le_rfl]; exact hf.score a h t t.val
  · intro s
    rw [fLog_at]
    unfold logit
    by_cases hle : s.val ≤ t.val
    · rw [if_pos hle, if_pos hle]
      exact .inr (log_real hf a h t cq hcq s)
    · rw [if_neg hle, if_neg hle]
      exact .inl ⟨rfl, rfl⟩
  · intro s
    have hs : row s.val = s := Fin.ext (Nat.mod_eq_of_lt s.isLt)
    unfold value
    rw [hs]; rfl

/-- The reference's result, as one array. -/
theorem ref_spec (hf : Finite Q KV C) :
    fOut (fVal KV) (fWt (fExp (fLog C (fDot Q KV)) (fMax (fLog C (fDot Q KV))))) = spec Q KV C := by
  funext j
  idx_vars j
  obtain ⟨h, d, rfl⟩ : ∃ (h : Fin 8) (d : Fin 128), j2 = col h d :=
    ⟨⟨j2.val / 128, by have := j2.isLt; omega⟩, ⟨j2.val % 128, Nat.mod_lt _ (by decide)⟩,
      Fin.ext (by show j2.val = 128 * (j2.val / 128) + j2.val % 128; omega)⟩
  rw [spec_at]
  exact ref_at hf j0 j1 h d

end Cert.ReferenceIdeal.Fox
end
end
-- ==== Proof.Fox.Claims.lean ====
/- The claims about the forgetting attention, one theorem each. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Fox.Pre
public import proofs.«01_k».proof.Proof.Fox.Equation
public import Idealize.ShloMosaic.Lib.Quiescent

@[expose] public section
noncomputable section
namespace Cert.Proof.Fox
open Idealize.ShloMosaic Idealize.ShloMosaic.TcCoe Idealize.SL.Sem

/-- The kernel as written runs, keeps its arguments and ends with every counter at zero. -/
theorem frame_p : Cert.quiescent_Kernel (hKernel := Cert.Kernel.Gen.facts) := fun m ρ _ => Cert.Kernel.Gen.frame m ρ

/-- So does its idealization. -/
theorem frame_pi : Cert.quiescent_KernelIdeal (hKernelIdeal := Cert.KernelIdeal.Gen.facts) :=
  fun m ρ _ => Cert.KernelIdeal.Gen.frame m ρ

theorem frame_pi_pre : Cert.quiescent_KernelIdeal_pre_finite (hKernelIdeal := Cert.KernelIdeal.Gen.facts)
    (hPre_finite := Cert.Pre_finite.facts) :=
  fun m ρ _ => Cert.KernelIdeal.Gen.frame m ρ

/-- The reference runs and keeps its arguments; it declares no semaphore. -/
theorem frame_r : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_r_pre : Cert.quiescent_ReferenceIdeal_pre_finite (hReferenceIdeal := Cert.ReferenceIdeal.Gen.facts)
    (hPre_finite := Cert.Pre_finite.facts) :=
  fun m ρ _ => frame_r m ρ trivial

/-- The three constants of the kernel that bear a name: their words are those the kernel holds. -/
theorem preserves : Cert.preserves_Kernel_KernelIdeal :=
  ⟨IdealRules.named_const.statement Cert.KernelIdeal.κ "sl2e" .f32 0x3E0293EE#32
      (((Real.sqrt 128)⁻¹ * (Real.log 2)⁻¹ : ℝ) : EReal) rfl,
    IdealRules.named_const.statement Cert.KernelIdeal.κ "mask" .f32 0xF149F2CA#32 ⊥ rfl,
    IdealRules.named_const.statement Cert.KernelIdeal.κ "l2e" .f32 0x3FB8AA3B#32 (((Real.log 2)⁻¹ : ℝ) : EReal) rfl⟩

/-- Kernel and reference end with the same array: the attention that `spec` writes out. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre harg
  have hf : ∀ c : Dev Cert.KernelIdeal.nD,
      Cert.KernelIdeal.Fox.Finite (Cert.KernelIdeal.Fox.qA m c) (Cert.KernelIdeal.Fox.kvA m c) (Cert.KernelIdeal.Fox.cA m c) :=
    fun c => Cert.Pre_finite.finite_of (inst := Cert.Pre_finite.facts) _ _ _ (hpre c).1 (hpre c).2.1 (hpre c).2.2
  refine ⟨fun c => Cert.KernelIdeal.Fox.spec (Cert.KernelIdeal.Fox.qA m c) (Cert.KernelIdeal.Fox.kvA m c)
    (Cert.KernelIdeal.Fox.cA m c), ?_, ?_⟩
  · exact (θ_run Cert.KernelIdeal.defs _ _).mono
      (fun r h c => ⟨(h c).1.trans (Cert.KernelIdeal.Fox.array m c (hf c)), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    rw [Cert.ReferenceIdeal.Fox.res_eq, (harg c).1, (harg c).2.1, (harg c).2.2]
    exact Cert.ReferenceIdeal.Fox.ref_spec (hf c)

end Cert.Proof.Fox
end
end
-- ==== Proof.Rms.lean ====
/- The root-mean-square norm of one row over the extended reals, and the squared-ReLU layer of one row. -/
module

public import Idealize.ShloMosaic.PureOps.Ideal
public import Mathlib.Data.EReal.Operations
public import Mathlib.Algebra.BigOperators.Intervals
public import Mathlib.Algebra.BigOperators.Fin

@[expose] public section
noncomputable section
namespace Cert.Rms
open Idealize.ShloMosaic

/-- Entry `k` of the row `x` divided by its root mean square, with gain `g`. -/
def rms (x g : Fin 2048 → EReal) (k : Fin 2048) : EReal :=
  x k * Ideal.rsqrt (Ideal.div (∑ j : Fin 2048, x j * x j) (Ideal.ofBits .f32 0x45000000#32)
    + Ideal.ofBits .f32 0x358637BD#32) * g k

/-- The hidden unit a row `x` excites through the weights `w`, negative values cut off. -/
def unit (x : Fin 2048 → EReal) (w : Fin 2048 → EReal) : EReal := max (∑ k : Fin 2048, x k * w k) 0

/-- Column `n` of the hidden layer. -/
def hid (n : ℕ) : Fin 8192 := ⟨n % 8192, Nat.mod_lt _ (by decide)⟩

/-- What column `n` of the hidden layer gives to the output. -/
def part (x : Fin 2048 → EReal) (wu : Fin 2048 → Fin 8192 → EReal) (wd : Fin 8192 → EReal) (n : ℕ) : EReal :=
  unit x (fun k => wu k (hid n)) * unit x (fun k => wu k (hid n)) * wd (hid n)

/-- The sum over the first `n` columns. -/
def upTo (x : Fin 2048 → EReal) (wu : Fin 2048 → Fin 8192 → EReal) (wd : Fin 8192 → EReal) (n : ℕ) : EReal :=
  ∑ i ∈ Finset.range n, part x wu wd i

theorem upTo_zero (x : Fin 2048 → EReal) (wu : Fin 2048 → Fin 8192 → EReal) (wd : Fin 8192 → EReal) :
    upTo x wu wd 0 = 0 := rfl

/-- A block of columns more. -/
theorem upTo_add (x : Fin 2048 → EReal) (wu : Fin 2048 → Fin 8192 → EReal) (wd : Fin 8192 → EReal) (n b : ℕ) :
    upTo x wu wd (n + b) = upTo x wu wd n + ∑ i : Fin b, part x wu wd (n + i.val) := by
  unfold upTo
  rw [Finset.sum_range_add, Finset.sum_range (fun i => part x wu wd (n + i))]

/-- All of them. -/
theorem upTo_all (x : Fin 2048 → EReal) (wu : Fin 2048 → Fin 8192 → EReal) (wd : Fin 8192 → EReal) :
    upTo x wu wd 8192 = ∑ f : Fin 8192, unit x (fun k => wu k f) * unit x (fun k => wu k f) * wd f := by
  unfold upTo
  rw [Finset.sum_range]
  refine Finset.sum_congr rfl fun f _ => ?_
  have e : hid f.val = f := Fin.ext (Nat.mod_eq_of_lt f.isLt)
  unfold part
  rw [e]

end Cert.Rms
end
end
-- ==== Proof.Mlp.Ref.lean ====
/- The reference of the squared-ReLU layer read at one index: the norm, the two products with the square between
   them, the residual sum, the final norm. -/
module

public import proofs.«01_k».proof.Proof.Gen.Reference2Ideal.Run
public import proofs.«01_k».proof.Proof.Rms
public import Idealize.ShloMosaic.Lib.Pointwise

@[expose] public section
set_option maxRecDepth 16384
noncomputable section
namespace Cert.Reference2Ideal.Mlp
open Cert.Reference2Ideal Cert.Reference2Ideal.Gen Cert.Reference2Ideal.Value Cert.Rms Idealize.ShloMosaic Idealize.ShloMosaic.TcCoe Idealize.SL.Sem

/-- The norm of every row. -/
def gNorm (x : FVec Ideal S16x2048x2048 .f32) (g : FVec Ideal S2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

/-- The hidden layer, negative values cut off. -/
def gUp (x : FVec Ideal S16x2048x2048 .f32) (w : FVec Ideal S2048x8192 .f32) : FVec Ideal S16x2048x8192 .f32 :=
  maximumf (Host.dotGeneral dot_S16x2048x2048_S2048x8192_S16x2048x8192_2_0_01_1_n_n none x w) (broadcastInDim S16x2048x8192 ![] bcast_S_S16x2048x8192 (constant S_ .f32 0x00000000#32))

/-- The residual and the product of the squares with the second weights. -/
def gDown (h : FVec Ideal S16x2048x2048 .f32) (u : FVec Ideal S16x2048x8192 .f32) (w : FVec Ideal S8192x2048 .f32) : FVec Ideal S16x2048x2048 .f32 :=
  addf h (Host.dotGeneral dot_S16x2048x8192_S8192x2048_S16x2048x2048_2_0_01_1_n_n none (mulf u u) w)

/-- The rows of all batch entries one after the other. -/
def gFlat (x : FVec Ideal S16x2048x2048 .f32) : FVec Ideal S32768x2048 .f32 :=
  shapeCast _ x shapeCasts_S16x2048x2048_S32768x2048

theorem res_eq (m : (ℓ : Loc nD τ sig) → Buf (Elt Ideal) ℓ) (c : Dev nD) :
    res_main_v31 m c = gFlat (gNorm (gDown (m ((c : Thread nD τ).loc main_arg0))
      (gUp (gNorm (m ((c : Thread nD τ).loc main_arg0)) (m ((c : Thread nD τ).loc main_arg1))) (m ((c : Thread nD τ).loc main_arg2)))
      (m ((c : Thread nD τ).loc main_arg3))) (m ((c : Thread nD τ).loc main_arg4))) := rfl

theorem gNorm_at (x : FVec Ideal S16x2048x2048 .f32) (g : FVec Ideal S2048 .f32) (a : Fin 16) (t k : Fin 2048) :
    gNorm x g (ix3 a t k) = rms (fun j => x (ix3 a t j)) (fun j => g (ix1 j)) k := by
  unfold gNorm rms
  pointwise

theorem gUp_at (x : FVec Ideal S16x2048x2048 .f32) (w : FVec Ideal S2048x8192 .f32) (a : Fin 16) (t : Fin 2048) (f : Fin 8192) :
    gUp x w (ix3 a t f) = unit (fun k => x (ix3 a t k)) (fun k => w (ix2 k f)) := by
  unfold gUp unit
  pointwise

theorem gDown_at (h : FVec Ideal S16x2048x2048 .f32) (u : FVec Ideal S16x2048x8192 .f32) (w : FVec Ideal S8192x2048 .f32)
    (a : Fin 16) (t k : Fin 2048) :
    gDown h u w (ix3 a t k) = h (ix3 a t k) + ∑ f : Fin 8192, u (ix3 a t f) * u (ix3 a t f) * w (ix2 f k) := by
  unfold gDown
  pointwise

theorem gFlat_at (x : FVec Ideal S16x2048x2048 .f32) (a : Fin 16) (t k : Fin 2048) (i : Fin 32768) (hi : i.val = 2048 * a.val + t.val) :
    gFlat x (ix2 i k) = x (ix3 a t k) := by
  unfold gFlat
  pointwise
  have ht := t.isLt
  have e1 : ∀ p, (⟨i.val / 2048, p⟩ : Fin 16) = a := fun p => Fin.ext (by simp; omega)
  have e2 : ∀ p, (⟨i.val % 2048, p⟩ : Fin 2048) = t := fun p => Fin.ext (by simp; omega)
  simp only [e1, e2]

end Cert.Reference2Ideal.Mlp
end
end
-- ==== Proof.Mlp.Point.lean ====
/- What each grid point leaves: the normalized rows, the running sum of the second product, and at the last
   block of columns the result. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.VecWindow

@[expose] public section
set_option maxRecDepth 16384
noncomputable section
namespace Cert.Kernel2Ideal.Mlp
open Cert.Kernel2Ideal Cert.Kernel2Ideal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ) (c : Dev nD)

/-- The first point of a row block stores the normalized rows and adds to zero. -/
theorem first (t : Fin cfg0.N) (h0 : t.val % 8 = 0) (h1 : ¬t.val % 8 = 7) :
    (outsAt0 m c t.val t.isLt).2 = (k0_pay1 (iblk m c 0 t) (iblk m c 1 t),
      k0_pay3 (k0_pay1 (iblk m c 0 t) (iblk m c 1 t)) (iblk m c 3 t) k0_pay2 (iblk m c 4 t)) := by
  rw [outsAt0_A m c t h0 h1]
  frame_out

/-- A middle point keeps the rows and adds its block's product. -/
theorem middle (t : Fin cfg0.N) (h0 : ¬t.val % 8 = 0) (h1 : ¬t.val % 8 = 7) (p : ℕ) (hp : p < cfg0.N) (he : t.val - 1 = p) :
    (outsAt0 m c t.val t.isLt).2 = ((outsAt0 m c p hp).2.1,
      k0_pay3 (outsAt0 m c p hp).2.1 (iblk m c 3 t) (outsAt0 m c p hp).2.2 (iblk m c 4 t)) := by
  subst he
  rw [outsAt0_B m c t h0 h1]
  frame_out
  unfold sout0_B_0
  erw [read_unread_whole, read_unread_whole]

/-- The last point writes the normalized sum. -/
theorem last (t : Fin cfg0.N) (h0 : ¬t.val % 8 = 0) (h1 : t.val % 8 = 7) (p : ℕ) (hp : p < cfg0.N) (he : t.val - 1 = p) :
    (outsAt0 m c t.val t.isLt).1 = k0_pay4 (iblk m c 0 t)
      (k0_pay3 (outsAt0 m c p hp).2.1 (iblk m c 3 t) (outsAt0 m c p hp).2.2 (iblk m c 4 t)) (iblk m c 2 t) := by
  subst he
  rw [outsAt0_C m c t h0 h1]
  frame_out
  erw [read_unread_whole, read_unread_whole]

end Cert.Kernel2Ideal.Mlp
end
end
-- ==== Proof.Mlp.Ideal.lean ====
/- The values the kernel stores, read over the extended reals entry by entry. -/
module

public import proofs.«01_k».proof.Proof.Mlp.Point
public import proofs.«01_k».proof.Proof.Rms

@[expose] public section
set_option maxRecDepth 16384
noncomputable section
namespace Cert.Kernel2Ideal.Mlp
open Cert.Kernel2Ideal Cert.Kernel2Ideal.Gen Cert.Rms Idealize.ShloMosaic Idealize.ShloMosaic.TcCoe Idealize.SL.Sem

theorem p1 (h : Vec Ideal S512x2048 .f32) (g : Vec Ideal S1x2048 .f32) (r : Fin 512) (k : Fin 2048) :
    k0_pay1 (F := Ideal) h g (ix2 r k) = rms (fun j => h (ix2 r j)) (fun j => g (ix2 (0 : Fin 1) j)) k := by
  unfold k0_pay1 rms
  pointwise

theorem p2 (r : Fin 512) (k : Fin 2048) : k0_pay2 (F := Ideal) (ix2 r k) = (0 : EReal) := by
  unfold k0_pay2
  pointwise

theorem p3 (x : Vec Ideal S512x2048 .bf16) (wu : Vec Ideal S2048x1024 .bf16) (a : Vec Ideal S512x2048 .f32)
    (wd : Vec Ideal S1024x2048 .bf16) (r : Fin 512) (d : Fin 2048) :
    k0_pay3 (F := Ideal) x wu a wd (ix2 r d) = a (ix2 r d)
      + ∑ f : Fin 1024, unit (fun k => x (ix2 r k)) (fun k => wu (ix2 k f))
          * unit (fun k => x (ix2 r k)) (fun k => wu (ix2 k f)) * wd (ix2 f d) := by
  unfold k0_pay3 unit
  pointwise

theorem p4 (h a : Vec Ideal S512x2048 .f32) (g : Vec Ideal S1x2048 .f32) (r : Fin 512) (k : Fin 2048) :
    k0_pay4 (F := Ideal) h a g (ix2 r k)
      = rms (fun j => h (ix2 r j) + a (ix2 r j)) (fun j => g (ix2 (0 : Fin 1) j)) k := by
  unfold k0_pay4 rms
  pointwise

end Cert.Kernel2Ideal.Mlp
end
end
-- ==== Proof.Mlp.Array.lean ====
/- The operands' blocks at a grid point read from the arguments, what the points of a row block carry, and the output
   array: every row normed, passed through the hidden layer, added to itself and normed again. -/
module

public import proofs.«01_k».proof.Proof.Mlp.Ideal
public import Idealize.ShloMosaic.Lib.Pipeline.Covers
public import Idealize.ShloMosaic.Lib.StableHlo.ReadAt

@[expose] public section
set_option maxRecDepth 16384
noncomputable section
namespace Cert.Kernel2Ideal.Mlp
open Cert.Kernel2Ideal Cert.Kernel2Ideal.Gen Cert.Rms Idealize.ShloMosaic Idealize.ShloMosaic.TcCoe Idealize.SL.Sem
open Idealize.ShloMosaic.Pipeline (Dat)

/-! ## The specification -/

/-- The normed row of entry `a`, position `t`. -/
def row (H : Vec Ideal S16x2048x2048 .f32) (G : Vec Ideal S2048 .f32) (a : Fin 16) (t : Fin 2048) (k : Fin 2048) : EReal :=
  rms (fun j => H (ix3 a t j)) (fun j => G (ix1 j)) k

/-- The first weights. -/
def up (WU : Vec Ideal S2048x8192 .f32) (k : Fin 2048) (f : Fin 8192) : EReal := WU (ix2 k f)

/-- The second weights of output column `d`. -/
def down (WD : Vec Ideal S8192x2048 .f32) (d : Fin 2048) (f : Fin 8192) : EReal := WD (ix2 f d)

/-- The residual sum, normed. -/
def out (H : Vec Ideal S16x2048x2048 .f32) (G : Vec Ideal S2048 .f32) (WU : Vec Ideal S2048x8192 .f32)
    (WD : Vec Ideal S8192x2048 .f32) (GF : Vec Ideal S2048 .f32) (a : Fin 16) (t k : Fin 2048) : EReal :=
  rms (fun d => H (ix3 a t d) + upTo (row H G a t) (up WU) (down WD d) 8192) (fun j => GF (ix1 j)) k

/-- The whole array, the rows of all entries one after the other. -/
def spec (H : Vec Ideal S16x2048x2048 .f32) (G : Vec Ideal S2048 .f32) (WU : Vec Ideal S2048x8192 .f32)
    (WD : Vec Ideal S8192x2048 .f32) (GF : Vec Ideal S2048 .f32) : Vec Ideal S32768x2048 .f32 := fun i =>
  out H G WU WD GF ⟨(i 0).val / 2048, by have h : (i 0).val < 32768 := (i 0).isLt; omega⟩
    ⟨(i 0).val % 2048, Nat.mod_lt _ (by decide)⟩ (i 1)

theorem spec_at (H : Vec Ideal S16x2048x2048 .f32) (G : Vec Ideal S2048 .f32) (WU : Vec Ideal S2048x8192 .f32)
    (WD : Vec Ideal S8192x2048 .f32) (GF : Vec Ideal S2048 .f32) (i : Fin 32768) (a : Fin 16) (t k : Fin 2048)
    (hi : i.val = 2048 * a.val + t.val) : spec H G WU WD GF (ix2 i k) = out H G WU WD GF a t k := by
  have ht := t.isLt
  exact congrArg₂ (fun x y => out H G WU WD GF x y k) (Fin.ext (by show i.val / 2048 = a.val; omega))
    (Fin.ext (by show i.val % 2048 = t.val; omega))

/-! ## The operands' blocks -/

variable (m : (ℓ : Loc nD τ sig) → Buf (Elt Ideal) ℓ)

theorem coords1 (t : Fin cfg0.N) : (grid0.coords t 1).val = t.val % 8 := by
  rw [Pipeline.Grid.coords_val (S := 1) (B := 8) t 1 (by decide) (by decide), Nat.div_one]

theorem coords0 (t : Fin cfg0.N) : (grid0.coords t 0).val = t.val / 8 % 64 :=
  Pipeline.Grid.coords_val (S := 8) (B := 64) t 0 (by decide) (by decide)

/-- The block each window is at, by the grid point. -/
theorem idx (t : Fin cfg0.N) :
    win0_0.index t = ![t.val / 8 % 64, 0]
    ∧ win0_1.index t = ![0, 0]
    ∧ win0_2.index t = ![0, 0]
    ∧ win0_3.index t = ![0, t.val % 8]
    ∧ win0_4.index t = ![t.val % 8, 0]
    ∧ win0_5.index t = ![t.val / 8 % 64, 0] := by
  have h0 := coords0 t
  have h1 := coords1 t
  have e0 : (BitVec.ofNat 32 (grid0.coords t 0).val).toNat = t.val / 8 % 64 := by
    rw [h0, BitVec.toNat_ofNat]; omega
  have e1 : (BitVec.ofNat 32 (grid0.coords t 1).val).toNat = t.val % 8 := by
    rw [h1, BitVec.toNat_ofNat]; omega
  refine ⟨?_, ?_, ?_, ?_, ?_, ?_⟩
  · show cc0_transform_0 (grid0.coords t) = _
    unfold cc0_transform_0; rw [← e0]; rfl
  · show cc0_transform_1 (grid0.coords t) = _
    unfold cc0_transform_1; rfl
  · show cc0_transform_2 (grid0.coords t) = _
    unfold cc0_transform_2; rfl
  · show cc0_transform_3 (grid0.coords t) = _
    unfold cc0_transform_3; rw [← e1]; rfl
  · show cc0_transform_4 (grid0.coords t) = _
    unfold cc0_transform_4; rw [← e1]; rfl
  · show cc0_transform_5 (grid0.coords t) = _
    unfold cc0_transform_5; rw [← e0]; rfl

/-- The five arguments. -/
abbrev hA (c : Dev nD) : Vec Ideal S16x2048x2048 .f32 := m ((c : Thread nD τ).loc main_arg0)
abbrev gA (c : Dev nD) : Vec Ideal S2048 .f32 := m ((c : Thread nD τ).loc main_arg1)
abbrev uA (c : Dev nD) : Vec Ideal S2048x8192 .f32 := m ((c : Thread nD τ).loc main_arg2)
abbrev dA (c : Dev nD) : Vec Ideal S8192x2048 .f32 := m ((c : Thread nD τ).loc main_arg3)
abbrev fA (c : Dev nD) : Vec Ideal S2048 .f32 := m ((c : Thread nD τ).loc main_arg4)

theorem v0_at (c : Dev nD) (a : Fin 16) (b k : Fin 2048) (i : Fin 32768) (hi : i.val = 2048 * a.val + b.val) :
    V m c main_v0 (ix2 i k) = hA m c (ix3 a b k) := by
  unfold V hostOps0 hA
  simp only [List.flatten_cons, List.flatten_nil, List.cons_append, List.nil_append, List.append_nil]
  after_reads_at
  have hb := b.isLt
  have e1 : ∀ p, (⟨i.val / 2048, p⟩ : Fin 16) = a := fun p => Fin.ext (by simp; omega)
  have e2 : ∀ p, (⟨i.val % 2048, p⟩ : Fin 2048) = b := fun p => Fin.ext (by simp; omega)
  simp only [e1, e2]

theorem v1_at (c : Dev nD) (k : Fin 2048) (f : Fin 8192) : V m c main_v1 (ix2 k f) = uA m c (ix2 k f) := by
  unfold V hostOps0 uA
  simp only [List.flatten_cons, List.flatten_nil, List.cons_append, List.nil_append, List.append_nil]
  after_reads_at

theorem v2_at (c : Dev nD) (f : Fin 8192) (k : Fin 2048) : V m c main_v2 (ix2 f k) = dA m c (ix2 f k) := by
  unfold V hostOps0 dA
  simp only [List.flatten_cons, List.flatten_nil, List.cons_append, List.nil_append, List.append_nil]
  after_reads_at

theorem v3_at (c : Dev nD) (k : Fin 2048) : V m c main_v3 (ix2 (0 : Fin 1) k) = gA m c (ix1 k) := by
  unfold V hostOps0 gA
  simp only [List.flatten_cons, List.flatten_nil, List.cons_append, List.nil_append, List.append_nil]
  after_reads_at

theorem v4_at (c : Dev nD) (k : Fin 2048) : V m c main_v4 (ix2 (0 : Fin 1) k) = fA m c (ix1 k) := by
  unfold V hostOps0 fA
  simp only [List.flatten_cons, List.flatten_nil, List.cons_append, List.nil_append, List.append_nil]
  after_reads_at

theorem i0 (c : Dev nD) (t : Fin cfg0.N) (r : Fin 512) (k : Fin 2048) (a : Fin 16) (b : Fin 2048)
    (h : 512 * (t.val / 8) + r.val = 2048 * a.val + b.val) : iblk m c 0 t (ix2 r k) = hA m c (ix3 a b k) := by
  have ht : t.val < 512 := t.isLt
  have hr := r.isLt
  rw [← v0_at m c a b k ⟨512 * (t.val / 8) + r.val, by omega⟩ h]
  blk_simp [iblk]
  refine congrArg (V m c main_v0) ?_
  blk_ext [idx t]

theorem i1 (c : Dev nD) (t : Fin cfg0.N) (k : Fin 2048) : iblk m c 1 t (ix2 (0 : Fin 1) k) = gA m c (ix1 k) := by
  rw [← v3_at m c k]
  blk_simp [iblk]
  refine congrArg (V m c main_v3) ?_
  blk_ext [idx t]

theorem i2 (c : Dev nD) (t : Fin cfg0.N) (k : Fin 2048) : iblk m c 2 t (ix2 (0 : Fin 1) k) = fA m c (ix1 k) := by
  rw [← v4_at m c k]
  blk_simp [iblk]
  refine congrArg (V m c main_v4) ?_
  blk_ext [idx t]

theorem i3 (c : Dev nD) (t : Fin cfg0.N) (k : Fin 2048) (f : Fin 1024) (e : Fin 8192) (he : e.val = 1024 * (t.val % 8) + f.val) :
    iblk m c 3 t (ix2 k f) = uA m c (ix2 k e) := by
  rw [← v1_at m c k e]
  blk_simp [iblk]
  refine congrArg (V m c main_v1) ?_
  blk_ext [idx t]

theorem i4 (c : Dev nD) (t : Fin cfg0.N) (f : Fin 1024) (k : Fin 2048) (e : Fin 8192) (he : e.val = 1024 * (t.val % 8) + f.val) :
    iblk m c 4 t (ix2 f k) = dA m c (ix2 e k) := by
  rw [← v2_at m c e k]
  blk_simp [iblk]
  refine congrArg (V m c main_v2) ?_
  blk_ext [idx t]

/-! ## What the points carry -/

/-- One point adds its block of hidden columns to the sum. -/
theorem step (c : Dev nD) (t : Fin cfg0.N) (x : Vec Ideal S512x2048 .bf16) (acc : Vec Ideal S512x2048 .f32) (r : Fin 512)
    (d : Fin 2048) (X : Fin 2048 → EReal) (hx : ∀ k, x (ix2 r k) = X k)
    (ha : acc (ix2 r d) = upTo X (up (uA m c)) (down (dA m c) d) (1024 * (t.val % 8))) :
    k0_pay3 x (iblk m c 3 t) acc (iblk m c 4 t) (ix2 r d)
      = upTo X (up (uA m c)) (down (dA m c) d) (1024 * (t.val % 8 + 1)) := by
  rw [p3, ha, Nat.mul_add, Nat.mul_one, upTo_add]
  refine congrArg _ (Finset.sum_congr rfl fun f _ => ?_)
  have hf := f.isLt
  have e : (hid (1024 * (t.val % 8) + f.val)).val = 1024 * (t.val % 8) + f.val := Nat.mod_eq_of_lt (by omega)
  unfold part
  rw [i4 m c t f d _ e]
  have hu : unit (fun k => x (ix2 r k)) (fun k => iblk m c 3 t (ix2 k f))
      = unit X (fun k => up (uA m c) k (hid (1024 * (t.val % 8) + f.val))) := by
    unfold unit
    refine congrArg (max · 0) (Finset.sum_congr rfl fun k _ => ?_)
    show x (ix2 r k) * iblk m c 3 t (ix2 k f) = _
    rw [hx, i3 m c t k f _ e]
    rfl
  rw [hu]
  rfl

/-- The normed rows of a block. -/
theorem rows (c : Dev nD) (t : Fin cfg0.N) (r : Fin 512) (a : Fin 16) (b k : Fin 2048)
    (h : 512 * (t.val / 8) + r.val = 2048 * a.val + b.val) :
    k0_pay1 (iblk m c 0 t) (iblk m c 1 t) (ix2 r k) = row (hA m c) (gA m c) a b k := by
  rw [p1]
  unfold row
  simp only [i1, i0 m c t r _ a b h]

/-- Up to the last block the scratch holds the normed rows and the sum so far. -/
theorem carried (c : Dev nD) (a : Fin 16) (b : Fin 2048) (r : Fin 512) (n : ℕ) : ∀ (t : Fin cfg0.N), t.val % 8 = n → n ≠ 7 →
    512 * (t.val / 8) + r.val = 2048 * a.val + b.val →
    (∀ k, (outsAt0 m c t.val t.isLt).2.1 (ix2 r k) = row (hA m c) (gA m c) a b k)
    ∧ ∀ d, (outsAt0 m c t.val t.isLt).2.2 (ix2 r d)
        = upTo (row (hA m c) (gA m c) a b) (up (uA m c)) (down (dA m c) d) (1024 * (t.val % 8 + 1)) := by
  induction n with
  | zero =>
    intro t ht _ h
    rw [first m c t ht (by omega)]
    refine ⟨fun k => rows m c t r a b k h, fun d => ?_⟩
    refine step m c t _ _ r d _ (fun k => rows m c t r a b k h) ?_
    rw [p2, ht]
    rfl
  | succ n ih =>
    intro t ht hn h
    have hp : t.val - 1 < cfg0.N := lt_of_le_of_lt (Nat.sub_le _ _) t.isLt
    obtain ⟨h1, h2⟩ := ih ⟨t.val - 1, hp⟩ (by show (t.val - 1) % 8 = n; omega) (by omega)
      (by show 512 * ((t.val - 1) / 8) + r.val = _; rw [← h]; omega)
    rw [middle m c t (by omega) (by omega) (t.val - 1) hp rfl]
    refine ⟨h1, fun d => ?_⟩
    refine step m c t _ _ r d _ h1 ((h2 d).trans ?_)
    show upTo _ _ _ (1024 * ((t.val - 1) % 8 + 1)) = _
    rw [show (t.val - 1) % 8 + 1 = t.val % 8 by omega]

/-- The last point of a row block writes the result's rows. -/
theorem flushed_at (c : Dev nD) (t : Fin cfg0.N) (ht : t.val % 8 = 7) (r : Fin 512) (k : Fin 2048) (a : Fin 16) (b : Fin 2048)
    (h : 512 * (t.val / 8) + r.val = 2048 * a.val + b.val) :
    (outsAt0 m c t.val t.isLt).1 (ix2 r k) = out (hA m c) (gA m c) (uA m c) (dA m c) (fA m c) a b k := by
  have hp : t.val - 1 < cfg0.N := lt_of_le_of_lt (Nat.sub_le _ _) t.isLt
  obtain ⟨h1, h2⟩ := carried m c a b r 6 ⟨t.val - 1, hp⟩ (by show (t.val - 1) % 8 = 6; omega) (by decide)
    (by show 512 * ((t.val - 1) / 8) + r.val = _; rw [← h]; omega)
  rw [last m c t (by omega) ht (t.val - 1) hp rfl, p4]
  unfold out
  have e : ∀ d, k0_pay3 (outsAt0 m c (t.val - 1) hp).2.1 (iblk m c 3 t) (outsAt0 m c (t.val - 1) hp).2.2 (iblk m c 4 t) (ix2 r d)
      = upTo (row (hA m c) (gA m c) a b) (up (uA m c)) (down (dA m c) d) 8192 := fun d => by
    refine (step m c t _ _ r d _ h1 ((h2 d).trans ?_)).trans ?_
    · show upTo _ _ _ (1024 * ((t.val - 1) % 8 + 1)) = _
      rw [show (t.val - 1) % 8 + 1 = t.val % 8 by omega]
    · rw [ht]
  simp only [i2, i0 m c t r _ a b h, e]

/-! ## The output array -/

/-- The output's blocks cover its array. -/
theorem covers : (cfg0.win 5).Covers :=
  (cfg0.win 5).covers_of_indexMap_surj rfl (by decide) fun β => by
    have b0 : (β 0).val < 64 := (β 0).isLt
    have b1 : (β 1).val < 1 := (β 1).isLt
    refine ⟨fun a => ⟨(![(β 0).val, 7] : Fin 2 → ℕ) a, ?_⟩, fun a => ?_⟩
    · fin_cases a
      exacts [b0, show 7 < 8 by decide]
    · rw [show ∀ i : grid0.Coords, (cfg0.win 5).indexMap i = cc0_transform_5 i from fun _ => rfl]
      unfold cc0_transform_5
      fin_cases a
      · exact (BitVec.toNat_ofNat _ _).trans (Nat.mod_eq_of_lt (by show (β 0).val < _; omega))
      · show _ = (β 1).val
        rw [show (β 1).val = 0 by omega]
        rfl

/-- The output array, as one function of the five arguments. -/
theorem array (c : Dev nD) :
    (dats m 0 c).arrAt 5 cfg0.N = spec (hA m c) (gA m c) (uA m c) (dA m c) (fA m c) := by
  refine (dats m 0 c).arrAt_eq_of_covers 5 _ covers fun t hfl y => ?_
  have h7 : t.val % 8 = 7 := (flush0_5 t).1 hfl
  blk_simp
  rw [after0_5]
  have ht : t.val < 512 := t.isLt
  obtain ⟨r, d, rfl⟩ : ∃ (r : Fin 512) (d : Fin 2048), y = ix2 r d := ⟨y 0, y 1, by blk_ext⟩
  have hr := r.isLt
  refine (flushed_at m c t h7 r d ⟨(512 * (t.val / 8) + r.val) / 2048, by omega⟩ ⟨(512 * (t.val / 8) + r.val) % 2048, Nat.mod_lt _ (by decide)⟩
    (Nat.div_add_mod _ _).symm).trans ?_
  rw [← spec_at _ _ _ _ _ ⟨512 * (t.val / 8) + r.val, by omega⟩ _ _ _ (Nat.div_add_mod _ _).symm]
  refine congrArg (spec (hA m c) (gA m c) (uA m c) (dA m c) (fA m c)) ?_
  blk_ext [idx t]

end Cert.Kernel2Ideal.Mlp
end
end
-- ==== Proof.Mlp.Equation.lean ====
/- The reference's result is the specification of the kernel's output array. -/
module

public import proofs.«01_k».proof.Proof.Mlp.Ref
public import proofs.«01_k».proof.Proof.Mlp.Array

@[expose] public section
noncomputable section
namespace Cert.Reference2Ideal.Mlp
open Cert.Rms Idealize.ShloMosaic Idealize.ShloMosaic.TcCoe

theorem ref_spec (H : Vec Ideal Cert.Reference2Ideal.S16x2048x2048 .f32) (G : Vec Ideal Cert.Reference2Ideal.S2048 .f32)
    (WU : Vec Ideal Cert.Reference2Ideal.S2048x8192 .f32) (WD : Vec Ideal Cert.Reference2Ideal.S8192x2048 .f32)
    (GF : Vec Ideal Cert.Reference2Ideal.S2048 .f32) :
    gFlat (gNorm (gDown H (gUp (gNorm H G) WU) WD) GF) = Cert.Kernel2Ideal.Mlp.spec H G WU WD GF := by
  funext y
  obtain ⟨i, k, rfl⟩ : ∃ (i : Fin 32768) (k : Fin 2048), y = ix2 i k := ⟨y 0, y 1, by blk_ext⟩
  have hi := i.isLt
  rw [gFlat_at _ ⟨i.val / 2048, by omega⟩ ⟨i.val % 2048, Nat.mod_lt _ (by decide)⟩ k i (Nat.div_add_mod _ _).symm, gNorm_at,
    Cert.Kernel2Ideal.Mlp.spec_at _ _ _ _ _ i ⟨i.val / 2048, by omega⟩ ⟨i.val % 2048, Nat.mod_lt _ (by decide)⟩ k (Nat.div_add_mod _ _).symm]
  unfold Cert.Kernel2Ideal.Mlp.out
  refine congrArg (fun x => rms x _ k) (funext fun d => ?_)
  rw [gDown_at, upTo_all]
  simp only [gUp_at, gNorm_at]
  rfl

end Cert.Reference2Ideal.Mlp
end
end
-- ==== Proof.Mlp.Claims.lean ====
/- The claims about the squared-ReLU layer and the norm after it, one theorem each. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Mlp.Equation
public import Idealize.ShloMosaic.Lib.Quiescent

@[expose] public section
noncomputable section
namespace Cert.Proof.Mlp
open Idealize.ShloMosaic Idealize.ShloMosaic.TcCoe Idealize.SL.Sem

/-- The kernel as written runs, keeps its arguments and ends with every counter at zero. -/
theorem frame_p : Cert.quiescent_Kernel2 (hKernel2 := Cert.Kernel2.Gen.facts) := fun m ρ _ => Cert.Kernel2.Gen.frame m ρ

/-- So does its idealization. -/
theorem frame_pi : Cert.quiescent_Kernel2Ideal (hKernel2Ideal := Cert.Kernel2Ideal.Gen.facts) :=
  fun m ρ _ => Cert.Kernel2Ideal.Gen.frame m ρ

/-- The reference runs and keeps its arguments; it declares no semaphore. -/
theorem frame_r : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Nothing was rewritten between the kernel and its idealization. -/
theorem preserves : Cert.preserves_Kernel2_Kernel2Ideal := trivial

/-- Kernel and reference end with the same array: the one `spec` writes out. -/
theorem algebraic : Cert.algebraic_Kernel2Ideal_Reference2Ideal (hKernel2Ideal := Cert.Kernel2Ideal.Gen.facts)
    (hReference2Ideal := Cert.Reference2Ideal.Gen.facts) := by
  intro m g m' g' _ harg
  refine ⟨fun c => Cert.Kernel2Ideal.Mlp.spec (Cert.Kernel2Ideal.Mlp.hA m c) (Cert.Kernel2Ideal.Mlp.gA m c)
    (Cert.Kernel2Ideal.Mlp.uA m c) (Cert.Kernel2Ideal.Mlp.dA m c) (Cert.Kernel2Ideal.Mlp.fA m c), ?_, ?_⟩
  · exact (θ_run Cert.Kernel2Ideal.defs _ _).mono
      (fun r h c => ⟨(h c).1.trans (Cert.Kernel2Ideal.Mlp.array m c), (h c).2⟩)
      (Cert.Kernel2Ideal.Value.run_blocks m g)
  · refine (θ_run Cert.Reference2Ideal.defs _ _).mono (fun r h c => ⟨(h c).1.trans ?_, (h c).2⟩)
      (Cert.Reference2Ideal.Value.run (F := Ideal) m' g')
    rw [Cert.Reference2Ideal.Mlp.res_eq, (harg c).1, (harg c).2.1, (harg c).2.2.1, (harg c).2.2.2.1, (harg c).2.2.2.2]
    exact Cert.Reference2Ideal.Mlp.ref_spec _ _ _ _ _

end Cert.Proof.Mlp
end
end
-- ==== Proof.MlpS.Ref.lean ====
/- The reference of the squared-ReLU layer for the decoding batch read at one index: the norm, the two products with the square between
   them, the residual sum, the final norm. -/
module

public import proofs.«01_k».proof.Proof.Gen.Reference3Ideal.Run
public import proofs.«01_k».proof.Proof.Rms
public import Idealize.ShloMosaic.Lib.Pointwise

@[expose] public section
set_option maxRecDepth 16384
noncomputable section
namespace Cert.Reference3Ideal.MlpS
open Cert.Reference3Ideal Cert.Reference3Ideal.Gen Cert.Reference3Ideal.Value Cert.Rms Idealize.ShloMosaic Idealize.ShloMosaic.TcCoe Idealize.SL.Sem

/-- The norm of every row. -/
def gNorm (x : FVec Ideal S32x8x2048 .f32) (g : FVec Ideal S2048 .f32) : FVec Ideal S32x8x2048 .f32 :=
  mulf (mulf x (broadcastInDim S32x8x2048 ![0, 1, 2] bcast_S32x8x1_S32x8x2048_0_1_2 (Host.rsqrt (addf (Host.divf (broadcastInDim S32x8x1 ![0, 1] bcast_S32x8_S32x8x1_0_1 (Host.reduceAdd (mulf x x) (constant S_ .f32 0x00000000#32) reducesTo_S32x8x2048_S32x8_d2 h_S_)) (broadcastInDim S32x8x1 ![] bcast_S_S32x8x1 (constant S_ .f32 0x45000000#32))) (broadcastInDim S32x8x1 ![] bcast_S_S32x8x1 (constant S_ .f32 0x358637BD#32)))))) (broadcastInDim S32x8x2048 ![0, 1, 2] bcast_S1x1x2048_S32x8x2048_0_1_2 (broadcastInDim S1x1x2048 ![2] bcast_S2048_S1x1x2048_2 g))

/-- The hidden layer, negative values cut off. -/
def gUp (x : FVec Ideal S32x8x2048 .f32) (w : FVec Ideal S2048x8192 .f32) : FVec Ideal S32x8x8192 .f32 :=
  maximumf (Host.dotGeneral dot_S32x8x2048_S2048x8192_S32x8x8192_2_0_01_1_n_n none x w) (broadcastInDim S32x8x8192 ![] bcast_S_S32x8x8192 (constant S_ .f32 0x00000000#32))

/-- The residual and the product of the squares with the second weights. -/
def gDown (h : FVec Ideal S32x8x2048 .f32) (u : FVec Ideal S32x8x8192 .f32) (w : FVec Ideal S8192x2048 .f32) : FVec Ideal S32x8x2048 .f32 :=
  addf h (Host.dotGeneral dot_S32x8x8192_S8192x2048_S32x8x2048_2_0_01_1_n_n none (mulf u u) w)

/-- The rows of all batch entries one after the other. -/
def gFlat (x : FVec Ideal S32x8x2048 .f32) : FVec Ideal S256x2048 .f32 :=
  shapeCast _ x shapeCasts_S32x8x2048_S256x2048

theorem res_eq (m : (ℓ : Loc nD τ sig) → Buf (Elt Ideal) ℓ) (c : Dev nD) :
    res_main_v31 m c = gFlat (gNorm (gDown (m ((c : Thread nD τ).loc main_arg0))
      (gUp (gNorm (m ((c : Thread nD τ).loc main_arg0)) (m ((c : Thread nD τ).loc main_arg1))) (m ((c : Thread nD τ).loc main_arg2)))
      (m ((c : Thread nD τ).loc main_arg3))) (m ((c : Thread nD τ).loc main_arg4))) := rfl

theorem gNorm_at (x : FVec Ideal S32x8x2048 .f32) (g : FVec Ideal S2048 .f32) (a : Fin 32) (t : Fin 8) (k : Fin 2048) :
    gNorm x g (ix3 a t k) = rms (fun j => x (ix3 a t j)) (fun j => g (ix1 j)) k := by
  unfold gNorm rms
  pointwise

theorem gUp_at (x : FVec Ideal S32x8x2048 .f32) (w : FVec Ideal S2048x8192 .f32) (a : Fin 32) (t : Fin 8) (f : Fin 8192) :
    gUp x w (ix3 a t f) = unit (fun k => x (ix3 a t k)) (fun k => w (ix2 k f)) := by
  unfold gUp unit
  pointwise

theorem gDown_at (h : FVec Ideal S32x8x2048 .f32) (u : FVec Ideal S32x8x8192 .f32) (w : FVec Ideal S8192x2048 .f32)
    (a : Fin 32) (t : Fin 8) (k : Fin 2048) :
    gDown h u w (ix3 a t k) = h (ix3 a t k) + ∑ f : Fin 8192, u (ix3 a t f) * u (ix3 a t f) * w (ix2 f k) := by
  unfold gDown
  pointwise

theorem gFlat_at (x : FVec Ideal S32x8x2048 .f32) (a : Fin 32) (t : Fin 8) (k : Fin 2048) (i : Fin 256) (hi : i.val = 8 * a.val + t.val) :
    gFlat x (ix2 i k) = x (ix3 a t k) := by
  unfold gFlat
  pointwise
  have ht := t.isLt
  have e1 : ∀ p, (⟨i.val / 8, p⟩ : Fin 32) = a := fun p => Fin.ext (by simp; omega)
  have e2 : ∀ p, (⟨i.val % 8, p⟩ : Fin 8) = t := fun p => Fin.ext (by simp; omega)
  simp only [e1, e2]

end Cert.Reference3Ideal.MlpS
end
end
-- ==== Proof.MlpS.Point.lean ====
/- What each grid point leaves: the normalized rows, the running sum of the second product, and at the last
   block of columns the result. -/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise
public import Idealize.ShloMosaic.Lib.VecWindow

@[expose] public section
set_option maxRecDepth 16384
noncomputable section
namespace Cert.Kernel3Ideal.MlpS
open Cert.Kernel3Ideal Cert.Kernel3Ideal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ) (c : Dev nD)

/-- The first point of a row block stores the normalized rows and adds to zero. -/
theorem first (t : Fin cfg0.N) (h0 : t.val % 8 = 0) (h1 : ¬t.val % 8 = 7) :
    (outsAt0 m c t.val t.isLt).2 = (k0_pay1 (iblk m c 0 t) (iblk m c 1 t),
      k0_pay3 (k0_pay1 (iblk m c 0 t) (iblk m c 1 t)) (iblk m c 3 t) k0_pay2 (iblk m c 4 t)) := by
  rw [outsAt0_A m c t h0 h1]
  frame_out

/-- A middle point keeps the rows and adds its block's product. -/
theorem middle (t : Fin cfg0.N) (h0 : ¬t.val % 8 = 0) (h1 : ¬t.val % 8 = 7) (p : ℕ) (hp : p < cfg0.N) (he : t.val - 1 = p) :
    (outsAt0 m c t.val t.isLt).2 = ((outsAt0 m c p hp).2.1,
      k0_pay3 (outsAt0 m c p hp).2.1 (iblk m c 3 t) (outsAt0 m c p hp).2.2 (iblk m c 4 t)) := by
  subst he
  rw [outsAt0_B m c t h0 h1]
  frame_out
  unfold sout0_B_0
  erw [read_unread_whole, read_unread_whole]

/-- The last point writes the normalized sum. -/
theorem last (t : Fin cfg0.N) (h0 : ¬t.val % 8 = 0) (h1 : t.val % 8 = 7) (p : ℕ) (hp : p < cfg0.N) (he : t.val - 1 = p) :
    (outsAt0 m c t.val t.isLt).1 = k0_pay4 (iblk m c 0 t)
      (k0_pay3 (outsAt0 m c p hp).2.1 (iblk m c 3 t) (outsAt0 m c p hp).2.2 (iblk m c 4 t)) (iblk m c 2 t) := by
  subst he
  rw [outsAt0_C m c t h0 h1]
  frame_out
  erw [read_unread_whole, read_unread_whole]

end Cert.Kernel3Ideal.MlpS
end
end
-- ==== Proof.MlpS.Ideal.lean ====
/- The values the kernel stores, read over the extended reals entry by entry. -/
module

public import proofs.«01_k».proof.Proof.MlpS.Point
public import proofs.«01_k».proof.Proof.Rms

@[expose] public section
set_option maxRecDepth 16384
noncomputable section
namespace Cert.Kernel3Ideal.MlpS
open Cert.Kernel3Ideal Cert.Kernel3Ideal.Gen Cert.Rms Idealize.ShloMosaic Idealize.ShloMosaic.TcCoe Idealize.SL.Sem

theorem p1 (h : Vec Ideal S256x2048 .f32) (g : Vec Ideal S1x2048 .f32) (r : Fin 256) (k : Fin 2048) :
    k0_pay1 (F := Ideal) h g (ix2 r k) = rms (fun j => h (ix2 r j)) (fun j => g (ix2 (0 : Fin 1) j)) k := by
  unfold k0_pay1 rms
  pointwise

theorem p2 (r : Fin 256) (k : Fin 2048) : k0_pay2 (F := Ideal) (ix2 r k) = (0 : EReal) := by
  unfold k0_pay2
  pointwise

theorem p3 (x : Vec Ideal S256x2048 .bf16) (wu : Vec Ideal S2048x1024 .bf16) (a : Vec Ideal S256x2048 .f32)
    (wd : Vec Ideal S1024x2048 .bf16) (r : Fin 256) (d : Fin 2048) :
    k0_pay3 (F := Ideal) x wu a wd (ix2 r d) = a (ix2 r d)
      + ∑ f : Fin 1024, unit (fun k => x (ix2 r k)) (fun k => wu (ix2 k f))
          * unit (fun k => x (ix2 r k)) (fun k => wu (ix2 k f)) * wd (ix2 f d) := by
  unfold k0_pay3 unit
  pointwise

theorem p4 (h a : Vec Ideal S256x2048 .f32) (g : Vec Ideal S1x2048 .f32) (r : Fin 256) (k : Fin 2048) :
    k0_pay4 (F := Ideal) h a g (ix2 r k)
      = rms (fun j => h (ix2 r j) + a (ix2 r j)) (fun j => g (ix2 (0 : Fin 1) j)) k := by
  unfold k0_pay4 rms
  pointwise

end Cert.Kernel3Ideal.MlpS
end
end
-- ==== Proof.MlpS.Array.lean ====
/- The operands' blocks at a grid point read from the arguments, what the points of a row block carry, and the output
   array: every row normed, passed through the hidden layer, added to itself and normed again. -/
module

public import proofs.«01_k».proof.Proof.MlpS.Ideal
public import Idealize.ShloMosaic.Lib.Pipeline.Covers
public import Idealize.ShloMosaic.Lib.StableHlo.ReadAt

@[expose] public section
set_option maxRecDepth 16384
noncomputable section
namespace Cert.Kernel3Ideal.MlpS
open Cert.Kernel3Ideal Cert.Kernel3Ideal.Gen Cert.Rms Idealize.ShloMosaic Idealize.ShloMosaic.TcCoe Idealize.SL.Sem
open Idealize.ShloMosaic.Pipeline (Dat)

/-! ## The specification -/

/-- The normed row of entry `a`, position `t`. -/
def row (H : Vec Ideal S32x8x2048 .f32) (G : Vec Ideal S2048 .f32) (a : Fin 32) (t : Fin 8) (k : Fin 2048) : EReal :=
  rms (fun j => H (ix3 a t j)) (fun j => G (ix1 j)) k

/-- The first weights. -/
def up (WU : Vec Ideal S2048x8192 .f32) (k : Fin 2048) (f : Fin 8192) : EReal := WU (ix2 k f)

/-- The second weights of output column `d`. -/
def down (WD : Vec Ideal S8192x2048 .f32) (d : Fin 2048) (f : Fin 8192) : EReal := WD (ix2 f d)

/-- The residual sum, normed. -/
def out (H : Vec Ideal S32x8x2048 .f32) (G : Vec Ideal S2048 .f32) (WU : Vec Ideal S2048x8192 .f32)
    (WD : Vec Ideal S8192x2048 .f32) (GF : Vec Ideal S2048 .f32) (a : Fin 32) (t : Fin 8) (k : Fin 2048) : EReal :=
  rms (fun d => H (ix3 a t d) + upTo (row H G a t) (up WU) (down WD d) 8192) (fun j => GF (ix1 j)) k

/-- The whole array, the rows of all entries one after the other. -/
def spec (H : Vec Ideal S32x8x2048 .f32) (G : Vec Ideal S2048 .f32) (WU : Vec Ideal S2048x8192 .f32)
    (WD : Vec Ideal S8192x2048 .f32) (GF : Vec Ideal S2048 .f32) : Vec Ideal S256x2048 .f32 := fun i =>
  out H G WU WD GF ⟨(i 0).val / 8, by have h : (i 0).val < 256 := (i 0).isLt; omega⟩
    ⟨(i 0).val % 8, Nat.mod_lt _ (by decide)⟩ (i 1)

theorem spec_at (H : Vec Ideal S32x8x2048 .f32) (G : Vec Ideal S2048 .f32) (WU : Vec Ideal S2048x8192 .f32)
    (WD : Vec Ideal S8192x2048 .f32) (GF : Vec Ideal S2048 .f32) (i : Fin 256) (a : Fin 32) (t : Fin 8) (k : Fin 2048)
    (hi : i.val = 8 * a.val + t.val) : spec H G WU WD GF (ix2 i k) = out H G WU WD GF a t k := by
  have ht := t.isLt
  exact congrArg₂ (fun x y => out H G WU WD GF x y k) (Fin.ext (by show i.val / 8 = a.val; omega))
    (Fin.ext (by show i.val % 8 = t.val; omega))

/-! ## The operands' blocks -/

variable (m : (ℓ : Loc nD τ sig) → Buf (Elt Ideal) ℓ)

theorem coords1 (t : Fin cfg0.N) : (grid0.coords t 1).val = t.val % 8 := by
  rw [Pipeline.Grid.coords_val (S := 1) (B := 8) t 1 (by decide) (by decide), Nat.div_one]

theorem coords0 (t : Fin cfg0.N) : (grid0.coords t 0).val = t.val / 8 % 1 :=
  Pipeline.Grid.coords_val (S := 8) (B := 1) t 0 (by decide) (by decide)

/-- The block each window is at, by the grid point. -/
theorem idx (t : Fin cfg0.N) :
    win0_0.index t = ![t.val / 8 % 1, 0]
    ∧ win0_1.index t = ![0, 0]
    ∧ win0_2.index t = ![0, 0]
    ∧ win0_3.index t = ![0, t.val % 8]
    ∧ win0_4.index t = ![t.val % 8, 0]
    ∧ win0_5.index t = ![t.val / 8 % 1, 0] := by
  have h0 := coords0 t
  have h1 := coords1 t
  have e0 : (BitVec.ofNat 32 (grid0.coords t 0).val).toNat = t.val / 8 % 1 := by
    rw [h0, BitVec.toNat_ofNat]; omega
  have e1 : (BitVec.ofNat 32 (grid0.coords t 1).val).toNat = t.val % 8 := by
    rw [h1, BitVec.toNat_ofNat]; omega
  refine ⟨?_, ?_, ?_, ?_, ?_, ?_⟩
  · show cc0_transform_0 (grid0.coords t) = _
    unfold cc0_transform_0; rw [← e0]; rfl
  · show cc0_transform_1 (grid0.coords t) = _
    unfold cc0_transform_1; rfl
  · show cc0_transform_2 (grid0.coords t) = _
    unfold cc0_transform_2; rfl
  · show cc0_transform_3 (grid0.coords t) = _
    unfold cc0_transform_3; rw [← e1]; rfl
  · show cc0_transform_4 (grid0.coords t) = _
    unfold cc0_transform_4; rw [← e1]; rfl
  · show cc0_transform_5 (grid0.coords t) = _
    unfold cc0_transform_5; rw [← e0]; rfl

/-- The five arguments. -/
abbrev hA (c : Dev nD) : Vec Ideal S32x8x2048 .f32 := m ((c : Thread nD τ).loc main_arg0)
abbrev gA (c : Dev nD) : Vec Ideal S2048 .f32 := m ((c : Thread nD τ).loc main_arg1)
abbrev uA (c : Dev nD) : Vec Ideal S2048x8192 .f32 := m ((c : Thread nD τ).loc main_arg2)
abbrev dA (c : Dev nD) : Vec Ideal S8192x2048 .f32 := m ((c : Thread nD τ).loc main_arg3)
abbrev fA (c : Dev nD) : Vec Ideal S2048 .f32 := m ((c : Thread nD τ).loc main_arg4)

theorem v0_at (c : Dev nD) (a : Fin 32) (b : Fin 8) (k : Fin 2048) (i : Fin 256) (hi : i.val = 8 * a.val + b.val) :
    V m c main_v0 (ix2 i k) = hA m c (ix3 a b k) := by
  unfold V hostOps0 hA
  simp only [List.flatten_cons, List.flatten_nil, List.cons_append, List.nil_append, List.append_nil]
  after_reads_at
  have hb := b.isLt
  have e1 : ∀ p, (⟨i.val / 8, p⟩ : Fin 32) = a := fun p => Fin.ext (by simp; omega)
  have e2 : ∀ p, (⟨i.val % 8, p⟩ : Fin 8) = b := fun p => Fin.ext (by simp; omega)
  simp only [e1, e2]

theorem v1_at (c : Dev nD) (k : Fin 2048) (f : Fin 8192) : V m c main_v1 (ix2 k f) = uA m c (ix2 k f) := by
  unfold V hostOps0 uA
  simp only [List.flatten_cons, List.flatten_nil, List.cons_append, List.nil_append, List.append_nil]
  after_reads_at

theorem v2_at (c : Dev nD) (f : Fin 8192) (k : Fin 2048) : V m c main_v2 (ix2 f k) = dA m c (ix2 f k) := by
  unfold V hostOps0 dA
  simp only [List.flatten_cons, List.flatten_nil, List.cons_append, List.nil_append, List.append_nil]
  after_reads_at

theorem v3_at (c : Dev nD) (k : Fin 2048) : V m c main_v3 (ix2 (0 : Fin 1) k) = gA m c (ix1 k) := by
  unfold V hostOps0 gA
  simp only [List.flatten_cons, List.flatten_nil, List.cons_append, List.nil_append, List.append_nil]
  after_reads_at

theorem v4_at (c : Dev nD) (k : Fin 2048) : V m c main_v4 (ix2 (0 : Fin 1) k) = fA m c (ix1 k) := by
  unfold V hostOps0 fA
  simp only [List.flatten_cons, List.flatten_nil, List.cons_append, List.nil_append, List.append_nil]
  after_reads_at

theorem i0 (c : Dev nD) (t : Fin cfg0.N) (r : Fin 256) (k : Fin 2048) (a : Fin 32) (b : Fin 8)
    (h : 256 * (t.val / 8) + r.val = 8 * a.val + b.val) : iblk m c 0 t (ix2 r k) = hA m c (ix3 a b k) := by
  have ht : t.val < 8 := t.isLt
  have hr := r.isLt
  rw [← v0_at m c a b k ⟨256 * (t.val / 8) + r.val, by omega⟩ h]
  blk_simp [iblk]
  refine congrArg (V m c main_v0) ?_
  blk_ext [idx t]

theorem i1 (c : Dev nD) (t : Fin cfg0.N) (k : Fin 2048) : iblk m c 1 t (ix2 (0 : Fin 1) k) = gA m c (ix1 k) := by
  rw [← v3_at m c k]
  blk_simp [iblk]
  refine congrArg (V m c main_v3) ?_
  blk_ext [idx t]

theorem i2 (c : Dev nD) (t : Fin cfg0.N) (k : Fin 2048) : iblk m c 2 t (ix2 (0 : Fin 1) k) = fA m c (ix1 k) := by
  rw [← v4_at m c k]
  blk_simp [iblk]
  refine congrArg (V m c main_v4) ?_
  blk_ext [idx t]

theorem i3 (c : Dev nD) (t : Fin cfg0.N) (k : Fin 2048) (f : Fin 1024) (e : Fin 8192) (he : e.val = 1024 * (t.val % 8) + f.val) :
    iblk m c 3 t (ix2 k f) = uA m c (ix2 k e) := by
  rw [← v1_at m c k e]
  blk_simp [iblk]
  refine congrArg (V m c main_v1) ?_
  blk_ext [idx t]

theorem i4 (c : Dev nD) (t : Fin cfg0.N) (f : Fin 1024) (k : Fin 2048) (e : Fin 8192) (he : e.val = 1024 * (t.val % 8) + f.val) :
    iblk m c 4 t (ix2 f k) = dA m c (ix2 e k) := by
  rw [← v2_at m c e k]
  blk_simp [iblk]
  refine congrArg (V m c main_v2) ?_
  blk_ext [idx t]

/-! ## What the points carry -/

/-- One point adds its block of hidden columns to the sum. -/
theorem step (c : Dev nD) (t : Fin cfg0.N) (x : Vec Ideal S256x2048 .bf16) (acc : Vec Ideal S256x2048 .f32) (r : Fin 256)
    (d : Fin 2048) (X : Fin 2048 → EReal) (hx : ∀ k, x (ix2 r k) = X k)
    (ha : acc (ix2 r d) = upTo X (up (uA m c)) (down (dA m c) d) (1024 * (t.val % 8))) :
    k0_pay3 x (iblk m c 3 t) acc (iblk m c 4 t) (ix2 r d)
      = upTo X (up (uA m c)) (down (dA m c) d) (1024 * (t.val % 8 + 1)) := by
  rw [p3, ha, Nat.mul_add, Nat.mul_one, upTo_add]
  refine congrArg _ (Finset.sum_congr rfl fun f _ => ?_)
  have hf := f.isLt
  have e : (hid (1024 * (t.val % 8) + f.val)).val = 1024 * (t.val % 8) + f.val := Nat.mod_eq_of_lt (by omega)
  unfold part
  rw [i4 m c t f d _ e]
  have hu : unit (fun k => x (ix2 r k)) (fun k => iblk m c 3 t (ix2 k f))
      = unit X (fun k => up (uA m c) k (hid (1024 * (t.val % 8) + f.val))) := by
    unfold unit
    refine congrArg (max · 0) (Finset.sum_congr rfl fun k _ => ?_)
    show x (ix2 r k) * iblk m c 3 t (ix2 k f) = _
    rw [hx, i3 m c t k f _ e]
    rfl
  rw [hu]
  rfl

/-- The normed rows of a block. -/
theorem rows (c : Dev nD) (t : Fin cfg0.N) (r : Fin 256) (a : Fin 32) (b : Fin 8) (k : Fin 2048)
    (h : 256 * (t.val / 8) + r.val = 8 * a.val + b.val) :
    k0_pay1 (iblk m c 0 t) (iblk m c 1 t) (ix2 r k) = row (hA m c) (gA m c) a b k := by
  rw [p1]
  unfold row
  simp only [i1, i0 m c t r _ a b h]

/-- Up to the last block the scratch holds the normed rows and the sum so far. -/
theorem carried (c : Dev nD) (a : Fin 32) (b : Fin 8) (r : Fin 256) (n : ℕ) : ∀ (t : Fin cfg0.N), t.val % 8 = n → n ≠ 7 →
    256 * (t.val / 8) + r.val = 8 * a.val + b.val →
    (∀ k, (outsAt0 m c t.val t.isLt).2.1 (ix2 r k) = row (hA m c) (gA m c) a b k)
    ∧ ∀ d, (outsAt0 m c t.val t.isLt).2.2 (ix2 r d)
        = upTo (row (hA m c) (gA m c) a b) (up (uA m c)) (down (dA m c) d) (1024 * (t.val % 8 + 1)) := by
  induction n with
  | zero =>
    intro t ht _ h
    rw [first m c t ht (by omega)]
    refine ⟨fun k => rows m c t r a b k h, fun d => ?_⟩
    refine step m c t _ _ r d _ (fun k => rows m c t r a b k h) ?_
    rw [p2, ht]
    rfl
  | succ n ih =>
    intro t ht hn h
    have hp : t.val - 1 < cfg0.N := lt_of_le_of_lt (Nat.sub_le _ _) t.isLt
    obtain ⟨h1, h2⟩ := ih ⟨t.val - 1, hp⟩ (by show (t.val - 1) % 8 = n; omega) (by omega)
      (by show 256 * ((t.val - 1) / 8) + r.val = _; rw [← h]; omega)
    rw [middle m c t (by omega) (by omega) (t.val - 1) hp rfl]
    refine ⟨h1, fun d => ?_⟩
    refine step m c t _ _ r d _ h1 ((h2 d).trans ?_)
    show upTo _ _ _ (1024 * ((t.val - 1) % 8 + 1)) = _
    rw [show (t.val - 1) % 8 + 1 = t.val % 8 by omega]

/-- The last point of a row block writes the result's rows. -/
theorem flushed_at (c : Dev nD) (t : Fin cfg0.N) (ht : t.val % 8 = 7) (r : Fin 256) (k : Fin 2048) (a : Fin 32) (b : Fin 8)
    (h : 256 * (t.val / 8) + r.val = 8 * a.val + b.val) :
    (outsAt0 m c t.val t.isLt).1 (ix2 r k) = out (hA m c) (gA m c) (uA m c) (dA m c) (fA m c) a b k := by
  have hp : t.val - 1 < cfg0.N := lt_of_le_of_lt (Nat.sub_le _ _) t.isLt
  obtain ⟨h1, h2⟩ := carried m c a b r 6 ⟨t.val - 1, hp⟩ (by show (t.val - 1) % 8 = 6; omega) (by decide)
    (by show 256 * ((t.val - 1) / 8) + r.val = _; rw [← h]; omega)
  rw [last m c t (by omega) ht (t.val - 1) hp rfl, p4]
  unfold out
  have e : ∀ d, k0_pay3 (outsAt0 m c (t.val - 1) hp).2.1 (iblk m c 3 t) (outsAt0 m c (t.val - 1) hp).2.2 (iblk m c 4 t) (ix2 r d)
      = upTo (row (hA m c) (gA m c) a b) (up (uA m c)) (down (dA m c) d) 8192 := fun d => by
    refine (step m c t _ _ r d _ h1 ((h2 d).trans ?_)).trans ?_
    · show upTo _ _ _ (1024 * ((t.val - 1) % 8 + 1)) = _
      rw [show (t.val - 1) % 8 + 1 = t.val % 8 by omega]
    · rw [ht]
  simp only [i2, i0 m c t r _ a b h, e]

/-! ## The output array -/

/-- The output's blocks cover its array. -/
theorem covers : (cfg0.win 5).Covers :=
  (cfg0.win 5).covers_of_indexMap_surj rfl (by decide) fun β => by
    have b0 : (β 0).val < 1 := (β 0).isLt
    have b1 : (β 1).val < 1 := (β 1).isLt
    refine ⟨fun a => ⟨(![(β 0).val, 7] : Fin 2 → ℕ) a, ?_⟩, fun a => ?_⟩
    · fin_cases a
      exacts [b0, show 7 < 8 by decide]
    · rw [show ∀ i : grid0.Coords, (cfg0.win 5).indexMap i = cc0_transform_5 i from fun _ => rfl]
      unfold cc0_transform_5
      fin_cases a
      · exact (BitVec.toNat_ofNat _ _).trans (Nat.mod_eq_of_lt (by show (β 0).val < _; omega))
      · show _ = (β 1).val
        rw [show (β 1).val = 0 by omega]
        rfl

/-- The output array, as one function of the five arguments. -/
theorem array (c : Dev nD) :
    (dats m 0 c).arrAt 5 cfg0.N = spec (hA m c) (gA m c) (uA m c) (dA m c) (fA m c) := by
  refine (dats m 0 c).arrAt_eq_of_covers 5 _ covers fun t hfl y => ?_
  have h7 : t.val % 8 = 7 := (flush0_5 t).1 hfl
  blk_simp
  rw [after0_5]
  have ht : t.val < 8 := t.isLt
  obtain ⟨r, d, rfl⟩ : ∃ (r : Fin 256) (d : Fin 2048), y = ix2 r d := ⟨y 0, y 1, by blk_ext⟩
  have hr := r.isLt
  refine (flushed_at m c t h7 r d ⟨(256 * (t.val / 8) + r.val) / 8, by omega⟩ ⟨(256 * (t.val / 8) + r.val) % 8, Nat.mod_lt _ (by decide)⟩
    (Nat.div_add_mod _ _).symm).trans ?_
  rw [← spec_at _ _ _ _ _ ⟨256 * (t.val / 8) + r.val, by omega⟩ _ _ _ (Nat.div_add_mod _ _).symm]
  refine congrArg (spec (hA m c) (gA m c) (uA m c) (dA m c) (fA m c)) ?_
  blk_ext [idx t]

end Cert.Kernel3Ideal.MlpS
end
end
-- ==== Proof.MlpS.Equation.lean ====
/- The reference's result is the specification of the kernel's output array. -/
module

public import proofs.«01_k».proof.Proof.MlpS.Ref
public import proofs.«01_k».proof.Proof.MlpS.Array

@[expose] public section
noncomputable section
namespace Cert.Reference3Ideal.MlpS
open Cert.Rms Idealize.ShloMosaic Idealize.ShloMosaic.TcCoe

theorem ref_spec (H : Vec Ideal Cert.Reference3Ideal.S32x8x2048 .f32) (G : Vec Ideal Cert.Reference3Ideal.S2048 .f32)
    (WU : Vec Ideal Cert.Reference3Ideal.S2048x8192 .f32) (WD : Vec Ideal Cert.Reference3Ideal.S8192x2048 .f32)
    (GF : Vec Ideal Cert.Reference3Ideal.S2048 .f32) :
    gFlat (gNorm (gDown H (gUp (gNorm H G) WU) WD) GF) = Cert.Kernel3Ideal.MlpS.spec H G WU WD GF := by
  funext y
  obtain ⟨i, k, rfl⟩ : ∃ (i : Fin 256) (k : Fin 2048), y = ix2 i k := ⟨y 0, y 1, by blk_ext⟩
  have hi := i.isLt
  rw [gFlat_at _ ⟨i.val / 8, by omega⟩ ⟨i.val % 8, Nat.mod_lt _ (by decide)⟩ k i (Nat.div_add_mod _ _).symm, gNorm_at,
    Cert.Kernel3Ideal.MlpS.spec_at _ _ _ _ _ i ⟨i.val / 8, by omega⟩ ⟨i.val % 8, Nat.mod_lt _ (by decide)⟩ k (Nat.div_add_mod _ _).symm]
  unfold Cert.Kernel3Ideal.MlpS.out
  refine congrArg (fun x => rms x _ k) (funext fun d => ?_)
  rw [gDown_at, upTo_all]
  simp only [gUp_at, gNorm_at]
  rfl

end Cert.Reference3Ideal.MlpS
end
end
-- ==== Proof.MlpS.Claims.lean ====
/- The claims about the squared-ReLU layer and the norm after it for the decoding batch, one theorem each. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.MlpS.Equation
public import Idealize.ShloMosaic.Lib.Quiescent

@[expose] public section
noncomputable section
namespace Cert.Proof.MlpS
open Idealize.ShloMosaic Idealize.ShloMosaic.TcCoe Idealize.SL.Sem

/-- The kernel as written runs, keeps its arguments and ends with every counter at zero. -/
theorem frame_p : Cert.quiescent_Kernel3 (hKernel3 := Cert.Kernel3.Gen.facts) := fun m ρ _ => Cert.Kernel3.Gen.frame m ρ

/-- So does its idealization. -/
theorem frame_pi : Cert.quiescent_Kernel3Ideal (hKernel3Ideal := Cert.Kernel3Ideal.Gen.facts) :=
  fun m ρ _ => Cert.Kernel3Ideal.Gen.frame m ρ

/-- The reference runs and keeps its arguments; it declares no semaphore. -/
theorem frame_r : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Nothing was rewritten between the kernel and its idealization. -/
theorem preserves : Cert.preserves_Kernel3_Kernel3Ideal := trivial

/-- Kernel and reference end with the same array: the one `spec` writes out. -/
theorem algebraic : Cert.algebraic_Kernel3Ideal_Reference3Ideal (hKernel3Ideal := Cert.Kernel3Ideal.Gen.facts)
    (hReference3Ideal := Cert.Reference3Ideal.Gen.facts) := by
  intro m g m' g' _ harg
  refine ⟨fun c => Cert.Kernel3Ideal.MlpS.spec (Cert.Kernel3Ideal.MlpS.hA m c) (Cert.Kernel3Ideal.MlpS.gA m c)
    (Cert.Kernel3Ideal.MlpS.uA m c) (Cert.Kernel3Ideal.MlpS.dA m c) (Cert.Kernel3Ideal.MlpS.fA m c), ?_, ?_⟩
  · exact (θ_run Cert.Kernel3Ideal.defs _ _).mono
      (fun r h c => ⟨(h c).1.trans (Cert.Kernel3Ideal.MlpS.array m c), (h c).2⟩)
      (Cert.Kernel3Ideal.Value.run_blocks m g)
  · refine (θ_run Cert.Reference3Ideal.defs _ _).mono (fun r h c => ⟨(h c).1.trans ?_, (h c).2⟩)
      (Cert.Reference3Ideal.Value.run (F := Ideal) m' g')
    rw [Cert.Reference3Ideal.MlpS.res_eq, (harg c).1, (harg c).2.1, (harg c).2.2.1, (harg c).2.2.2.1, (harg c).2.2.2.2]
    exact Cert.Reference3Ideal.MlpS.ref_spec _ _ _ _ _

end Cert.Proof.MlpS
end
end
-- ==== Proof.Out.Line.lean ====
/- One row of the output projection over the extended reals: the three attention branches gated and added, the norm of
   each group of heads, the residual and the product with the output weights. -/
module

public import Idealize.ShloMosaic.PureOps.Ideal
public import Mathlib.Data.EReal.Operations
public import Mathlib.Algebra.BigOperators.Fin

@[expose] public section
noncomputable section
namespace Cert.Line
open Idealize.ShloMosaic

/-- Entry `k` of the row `x` of 1024 divided by its root mean square, with gain `g`. -/
def rms (x g : Fin 1024 → EReal) (k : Fin 1024) : EReal :=
  x k * Ideal.rsqrt (Ideal.div (∑ j : Fin 1024, x j * x j) (Ideal.ofBits .f32 0x44800000#32)
    + Ideal.ofBits .f32 0x358637BD#32) * g k

/-- The head of column `k`: eight heads of 128 columns. -/
def head (k : Fin 1024) : Fin 8 := ⟨k.val / 128, by have := k.isLt; omega⟩

/-- The key-value head of a head, and its place among the four that share it. -/
def pair (h : Fin 8) : Fin 2 := ⟨h.val / 4, by have := h.isLt; omega⟩
def rep (h : Fin 8) : Fin 4 := ⟨h.val % 4, Nat.mod_lt _ (by decide)⟩

/-- The place of column `k` in its head. -/
def lane (k : Fin 1024) : Fin 128 := ⟨k.val % 128, Nat.mod_lt _ (by decide)⟩

/-- The three branches, each times its gate of the column's head, added. -/
def gated (g : Fin 3 → Fin 8 → EReal) (oc os ow : Fin 1024 → EReal) (k : Fin 1024) : EReal :=
  g 0 (head k) * oc k + g 1 (head k) * os k + g 2 (head k) * ow k

/-- The residual `x` and the product of the two groups' columns with one column of the weights. -/
def line (x : EReal) (n f : Fin 1024 → EReal) (w : Fin 2048 → EReal) : EReal :=
  x + (∑ k : Fin 1024, n k * w ⟨k.val, by have := k.isLt; omega⟩
    + ∑ k : Fin 1024, f k * w ⟨1024 + k.val, by have := k.isLt; omega⟩)

end Cert.Line
end
end
-- ==== Proof.Out.Ref.lean ====
/- The reference of the output projection read at one index: the gates, the norm of each group, the residual and the
   product with the output weights. -/
module

public import proofs.«01_k».proof.Proof.Gen.Reference4Ideal.Run
public import proofs.«01_k».proof.Proof.Out.Line
public import Idealize.ShloMosaic.Lib.Pointwise

@[expose] public section
set_option maxRecDepth 16384
noncomputable section
namespace Cert.Reference4Ideal.Out
open Cert.Reference4Ideal Cert.Reference4Ideal.Gen Cert.Reference4Ideal.Value Cert.Line Idealize.ShloMosaic Idealize.ShloMosaic.TcCoe Idealize.SL.Sem

/-- The three branches, each times its gate, added; the heads side by side. -/
def gNsa (A1 : FVec Ideal S16x2048x3x2x4 .f32) (A2 A3 A4 : FVec Ideal S16x2048x2x4x128 .f32) : FVec Ideal S16x2048x1024 .f32 :=
  shapeCast _ (addf (addf (mulf (broadcastInDim S16x2048x2x4x128 ![0, 1, 2, 3, 4] bcast_S16x2048x2x4x1_S16x2048x2x4x128_0_1_2_3_4 (broadcastInDim S16x2048x2x4x1 ![0, 1, 2, 3] bcast_S16x2048x2x4_S16x2048x2x4x1_0_1_2_3 (shapeCast _ (extractStridedSlice S16x2048x1x2x4 ![0, 0, 0, 0, 0] A1 slices_S16x2048x3x2x4_S16x2048x1x2x4_0_0_0_0_0) shapeCasts_S16x2048x1x2x4_S16x2048x2x4))) A2) (mulf (broadcastInDim S16x2048x2x4x128 ![0, 1, 2, 3, 4] bcast_S16x2048x2x4x1_S16x2048x2x4x128_0_1_2_3_4 (broadcastInDim S16x2048x2x4x1 ![0, 1, 2, 3] bcast_S16x2048x2x4_S16x2048x2x4x1_0_1_2_3 (shapeCast _ (extractStridedSlice S16x2048x1x2x4 ![0, 0, 1, 0, 0] A1 slices_S16x2048x3x2x4_S16x2048x1x2x4_0_0_1_0_0) shapeCasts_S16x2048x1x2x4_S16x2048x2x4))) A3)) (mulf (broadcastInDim S16x2048x2x4x128 ![0, 1, 2, 3, 4] bcast_S16x2048x2x4x1_S16x2048x2x4x128_0_1_2_3_4 (broadcastInDim S16x2048x2x4x1 ![0, 1, 2, 3] bcast_S16x2048x2x4_S16x2048x2x4x1_0_1_2_3 (shapeCast _ (extractStridedSlice S16x2048x1x2x4 ![0, 0, 2, 0, 0] A1 slices_S16x2048x3x2x4_S16x2048x1x2x4_0_0_2_0_0) shapeCasts_S16x2048x1x2x4_S16x2048x2x4))) A4)) shapeCasts_S16x2048x2x4x128_S16x2048x1024

/-- The norm of every row. -/
def gNorm (x : FVec Ideal S16x2048x1024 .f32) (g : FVec Ideal S1024 .f32) : FVec Ideal S16x2048x1024 .f32 :=
  mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))

/-- The residual and the product of both groups with the output weights. -/
def gOut (x : FVec Ideal S16x2048x2048 .f32) (n f : FVec Ideal S16x2048x1024 .f32) (w : FVec Ideal S2048x2048 .f32) : FVec Ideal S16x2048x2048 .f32 :=
  addf x (Host.dotGeneral dot_S16x2048x2048_S2048x2048_S16x2048x2048_2_0_01_1_n_n none (concatenate S16x2048x2048 2 [⟨S16x2048x1024, n⟩, ⟨S16x2048x1024, f⟩] concatenates_S16x2048x1024_S16x2048x1024_S16x2048x2048_d2) w)

/-- The rows of all batch entries one after the other. -/
def gFlat (x : FVec Ideal S16x2048x2048 .f32) : FVec Ideal S32768x2048 .f32 :=
  shapeCast _ x shapeCasts_S16x2048x2048_S32768x2048

theorem res_eq (m : (ℓ : Loc nD τ sig) → Buf (Elt Ideal) ℓ) (c : Dev nD) :
    res_main_v47 m c = gFlat (gOut (m ((c : Thread nD τ).loc main_arg0))
      (gNorm (gNsa (m ((c : Thread nD τ).loc main_arg1)) (m ((c : Thread nD τ).loc main_arg2)) (m ((c : Thread nD τ).loc main_arg3)) (m ((c : Thread nD τ).loc main_arg4))) (m ((c : Thread nD τ).loc main_arg6)))
      (gNorm (m ((c : Thread nD τ).loc main_arg5)) (m ((c : Thread nD τ).loc main_arg7))) (m ((c : Thread nD τ).loc main_arg8))) := rfl

theorem gNsa_at (A1 : FVec Ideal S16x2048x3x2x4 .f32) (A2 A3 A4 : FVec Ideal S16x2048x2x4x128 .f32) (a : Fin 16) (t : Fin 2048) (k : Fin 1024) :
    gNsa A1 A2 A3 A4 (ix3 a t k) = gated (fun b h => A1 (ix5 a t b (pair h) (rep h)))
      (fun k => A2 (ix5 a t (pair (head k)) (rep (head k)) (lane k))) (fun k => A3 (ix5 a t (pair (head k)) (rep (head k)) (lane k)))
      (fun k => A4 (ix5 a t (pair (head k)) (rep (head k)) (lane k))) k := by
  unfold gNsa gated
  pointwise
  have e : ∀ p, (⟨k.val / 512, p⟩ : Fin 2) = pair (head k) := fun p => Fin.ext (by show k.val / 512 = k.val / 128 / 4; omega)
  simp only [e]
  rfl

theorem gNorm_at (x : FVec Ideal S16x2048x1024 .f32) (g : FVec Ideal S1024 .f32) (a : Fin 16) (t : Fin 2048) (k : Fin 1024) :
    gNorm x g (ix3 a t k) = rms (fun j => x (ix3 a t j)) (fun j => g (ix1 j)) k := by
  unfold gNorm rms
  pointwise

theorem gOut_at (x : FVec Ideal S16x2048x2048 .f32) (n f : FVec Ideal S16x2048x1024 .f32) (w : FVec Ideal S2048x2048 .f32)
    (a : Fin 16) (t d : Fin 2048) :
    gOut x n f w (ix3 a t d) = line (x (ix3 a t d)) (fun k => n (ix3 a t k)) (fun k => f (ix3 a t k)) (fun k => w (ix2 k d)) := by
  unfold gOut line
  pointwise

theorem gFlat_at (x : FVec Ideal S16x2048x2048 .f32) (a : Fin 16) (t k : Fin 2048) (i : Fin 32768) (hi : i.val = 2048 * a.val + t.val) :
    gFlat x (ix2 i k) = x (ix3 a t k) := by
  unfold gFlat
  pointwise
  have ht := t.isLt
  have e1 : ∀ p, (⟨i.val / 2048, p⟩ : Fin 16) = a := fun p => Fin.ext (by simp; omega)
  have e2 : ∀ p, (⟨i.val % 2048, p⟩ : Fin 2048) = t := fun p => Fin.ext (by simp; omega)
  simp only [e1, e2]

end Cert.Reference4Ideal.Out
end
end
-- ==== Proof.Out.Ideal.lean ====
/- What the body of the output projection writes, read at one index: rows 0–255 and rows 256–511 of a block are each the
   residual and the product of the gated, normed heads with the output weights. -/
module

public import proofs.«01_k».proof.Proof.Gen.Kernel4Ideal.Value
public import proofs.«01_k».proof.Proof.Out.Line
public import Idealize.ShloMosaic.Lib.Pipeline.ValueKit
public import Idealize.ShloMosaic.Lib.Pointwise

@[expose] public section
set_option maxRecDepth 16384
noncomputable section
namespace Cert.Kernel4Ideal.Out
open Cert.Kernel4Ideal Cert.Kernel4Ideal.Gen Cert.Line Idealize.ShloMosaic Idealize.ShloMosaic.TcCoe Idealize.SL.Sem

/-! ## The eight heads side by side, and the norm -/

/-- The eight heads side by side. -/
def cat (x0 x1 x2 x3 x4 x5 x6 x7 : FVec Ideal S256x128 .f32) : FVec Ideal S256x1024 .f32 :=
  concatenate S256x1024 1 [⟨S256x128, x0⟩, ⟨S256x128, x1⟩, ⟨S256x128, x2⟩, ⟨S256x128, x3⟩, ⟨S256x128, x4⟩, ⟨S256x128, x5⟩, ⟨S256x128, x6⟩, ⟨S256x128, x7⟩] concatenates_S256x128_S256x128_S256x128_S256x128_S256x128_S256x128_S256x128_S256x128_S256x1024_d1

/-- Eight heads that are the eight column blocks of `G` give `G`. -/
theorem cat_at (x0 x1 x2 x3 x4 x5 x6 x7 : FVec Ideal S256x128 .f32) (r : Fin 256) (G : Fin 1024 → EReal)
    (e0 : ∀ (l : Fin 128) (k : Fin 1024), k.val = 128 * 0 + l.val → x0 (ix2 r l) = G k)
    (e1 : ∀ (l : Fin 128) (k : Fin 1024), k.val = 128 * 1 + l.val → x1 (ix2 r l) = G k)
    (e2 : ∀ (l : Fin 128) (k : Fin 1024), k.val = 128 * 2 + l.val → x2 (ix2 r l) = G k)
    (e3 : ∀ (l : Fin 128) (k : Fin 1024), k.val = 128 * 3 + l.val → x3 (ix2 r l) = G k)
    (e4 : ∀ (l : Fin 128) (k : Fin 1024), k.val = 128 * 4 + l.val → x4 (ix2 r l) = G k)
    (e5 : ∀ (l : Fin 128) (k : Fin 1024), k.val = 128 * 5 + l.val → x5 (ix2 r l) = G k)
    (e6 : ∀ (l : Fin 128) (k : Fin 1024), k.val = 128 * 6 + l.val → x6 (ix2 r l) = G k)
    (e7 : ∀ (l : Fin 128) (k : Fin 1024), k.val = 128 * 7 + l.val → x7 (ix2 r l) = G k) (k : Fin 1024) :
    cat x0 x1 x2 x3 x4 x5 x6 x7 (ix2 r k) = G k := by
  unfold cat
  pointwise
  have hk := k.isLt
  split
  · exact e0 _ k (by simp)
  split
  · exact e1 _ k (by simp; omega)
  split
  · exact e2 _ k (by simp; omega)
  split
  · exact e3 _ k (by simp; omega)
  split
  · exact e4 _ k (by simp; omega)
  split
  · exact e5 _ k (by simp; omega)
  split
  · exact e6 _ k (by simp; omega)
  · exact e7 _ k (by simp; omega)

/-- The norm of every row. -/
def nrm (x : FVec Ideal S256x1024 .f32) (g : Vec Ideal S1x1024 .f32) : FVec Ideal S256x1024 .f32 :=
  mulf (mulf x (broadcastTo S256x1024 (rsqrt (addf (divf (shapeCast S256x1 (multiReduction .add [1] S256 (mulf x x) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024)) (broadcastTo S256x1024 (shapeCast S1x1024 g shapeCasts_S1x1024_S1x1024) broadcasts_S1x1024_S256x1024)

theorem nrm_at (x : FVec Ideal S256x1024 .f32) (g : Vec Ideal S1x1024 .f32) (r : Fin 256) (k : Fin 1024) :
    nrm x g (ix2 r k) = rms (fun j => x (ix2 r j)) (fun j => g (ix2 (0 : Fin 1) j)) k := by
  unfold nrm rms
  pointwise

/-- A block cast to its own shape. -/
def same (x : Vec Ideal S256x1024 .f32) : FVec Ideal S256x1024 .f32 := shapeCast S256x1024 x shapeCasts_S256x1024_S256x1024

theorem same_at (x : Vec Ideal S256x1024 .f32) (r : Fin 256) (k : Fin 1024) : same x (ix2 r k) = x (ix2 r k) := by
  unfold same
  pointwise

/-- The residual and the product with the output weights. -/
theorem pay1_at (n f : FVec Ideal S256x1024 .f32) (x : Vec Ideal S256x2048 .f32) (w : Vec Ideal S2048x2048 .bf16) (r : Fin 256) (d : Fin 2048) :
    k0_pay1 n f x w (ix2 r d)
      = line (x (ix2 r d)) (fun k => n (ix2 r k)) (fun k => f (ix2 r k)) (fun k => w (ix2 k d)) := by
  unfold k0_pay1 line
  pointwise

/-! ## One head's gated sum -/

/-- One head: the three gates in the lanes `a`, `b`, `c` of the gates' rows. -/
def one (g : FVec Ideal S256x128 .f32) (a b c : Fin 128) (u v w : Vec Ideal S256x128 .f32) (r : Fin 256) (l : Fin 128) : EReal :=
  g (ix2 r a) * u (ix2 r l) + g (ix2 r b) * v (ix2 r l) + g (ix2 r c) * w (ix2 r l)

/-- The last head of the first half. -/
def tail1 (g : FVec Ideal S256x128 .f32) (p q : FVec Ideal S256x128 .f32) (w : Vec Ideal S256x128 .f32) : FVec Ideal S256x128 .f32 :=
  addf (addf p q) (mulf (broadcastTo S256x128 (extractStridedSlice S256x1 ![0, 23] g slices_S256x128_o0_23_S256x1) broadcasts_S256x1_S256x128) (shapeCast S256x128 w shapeCasts_S256x128_S256x128))

/-- The last head of the second half. -/
def tail2 (g : FVec Ideal S256x128 .f32) (p q : FVec Ideal S256x128 .f32) (v w : Vec Ideal S256x128 .f32) : FVec Ideal S256x128 .f32 :=
  addf (addf (mulf q p) (mulf (broadcastTo S256x128 (extractStridedSlice S256x1 ![0, 15] g slices_S256x128_o0_15_S256x1) broadcasts_S256x1_S256x128) (shapeCast S256x128 v shapeCasts_S256x128_S256x128))) (mulf (broadcastTo S256x128 (extractStridedSlice S256x1 ![0, 23] g slices_S256x128_o0_23_S256x1) broadcasts_S256x1_S256x128) (shapeCast S256x128 w shapeCasts_S256x128_S256x128))

theorem tail1_at (g : FVec Ideal S256x128 .f32) (u v w : Vec Ideal S256x128 .f32) (r : Fin 256) (l : Fin 128) :
    tail1 g (k0_pay12 g u) (k0_pay13 g v) w (ix2 r l) = one g 7 15 23 u v w r l := by
  unfold tail1 k0_pay12 k0_pay13 one
  pointwise

theorem tail2_at (g : FVec Ideal S256x128 .f32) (u v w : Vec Ideal S256x128 .f32) (r : Fin 256) (l : Fin 128) :
    tail2 g (k0_pay27 u) (k0_pay28 g) v w (ix2 r l) = one g 7 15 23 u v w r l := by
  unfold tail2 k0_pay27 k0_pay28 one
  pointwise

theorem pay14_eq (v1 v18 v35 v52 v69 v86 v103 v120 v125 v130 : FVec Ideal S256x128 .f32) (v133 : Vec Ideal S256x128 .f32) (v139 : Vec Ideal S1x1024 .f32)
    (v153 : Vec Ideal S256x1024 .f32) (v155 : Vec Ideal S1x1024 .f32) :
    k0_pay14 v1 v18 v35 v52 v69 v86 v103 v120 v125 v130 v133 v139 v153 v155
      = truncf .bf16 (concatenate S256x2048 1 [⟨S256x1024, nrm (cat v18 v35 v52 v69 v86 v103 v120 (tail1 v1 v125 v130 v133)) v139⟩, ⟨S256x1024, nrm (same v153) v155⟩] concatenates_S256x1024_S256x1024_S256x2048_d1) bitsLt_bf16_f32 := by
  unfold k0_pay14 nrm cat tail1 same
  rfl

theorem pay29_eq (v1 v18 v35 v52 v69 v86 v103 v120 p q : FVec Ideal S256x128 .f32) (v w : Vec Ideal S256x128 .f32) (g : Vec Ideal S1x1024 .f32) :
    k0_pay29 v1 v18 v35 v52 v69 v86 v103 v120 p q v w g = nrm (cat v18 v35 v52 v69 v86 v103 v120 (tail2 v1 p q v w)) g := by
  unfold k0_pay29 nrm cat tail2
  rfl

theorem pay30_eq (x : Vec Ideal S256x1024 .f32) (g : Vec Ideal S1x1024 .f32) : k0_pay30 x g = nrm (same x) g := by
  unfold k0_pay30 nrm same
  rfl

theorem pay16_at (n f : FVec Ideal S256x1024 .f32) (x : Vec Ideal S256x2048 .f32) (w : Vec Ideal S2048x2048 .bf16) (r : Fin 256) (d : Fin 2048) :
    k0_pay16 (truncf .bf16 (concatenate S256x2048 1 [⟨S256x1024, n⟩, ⟨S256x1024, f⟩] concatenates_S256x1024_S256x1024_S256x2048_d1) bitsLt_bf16_f32) (k0_pay15 x) w (ix2 r d)
      = line (x (ix2 r d)) (fun k => n (ix2 r k)) (fun k => f (ix2 r k)) (fun k => w (ix2 k d)) := by
  unfold k0_pay16 k0_pay15 line
  pointwise

theorem a0_at (g u v w : Vec Ideal S256x128 .f32) (r : Fin 256) (l : Fin 128) :
    k0_pay3 g u v w (ix2 r l) = one g 0 8 16 u v w r l := by
  unfold k0_pay3 k0_pay2 one
  pointwise

theorem a1_at (g u v w : Vec Ideal S256x128 .f32) (r : Fin 256) (l : Fin 128) :
    k0_pay4 g u v w (ix2 r l) = one g 1 9 17 u v w r l := by
  unfold k0_pay4 k0_pay2 one
  pointwise

theorem a2_at (g u v w : Vec Ideal S256x128 .f32) (r : Fin 256) (l : Fin 128) :
    k0_pay7 (k0_pay2 g) (k0_pay5 g u) (k0_pay6 g) v w (ix2 r l) = one g 2 10 18 u v w r l := by
  unfold k0_pay7 k0_pay5 k0_pay6 k0_pay2 one
  pointwise

theorem a3_at (g u v w : Vec Ideal S256x128 .f32) (r : Fin 256) (l : Fin 128) :
    k0_pay8 g u v w (ix2 r l) = one g 3 11 19 u v w r l := by
  unfold k0_pay8 one
  pointwise

theorem a4_at (g u v w : Vec Ideal S256x128 .f32) (r : Fin 256) (l : Fin 128) :
    k0_pay9 g u v w (ix2 r l) = one g 4 12 20 u v w r l := by
  unfold k0_pay9 one
  pointwise

theorem a5_at (g u v w : Vec Ideal S256x128 .f32) (r : Fin 256) (l : Fin 128) :
    k0_pay10 g u v w (ix2 r l) = one g 5 13 21 u v w r l := by
  unfold k0_pay10 one
  pointwise

theorem a6_at (g u v w : Vec Ideal S256x128 .f32) (r : Fin 256) (l : Fin 128) :
    k0_pay11 g u v w (ix2 r l) = one g 6 14 22 u v w r l := by
  unfold k0_pay11 one
  pointwise

theorem b0_at (g u v w : Vec Ideal S256x128 .f32) (r : Fin 256) (l : Fin 128) :
    k0_pay18 g u v w (ix2 r l) = one g 0 8 16 u v w r l := by
  unfold k0_pay18 k0_pay17 one
  pointwise

theorem b1_at (g u v w : Vec Ideal S256x128 .f32) (r : Fin 256) (l : Fin 128) :
    k0_pay19 g u v w (ix2 r l) = one g 1 9 17 u v w r l := by
  unfold k0_pay19 k0_pay17 one
  pointwise

theorem b2_at (g u v w : Vec Ideal S256x128 .f32) (r : Fin 256) (l : Fin 128) :
    k0_pay21 (k0_pay17 g) (k0_pay20 g) u v w (ix2 r l) = one g 2 10 18 u v w r l := by
  unfold k0_pay21 k0_pay20 k0_pay17 one
  pointwise

theorem b3_at (g u v w : Vec Ideal S256x128 .f32) (r : Fin 256) (l : Fin 128) :
    k0_pay22 g u v w (ix2 r l) = one g 3 11 19 u v w r l := by
  unfold k0_pay22 one
  pointwise

theorem b4_at (g u v w : Vec Ideal S256x128 .f32) (r : Fin 256) (l : Fin 128) :
    k0_pay24 g (k0_pay23 g u v) w (ix2 r l) = one g 4 12 20 u v w r l := by
  unfold k0_pay24 k0_pay23 one
  pointwise

theorem b5_at (g u v w : Vec Ideal S256x128 .f32) (r : Fin 256) (l : Fin 128) :
    k0_pay25 g u v w (ix2 r l) = one g 5 13 21 u v w r l := by
  unfold k0_pay25 one
  pointwise

theorem b6_at (g u v w : Vec Ideal S256x128 .f32) (r : Fin 256) (l : Fin 128) :
    k0_pay26 g u v w (ix2 r l) = one g 6 14 22 u v w r l := by
  unfold k0_pay26 one
  pointwise

theorem g1_at (g : Vec Ideal S256x128 .f32) (r : Fin 256) (l : Fin 128) : k0_pay2 g (ix2 r l) = g (ix2 r l) := by
  unfold k0_pay2
  pointwise

theorem g2_at (g : Vec Ideal S256x128 .f32) (r : Fin 256) (l : Fin 128) : k0_pay17 g (ix2 r l) = g (ix2 r l) := by
  unfold k0_pay17
  pointwise

end Cert.Kernel4Ideal.Out
end
end
-- ==== Proof.Out.Block.lean ====
/- What the body of the output projection writes to a block of the result, from the blocks it reads. -/
module

public import proofs.«01_k».proof.Proof.Out.Ideal

@[expose] public section
set_option maxRecDepth 16384
noncomputable section
namespace Cert.Kernel4Ideal.Out
open Cert.Kernel4Ideal Cert.Kernel4Ideal.Gen Cert.Line Idealize.ShloMosaic Idealize.ShloMosaic.TcCoe Idealize.SL.Sem

/-- A load of 256 rows and one head's columns. -/
theorem ld_head (X : Vec Ideal S512x1024 .f32) (o p : ℕ) (inb : ∀ a, (![o, p] : Fin 2 → ℕ) a + S256x128.size a ≤ S512x1024.size a)
    (r : Fin 256) (l : Fin 128) (R : Fin 512) (k : Fin 1024) (hR : R.val = o + r.val) (hk : k.val = p + l.val) :
    View.ld X (Rect.unit (s := S512x1024) ![o, p] S256x128.size inb) (ix2 r l) = X (ix2 R k) := by
  refine View.ld_unit_apply_of X _ _ inb (ix2 r l) (ix2 R k) fun a => ?_
  fin_cases a
  exacts [hR, hk]

/-- A load of 256 rows of the gates. -/
theorem ld_gate (X : Vec Ideal S512x128 .f32) (o : ℕ) (inb : ∀ a, (![o, 0] : Fin 2 → ℕ) a + S256x128.size a ≤ S512x128.size a)
    (r : Fin 256) (l : Fin 128) (R : Fin 512) (hR : R.val = o + r.val) :
    View.ld X (Rect.unit (s := S512x128) ![o, 0] S256x128.size inb) (ix2 r l) = X (ix2 R l) := by
  refine View.ld_unit_apply_of X _ _ inb (ix2 r l) (ix2 R l) fun a => ?_
  fin_cases a
  exacts [hR, (Nat.zero_add _).symm]

/-- A load of 256 rows of the heads of the other group. -/
theorem ld_fox (X : Vec Ideal S512x1024 .f32) (o : ℕ) (inb : ∀ a, (![o, 0] : Fin 2 → ℕ) a + S256x1024.size a ≤ S512x1024.size a)
    (r : Fin 256) (k : Fin 1024) (R : Fin 512) (hR : R.val = o + r.val) :
    View.ld X (Rect.unit (s := S512x1024) ![o, 0] S256x1024.size inb) (ix2 r k) = X (ix2 R k) := by
  refine View.ld_unit_apply_of X _ _ inb (ix2 r k) (ix2 R k) fun a => ?_
  fin_cases a
  exacts [hR, (Nat.zero_add _).symm]

/-- A load of 256 rows of the residual. -/
theorem ld_res (X : Vec Ideal S512x2048 .f32) (o : ℕ) (inb : ∀ a, (![o, 0] : Fin 2 → ℕ) a + S256x2048.size a ≤ S512x2048.size a)
    (r : Fin 256) (d : Fin 2048) (R : Fin 512) (hR : R.val = o + r.val) :
    View.ld X (Rect.unit (s := S512x2048) ![o, 0] S256x2048.size inb) (ix2 r d) = X (ix2 R d) := by
  refine View.ld_unit_apply_of X _ _ inb (ix2 r d) (ix2 R d) fun a => ?_
  fin_cases a
  exacts [hR, (Nat.zero_add _).symm]

/-- A load of a whole row of gains. -/
theorem ld_gain (X : Vec Ideal S1x1024 .f32) (k : Fin 1024) : View.ld X r0_9 (ix2 (0 : Fin 1) k) = X (ix2 (0 : Fin 1) k) := by
  refine View.ld_unit_apply_of X _ _ _ (ix2 (0 : Fin 1) k) (ix2 (0 : Fin 1) k) fun a => ?_
  fin_cases a
  exacts [(Nat.zero_add _).symm, (Nat.zero_add _).symm]

/-- A load of the whole weights. -/
theorem ld_w (X : Vec Ideal S2048x2048 .bf16) (k d : Fin 2048) : View.ld X r0_12 (ix2 k d) = X (ix2 k d) := by
  refine View.ld_unit_apply_of X _ _ _ (ix2 k d) (ix2 k d) fun a => ?_
  fin_cases a
  exacts [(Nat.zero_add _).symm, (Nat.zero_add _).symm]

/-- The gate of branch `b` and head `h` in the gates' row `R`. -/
def gates (x5 : Vec Ideal S512x128 .f32) (R : Fin 512) (b : Fin 3) (h : Fin 8) : EReal :=
  x5 (ix2 R ⟨8 * b.val + h.val, by have := b.isLt; have := h.isLt; omega⟩)

/-- The gated heads of row `R`. -/
def nsa (x1 x2 x3 : Vec Ideal S512x1024 .f32) (x5 : Vec Ideal S512x128 .f32) (R : Fin 512) : Fin 1024 → EReal :=
  gated (gates x5 R) (fun k => x1 (ix2 R k)) (fun k => x2 (ix2 R k)) (fun k => x3 (ix2 R k))

/-- One head's gated sum is its columns of the gated row. -/
theorem piece (x1 x2 x3 : Vec Ideal S512x1024 .f32) (x5 : Vec Ideal S512x128 .f32) (R : Fin 512) (r : Fin 256) (l : Fin 128) (k : Fin 1024)
    (g u v w : Vec Ideal S256x128 .f32) (a b c : Fin 128) (h : ℕ) (hk : k.val = 128 * h + l.val)
    (ha : a.val = h) (hb : b.val = 8 + h) (hc : c.val = 16 + h) (hg : ∀ l, g (ix2 r l) = x5 (ix2 R l))
    (hu : u (ix2 r l) = x1 (ix2 R k)) (hv : v (ix2 r l) = x2 (ix2 R k)) (hw : w (ix2 r l) = x3 (ix2 R k)) :
    one g a b c u v w r l = nsa x1 x2 x3 x5 R k := by
  have hl := l.isLt
  have e : k.val / 128 = h := by omega
  unfold one nsa gated gates
  rw [hg, hg, hg, hu, hv, hw]
  have ea : a = ⟨8 * (0 : Fin 3).val + (head k).val, by have := (head k).isLt; show 8 * 0 + _ < _; omega⟩ :=
    Fin.ext (by show a.val = 8 * 0 + k.val / 128; omega)
  have eb : b = ⟨8 * (1 : Fin 3).val + (head k).val, by have := (head k).isLt; show 8 * 1 + _ < _; omega⟩ :=
    Fin.ext (by show b.val = 8 * 1 + k.val / 128; omega)
  have ec : c = ⟨8 * (2 : Fin 3).val + (head k).val, by have := (head k).isLt; show 8 * 2 + _ < _; omega⟩ :=
    Fin.ext (by show c.val = 8 * 2 + k.val / 128; omega)
  rw [ea, eb, ec]

/-- What row `R` of the block is to hold. -/
def want (x0 : Vec Ideal S512x2048 .f32) (x1 x2 x3 x4 : Vec Ideal S512x1024 .f32) (x5 : Vec Ideal S512x128 .f32) (x6 x7 : Vec Ideal S1x1024 .f32)
    (x8 : Vec Ideal S2048x2048 .bf16) (R : Fin 512) (d : Fin 2048) : EReal :=
  line (x0 (ix2 R d)) (rms (nsa x1 x2 x3 x5 R) (fun k => x6 (ix2 (0 : Fin 1) k)))
    (rms (fun k => x4 (ix2 R k)) (fun k => x7 (ix2 (0 : Fin 1) k))) (fun k => x8 (ix2 k d))

variable (x0 : Vec Ideal S512x2048 .f32) (x1 x2 x3 x4 : Vec Ideal S512x1024 .f32) (x5 : Vec Ideal S512x128 .f32) (x6 x7 : Vec Ideal S1x1024 .f32)
  (x8 : Vec Ideal S2048x2048 .bf16)

/-- The gated heads of the first half. -/
theorem heads1 (R : Fin 512) (r : Fin 256) (hR : R.val = 0 + r.val) (k : Fin 1024) :
    cat (k0_pay3 (View.ld x5 r0_0) (View.ld x1 r0_1) (View.ld x2 r0_1) (View.ld x3 r0_1)) (k0_pay4 (View.ld x5 r0_0) (View.ld x1 r0_2) (View.ld x2 r0_2) (View.ld x3 r0_2)) (k0_pay7 (k0_pay31 x0 x1 x2 x3 x4 x5 x6 x7 x8) (k0_pay5 (View.ld x5 r0_0) (View.ld x1 r0_3)) (k0_pay6 (View.ld x5 r0_0)) (View.ld x2 r0_3) (View.ld x3 r0_3)) (k0_pay8 (k0_pay31 x0 x1 x2 x3 x4 x5 x6 x7 x8) (View.ld x1 r0_4) (View.ld x2 r0_4) (View.ld x3 r0_4)) (k0_pay9 (k0_pay31 x0 x1 x2 x3 x4 x5 x6 x7 x8) (View.ld x1 r0_5) (View.ld x2 r0_5) (View.ld x3 r0_5)) (k0_pay10 (k0_pay31 x0 x1 x2 x3 x4 x5 x6 x7 x8) (View.ld x1 r0_6) (View.ld x2 r0_6) (View.ld x3 r0_6)) (k0_pay11 (k0_pay31 x0 x1 x2 x3 x4 x5 x6 x7 x8) (View.ld x1 r0_7) (View.ld x2 r0_7) (View.ld x3 r0_7))
      (tail1 (k0_pay31 x0 x1 x2 x3 x4 x5 x6 x7 x8) (k0_pay12 (k0_pay31 x0 x1 x2 x3 x4 x5 x6 x7 x8) (View.ld x1 r0_8)) (k0_pay13 (k0_pay31 x0 x1 x2 x3 x4 x5 x6 x7 x8) (View.ld x2 r0_8)) (View.ld x3 r0_8)) (ix2 r k) = nsa x1 x2 x3 x5 R k := by
  have hg : ∀ l, View.ld x5 r0_0 (ix2 r l) = x5 (ix2 R l) := fun l => ld_gate x5 0 _ r l R hR
  have hG : ∀ l, k0_pay31 x0 x1 x2 x3 x4 x5 x6 x7 x8 (ix2 r l) = x5 (ix2 R l) := fun l => (g1_at _ r l).trans (hg l)
  refine cat_at _ _ _ _ _ _ _ _ r _ ?_ ?_ ?_ ?_ ?_ ?_ ?_ ?_ k
  · exact fun l k hk => (a0_at _ _ _ _ r l).trans (piece x1 x2 x3 x5 R r l k _ _ _ _ 0 8 16 0 hk rfl rfl rfl hg
      (ld_head x1 0 0 _ r l R k hR hk) (ld_head x2 0 0 _ r l R k hR hk) (ld_head x3 0 0 _ r l R k hR hk))
  · exact fun l k hk => (a1_at _ _ _ _ r l).trans (piece x1 x2 x3 x5 R r l k _ _ _ _ 1 9 17 1 hk rfl rfl rfl hg
      (ld_head x1 0 128 _ r l R k hR hk) (ld_head x2 0 128 _ r l R k hR hk) (ld_head x3 0 128 _ r l R k hR hk))
  · exact fun l k hk => (a2_at _ _ _ _ r l).trans (piece x1 x2 x3 x5 R r l k _ _ _ _ 2 10 18 2 hk rfl rfl rfl hg
      (ld_head x1 0 256 _ r l R k hR hk) (ld_head x2 0 256 _ r l R k hR hk) (ld_head x3 0 256 _ r l R k hR hk))
  · exact fun l k hk => (a3_at _ _ _ _ r l).trans (piece x1 x2 x3 x5 R r l k _ _ _ _ 3 11 19 3 hk rfl rfl rfl hG
      (ld_head x1 0 384 _ r l R k hR hk) (ld_head x2 0 384 _ r l R k hR hk) (ld_head x3 0 384 _ r l R k hR hk))
  · exact fun l k hk => (a4_at _ _ _ _ r l).trans (piece x1 x2 x3 x5 R r l k _ _ _ _ 4 12 20 4 hk rfl rfl rfl hG
      (ld_head x1 0 512 _ r l R k hR hk) (ld_head x2 0 512 _ r l R k hR hk) (ld_head x3 0 512 _ r l R k hR hk))
  · exact fun l k hk => (a5_at _ _ _ _ r l).trans (piece x1 x2 x3 x5 R r l k _ _ _ _ 5 13 21 5 hk rfl rfl rfl hG
      (ld_head x1 0 640 _ r l R k hR hk) (ld_head x2 0 640 _ r l R k hR hk) (ld_head x3 0 640 _ r l R k hR hk))
  · exact fun l k hk => (a6_at _ _ _ _ r l).trans (piece x1 x2 x3 x5 R r l k _ _ _ _ 6 14 22 6 hk rfl rfl rfl hG
      (ld_head x1 0 768 _ r l R k hR hk) (ld_head x2 0 768 _ r l R k hR hk) (ld_head x3 0 768 _ r l R k hR hk))
  · exact fun l k hk => (tail1_at _ _ _ _ r l).trans (piece x1 x2 x3 x5 R r l k _ _ _ _ 7 15 23 7 hk rfl rfl rfl hG
      (ld_head x1 0 896 _ r l R k hR hk) (ld_head x2 0 896 _ r l R k hR hk) (ld_head x3 0 896 _ r l R k hR hk))

/-- The first half of the block. -/
theorem half1 (R : Fin 512) (r : Fin 256) (hR : R.val = 0 + r.val) (d : Fin 2048) :
    k0_pay16 (k0_pay14 (k0_pay31 x0 x1 x2 x3 x4 x5 x6 x7 x8) (k0_pay3 (View.ld x5 r0_0) (View.ld x1 r0_1) (View.ld x2 r0_1) (View.ld x3 r0_1)) (k0_pay4 (View.ld x5 r0_0) (View.ld x1 r0_2) (View.ld x2 r0_2) (View.ld x3 r0_2)) (k0_pay7 (k0_pay31 x0 x1 x2 x3 x4 x5 x6 x7 x8) (k0_pay5 (View.ld x5 r0_0) (View.ld x1 r0_3)) (k0_pay6 (View.ld x5 r0_0)) (View.ld x2 r0_3) (View.ld x3 r0_3)) (k0_pay8 (k0_pay31 x0 x1 x2 x3 x4 x5 x6 x7 x8) (View.ld x1 r0_4) (View.ld x2 r0_4) (View.ld x3 r0_4)) (k0_pay9 (k0_pay31 x0 x1 x2 x3 x4 x5 x6 x7 x8) (View.ld x1 r0_5) (View.ld x2 r0_5) (View.ld x3 r0_5)) (k0_pay10 (k0_pay31 x0 x1 x2 x3 x4 x5 x6 x7 x8) (View.ld x1 r0_6) (View.ld x2 r0_6) (View.ld x3 r0_6)) (k0_pay11 (k0_pay31 x0 x1 x2 x3 x4 x5 x6 x7 x8) (View.ld x1 r0_7) (View.ld x2 r0_7) (View.ld x3 r0_7)) (k0_pay12 (k0_pay31 x0 x1 x2 x3 x4 x5 x6 x7 x8) (View.ld x1 r0_8)) (k0_pay13 (k0_pay31 x0 x1 x2 x3 x4 x5 x6 x7 x8) (View.ld x2 r0_8)) (View.ld x3 r0_8) (View.ld x6 r0_9) (View.ld x4 r0_10) (View.ld x7 r0_9)) (k0_pay15 (View.ld x0 r0_11)) (View.ld x8 r0_12) (ix2 r d)
      = want x0 x1 x2 x3 x4 x5 x6 x7 x8 R d := by
  rw [pay14_eq, pay16_at]
  unfold want
  rw [ld_res x0 0 _ r d R hR]
  simp only [nrm_at, same_at, heads1 x0 x1 x2 x3 x4 x5 x6 x7 x8 R r hR, fun k => ld_fox x4 0 inb_S512x1024_S256x1024_0_0 r k R hR]
  exact congr (congr (congrArg _ (congrArg (rms _) (funext fun k => ld_gain x6 k))) (congrArg (rms _) (funext fun k => ld_gain x7 k)))
    (funext fun k => ld_w x8 k d)

/-- The gated heads of the second half. -/
theorem heads2 (R : Fin 512) (r : Fin 256) (hR : R.val = 256 + r.val) (k : Fin 1024) :
    cat (k0_pay18 (View.ld x5 r0_13) (View.ld x1 r0_14) (View.ld x2 r0_14) (View.ld x3 r0_14)) (k0_pay19 (View.ld x5 r0_13) (View.ld x1 r0_15) (View.ld x2 r0_15) (View.ld x3 r0_15)) (k0_pay21 (k0_pay32 x0 x1 x2 x3 x4 x5 x6 x7 x8) (k0_pay20 (View.ld x5 r0_13)) (View.ld x1 r0_16) (View.ld x2 r0_16) (View.ld x3 r0_16)) (k0_pay22 (k0_pay32 x0 x1 x2 x3 x4 x5 x6 x7 x8) (View.ld x1 r0_17) (View.ld x2 r0_17) (View.ld x3 r0_17)) (k0_pay24 (k0_pay32 x0 x1 x2 x3 x4 x5 x6 x7 x8) (k0_pay23 (k0_pay32 x0 x1 x2 x3 x4 x5 x6 x7 x8) (View.ld x1 r0_18) (View.ld x2 r0_18)) (View.ld x3 r0_18)) (k0_pay25 (k0_pay32 x0 x1 x2 x3 x4 x5 x6 x7 x8) (View.ld x1 r0_19) (View.ld x2 r0_19) (View.ld x3 r0_19)) (k0_pay26 (k0_pay32 x0 x1 x2 x3 x4 x5 x6 x7 x8) (View.ld x1 r0_20) (View.ld x2 r0_20) (View.ld x3 r0_20))
      (tail2 (k0_pay32 x0 x1 x2 x3 x4 x5 x6 x7 x8) (k0_pay27 (View.ld x1 r0_21)) (k0_pay28 (k0_pay32 x0 x1 x2 x3 x4 x5 x6 x7 x8)) (View.ld x2 r0_21) (View.ld x3 r0_21)) (ix2 r k) = nsa x1 x2 x3 x5 R k := by
  have hg : ∀ l, View.ld x5 r0_13 (ix2 r l) = x5 (ix2 R l) := fun l => ld_gate x5 256 _ r l R hR
  have hG : ∀ l, k0_pay32 x0 x1 x2 x3 x4 x5 x6 x7 x8 (ix2 r l) = x5 (ix2 R l) := fun l => (g2_at _ r l).trans (hg l)
  refine cat_at _ _ _ _ _ _ _ _ r _ ?_ ?_ ?_ ?_ ?_ ?_ ?_ ?_ k
  · exact fun l k hk => (b0_at _ _ _ _ r l).trans (piece x1 x2 x3 x5 R r l k _ _ _ _ 0 8 16 0 hk rfl rfl rfl hg
      (ld_head x1 256 0 _ r l R k hR hk) (ld_head x2 256 0 _ r l R k hR hk) (ld_head x3 256 0 _ r l R k hR hk))
  · exact fun l k hk => (b1_at _ _ _ _ r l).trans (piece x1 x2 x3 x5 R r l k _ _ _ _ 1 9 17 1 hk rfl rfl rfl hg
      (ld_head x1 256 128 _ r l R k hR hk) (ld_head x2 256 128 _ r l R k hR hk) (ld_head x3 256 128 _ r l R k hR hk))
  · exact fun l k hk => (b2_at _ _ _ _ r l).trans (piece x1 x2 x3 x5 R r l k _ _ _ _ 2 10 18 2 hk rfl rfl rfl hg
      (ld_head x1 256 256 _ r l R k hR hk) (ld_head x2 256 256 _ r l R k hR hk) (ld_head x3 256 256 _ r l R k hR hk))
  · exact fun l k hk => (b3_at _ _ _ _ r l).trans (piece x1 x2 x3 x5 R r l k _ _ _ _ 3 11 19 3 hk rfl rfl rfl hG
      (ld_head x1 256 384 _ r l R k hR hk) (ld_head x2 256 384 _ r l R k hR hk) (ld_head x3 256 384 _ r l R k hR hk))
  · exact fun l k hk => (b4_at _ _ _ _ r l).trans (piece x1 x2 x3 x5 R r l k _ _ _ _ 4 12 20 4 hk rfl rfl rfl hG
      (ld_head x1 256 512 _ r l R k hR hk) (ld_head x2 256 512 _ r l R k hR hk) (ld_head x3 256 512 _ r l R k hR hk))
  · exact fun l k hk => (b5_at _ _ _ _ r l).trans (piece x1 x2 x3 x5 R r l k _ _ _ _ 5 13 21 5 hk rfl rfl rfl hG
      (ld_head x1 256 640 _ r l R k hR hk) (ld_head x2 256 640 _ r l R k hR hk) (ld_head x3 256 640 _ r l R k hR hk))
  · exact fun l k hk => (b6_at _ _ _ _ r l).trans (piece x1 x2 x3 x5 R r l k _ _ _ _ 6 14 22 6 hk rfl rfl rfl hG
      (ld_head x1 256 768 _ r l R k hR hk) (ld_head x2 256 768 _ r l R k hR hk) (ld_head x3 256 768 _ r l R k hR hk))
  · exact fun l k hk => (tail2_at _ _ _ _ r l).trans (piece x1 x2 x3 x5 R r l k _ _ _ _ 7 15 23 7 hk rfl rfl rfl hG
      (ld_head x1 256 896 _ r l R k hR hk) (ld_head x2 256 896 _ r l R k hR hk) (ld_head x3 256 896 _ r l R k hR hk))

/-- The second half of the block. -/
theorem half2 (R : Fin 512) (r : Fin 256) (hR : R.val = 256 + r.val) (d : Fin 2048) :
    k0_pay1 (k0_pay29 (k0_pay32 x0 x1 x2 x3 x4 x5 x6 x7 x8) (k0_pay18 (View.ld x5 r0_13) (View.ld x1 r0_14) (View.ld x2 r0_14) (View.ld x3 r0_14)) (k0_pay19 (View.ld x5 r0_13) (View.ld x1 r0_15) (View.ld x2 r0_15) (View.ld x3 r0_15)) (k0_pay21 (k0_pay32 x0 x1 x2 x3 x4 x5 x6 x7 x8) (k0_pay20 (View.ld x5 r0_13)) (View.ld x1 r0_16) (View.ld x2 r0_16) (View.ld x3 r0_16)) (k0_pay22 (k0_pay32 x0 x1 x2 x3 x4 x5 x6 x7 x8) (View.ld x1 r0_17) (View.ld x2 r0_17) (View.ld x3 r0_17)) (k0_pay24 (k0_pay32 x0 x1 x2 x3 x4 x5 x6 x7 x8) (k0_pay23 (k0_pay32 x0 x1 x2 x3 x4 x5 x6 x7 x8) (View.ld x1 r0_18) (View.ld x2 r0_18)) (View.ld x3 r0_18)) (k0_pay25 (k0_pay32 x0 x1 x2 x3 x4 x5 x6 x7 x8) (View.ld x1 r0_19) (View.ld x2 r0_19) (View.ld x3 r0_19)) (k0_pay26 (k0_pay32 x0 x1 x2 x3 x4 x5 x6 x7 x8) (View.ld x1 r0_20) (View.ld x2 r0_20) (View.ld x3 r0_20)) (k0_pay27 (View.ld x1 r0_21)) (k0_pay28 (k0_pay32 x0 x1 x2 x3 x4 x5 x6 x7 x8)) (View.ld x2 r0_21) (View.ld x3 r0_21) (View.ld x6 r0_9)) (k0_pay30 (View.ld x4 r0_22) (View.ld x7 r0_9)) (View.ld x0 r0_23) (View.ld x8 r0_12) (ix2 r d)
      = want x0 x1 x2 x3 x4 x5 x6 x7 x8 R d := by
  rw [pay29_eq, pay30_eq, pay1_at]
  unfold want
  rw [ld_res x0 256 _ r d R hR]
  simp only [nrm_at, same_at, heads2 x0 x1 x2 x3 x4 x5 x6 x7 x8 R r hR, fun k => ld_fox x4 256 inb_S512x1024_S256x1024_256_0 r k R hR]
  exact congr (congr (congrArg _ (congrArg (rms _) (funext fun k => ld_gain x6 k))) (congrArg (rms _) (funext fun k => ld_gain x7 k)))
    (funext fun k => ld_w x8 k d)

/-- The block after the body. -/
theorem out_at (R : Fin 512) (d : Fin 2048) :
    out0_9 x0 x1 x2 x3 x4 x5 x6 x7 x8 (ix2 R d) = want x0 x1 x2 x3 x4 x5 x6 x7 x8 R d := by
  unfold out0_9
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · obtain ⟨r, e, rfl⟩ : ∃ (r : Fin 256) (e : Fin 2048), x = ix2 r e := ⟨x 0, x 1, by blk_ext⟩
    have h0 : R.val = 256 + r.val := hx 0
    have h1 : d.val = 0 + e.val := hx 1
    obtain rfl : d = e := Fin.ext (by omega)
    exact half2 x0 x1 x2 x3 x4 x5 x6 x7 x8 R r h0 d
  · obtain ⟨r, e, rfl⟩ : ∃ (r : Fin 256) (e : Fin 2048), x = ix2 r e := ⟨x 0, x 1, by blk_ext⟩
    have h0 : R.val = 0 + r.val := hx 0
    have h1 : d.val = 0 + e.val := hx 1
    obtain rfl : d = e := Fin.ext (by omega)
    exact half1 x0 x1 x2 x3 x4 x5 x6 x7 x8 R r h0 d

end Cert.Kernel4Ideal.Out
end
end
-- ==== Proof.Out.Array.lean ====
/- The operands' blocks at a grid point read from the arguments, and the output array of the output projection. -/
module

public import proofs.«01_k».proof.Proof.Out.Block
public import Idealize.ShloMosaic.Lib.Pipeline.Covers
public import Idealize.ShloMosaic.Lib.StableHlo.ReadAt

@[expose] public section
set_option maxRecDepth 16384
noncomputable section
namespace Cert.Kernel4Ideal.Out
open Cert.Kernel4Ideal Cert.Kernel4Ideal.Gen Cert.Line Idealize.ShloMosaic Idealize.ShloMosaic.TcCoe Idealize.SL.Sem
open Idealize.ShloMosaic.Pipeline (Dat)

/-! ## The specification -/

/-- The columns of one branch in the row of entry `a`, position `t`. -/
def branch (O : Vec Ideal S16x2048x2x4x128 .f32) (a : Fin 16) (t : Fin 2048) (k : Fin 1024) : EReal :=
  O (ix5 a t (pair (head k)) (rep (head k)) (lane k))

/-- The gated heads of one row. -/
def mixed (GT : Vec Ideal S16x2048x3x2x4 .f32) (OC OS OW : Vec Ideal S16x2048x2x4x128 .f32) (a : Fin 16) (t : Fin 2048) : Fin 1024 → EReal :=
  gated (fun b h => GT (ix5 a t b (pair h) (rep h))) (branch OC a t) (branch OS a t) (branch OW a t)

/-- Entry `d` of one row of the result. -/
def out (X : Vec Ideal S16x2048x2048 .f32) (GT : Vec Ideal S16x2048x3x2x4 .f32) (OC OS OW : Vec Ideal S16x2048x2x4x128 .f32)
    (OF : Vec Ideal S16x2048x1024 .f32) (GN GF : Vec Ideal S1024 .f32) (W : Vec Ideal S2048x2048 .f32) (a : Fin 16) (t d : Fin 2048) : EReal :=
  line (X (ix3 a t d)) (rms (mixed GT OC OS OW a t) (fun k => GN (ix1 k))) (rms (fun k => OF (ix3 a t k)) (fun k => GF (ix1 k)))
    (fun k => W (ix2 k d))

/-- The whole array, the rows of all entries one after the other. -/
def spec (X : Vec Ideal S16x2048x2048 .f32) (GT : Vec Ideal S16x2048x3x2x4 .f32) (OC OS OW : Vec Ideal S16x2048x2x4x128 .f32)
    (OF : Vec Ideal S16x2048x1024 .f32) (GN GF : Vec Ideal S1024 .f32) (W : Vec Ideal S2048x2048 .f32) : Vec Ideal S32768x2048 .f32 := fun i =>
  out X GT OC OS OW OF GN GF W ⟨(i 0).val / 2048, by have h : (i 0).val < 32768 := (i 0).isLt; omega⟩
    ⟨(i 0).val % 2048, Nat.mod_lt _ (by decide)⟩ (i 1)

theorem spec_at (X : Vec Ideal S16x2048x2048 .f32) (GT : Vec Ideal S16x2048x3x2x4 .f32) (OC OS OW : Vec Ideal S16x2048x2x4x128 .f32)
    (OF : Vec Ideal S16x2048x1024 .f32) (GN GF : Vec Ideal S1024 .f32) (W : Vec Ideal S2048x2048 .f32)
    (i : Fin 32768) (a : Fin 16) (t d : Fin 2048) (hi : i.val = 2048 * a.val + t.val) :
    spec X GT OC OS OW OF GN GF W (ix2 i d) = out X GT OC OS OW OF GN GF W a t d := by
  have ht := t.isLt
  exact congrArg₂ (fun x y => out X GT OC OS OW OF GN GF W x y d) (Fin.ext (by show i.val / 2048 = a.val; omega))
    (Fin.ext (by show i.val % 2048 = t.val; omega))

/-! ## The operands' blocks -/

variable (m : (ℓ : Loc nD τ sig) → Buf (Elt Ideal) ℓ)

theorem coords0 (t : Fin cfg0.N) : (grid0.coords t 0).val = t.val := by
  have ht : t.val < 64 := t.isLt
  rw [Pipeline.Grid.coords_val (S := 1) (B := 64) t 0 (by decide) (by decide)]
  omega

/-- The block each window is at, by the grid point. -/
theorem idx (t : Fin cfg0.N) :
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![t.val, 0] := by
  have ht : t.val < 64 := t.isLt
  have e0 : (BitVec.ofNat 32 (grid0.coords t 0).val).toNat = t.val := by
    rw [coords0 t, BitVec.toNat_ofNat]; omega
  refine ⟨?_, ?_, ?_, ?_, ?_, ?_, ?_, ?_, ?_, ?_⟩
  · show cc0_transform_0 (grid0.coords t) = _
    unfold cc0_transform_0; rw [← e0]; rfl
  · show cc0_transform_1 (grid0.coords t) = _
    unfold cc0_transform_1; rw [← e0]; rfl
  · show cc0_transform_2 (grid0.coords t) = _
    unfold cc0_transform_2; rw [← e0]; rfl
  · show cc0_transform_3 (grid0.coords t) = _
    unfold cc0_transform_3; rw [← e0]; rfl
  · show cc0_transform_4 (grid0.coords t) = _
    unfold cc0_transform_4; rw [← e0]; rfl
  · show cc0_transform_5 (grid0.coords t) = _
    unfold cc0_transform_5; rw [← e0]; rfl
  · show cc0_transform_6 (grid0.coords t) = _
    unfold cc0_transform_6; rfl
  · show cc0_transform_7 (grid0.coords t) = _
    unfold cc0_transform_7; rfl
  · show cc0_transform_8 (grid0.coords t) = _
    unfold cc0_transform_8; rfl
  · show cc0_transform_9 (grid0.coords t) = _
    unfold cc0_transform_9; rw [← e0]; rfl

/-- The nine arguments. -/
abbrev xA (c : Dev nD) : Vec Ideal S16x2048x2048 .f32 := m ((c : Thread nD τ).loc main_arg0)
abbrev tA (c : Dev nD) : Vec Ideal S16x2048x3x2x4 .f32 := m ((c : Thread nD τ).loc main_arg1)
abbrev cA (c : Dev nD) : Vec Ideal S16x2048x2x4x128 .f32 := m ((c : Thread nD τ).loc main_arg2)
abbrev sA (c : Dev nD) : Vec Ideal S16x2048x2x4x128 .f32 := m ((c : Thread nD τ).loc main_arg3)
abbrev wA (c : Dev nD) : Vec Ideal S16x2048x2x4x128 .f32 := m ((c : Thread nD τ).loc main_arg4)
abbrev fA (c : Dev nD) : Vec Ideal S16x2048x1024 .f32 := m ((c : Thread nD τ).loc main_arg5)
abbrev gnA (c : Dev nD) : Vec Ideal S1024 .f32 := m ((c : Thread nD τ).loc main_arg6)
abbrev gfA (c : Dev nD) : Vec Ideal S1024 .f32 := m ((c : Thread nD τ).loc main_arg7)
abbrev oA (c : Dev nD) : Vec Ideal S2048x2048 .f32 := m ((c : Thread nD τ).loc main_arg8)

theorem v2_at (c : Dev nD) (a : Fin 16) (b k : Fin 2048) (i : Fin 32768) (hi : i.val = 2048 * a.val + b.val) :
    V m c main_v2 (ix2 i k) = xA m c (ix3 a b k) := by
  unfold V xA
  unfold hostOps0 hostOps0_1 hostOps0_2
  simp only [List.flatten_cons, List.flatten_nil, List.cons_append, List.nil_append, List.append_nil]
  after_reads_at
  have hb := b.isLt
  have e1 : ∀ p, (⟨i.val / 2048, p⟩ : Fin 16) = a := fun p => Fin.ext (by simp; omega)
  have e2 : ∀ p, (⟨i.val % 2048, p⟩ : Fin 2048) = b := fun p => Fin.ext (by simp; omega)
  simp only [e1, e2]

theorem v3_at (c : Dev nD) (a : Fin 16) (b : Fin 2048) (k : Fin 1024) (i : Fin 32768) (hi : i.val = 2048 * a.val + b.val) :
    V m c main_v3 (ix2 i k) = branch (cA m c) a b k := by
  unfold V cA branch
  unfold hostOps0 hostOps0_1 hostOps0_2
  simp only [List.flatten_cons, List.flatten_nil, List.cons_append, List.nil_append, List.append_nil]
  after_reads_at
  have hb := b.isLt
  have e1 : ∀ p, (⟨i.val / 2048, p⟩ : Fin 16) = a := fun p => Fin.ext (by simp; omega)
  have e2 : ∀ p, (⟨i.val % 2048, p⟩ : Fin 2048) = b := fun p => Fin.ext (by simp; omega)
  have e3 : ∀ p, (⟨k.val / 512, p⟩ : Fin 2) = pair (head k) := fun p => Fin.ext (by show k.val / 512 = k.val / 128 / 4; omega)
  simp only [e1, e2, e3]
  rfl

theorem v4_at (c : Dev nD) (a : Fin 16) (b : Fin 2048) (k : Fin 1024) (i : Fin 32768) (hi : i.val = 2048 * a.val + b.val) :
    V m c main_v4 (ix2 i k) = branch (sA m c) a b k := by
  unfold V sA branch
  unfold hostOps0 hostOps0_1 hostOps0_2
  simp only [List.flatten_cons, List.flatten_nil, List.cons_append, List.nil_append, List.append_nil]
  after_reads_at
  have hb := b.isLt
  have e1 : ∀ p, (⟨i.val / 2048, p⟩ : Fin 16) = a := fun p => Fin.ext (by simp; omega)
  have e2 : ∀ p, (⟨i.val % 2048, p⟩ : Fin 2048) = b := fun p => Fin.ext (by simp; omega)
  have e3 : ∀ p, (⟨k.val / 512, p⟩ : Fin 2) = pair (head k) := fun p => Fin.ext (by show k.val / 512 = k.val / 128 / 4; omega)
  simp only [e1, e2, e3]
  rfl

theorem v5_at (c : Dev nD) (a : Fin 16) (b : Fin 2048) (k : Fin 1024) (i : Fin 32768) (hi : i.val = 2048 * a.val + b.val) :
    V m c main_v5 (ix2 i k) = branch (wA m c) a b k := by
  unfold V wA branch
  unfold hostOps0 hostOps0_1 hostOps0_2
  simp only [List.flatten_cons, List.flatten_nil, List.cons_append, List.nil_append, List.append_nil]
  after_reads_at
  have hb := b.isLt
  have e1 : ∀ p, (⟨i.val / 2048, p⟩ : Fin 16) = a := fun p => Fin.ext (by simp; omega)
  have e2 : ∀ p, (⟨i.val % 2048, p⟩ : Fin 2048) = b := fun p => Fin.ext (by simp; omega)
  have e3 : ∀ p, (⟨k.val / 512, p⟩ : Fin 2) = pair (head k) := fun p => Fin.ext (by show k.val / 512 = k.val / 128 / 4; omega)
  simp only [e1, e2, e3]
  rfl

theorem v6_at (c : Dev nD) (a : Fin 16) (b : Fin 2048) (k : Fin 1024) (i : Fin 32768) (hi : i.val = 2048 * a.val + b.val) :
    V m c main_v6 (ix2 i k) = fA m c (ix3 a b k) := by
  unfold V fA
  unfold hostOps0 hostOps0_1 hostOps0_2
  simp only [List.flatten_cons, List.flatten_nil, List.cons_append, List.nil_append, List.append_nil]
  after_reads_at
  have hb := b.isLt
  have e1 : ∀ p, (⟨i.val / 2048, p⟩ : Fin 16) = a := fun p => Fin.ext (by simp; omega)
  have e2 : ∀ p, (⟨i.val % 2048, p⟩ : Fin 2048) = b := fun p => Fin.ext (by simp; omega)
  simp only [e1, e2]

theorem v1_at (c : Dev nD) (a : Fin 16) (b : Fin 2048) (n : Fin 3) (h : Fin 8) (l : Fin 128) (i : Fin 32768)
    (hi : i.val = 2048 * a.val + b.val) (hl : l.val = 8 * n.val + h.val) :
    V m c main_v1 (ix2 i l) = tA m c (ix5 a b n (pair h) (rep h)) := by
  unfold V tA
  unfold hostOps0 hostOps0_1 hostOps0_2
  simp only [List.flatten_cons, List.flatten_nil, List.cons_append, List.nil_append, List.append_nil]
  after_reads_at
  have hb := b.isLt
  have e1 : ∀ p, (⟨i.val / 2048, p⟩ : Fin 16) = a := fun p => Fin.ext (by simp; omega)
  have e2 : ∀ p, (⟨i.val % 2048, p⟩ : Fin 2048) = b := fun p => Fin.ext (by simp; omega)
  have hn := n.isLt
  have hh := h.isLt
  have e3 : ∀ p, (⟨l.val / 8, p⟩ : Fin 3) = n := fun p => Fin.ext (by simp; omega)
  have e4 : ∀ p, (⟨l.val / 4 % 2, p⟩ : Fin 2) = pair h := fun p => Fin.ext (by show l.val / 4 % 2 = h.val / 4; omega)
  have e5 : ∀ p, (⟨l.val % 4, p⟩ : Fin 4) = rep h := fun p => Fin.ext (by show l.val % 4 = h.val % 4; omega)
  rw [dif_pos (by omega)]
  simp only [e1, e2, e3, e4, e5]

theorem v7_at (c : Dev nD) (k d : Fin 2048) : V m c main_v7 (ix2 k d) = oA m c (ix2 k d) := by
  unfold V oA
  unfold hostOps0 hostOps0_1 hostOps0_2
  simp only [List.flatten_cons, List.flatten_nil, List.cons_append, List.nil_append, List.append_nil]
  after_reads_at

theorem v8_at (c : Dev nD) (k : Fin 1024) : V m c main_v8 (ix2 (0 : Fin 1) k) = gnA m c (ix1 k) := by
  unfold V gnA
  unfold hostOps0 hostOps0_1 hostOps0_2
  simp only [List.flatten_cons, List.flatten_nil, List.cons_append, List.nil_append, List.append_nil]
  after_reads_at

theorem v9_at (c : Dev nD) (k : Fin 1024) : V m c main_v9 (ix2 (0 : Fin 1) k) = gfA m c (ix1 k) := by
  unfold V gfA
  unfold hostOps0 hostOps0_1 hostOps0_2
  simp only [List.flatten_cons, List.flatten_nil, List.cons_append, List.nil_append, List.append_nil]
  after_reads_at

section Blocks
variable (c : Dev nD) (t : Fin cfg0.N) (r : Fin 512) (a : Fin 16) (b : Fin 2048) (h : 512 * t.val + r.val = 2048 * a.val + b.val)
include h

theorem i0 (k : Fin 2048) : iblk m c 0 t (ix2 r k) = xA m c (ix3 a b k) := by
  have ht : t.val < 64 := t.isLt
  have hr := r.isLt
  rw [← v2_at m c a b k ⟨512 * t.val + r.val, by omega⟩ h]
  blk_simp [iblk]
  refine congrArg (V m c main_v2) ?_
  blk_ext [idx t]

theorem i1 (k : Fin 1024) : iblk m c 1 t (ix2 r k) = branch (cA m c) a b k := by
  have ht : t.val < 64 := t.isLt
  have hr := r.isLt
  rw [← v3_at m c a b k ⟨512 * t.val + r.val, by omega⟩ h]
  blk_simp [iblk]
  refine congrArg (V m c main_v3) ?_
  blk_ext [idx t]

theorem i2 (k : Fin 1024) : iblk m c 2 t (ix2 r k) = branch (sA m c) a b k := by
  have ht : t.val < 64 := t.isLt
  have hr := r.isLt
  rw [← v4_at m c a b k ⟨512 * t.val + r.val, by omega⟩ h]
  blk_simp [iblk]
  refine congrArg (V m c main_v4) ?_
  blk_ext [idx t]

theorem i3 (k : Fin 1024) : iblk m c 3 t (ix2 r k) = branch (wA m c) a b k := by
  have ht : t.val < 64 := t.isLt
  have hr := r.isLt
  rw [← v5_at m c a b k ⟨512 * t.val + r.val, by omega⟩ h]
  blk_simp [iblk]
  refine congrArg (V m c main_v5) ?_
  blk_ext [idx t]

theorem i4 (k : Fin 1024) : iblk m c 4 t (ix2 r k) = fA m c (ix3 a b k) := by
  have ht : t.val < 64 := t.isLt
  have hr := r.isLt
  rw [← v6_at m c a b k ⟨512 * t.val + r.val, by omega⟩ h]
  blk_simp [iblk]
  refine congrArg (V m c main_v6) ?_
  blk_ext [idx t]

theorem i5 (n : Fin 3) (e : Fin 8) (l : Fin 128) (hl : l.val = 8 * n.val + e.val) :
    iblk m c 5 t (ix2 r l) = tA m c (ix5 a b n (pair e) (rep e)) := by
  have ht : t.val < 64 := t.isLt
  have hr := r.isLt
  rw [← v1_at m c a b n e l ⟨512 * t.val + r.val, by omega⟩ h hl]
  blk_simp [iblk]
  refine congrArg (V m c main_v1) ?_
  blk_ext [idx t]

end Blocks

theorem i6 (c : Dev nD) (t : Fin cfg0.N) (k : Fin 1024) : iblk m c 6 t (ix2 (0 : Fin 1) k) = gnA m c (ix1 k) := by
  rw [← v8_at m c k]
  blk_simp [iblk]
  refine congrArg (V m c main_v8) ?_
  blk_ext [idx t]

theorem i7 (c : Dev nD) (t : Fin cfg0.N) (k : Fin 1024) : iblk m c 7 t (ix2 (0 : Fin 1) k) = gfA m c (ix1 k) := by
  rw [← v9_at m c k]
  blk_simp [iblk]
  refine congrArg (V m c main_v9) ?_
  blk_ext [idx t]

theorem i8 (c : Dev nD) (t : Fin cfg0.N) (k d : Fin 2048) : iblk m c 8 t (ix2 k d) = oA m c (ix2 k d) := by
  rw [← v7_at m c k d]
  blk_simp [iblk]
  refine congrArg (V m c main_v7) ?_
  blk_ext [idx t]

/-- What a grid point writes. -/
theorem point (c : Dev nD) (t : Fin cfg0.N) (r : Fin 512) (d : Fin 2048) (a : Fin 16) (b : Fin 2048)
    (h : 512 * t.val + r.val = 2048 * a.val + b.val) :
    want (iblk m c 0 t) (iblk m c 1 t) (iblk m c 2 t) (iblk m c 3 t) (iblk m c 4 t) (iblk m c 5 t) (iblk m c 6 t) (iblk m c 7 t) (iblk m c 8 t) r d
      = out (xA m c) (tA m c) (cA m c) (sA m c) (wA m c) (fA m c) (gnA m c) (gfA m c) (oA m c) a b d := by
  have eg : gates (iblk m c 5 t) r = fun n e => tA m c (ix5 a b n (pair e) (rep e)) :=
    funext fun n => funext fun e => i5 m c t r a b h n e _ rfl
  unfold want out nsa mixed
  rw [eg, i0 m c t r a b h d]
  refine congr (congr (congrArg _ ?_) ?_) (funext fun k => i8 m c t k d)
  · exact congrArg₂ rms (congr (congr (congrArg _ (funext (i1 m c t r a b h))) (funext (i2 m c t r a b h))) (funext (i3 m c t r a b h)))
      (funext (i6 m c t))
  · exact congrArg₂ rms (funext (i4 m c t r a b h)) (funext (i7 m c t))

/-! ## The output array -/

/-- The output's blocks cover its array. -/
theorem covers : (cfg0.win 9).Covers :=
  (cfg0.win 9).covers_of_indexMap_surj rfl (by decide) fun β => by
    have b0 : (β 0).val < 64 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 9).indexMap i = cc0_transform_9 i from fun _ => rfl]
      unfold cc0_transform_9
      fin_cases a
      · exact (BitVec.toNat_ofNat _ _).trans (Nat.mod_eq_of_lt (by show (β 0).val < _; omega))
      · show _ = (β 1).val
        rw [show (β 1).val = 0 by omega]
        rfl

/-- The output array, as one function of the nine arguments. -/
theorem array (c : Dev nD) :
    (dats m 0 c).arrAt 9 cfg0.N = spec (xA m c) (tA m c) (cA m c) (sA m c) (wA m c) (fA m c) (gnA m c) (gfA m c) (oA m c) := by
  refine (dats m 0 c).arrAt_eq_of_covers 9 _ covers fun t hfl y => ?_
  blk_simp
  rw [after0_9]
  have ht : t.val < 64 := t.isLt
  obtain ⟨r, d, rfl⟩ : ∃ (r : Fin 512) (d : Fin 2048), y = ix2 r d := ⟨y 0, y 1, by blk_ext⟩
  have hr := r.isLt
  refine (out_at _ _ _ _ _ _ _ _ _ r d).trans ?_
  refine (point m c t r d ⟨(512 * t.val + r.val) / 2048, by omega⟩ ⟨(512 * t.val + r.val) % 2048, Nat.mod_lt _ (by decide)⟩
    (Nat.div_add_mod _ _).symm).trans ?_
  rw [← spec_at _ _ _ _ _ _ _ _ _ ⟨512 * t.val + r.val, by omega⟩ _ _ _ (Nat.div_add_mod _ _).symm]
  refine congrArg (spec (xA m c) (tA m c) (cA m c) (sA m c) (wA m c) (fA m c) (gnA m c) (gfA m c) (oA m c)) ?_
  blk_ext [idx t]

end Cert.Kernel4Ideal.Out
end
end
-- ==== Proof.Out.Equation.lean ====
/- The reference's result is the specification of the kernel's output array. -/
module

public import proofs.«01_k».proof.Proof.Out.Ref
public import proofs.«01_k».proof.Proof.Out.Array

@[expose] public section
noncomputable section
namespace Cert.Reference4Ideal.Out
open Cert.Line Idealize.ShloMosaic Idealize.ShloMosaic.TcCoe

theorem ref_spec (X : Vec Ideal Cert.Reference4Ideal.S16x2048x2048 .f32) (GT : Vec Ideal Cert.Reference4Ideal.S16x2048x3x2x4 .f32)
    (OC OS OW : Vec Ideal Cert.Reference4Ideal.S16x2048x2x4x128 .f32) (OF : Vec Ideal Cert.Reference4Ideal.S16x2048x1024 .f32)
    (GN GF : Vec Ideal Cert.Reference4Ideal.S1024 .f32) (W : Vec Ideal Cert.Reference4Ideal.S2048x2048 .f32) :
    gFlat (gOut X (gNorm (gNsa GT OC OS OW) GN) (gNorm OF GF) W) = Cert.Kernel4Ideal.Out.spec X GT OC OS OW OF GN GF W := by
  funext y
  obtain ⟨i, k, rfl⟩ : ∃ (i : Fin 32768) (k : Fin 2048), y = ix2 i k := ⟨y 0, y 1, by blk_ext⟩
  have hi := i.isLt
  rw [gFlat_at _ ⟨i.val / 2048, by omega⟩ ⟨i.val % 2048, Nat.mod_lt _ (by decide)⟩ k i (Nat.div_add_mod _ _).symm, gOut_at,
    Cert.Kernel4Ideal.Out.spec_at _ _ _ _ _ _ _ _ _ i ⟨i.val / 2048, by omega⟩ ⟨i.val % 2048, Nat.mod_lt _ (by decide)⟩ k (Nat.div_add_mod _ _).symm]
  simp only [gNorm_at, gNsa_at]
  rfl

end Cert.Reference4Ideal.Out
end
end
-- ==== Proof.Out.Claims.lean ====
/- The claims about the output projection, one theorem each. -/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Out.Equation
public import Idealize.ShloMosaic.Lib.Quiescent

@[expose] public section
noncomputable section
namespace Cert.Proof.Out
open Idealize.ShloMosaic Idealize.ShloMosaic.TcCoe Idealize.SL.Sem

/-- The kernel as written runs, keeps its arguments and ends with every counter at zero. -/
theorem frame_p : Cert.quiescent_Kernel4 (hKernel4 := Cert.Kernel4.Gen.facts) := fun m ρ _ => Cert.Kernel4.Gen.frame m ρ

/-- So does its idealization. -/
theorem frame_pi : Cert.quiescent_Kernel4Ideal (hKernel4Ideal := Cert.Kernel4Ideal.Gen.facts) :=
  fun m ρ _ => Cert.Kernel4Ideal.Gen.frame m ρ

/-- The reference runs and keeps its arguments; it declares no semaphore. -/
theorem frame_r : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Nothing was rewritten between the kernel and its idealization. -/
theorem preserves : Cert.preserves_Kernel4_Kernel4Ideal := trivial

/-- Kernel and reference end with the same array: the one `spec` writes out. -/
theorem algebraic : Cert.algebraic_Kernel4Ideal_Reference4Ideal (hKernel4Ideal := Cert.Kernel4Ideal.Gen.facts)
    (hReference4Ideal := Cert.Reference4Ideal.Gen.facts) := by
  intro m g m' g' _ harg
  refine ⟨fun c => Cert.Kernel4Ideal.Out.spec (Cert.Kernel4Ideal.Out.xA m c) (Cert.Kernel4Ideal.Out.tA m c) (Cert.Kernel4Ideal.Out.cA m c) (Cert.Kernel4Ideal.Out.sA m c)
    (Cert.Kernel4Ideal.Out.wA m c) (Cert.Kernel4Ideal.Out.fA m c) (Cert.Kernel4Ideal.Out.gnA m c) (Cert.Kernel4Ideal.Out.gfA m c)
    (Cert.Kernel4Ideal.Out.oA m c), ?_, ?_⟩
  · exact (θ_run Cert.Kernel4Ideal.defs _ _).mono
      (fun r h c => ⟨(h c).1.trans (Cert.Kernel4Ideal.Out.array m c), (h c).2⟩)
      (Cert.Kernel4Ideal.Value.run_blocks m g)
  · refine (θ_run Cert.Reference4Ideal.defs _ _).mono (fun r h c => ⟨(h c).1.trans ?_, (h c).2⟩)
      (Cert.Reference4Ideal.Value.run (F := Ideal) m' g')
    rw [Cert.Reference4Ideal.Out.res_eq, (harg c).1, (harg c).2.1, (harg c).2.2.1, (harg c).2.2.2.1, (harg c).2.2.2.2.1, (harg c).2.2.2.2.2.1, (harg c).2.2.2.2.2.2.1, (harg c).2.2.2.2.2.2.2.1, (harg c).2.2.2.2.2.2.2.2]
    exact Cert.Reference4Ideal.Out.ref_spec _ _ _ _ _ _ _ _ _

end Cert.Proof.Out
end
end
-- ==== Proof.Proj.RunIdeal.lean ====
/- The input projection's launch: the body as memory operations over named values, what it leaves in each
   output's buffer, and the run of the whole program. The three key/value outputs are stored through rectangles
   of stride 4 along the rows, so their cover is by the row's remainder modulo 4. -/
module

public import proofs.«01_k».proof.Proof.Gen.Kernel5Ideal.Frame
public import Idealize.ShloMosaic.Lib.Pipeline.ValueKit.Tiles
public import Idealize.ShloMosaic.Lib.Claim

@[expose] public section

set_option synthInstance.maxSize 4096
set_option maxRecDepth 16384

noncomputable section

namespace Cert.Kernel5Ideal.Proj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The values the body stores -/

/-- The normalised rows, cast to bf16: each row over the root of its mean square, times the gain. -/
def tile (v0 : Vec F S256x2048 .f32) (v12 : Vec F S1x2048 .f32) : FVec F S256x2048 .bf16 :=
  have v1 : FVec F S256x2048 .f32 := shapeCast S256x2048 v0 shapeCasts_S256x2048_S256x2048
  have v3 : FVec F S256 .f32 := multiReduction .add [1] S256 (mulf v1 v1) 0x00000000#32 reduces_S256x2048_S256 (.inl rfl) rfl
  have v6 : FVec F S256x1 .f32 := divf (shapeCast S256x1 v3 shapeCasts_S256_S256x1) (broadcast S256x1 (Scalar.ofBits .f32 0x45000000#32))
  have v9 : FVec F S256x1 .f32 := rsqrt (addf v6 (broadcast S256x1 (Scalar.ofBits .f32 0x358637BD#32)))
  have v11 : FVec F S256x2048 .f32 := mulf v1 (broadcastTo S256x2048 v9 broadcasts_S256x1_S256x2048)
  have v14 : FVec F S256x2048 .f32 := broadcastTo S256x2048 (shapeCast S1x2048 v12 shapeCasts_S1x2048_S1x2048) broadcasts_S1x2048_S256x2048
  truncf .bf16 (mulf v11 v14) bitsLt_bf16_f32

/-- The rows times 512 of the weight's columns. -/
def prod (h : FVec F S256x2048 .bf16) (w : Vec F S2048x512 .bf16) : FVec F S256x512 .f32 :=
  matmul dot_S256x2048_S2048x512_S256x512_1_0_0_1_n_n none h (shapeCast S2048x512 w shapeCasts_S2048x512_S2048x512) (constant S256x512 .f32 0x00000000#32)

/-- Lanes 0 to 127 of a product. -/
def lanes0 (p : FVec F S256x512 .f32) : FVec F S256x128 .f32 :=
  extractStridedSlice S256x128 ![0, 0] p slices_S256x512_o0_0_S256x128

/-- Lanes 128 to 255 of a product. -/
def lanes1 (p : FVec F S256x512 .f32) : FVec F S256x128 .f32 :=
  extractStridedSlice S256x128 ![0, 128] p slices_S256x512_o0_128_S256x128

/-- Lanes 256 to 383 of a product. -/
def lanes2 (p : FVec F S256x512 .f32) : FVec F S256x128 .f32 :=
  extractStridedSlice S256x128 ![0, 256] p slices_S256x512_o0_256_S256x128

/-- Lanes 384 to 511 of a product. -/
def lanes3 (p : FVec F S256x512 .f32) : FVec F S256x128 .f32 :=
  extractStridedSlice S256x128 ![0, 384] p slices_S256x512_o0_384_S256x128

/-- The gates' and the log forget rates' lanes: the sigmoid below lane 24, the log of the sigmoid above. -/
def small (h : FVec F S256x2048 .bf16) (w : Vec F S2048x128 .bf16) (b : Vec F S1x128 .f32) : FVec F S256x128 .f32 :=
  have v84 : FVec F S256x128 .f32 := matmul dot_S256x2048_S2048x128_S256x128_1_0_0_1_n_n none h (shapeCast S2048x128 w shapeCasts_S2048x128_S2048x128) (constant S256x128 .f32 0x00000000#32)
  have v88 : FVec F S256x128 .f32 := addf v84 (broadcastTo S256x128 (shapeCast S1x128 b shapeCasts_S1x128_S1x128) broadcasts_S1x128_S256x128)
  have v91 : FVec F S256x128 .f32 := minimumf v88 (broadcast S256x128 (Scalar.ofBits .f32 0x00000000#32))
  have v95 : FVec F S256x128 .f32 := exp (subf (broadcast S256x128 (Scalar.ofBits .f32 0x00000000#32)) (absf v88))
  have v97 : FVec F S256x128 .f32 := subf v91 (log1p v95)
  have v100 : FVec F S256x128 .f32 := exp (subf (broadcast S256x128 (Scalar.ofBits .f32 0x00000000#32)) v84)
  have v102 : FVec F S256x128 .f32 := addf (broadcast S256x128 (Scalar.ofBits .f32 0x3F800000#32)) v100
  have v104 : FVec F S256x128 .f32 := divf (broadcast S256x128 (Scalar.ofBits .f32 0x3F800000#32)) v102
  select (cmpi .slt (iota .tc S256x128 32 [1] iota_S256x128_d1_w32) (broadcast S256x128 24#32)) v104 v97

/-! ## The body over these values -/

def ops1 (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) :
    Prog (TpuEff nD τ sig (Elt F) Λ₀ .tc) (Σ' (v16 : FVec F S256x2048 .bf16) (v27 : FVec F S256x512 .f32), FVec F S256x128 .f32) := do
  let v0 : Vec F S256x2048 .f32 ← Prog.lift (.load arg1 (Rect.unit (s := S256x2048) ![0, 0] S256x2048.size inb_S256x2048_S256x2048_0_0).toLoadRect (View.loadsAt_vmem h_S256x2048))
  let v12 : Vec F S1x2048 .f32 ← Prog.lift (.load arg2 (Rect.unit (s := S1x2048) ![0, 0] S1x2048.size inb_S1x2048_S1x2048_0_0).toLoadRect (View.loadsAt_vmem h_S1x2048))
  let v17 : Vec F S2048x512 .bf16 ← Prog.lift (.load arg3 (Rect.unit (s := S2048x5632) ![0, 0] S2048x512.size inb_S2048x5632_S2048x512_0_0).toLoadRect (View.loadsAt_vmem h_S2048x512))
  let v20 : Vec F S256x512 .f32 ← Prog.lift (.load arg6 (Rect.unit (s := S256x1024) ![0, 0] S256x512.size inb_S256x1024_S256x512_0_0).toLoadRect (View.loadsAt_vmem h_S256x512))
  Prog.lift (.store arg6 (Rect.unit (s := S256x1024) ![0, 0] S256x512.size inb_S256x1024_S256x512_0_0) (prod (tile v0 v12) v17) Finset.univ (View.stores_vmem_bits_univ h_S256x512 rfl) (.inl rfl))
  let v21 : Vec F S2048x512 .bf16 ← Prog.lift (.load arg3 (Rect.unit (s := S2048x5632) ![0, 512] S2048x512.size inb_S2048x5632_S2048x512_0_512).toLoadRect (View.loadsAt_vmem h_S2048x512))
  let v24 : Vec F S256x512 .f32 ← Prog.lift (.load arg6 (Rect.unit (s := S256x1024) ![0, 512] S256x512.size inb_S256x1024_S256x512_0_512).toLoadRect (View.loadsAt_vmem h_S256x512))
  Prog.lift (.store arg6 (Rect.unit (s := S256x1024) ![0, 512] S256x512.size inb_S256x1024_S256x512_0_512) (prod (tile v0 v12) v21) Finset.univ (View.stores_vmem_bits_univ h_S256x512 rfl) (.inl rfl))
  let v25 : Vec F S2048x512 .bf16 ← Prog.lift (.load arg3 (Rect.unit (s := S2048x5632) ![0, 1024] S2048x512.size inb_S2048x5632_S2048x512_0_1024).toLoadRect (View.loadsAt_vmem h_S2048x512))
  let v29 : Vec F S256x128 .f32 ← Prog.lift (.load arg7 (⟨![0, 0], S256x128.size, ![4, 1], inb_S1024x128_S256x128_0_0_s_4_1⟩ : LoadRect S1024x128) (View.loadsAt_vmem h_S256x128))
  Prog.lift (.store arg7 ⟨(⟨![0, 0], S256x128.size, ![4, 1], inb_S1024x128_S256x128_0_0_s_4_1⟩ : LoadRect S1024x128), spos_4_1⟩ (lanes0 (prod (tile v0 v12) v25)) Finset.univ (View.stores_vmem_bits_univ h_S256x128 rfl) (.inl rfl))
  let v31 : Vec F S256x128 .f32 ← Prog.lift (.load arg7 (⟨![1, 0], S256x128.size, ![4, 1], inb_S1024x128_S256x128_1_0_s_4_1⟩ : LoadRect S1024x128) (View.loadsAt_vmem h_S256x128))
  pure ⟨(tile v0 v12), (prod (tile v0 v12) v25), (lanes1 (prod (tile v0 v12) v25))⟩

theorem ops1_eq : k0_part1 (F := F) = ops1 (F := F) := rfl

def ops2 (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) (v16 : FVec F S256x2048 .bf16) (v27 : FVec F S256x512 .f32) (v30 : FVec F S256x128 .f32) :
    Prog (TpuEff nD τ sig (Elt F) Λ₀ .tc) (FVec F S256x128 .f32) := do
  Prog.lift (.store arg7 ⟨(⟨![1, 0], S256x128.size, ![4, 1], inb_S1024x128_S256x128_1_0_s_4_1⟩ : LoadRect S1024x128), spos_4_1⟩ v30 Finset.univ (View.stores_vmem_bits_univ h_S256x128 rfl) (.inl rfl))
  let v33 : Vec F S256x128 .f32 ← Prog.lift (.load arg7 (⟨![2, 0], S256x128.size, ![4, 1], inb_S1024x128_S256x128_2_0_s_4_1⟩ : LoadRect S1024x128) (View.loadsAt_vmem h_S256x128))
  Prog.lift (.store arg7 ⟨(⟨![2, 0], S256x128.size, ![4, 1], inb_S1024x128_S256x128_2_0_s_4_1⟩ : LoadRect S1024x128), spos_4_1⟩ (lanes2 v27) Finset.univ (View.stores_vmem_bits_univ h_S256x128 rfl) (.inl rfl))
  let v35 : Vec F S256x128 .f32 ← Prog.lift (.load arg7 (⟨![3, 0], S256x128.size, ![4, 1], inb_S1024x128_S256x128_3_0_s_4_1⟩ : LoadRect S1024x128) (View.loadsAt_vmem h_S256x128))
  Prog.lift (.store arg7 ⟨(⟨![3, 0], S256x128.size, ![4, 1], inb_S1024x128_S256x128_3_0_s_4_1⟩ : LoadRect S1024x128), spos_4_1⟩ (lanes3 v27) Finset.univ (View.stores_vmem_bits_univ h_S256x128 rfl) (.inl rfl))
  let v36 : Vec F S2048x512 .bf16 ← Prog.lift (.load arg3 (Rect.unit (s := S2048x5632) ![0, 1536] S2048x512.size inb_S2048x5632_S2048x512_0_1536).toLoadRect (View.loadsAt_vmem h_S2048x512))
  let v40 : Vec F S256x128 .f32 ← Prog.lift (.load arg8 (⟨![0, 0], S256x128.size, ![4, 1], inb_S1024x128_S256x128_0_0_s_4_1⟩ : LoadRect S1024x128) (View.loadsAt_vmem h_S256x128))
  Prog.lift (.store arg8 ⟨(⟨![0, 0], S256x128.size, ![4, 1], inb_S1024x128_S256x128_0_0_s_4_1⟩ : LoadRect S1024x128), spos_4_1⟩ (lanes0 (prod v16 v36)) Finset.univ (View.stores_vmem_bits_univ h_S256x128 rfl) (.inl rfl))
  let v42 : Vec F S256x128 .f32 ← Prog.lift (.load arg8 (⟨![1, 0], S256x128.size, ![4, 1], inb_S1024x128_S256x128_1_0_s_4_1⟩ : LoadRect S1024x128) (View.loadsAt_vmem h_S256x128))
  Prog.lift (.store arg8 ⟨(⟨![1, 0], S256x128.size, ![4, 1], inb_S1024x128_S256x128_1_0_s_4_1⟩ : LoadRect S1024x128), spos_4_1⟩ (lanes1 (prod v16 v36)) Finset.univ (View.stores_vmem_bits_univ h_S256x128 rfl) (.inl rfl))
  let v44 : Vec F S256x128 .f32 ← Prog.lift (.load arg8 (⟨![2, 0], S256x128.size, ![4, 1], inb_S1024x128_S256x128_2_0_s_4_1⟩ : LoadRect S1024x128) (View.loadsAt_vmem h_S256x128))
  Prog.lift (.store arg8 ⟨(⟨![2, 0], S256x128.size, ![4, 1], inb_S1024x128_S256x128_2_0_s_4_1⟩ : LoadRect S1024x128), spos_4_1⟩ (lanes2 (prod v16 v36)) Finset.univ (View.stores_vmem_bits_univ h_S256x128 rfl) (.inl rfl))
  let v46 : Vec F S256x128 .f32 ← Prog.lift (.load arg8 (⟨![3, 0], S256x128.size, ![4, 1], inb_S1024x128_S256x128_3_0_s_4_1⟩ : LoadRect S1024x128) (View.loadsAt_vmem h_S256x128))
  Prog.lift (.store arg8 ⟨(⟨![3, 0], S256x128.size, ![4, 1], inb_S1024x128_S256x128_3_0_s_4_1⟩ : LoadRect S1024x128), spos_4_1⟩ (lanes3 (prod v16 v36)) Finset.univ (View.stores_vmem_bits_univ h_S256x128 rfl) (.inl rfl))
  let v47 : Vec F S2048x512 .bf16 ← Prog.lift (.load arg3 (Rect.unit (s := S2048x5632) ![0, 2048] S2048x512.size inb_S2048x5632_S2048x512_0_2048).toLoadRect (View.loadsAt_vmem h_S2048x512))
  let v51 : Vec F S256x128 .f32 ← Prog.lift (.load arg9 (⟨![0, 0], S256x128.size, ![4, 1], inb_S1024x128_S256x128_0_0_s_4_1⟩ : LoadRect S1024x128) (View.loadsAt_vmem h_S256x128))
  Prog.lift (.store arg9 ⟨(⟨![0, 0], S256x128.size, ![4, 1], inb_S1024x128_S256x128_0_0_s_4_1⟩ : LoadRect S1024x128), spos_4_1⟩ (lanes0 (prod v16 v47)) Finset.univ (View.stores_vmem_bits_univ h_S256x128 rfl) (.inl rfl))
  let v53 : Vec F S256x128 .f32 ← Prog.lift (.load arg9 (⟨![1, 0], S256x128.size, ![4, 1], inb_S1024x128_S256x128_1_0_s_4_1⟩ : LoadRect S1024x128) (View.loadsAt_vmem h_S256x128))
  Prog.lift (.store arg9 ⟨(⟨![1, 0], S256x128.size, ![4, 1], inb_S1024x128_S256x128_1_0_s_4_1⟩ : LoadRect S1024x128), spos_4_1⟩ (lanes1 (prod v16 v47)) Finset.univ (View.stores_vmem_bits_univ h_S256x128 rfl) (.inl rfl))
  let v55 : Vec F S256x128 .f32 ← Prog.lift (.load arg9 (⟨![2, 0], S256x128.size, ![4, 1], inb_S1024x128_S256x128_2_0_s_4_1⟩ : LoadRect S1024x128) (View.loadsAt_vmem h_S256x128))
  Prog.lift (.store arg9 ⟨(⟨![2, 0], S256x128.size, ![4, 1], inb_S1024x128_S256x128_2_0_s_4_1⟩ : LoadRect S1024x128), spos_4_1⟩ (lanes2 (prod v16 v47)) Finset.univ (View.stores_vmem_bits_univ h_S256x128 rfl) (.inl rfl))
  pure (lanes3 (prod v16 v47))

theorem ops2_eq : k0_part2 (F := F) = ops2 (F := F) := rfl

def ops3 (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) (v16 : FVec F S256x2048 .bf16) (v56 : FVec F S256x128 .f32) :
    Prog (TpuEff nD τ sig (Elt F) Λ₀ .tc) (FVec F S256x512 .f32) := do
  let v57 : Vec F S256x128 .f32 ← Prog.lift (.load arg9 (⟨![3, 0], S256x128.size, ![4, 1], inb_S1024x128_S256x128_3_0_s_4_1⟩ : LoadRect S1024x128) (View.loadsAt_vmem h_S256x128))
  Prog.lift (.store arg9 ⟨(⟨![3, 0], S256x128.size, ![4, 1], inb_S1024x128_S256x128_3_0_s_4_1⟩ : LoadRect S1024x128), spos_4_1⟩ v56 Finset.univ (View.stores_vmem_bits_univ h_S256x128 rfl) (.inl rfl))
  let v58 : Vec F S2048x512 .bf16 ← Prog.lift (.load arg3 (Rect.unit (s := S2048x5632) ![0, 2560] S2048x512.size inb_S2048x5632_S2048x512_0_2560).toLoadRect (View.loadsAt_vmem h_S2048x512))
  let v61 : Vec F S256x512 .f32 ← Prog.lift (.load arg10 (Rect.unit (s := S256x1024) ![0, 0] S256x512.size inb_S256x1024_S256x512_0_0).toLoadRect (View.loadsAt_vmem h_S256x512))
  Prog.lift (.store arg10 (Rect.unit (s := S256x1024) ![0, 0] S256x512.size inb_S256x1024_S256x512_0_0) (prod v16 v58) Finset.univ (View.stores_vmem_bits_univ h_S256x512 rfl) (.inl rfl))
  let v62 : Vec F S2048x512 .bf16 ← Prog.lift (.load arg3 (Rect.unit (s := S2048x5632) ![0, 3072] S2048x512.size inb_S2048x5632_S2048x512_0_3072).toLoadRect (View.loadsAt_vmem h_S2048x512))
  let v65 : Vec F S256x512 .f32 ← Prog.lift (.load arg10 (Rect.unit (s := S256x1024) ![0, 512] S256x512.size inb_S256x1024_S256x512_0_512).toLoadRect (View.loadsAt_vmem h_S256x512))
  Prog.lift (.store arg10 (Rect.unit (s := S256x1024) ![0, 512] S256x512.size inb_S256x1024_S256x512_0_512) (prod v16 v62) Finset.univ (View.stores_vmem_bits_univ h_S256x512 rfl) (.inl rfl))
  let v66 : Vec F S2048x512 .bf16 ← Prog.lift (.load arg3 (Rect.unit (s := S2048x5632) ![0, 3584] S2048x512.size inb_S2048x5632_S2048x512_0_3584).toLoadRect (View.loadsAt_vmem h_S2048x512))
  let v69 : Vec F S256x512 .f32 ← Prog.lift (.load arg11 (Rect.unit (s := S256x2048) ![0, 0] S256x512.size inb_S256x2048_S256x512_0_0).toLoadRect (View.loadsAt_vmem h_S256x512))
  Prog.lift (.store arg11 (Rect.unit (s := S256x2048) ![0, 0] S256x512.size inb_S256x2048_S256x512_0_0) (prod v16 v66) Finset.univ (View.stores_vmem_bits_univ h_S256x512 rfl) (.inl rfl))
  let v70 : Vec F S2048x512 .bf16 ← Prog.lift (.load arg3 (Rect.unit (s := S2048x5632) ![0, 4096] S2048x512.size inb_S2048x5632_S2048x512_0_4096).toLoadRect (View.loadsAt_vmem h_S2048x512))
  let v73 : Vec F S256x512 .f32 ← Prog.lift (.load arg11 (Rect.unit (s := S256x2048) ![0, 512] S256x512.size inb_S256x2048_S256x512_0_512).toLoadRect (View.loadsAt_vmem h_S256x512))
  Prog.lift (.store arg11 (Rect.unit (s := S256x2048) ![0, 512] S256x512.size inb_S256x2048_S256x512_0_512) (prod v16 v70) Finset.univ (View.stores_vmem_bits_univ h_S256x512 rfl) (.inl rfl))
  let v74 : Vec F S2048x512 .bf16 ← Prog.lift (.load arg3 (Rect.unit (s := S2048x5632) ![0, 4608] S2048x512.size inb_S2048x5632_S2048x512_0_4608).toLoadRect (View.loadsAt_vmem h_S2048x512))
  let v77 : Vec F S256x512 .f32 ← Prog.lift (.load arg11 (Rect.unit (s := S256x2048) ![0, 1024] S256x512.size inb_S256x2048_S256x512_0_1024).toLoadRect (View.loadsAt_vmem h_S256x512))
  Prog.lift (.store arg11 (Rect.unit (s := S256x2048) ![0, 1024] S256x512.size inb_S256x2048_S256x512_0_1024) (prod v16 v74) Finset.univ (View.stores_vmem_bits_univ h_S256x512 rfl) (.inl rfl))
  let v78 : Vec F S2048x512 .bf16 ← Prog.lift (.load arg3 (Rect.unit (s := S2048x5632) ![0, 5120] S2048x512.size inb_S2048x5632_S2048x512_0_5120).toLoadRect (View.loadsAt_vmem h_S2048x512))
  pure (prod v16 v78)

theorem ops3_eq : k0_part3 (F := F) = ops3 (F := F) := rfl

def ops (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) :
    Prog (TpuEff nD τ sig (Elt F) Λ₀ .tc) PUnit := do
  let ⟨v16, v27, v30⟩ : Σ' (v16 : FVec F S256x2048 .bf16) (v27 : FVec F S256x512 .f32), FVec F S256x128 .f32 ← k0_part1 i arg1 harg1 arg2 harg2 arg3 harg3 arg4 harg4 arg5 harg5 arg6 harg6 arg7 harg7 arg8 harg8 arg9 harg9 arg10 harg10 arg11 harg11 arg12 harg12
  let v56 : FVec F S256x128 .f32 ← k0_part2 i arg1 harg1 arg2 harg2 arg3 harg3 arg4 harg4 arg5 harg5 arg6 harg6 arg7 harg7 arg8 harg8 arg9 harg9 arg10 harg10 arg11 harg11 arg12 harg12 v16 v27 v30
  let v80 : FVec F S256x512 .f32 ← k0_part3 i arg1 harg1 arg2 harg2 arg3 harg3 arg4 harg4 arg5 harg5 arg6 harg6 arg7 harg7 arg8 harg8 arg9 harg9 arg10 harg10 arg11 harg11 arg12 harg12 v16 v56
  let v81 : Vec F S256x512 .f32 ← Prog.lift (.load arg11 (Rect.unit (s := S256x2048) ![0, 1536] S256x512.size inb_S256x2048_S256x512_0_1536).toLoadRect (View.loadsAt_vmem h_S256x512))
  Prog.lift (.store arg11 (Rect.unit (s := S256x2048) ![0, 1536] S256x512.size inb_S256x2048_S256x512_0_1536) v80 Finset.univ (View.stores_vmem_bits_univ h_S256x512 rfl) (.inl rfl))
  let v82 : Vec F S2048x128 .bf16 ← Prog.lift (.load arg4 (Rect.unit (s := S2048x128) ![0, 0] S2048x128.size inb_S2048x128_S2048x128_0_0).toLoadRect (View.loadsAt_vmem h_S2048x128))
  let v85 : Vec F S1x128 .f32 ← Prog.lift (.load arg5 (Rect.unit (s := S1x128) ![0, 0] S1x128.size inb_S1x128_S1x128_0_0).toLoadRect (View.loadsAt_vmem h_S1x128))
  let v108 : Vec F S256x128 .f32 ← Prog.lift (.load arg12 (Rect.unit (s := S256x128) ![0, 0] S256x128.size inb_S256x128_S256x128_0_0).toLoadRect (View.loadsAt_vmem h_S256x128))
  Prog.lift (.store arg12 (Rect.unit (s := S256x128) ![0, 0] S256x128.size inb_S256x128_S256x128_0_0) (small v16 v82 v85) Finset.univ (View.stores_vmem_bits_univ h_S256x128 rfl) (.inl rfl))
  pure ⟨⟩

theorem ops_eq : cc0_in_proj (F := F) = ops (F := F) := rfl

/-! ## What the body leaves in each output's buffer -/

/-- Columns `a` to `a + 511` of the weight's buffer; the whole of the other inputs'. -/

abbrev rw0 : Rect S2048x5632 := Rect.unit (s := S2048x5632) ![0, 0] S2048x512.size inb_S2048x5632_S2048x512_0_0
abbrev rw512 : Rect S2048x5632 := Rect.unit (s := S2048x5632) ![0, 512] S2048x512.size inb_S2048x5632_S2048x512_0_512
abbrev rw1024 : Rect S2048x5632 := Rect.unit (s := S2048x5632) ![0, 1024] S2048x512.size inb_S2048x5632_S2048x512_0_1024
abbrev rw1536 : Rect S2048x5632 := Rect.unit (s := S2048x5632) ![0, 1536] S2048x512.size inb_S2048x5632_S2048x512_0_1536
abbrev rw2048 : Rect S2048x5632 := Rect.unit (s := S2048x5632) ![0, 2048] S2048x512.size inb_S2048x5632_S2048x512_0_2048
abbrev rw2560 : Rect S2048x5632 := Rect.unit (s := S2048x5632) ![0, 2560] S2048x512.size inb_S2048x5632_S2048x512_0_2560
abbrev rw3072 : Rect S2048x5632 := Rect.unit (s := S2048x5632) ![0, 3072] S2048x512.size inb_S2048x5632_S2048x512_0_3072
abbrev rw3584 : Rect S2048x5632 := Rect.unit (s := S2048x5632) ![0, 3584] S2048x512.size inb_S2048x5632_S2048x512_0_3584
abbrev rw4096 : Rect S2048x5632 := Rect.unit (s := S2048x5632) ![0, 4096] S2048x512.size inb_S2048x5632_S2048x512_0_4096
abbrev rw4608 : Rect S2048x5632 := Rect.unit (s := S2048x5632) ![0, 4608] S2048x512.size inb_S2048x5632_S2048x512_0_4608
abbrev rw5120 : Rect S2048x5632 := Rect.unit (s := S2048x5632) ![0, 5120] S2048x512.size inb_S2048x5632_S2048x512_0_5120
abbrev rx : Rect S256x2048 := Rect.unit (s := S256x2048) ![0, 0] S256x2048.size inb_S256x2048_S256x2048_0_0
abbrev rg : Rect S1x2048 := Rect.unit (s := S1x2048) ![0, 0] S1x2048.size inb_S1x2048_S1x2048_0_0
abbrev rs : Rect S2048x128 := Rect.unit (s := S2048x128) ![0, 0] S2048x128.size inb_S2048x128_S2048x128_0_0
abbrev rb : Rect S1x128 := Rect.unit (s := S1x128) ![0, 0] S1x128.size inb_S1x128_S1x128_0_0
abbrev rq : Rect S256x128 := Rect.unit (s := S256x128) ![0, 0] S256x128.size inb_S256x128_S256x128_0_0
abbrev rh0 : Rect S256x1024 := Rect.unit (s := S256x1024) ![0, 0] S256x512.size inb_S256x1024_S256x512_0_0
abbrev rh1 : Rect S256x1024 := Rect.unit (s := S256x1024) ![0, 512] S256x512.size inb_S256x1024_S256x512_0_512
abbrev rk0 : Rect S256x2048 := Rect.unit (s := S256x2048) ![0, 0] S256x512.size inb_S256x2048_S256x512_0_0
abbrev rk1 : Rect S256x2048 := Rect.unit (s := S256x2048) ![0, 512] S256x512.size inb_S256x2048_S256x512_0_512
abbrev rk2 : Rect S256x2048 := Rect.unit (s := S256x2048) ![0, 1024] S256x512.size inb_S256x2048_S256x512_0_1024
abbrev rk3 : Rect S256x2048 := Rect.unit (s := S256x2048) ![0, 1536] S256x512.size inb_S256x2048_S256x512_0_1536

/-- Every fourth row from row `k` of a key/value output. -/
abbrev rr0 : Rect S1024x128 := ⟨(⟨![0, 0], S256x128.size, ![4, 1], inb_S1024x128_S256x128_0_0_s_4_1⟩ : LoadRect S1024x128), spos_4_1⟩
abbrev rr1 : Rect S1024x128 := ⟨(⟨![1, 0], S256x128.size, ![4, 1], inb_S1024x128_S256x128_1_0_s_4_1⟩ : LoadRect S1024x128), spos_4_1⟩
abbrev rr2 : Rect S1024x128 := ⟨(⟨![2, 0], S256x128.size, ![4, 1], inb_S1024x128_S256x128_2_0_s_4_1⟩ : LoadRect S1024x128), spos_4_1⟩
abbrev rr3 : Rect S1024x128 := ⟨(⟨![3, 0], S256x128.size, ![4, 1], inb_S1024x128_S256x128_3_0_s_4_1⟩ : LoadRect S1024x128), spos_4_1⟩

/-- Output window 5 (the queries), its stores last first. -/
def left5 (x0 : Vec F S256x2048 .f32) (x1 : Vec F S1x2048 .f32) (x2 : Vec F S2048x5632 .bf16) (x3 : Vec F S2048x128 .bf16) (x4 : Vec F S1x128 .f32) : Vec F S256x1024 .f32 :=
  View.canon [⟨rh1, (prod (tile (View.ld x0 rx) (View.ld x1 rg)) (View.ld x2 rw512))⟩,
    ⟨rh0, (prod (tile (View.ld x0 rx) (View.ld x1 rg)) (View.ld x2 rw0))⟩]

/-- Output window 6 (the compression keys and values), its stores last first. -/
def left6 (x0 : Vec F S256x2048 .f32) (x1 : Vec F S1x2048 .f32) (x2 : Vec F S2048x5632 .bf16) (x3 : Vec F S2048x128 .bf16) (x4 : Vec F S1x128 .f32) : Vec F S1024x128 .f32 :=
  View.canon [⟨rr3, (lanes3 (prod (tile (View.ld x0 rx) (View.ld x1 rg)) (View.ld x2 rw1024)))⟩,
    ⟨rr2, (lanes2 (prod (tile (View.ld x0 rx) (View.ld x1 rg)) (View.ld x2 rw1024)))⟩,
    ⟨rr1, (lanes1 (prod (tile (View.ld x0 rx) (View.ld x1 rg)) (View.ld x2 rw1024)))⟩,
    ⟨rr0, (lanes0 (prod (tile (View.ld x0 rx) (View.ld x1 rg)) (View.ld x2 rw1024)))⟩]

/-- Output window 7 (the selection keys and values), its stores last first. -/
def left7 (x0 : Vec F S256x2048 .f32) (x1 : Vec F S1x2048 .f32) (x2 : Vec F S2048x5632 .bf16) (x3 : Vec F S2048x128 .bf16) (x4 : Vec F S1x128 .f32) : Vec F S1024x128 .f32 :=
  View.canon [⟨rr3, (lanes3 (prod (tile (View.ld x0 rx) (View.ld x1 rg)) (View.ld x2 rw1536)))⟩,
    ⟨rr2, (lanes2 (prod (tile (View.ld x0 rx) (View.ld x1 rg)) (View.ld x2 rw1536)))⟩,
    ⟨rr1, (lanes1 (prod (tile (View.ld x0 rx) (View.ld x1 rg)) (View.ld x2 rw1536)))⟩,
    ⟨rr0, (lanes0 (prod (tile (View.ld x0 rx) (View.ld x1 rg)) (View.ld x2 rw1536)))⟩]

/-- Output window 8 (the window keys and values), its stores last first. -/
def left8 (x0 : Vec F S256x2048 .f32) (x1 : Vec F S1x2048 .f32) (x2 : Vec F S2048x5632 .bf16) (x3 : Vec F S2048x128 .bf16) (x4 : Vec F S1x128 .f32) : Vec F S1024x128 .f32 :=
  View.canon [⟨rr3, (lanes3 (prod (tile (View.ld x0 rx) (View.ld x1 rg)) (View.ld x2 rw2048)))⟩,
    ⟨rr2, (lanes2 (prod (tile (View.ld x0 rx) (View.ld x1 rg)) (View.ld x2 rw2048)))⟩,
    ⟨rr1, (lanes1 (prod (tile (View.ld x0 rx) (View.ld x1 rg)) (View.ld x2 rw2048)))⟩,
    ⟨rr0, (lanes0 (prod (tile (View.ld x0 rx) (View.ld x1 rg)) (View.ld x2 rw2048)))⟩]

/-- Output window 9 (the second attention's queries), its stores last first. -/
def left9 (x0 : Vec F S256x2048 .f32) (x1 : Vec F S1x2048 .f32) (x2 : Vec F S2048x5632 .bf16) (x3 : Vec F S2048x128 .bf16) (x4 : Vec F S1x128 .f32) : Vec F S256x1024 .f32 :=
  View.canon [⟨rh1, (prod (tile (View.ld x0 rx) (View.ld x1 rg)) (View.ld x2 rw3072))⟩,
    ⟨rh0, (prod (tile (View.ld x0 rx) (View.ld x1 rg)) (View.ld x2 rw2560))⟩]

/-- Output window 10 (its keys and values), its stores last first. -/
def left10 (x0 : Vec F S256x2048 .f32) (x1 : Vec F S1x2048 .f32) (x2 : Vec F S2048x5632 .bf16) (x3 : Vec F S2048x128 .bf16) (x4 : Vec F S1x128 .f32) : Vec F S256x2048 .f32 :=
  View.canon [⟨rk3, (prod (tile (View.ld x0 rx) (View.ld x1 rg)) (View.ld x2 rw5120))⟩,
    ⟨rk2, (prod (tile (View.ld x0 rx) (View.ld x1 rg)) (View.ld x2 rw4608))⟩,
    ⟨rk1, (prod (tile (View.ld x0 rx) (View.ld x1 rg)) (View.ld x2 rw4096))⟩,
    ⟨rk0, (prod (tile (View.ld x0 rx) (View.ld x1 rg)) (View.ld x2 rw3584))⟩]

/-- Output window 11 (the gates and log forget rates), its stores last first. -/
def left11 (x0 : Vec F S256x2048 .f32) (x1 : Vec F S1x2048 .f32) (x2 : Vec F S2048x5632 .bf16) (x3 : Vec F S2048x128 .bf16) (x4 : Vec F S1x128 .f32) : Vec F S256x128 .f32 :=
  View.canon [⟨rq, (small (tile (View.ld x0 rx) (View.ld x1 rg)) (View.ld x3 rs) (View.ld x4 rb))⟩]

/-- The stores of each output cover its buffer. -/
theorem cover_h (p0 : Vec F S256x512 .f32) (p1 : Vec F S256x512 .f32) (y : S256x1024.Idx) :
    ∃ pc ∈ ([⟨rh1, p0⟩, ⟨rh0, p1⟩] : List (View.Piece (Elt F) S256x1024 .f32)), y ∈ pc.1.set :=
  View.cover_of_tiled [⟨rh1, p0⟩, ⟨rh0, p1⟩] S256x512.size (by rfl) y

theorem cover_k (p0 : Vec F S256x512 .f32) (p1 : Vec F S256x512 .f32) (p2 : Vec F S256x512 .f32) (p3 : Vec F S256x512 .f32) (y : S256x2048.Idx) :
    ∃ pc ∈ ([⟨rk3, p0⟩, ⟨rk2, p1⟩, ⟨rk1, p2⟩, ⟨rk0, p3⟩] : List (View.Piece (Elt F) S256x2048 .f32)), y ∈ pc.1.set :=
  View.cover_of_tiled [⟨rk3, p0⟩, ⟨rk2, p1⟩, ⟨rk1, p2⟩, ⟨rk0, p3⟩] S256x512.size (by rfl) y

theorem cover_q (p0 : Vec F S256x128 .f32) (y : S256x128.Idx) :
    ∃ pc ∈ ([⟨rq, p0⟩] : List (View.Piece (Elt F) S256x128 .f32)), y ∈ pc.1.set :=
  View.cover_of_tiled [⟨rq, p0⟩] S256x128.size (by rfl) y

/-- Row `y 0` lies in the rectangle of its remainder modulo 4, at row `y 0 / 4` of it. -/
theorem mem_rows (k : Nat) (inb) (y : S1024x128.Idx) (h : (y 0).val % 4 = k) :
    y ∈ (⟨(⟨![k, 0], S256x128.size, ![4, 1], inb⟩ : LoadRect S1024x128), spos_4_1⟩ : Rect S1024x128).set := by
  refine (LoadRect.mem_set _).mpr fun a => ?_
  have h0 : (y 0).val < 1024 := (y 0).isLt
  have h1 : (y 1).val < 128 := (y 1).isLt
  fin_cases a
  · refine ⟨(y 0).val / 4, ?_, ?_⟩
    · show (y 0).val / 4 < 256; omega
    · show (y 0).val = k + 4 * ((y 0).val / 4); omega
  · refine ⟨(y 1).val, h1, ?_⟩
    show (y 1).val = 0 + 1 * (y 1).val; omega

theorem cover_r (p0 : Vec F S256x128 .f32) (p1 : Vec F S256x128 .f32) (p2 : Vec F S256x128 .f32) (p3 : Vec F S256x128 .f32) (y : S1024x128.Idx) :
    ∃ pc ∈ ([⟨rr3, p0⟩, ⟨rr2, p1⟩, ⟨rr1, p2⟩, ⟨rr0, p3⟩] : List (View.Piece (Elt F) S1024x128 .f32)), y ∈ pc.1.set := by
  have h : (y 0).val % 4 < 4 := Nat.mod_lt _ (by decide)
  rcases (by omega : (y 0).val % 4 = 0 ∨ (y 0).val % 4 = 1 ∨ (y 0).val % 4 = 2 ∨ (y 0).val % 4 = 3) with e | e | e | e
  · exact ⟨⟨rr0, p3⟩, by simp, mem_rows 0 _ y e⟩
  · exact ⟨⟨rr1, p2⟩, by simp, mem_rows 1 _ y e⟩
  · exact ⟨⟨rr2, p1⟩, by simp, mem_rows 2 _ y e⟩
  · exact ⟨⟨rr3, p0⟩, by simp, mem_rows 3 _ y e⟩

/-! ## The body's triple -/

set_option maxHeartbeats 4000000 in
/-- From the inputs' buffers at `x0` to `x4` and the outputs' at anything, the body ends with the inputs' as they
    were and output `w`'s at `left w`. -/
theorem body_runs (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole)
    (x0 : Vec F S256x2048 .f32) (x1 : Vec F S1x2048 .f32) (x2 : Vec F S2048x5632 .bf16) (x3 : Vec F S2048x128 .bf16) (x4 : Vec F S1x128 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (left5 x0 x1 x2 x3 x4) ∗ owns (c : Thread nD τ) arg7 fullShare (left6 x0 x1 x2 x3 x4) ∗ owns (c : Thread nD τ) arg8 fullShare (left7 x0 x1 x2 x3 x4) ∗ owns (c : Thread nD τ) arg9 fullShare (left8 x0 x1 x2 x3 x4) ∗ owns (c : Thread nD τ) arg10 fullShare (left9 x0 x1 x2 x3 x4) ∗ owns (c : Thread nD τ) arg11 fullShare (left10 x0 x1 x2 x3 x4) ∗ owns (c : Thread nD τ) arg12 fullShare (left11 x0 x1 x2 x3 x4)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  rw [ops_eq]; unfold ops
  simp only [ops1_eq, ops2_eq, ops3_eq]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_h _ _)).trans ?_
    rfl
  isplitl [H6]
  · iexists _; isplitr
    swap; · iexact H6
    ipureintro
    refine (View.read_writes_eq_canon _ _ _ (cover_r _ _ _ _)).trans ?_
    rfl
  isplitl [H7]
  · iexists _; isplitr
    swap; · iexact H7
    ipureintro
    refine (View.read_writes_eq_canon _ _ _ (cover_r _ _ _ _)).trans ?_
    rfl
  isplitl [H8]
  · iexists _; isplitr
    swap; · iexact H8
    ipureintro
    refine (View.read_writes_eq_canon _ _ _ (cover_r _ _ _ _)).trans ?_
    rfl
  isplitl [H9]
  · iexists _; isplitr
    swap; · iexact H9
    ipureintro
    refine (View.read_writes_eq_canon _ _ _ (cover_h _ _)).trans ?_
    rfl
  isplitl [H10]
  · iexists _; isplitr
    swap; · iexact H10
    ipureintro
    refine (View.read_writes_eq_canon _ _ _ (cover_k _ _ _ _)).trans ?_
    rfl
  iexists _; isplitr
  swap; · iexact H11
  ipureintro
  refine (View.read_writes_eq_canon _ _ _ (cover_q _)).trans ?_
  rfl

variable (m : (ℓ : Loc nD τ sig) → Buf (Elt F) ℓ) (ρ : Dev nD → PrngReg)

/-! ## The pipeline's proof data -/

/-- The arrays as the launch finds them; after a point each input's buffer at its block and output `w`'s at `left w`
    of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 (iblk m c 0 t) (iblk m c 1 t) (iblk m c 2 t) (iblk m c 3 t) (iblk m c 4 t)
    | ⟨6, _⟩ => left6 (iblk m c 0 t) (iblk m c 1 t) (iblk m c 2 t) (iblk m c 3 t) (iblk m c 4 t)
    | ⟨7, _⟩ => left7 (iblk m c 0 t) (iblk m c 1 t) (iblk m c 2 t) (iblk m c 3 t) (iblk m c 4 t)
    | ⟨8, _⟩ => left8 (iblk m c 0 t) (iblk m c 1 t) (iblk m c 2 t) (iblk m c 3 t) (iblk m c 4 t)
    | ⟨9, _⟩ => left9 (iblk m c 0 t) (iblk m c 1 t) (iblk m c 2 t) (iblk m c 3 t) (iblk m c 4 t)
    | ⟨10, _⟩ => left10 (iblk m c 0 t) (iblk m c 1 t) (iblk m c 2 t) (iblk m c 3 t) (iblk m c 4 t)
    | ⟨11, _⟩ => left11 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = left5 (iblk m c 0 t) (iblk m c 1 t) (iblk m c 2 t) (iblk m c 3 t) (iblk m c 4 t) := by dsimp only [dats]
theorem after6 (c : Dev nD) (t : Fin cfg0.N) : (dats m 0 c).after 6 t = left6 (iblk m c 0 t) (iblk m c 1 t) (iblk m c 2 t) (iblk m c 3 t) (iblk m c 4 t) := by dsimp only [dats]
theorem after7 (c : Dev nD) (t : Fin cfg0.N) : (dats m 0 c).after 7 t = left7 (iblk m c 0 t) (iblk m c 1 t) (iblk m c 2 t) (iblk m c 3 t) (iblk m c 4 t) := by dsimp only [dats]
theorem after8 (c : Dev nD) (t : Fin cfg0.N) : (dats m 0 c).after 8 t = left8 (iblk m c 0 t) (iblk m c 1 t) (iblk m c 2 t) (iblk m c 3 t) (iblk m c 4 t) := by dsimp only [dats]
theorem after9 (c : Dev nD) (t : Fin cfg0.N) : (dats m 0 c).after 9 t = left9 (iblk m c 0 t) (iblk m c 1 t) (iblk m c 2 t) (iblk m c 3 t) (iblk m c 4 t) := by dsimp only [dats]
theorem after10 (c : Dev nD) (t : Fin cfg0.N) : (dats m 0 c).after 10 t = left10 (iblk m c 0 t) (iblk m c 1 t) (iblk m c 2 t) (iblk m c 3 t) (iblk m c 4 t) := by dsimp only [dats]
theorem after11 (c : Dev nD) (t : Fin cfg0.N) : (dats m 0 c).after 11 t = left11 (iblk m c 0 t) (iblk m c 1 t) (iblk m c 2 t) (iblk m c 3 t) (iblk m c 4 t) := by dsimp only [dats]

/-- An input's buffer holds its block before every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body at every point -/

/-- What a point starts from. -/
def starts (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it ends in. -/
def ends (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem point_runs (c : Dev nD) (t : Fin cfg0.N) :
    starts m c t ⊢ wp frame (wpE (defs₀ (F := F)) Variants.none c none) Set.univ (bodyAt0 t) (fun _ => ends m c t) := by
  unfold starts ends bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_runs c Set.univ (grid0.coords t) _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point_runs m c t) rfl .rfl fun _ => .rfl

/-! ## The run -/

set_option backward.isDefEq.respectTransparency.types false in
set_option maxHeartbeats 800000 in
/-- Every fair run ends with each array as the proof data has it and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiet m ρ))

end Cert.Kernel5Ideal.Proj

end
-- ==== Proof.Proj.Logs.lean ====
/- The sigmoid and the log of the sigmoid over the extended reals: the two spellings of each that occur agree everywhere. -/
module

public import Idealize.ShloMosaic.PureOps.Ideal
public import Mathlib.Data.EReal.Operations

@[expose] public section
noncomputable section
namespace Cert.Logs
open Idealize.ShloMosaic

/-- One over one plus `exp (-s)`. -/
def gate (s : EReal) : EReal := Ideal.div (Ideal.ofBits .f32 0x3F800000#32) (Ideal.ofBits .f32 0x3F800000#32 + Ideal.exp (-s))

/-- `log (sigmoid z)` as `min z 0 - log1p (exp (-|z|))`. -/
def logSig (z : EReal) : EReal := min z 0 - Ideal.log1p (Ideal.exp (0 - max z (-z)))

/-- Minus the softplus of `-z`. -/
def negSoft (z : EReal) : EReal := -(max (-z) 0 + Ideal.log1p (Ideal.exp (-(max (-z) (-(-z))))))

/-- The `log1p` of an `exp` of something not positive is a real number. -/
theorem log1p_exp_real (y : EReal) (hy : y ≤ 0) : ∃ r : ℝ, Ideal.log1p (Ideal.exp y) = (r : EReal) := by
  have key : ∀ q : ℝ, 0 ≤ q → Ideal.log1p (q : EReal) = ((Real.log (1 + q) : ℝ) : EReal) := fun q hq => by
    unfold Ideal.log1p
    rw [show (1 : EReal) + (q : EReal) = ((1 + q : ℝ) : EReal) by push_cast; rfl]
    show (if 1 + q ≤ 0 then (⊥ : EReal) else ((Real.log (1 + q) : ℝ) : EReal)) = _
    rw [if_neg (by linarith)]
  induction y using EReal.rec with
  | bot => exact ⟨_, key 0 le_rfl⟩
  | top => exact absurd hy (by simp)
  | coe x => exact ⟨_, key (Real.exp x) (Real.exp_pos x).le⟩

/-- The two spellings are equal. -/
theorem negSoft_eq (z : EReal) : negSoft z = logSig z := by
  have hm : (0 : EReal) ≤ max z (-z) := by
    rcases le_total 0 z with h | h
    · exact le_max_of_le_left h
    · exact le_max_of_le_right (EReal.neg_nonneg.2 h)
  have hn : -(max z (-z)) ≤ 0 := EReal.neg_le_zero.2 hm
  obtain ⟨r, hr⟩ := log1p_exp_real _ hn
  unfold negSoft logSig
  rw [neg_neg, max_comm (-z) z, zero_sub, hr, EReal.neg_add (Or.inr (EReal.coe_ne_top r)) (Or.inr (EReal.coe_ne_bot r))]
  refine congrArg (· - (r : EReal)) ?_
  rcases le_total 0 z with h | h
  · rw [max_eq_right (EReal.neg_le_zero.2 h), min_eq_right h, neg_zero]
  · rw [max_eq_left (EReal.neg_nonneg.2 h), min_eq_left h, neg_neg]

end Cert.Logs
end
end
-- ==== Proof.Proj.Ideal.lean ====
/- What the body of the input projection computes, read at one index: the normed rows, their product with a block of the
   weight's columns, and the gates' and log forget rates' lanes. -/
module

public import proofs.«01_k».proof.Proof.Proj.RunIdeal
public import proofs.«01_k».proof.Proof.Proj.Logs
public import proofs.«01_k».proof.Proof.Rms
public import Idealize.ShloMosaic.Lib.Pipeline.ValueKit
public import Idealize.ShloMosaic.Lib.Pointwise

@[expose] public section
set_option maxRecDepth 16384
noncomputable section
namespace Cert.Kernel5Ideal.Proj
open Cert.Kernel5Ideal Cert.Kernel5Ideal.Gen Cert.Rms Cert.Logs Idealize.ShloMosaic Idealize.ShloMosaic.TcCoe Idealize.SL.Sem

/-- The norm of every row. -/
theorem tile_at (x : Vec Ideal S256x2048 .f32) (g : Vec Ideal S1x2048 .f32) (r : Fin 256) (k : Fin 2048) :
    tile x g (ix2 r k) = rms (fun j => x (ix2 r j)) (fun j => g (ix2 (0 : Fin 1) j)) k := by
  unfold tile rms
  pointwise

/-- A row times a column. -/
theorem prod_at (h : FVec Ideal S256x2048 .bf16) (w : Vec Ideal S2048x512 .bf16) (r : Fin 256) (d : Fin 512) :
    prod h w (ix2 r d) = ∑ k : Fin 2048, h (ix2 r k) * w (ix2 k d) := by
  unfold prod
  pointwise

theorem lanes0_at (p : FVec Ideal S256x512 .f32) (r : Fin 256) (l : Fin 128) (d : Fin 512) (hd : d.val = 0 + l.val) :
    lanes0 p (ix2 r l) = p (ix2 r d) := by
  unfold lanes0
  pointwise
  exact congrArg (fun e => p (ix2 r e)) (Fin.ext (by simp; omega))

theorem lanes1_at (p : FVec Ideal S256x512 .f32) (r : Fin 256) (l : Fin 128) (d : Fin 512) (hd : d.val = 128 + l.val) :
    lanes1 p (ix2 r l) = p (ix2 r d) := by
  unfold lanes1
  pointwise
  exact congrArg (fun e => p (ix2 r e)) (Fin.ext (by simp; omega))

theorem lanes2_at (p : FVec Ideal S256x512 .f32) (r : Fin 256) (l : Fin 128) (d : Fin 512) (hd : d.val = 256 + l.val) :
    lanes2 p (ix2 r l) = p (ix2 r d) := by
  unfold lanes2
  pointwise
  exact congrArg (fun e => p (ix2 r e)) (Fin.ext (by simp; omega))

theorem lanes3_at (p : FVec Ideal S256x512 .f32) (r : Fin 256) (l : Fin 128) (d : Fin 512) (hd : d.val = 384 + l.val) :
    lanes3 p (ix2 r l) = p (ix2 r d) := by
  unfold lanes3
  pointwise
  exact congrArg (fun e => p (ix2 r e)) (Fin.ext (by simp; omega))

/-- A lane number compared with 24. -/
theorem lane_lt : ∀ l : Fin 128, IntOp.cmpi CmpIPredicate.slt (BitVec.ofNat 32 l.val) 24#32 = if l.val < 24 then 1#1 else 0#1 := by decide

/-- The gate below lane 24, the log forget rate from lane 24 on. -/
theorem small_at (h : FVec Ideal S256x2048 .bf16) (w : Vec Ideal S2048x128 .bf16) (b : Vec Ideal S1x128 .f32) (r : Fin 256) (l : Fin 128) :
    small h w b (ix2 r l) = if l.val < 24 then gate (∑ k : Fin 2048, h (ix2 r k) * w (ix2 k l))
      else logSig (∑ k : Fin 2048, h (ix2 r k) * w (ix2 k l) + b (ix2 (0 : Fin 1) l)) := by
  unfold small gate logSig
  pointwise
  rw [zero_sub, lane_lt l]
  split <;> rfl

end Cert.Kernel5Ideal.Proj
end
end
-- ==== Proof.Proj.Block.lean ====
/- What the body of the input projection leaves in each output's block, from the blocks it reads. -/
module

public import proofs.«01_k».proof.Proof.Proj.Ideal

@[expose] public section
set_option maxRecDepth 16384
noncomputable section
namespace Cert.Kernel5Ideal.Proj
open Cert.Kernel5Ideal Cert.Kernel5Ideal.Gen Cert.Rms Cert.Logs Idealize.ShloMosaic Idealize.ShloMosaic.TcCoe Idealize.SL.Sem

/-! ## The loads -/

theorem ld_x (X : Vec Ideal S256x2048 .f32) (r : Fin 256) (k : Fin 2048) : View.ld X rx (ix2 r k) = X (ix2 r k) := by
  refine View.ld_unit_apply_of X _ _ _ (ix2 r k) (ix2 r k) fun a => ?_
  fin_cases a
  exacts [(Nat.zero_add _).symm, (Nat.zero_add _).symm]

theorem ld_g (X : Vec Ideal S1x2048 .f32) (k : Fin 2048) : View.ld X rg (ix2 (0 : Fin 1) k) = X (ix2 (0 : Fin 1) k) := by
  refine View.ld_unit_apply_of X _ _ _ (ix2 (0 : Fin 1) k) (ix2 (0 : Fin 1) k) fun a => ?_
  fin_cases a
  exacts [(Nat.zero_add _).symm, (Nat.zero_add _).symm]

theorem ld_s (X : Vec Ideal S2048x128 .bf16) (k : Fin 2048) (l : Fin 128) : View.ld X rs (ix2 k l) = X (ix2 k l) := by
  refine View.ld_unit_apply_of X _ _ _ (ix2 k l) (ix2 k l) fun a => ?_
  fin_cases a
  exacts [(Nat.zero_add _).symm, (Nat.zero_add _).symm]

theorem ld_b (X : Vec Ideal S1x128 .f32) (l : Fin 128) : View.ld X rb (ix2 (0 : Fin 1) l) = X (ix2 (0 : Fin 1) l) := by
  refine View.ld_unit_apply_of X _ _ _ (ix2 (0 : Fin 1) l) (ix2 (0 : Fin 1) l) fun a => ?_
  fin_cases a
  exacts [(Nat.zero_add _).symm, (Nat.zero_add _).symm]

/-- A load of 512 of the weight's columns. -/
theorem ld_w (X : Vec Ideal S2048x5632 .bf16) (a : ℕ) (inb : ∀ i, (![0, a] : Fin 2 → ℕ) i + S2048x512.size i ≤ S2048x5632.size i)
    (k : Fin 2048) (e : Fin 512) (j : Fin 5632) (hj : j.val = a + e.val) :
    View.ld X (Rect.unit (s := S2048x5632) ![0, a] S2048x512.size inb) (ix2 k e) = X (ix2 k j) := by
  refine View.ld_unit_apply_of X _ _ inb (ix2 k e) (ix2 k j) fun i => ?_
  fin_cases i
  exacts [(Nat.zero_add _).symm, hj]

/-! ## The blocks -/

variable (x0 : Vec Ideal S256x2048 .f32) (x1 : Vec Ideal S1x2048 .f32) (x2 : Vec Ideal S2048x5632 .bf16)
  (x3 : Vec Ideal S2048x128 .bf16) (x4 : Vec Ideal S1x128 .f32)

/-- Row `r`, normed. -/
def normed (r : Fin 256) : Fin 2048 → EReal := rms (fun j => x0 (ix2 r j)) (fun j => x1 (ix2 (0 : Fin 1) j))

/-- The normed row times column `j` of the weights. -/
def want (r : Fin 256) (j : Fin 5632) : EReal := ∑ k : Fin 2048, normed x0 x1 r k * x2 (ix2 k j)

theorem tile_ld (r : Fin 256) (k : Fin 2048) : tile (View.ld x0 rx) (View.ld x1 rg) (ix2 r k) = normed x0 x1 r k := by
  rw [tile_at]
  unfold normed
  exact congr (congrArg₂ rms (funext fun j => ld_x x0 r j) (funext fun j => ld_g x1 j)) rfl

/-- One stored product. -/
theorem piece (a : ℕ) (inb : ∀ i, (![0, a] : Fin 2 → ℕ) i + S2048x512.size i ≤ S2048x5632.size i)
    (r : Fin 256) (e : Fin 512) (j : Fin 5632) (hj : j.val = a + e.val) :
    prod (tile (View.ld x0 rx) (View.ld x1 rg)) (View.ld x2 (Rect.unit (s := S2048x5632) ![0, a] S2048x512.size inb)) (ix2 r e)
      = want x0 x1 x2 r j := by
  rw [prod_at]
  unfold want
  exact Finset.sum_congr rfl fun k _ => congrArg₂ (· * ·) (tile_ld x0 x1 r k) (ld_w x2 a inb k e j hj)

/-- A store of 512 columns at column `o` of a block `n` wide, whose payload is the product with the columns from `a + o` on. -/
theorem stored {n : ℕ} (v : EReal) (a o : ℕ) (inb : ∀ i, (![0, a] : Fin 2 → ℕ) i + S2048x512.size i ≤ S2048x5632.size i)
    (r : Fin 256) (d : Fin n) (j : Fin 5632) (b : ℕ) (hb : a = b + o) (hj : j.val = b + d.val)
    (hv : want x0 x1 x2 r j = v) (x : S256x512.Idx)
    (h0 : r.val = 0 + (x 0).val) (h1 : d.val = o + (x 1).val) :
    prod (tile (View.ld x0 rx) (View.ld x1 rg)) (View.ld x2 (Rect.unit (s := S2048x5632) ![0, a] S2048x512.size inb)) x = v := by
  obtain ⟨s, e, rfl⟩ : ∃ (s : Fin 256) (e : Fin 512), x = ix2 s e := ⟨x 0, x 1, by blk_ext⟩
  have h0' : r.val = 0 + s.val := h0
  have h1' : d.val = o + e.val := h1
  obtain rfl : r = s := Fin.ext (by omega)
  rw [← hv]
  exact piece x0 x1 x2 a inb r e j (by omega)

/-- The queries' block. -/
theorem left5_at (r : Fin 256) (d : Fin 1024) (j : Fin 5632) (hj : j.val = 0 + d.val) :
    left5 x0 x1 x2 x3 x4 (ix2 r d) = want x0 x1 x2 r j := by
  unfold left5
  refine View.canon_eq_of_allAt _ _ _ (cover_h _ _ _) ?_
  refine View.allAt_cons_unit _ _ _ _ _ (fun x hx => ?_) (View.allAt_cons_unit _ _ _ _ _ (fun x hx => ?_) (View.allAt_nil _ _))
  · exact stored x0 x1 x2 _ 512 512 _ r d j 0 rfl hj rfl x (hx 0) (hx 1)
  · exact stored x0 x1 x2 _ 0 0 _ r d j 0 rfl hj rfl x (hx 0) (hx 1)

/-- The second attention's queries. -/
theorem left9_at (r : Fin 256) (d : Fin 1024) (j : Fin 5632) (hj : j.val = 2560 + d.val) :
    left9 x0 x1 x2 x3 x4 (ix2 r d) = want x0 x1 x2 r j := by
  unfold left9
  refine View.canon_eq_of_allAt _ _ _ (cover_h _ _ _) ?_
  refine View.allAt_cons_unit _ _ _ _ _ (fun x hx => ?_) (View.allAt_cons_unit _ _ _ _ _ (fun x hx => ?_) (View.allAt_nil _ _))
  · exact stored x0 x1 x2 _ 3072 512 _ r d j 2560 rfl hj rfl x (hx 0) (hx 1)
  · exact stored x0 x1 x2 _ 2560 0 _ r d j 2560 rfl hj rfl x (hx 0) (hx 1)

/-- The second attention's keys and values. -/
theorem left10_at (r : Fin 256) (d : Fin 2048) (j : Fin 5632) (hj : j.val = 3584 + d.val) :
    left10 x0 x1 x2 x3 x4 (ix2 r d) = want x0 x1 x2 r j := by
  unfold left10
  refine View.canon_eq_of_allAt _ _ _ (cover_k _ _ _ _ _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · exact stored x0 x1 x2 _ 5120 1536 _ r d j 3584 rfl hj rfl x (hx 0) (hx 1)
  · exact stored x0 x1 x2 _ 4608 1024 _ r d j 3584 rfl hj rfl x (hx 0) (hx 1)
  · exact stored x0 x1 x2 _ 4096 512 _ r d j 3584 rfl hj rfl x (hx 0) (hx 1)
  · exact stored x0 x1 x2 _ 3584 0 _ r d j 3584 rfl hj rfl x (hx 0) (hx 1)

/-! ## The key/value outputs: row `4 r + k` holds lanes `128 k` to `128 k + 127` of row `r`'s product -/

/-- The four stores of one product, read at row `p`, lane `l`. -/
theorem rows_at (a : ℕ) (inb : ∀ i, (![0, a] : Fin 2 → ℕ) i + S2048x512.size i ≤ S2048x5632.size i)
    (p : Fin 1024) (l : Fin 128) (r : Fin 256) (j : Fin 5632) (hr : r.val = p.val / 4) (hj : j.val = a + 128 * (p.val % 4) + l.val)
    (P : FVec Ideal S256x512 .f32)
    (hP : P = prod (tile (View.ld x0 rx) (View.ld x1 rg)) (View.ld x2 (Rect.unit (s := S2048x5632) ![0, a] S2048x512.size inb))) :
    (View.canon [⟨rr3, lanes3 P⟩, ⟨rr2, lanes2 P⟩, ⟨rr1, lanes1 P⟩, ⟨rr0, lanes0 P⟩] : Vec Ideal S1024x128 .f32) (ix2 p l)
      = want x0 x1 x2 r j := by
  have hl := l.isLt
  have at_ : ∀ (s : Fin 256) (e : Fin 512), s.val = p.val / 4 → e.val = 128 * (p.val % 4) + l.val → P (ix2 s e) = want x0 x1 x2 r j :=
    fun s e hs he => by
      obtain rfl : r = s := Fin.ext (by omega)
      rw [hP]
      exact piece x0 x1 x2 a inb r e j (by omega)
  have split : ∀ (k : ℕ) (q : S256x128.Idx), k < 4 → p.val = k + 4 * (q 0).val → l.val = 0 + 1 * (q 1).val →
      ∃ (s : Fin 256) (u : Fin 128), q = ix2 s u ∧ s.val = p.val / 4 ∧ k = p.val % 4 ∧ u = l := fun k q hk h0 h1 => by
    refine ⟨q 0, q 1, by blk_ext, ?_, ?_, Fin.ext ?_⟩
    · show (q 0).val = _
      omega
    · omega
    · show (q 1).val = _
      omega
  refine View.canon_eq_of_allAt _ _ _ (cover_r _ _ _ _ _) ?_
  refine View.allAt_cons _ _ _ (fun q hq => ?_) (View.allAt_cons _ _ _ (fun q hq => ?_)
    (View.allAt_cons _ _ _ (fun q hq => ?_) (View.allAt_cons _ _ _ (fun q hq => ?_) (View.allAt_nil _ _))))
  · obtain ⟨s, u, rfl, hs, hk, rfl⟩ := split 3 q (by omega) (congrArg (fun z => (z 0).val) hq).symm (congrArg (fun z => (z 1).val) hq).symm
    exact (lanes3_at P s u ⟨384 + u.val, by omega⟩ rfl).trans (at_ s _ hs (by show 384 + u.val = _; omega))
  · obtain ⟨s, u, rfl, hs, hk, rfl⟩ := split 2 q (by omega) (congrArg (fun z => (z 0).val) hq).symm (congrArg (fun z => (z 1).val) hq).symm
    exact (lanes2_at P s u ⟨256 + u.val, by omega⟩ rfl).trans (at_ s _ hs (by show 256 + u.val = _; omega))
  · obtain ⟨s, u, rfl, hs, hk, rfl⟩ := split 1 q (by omega) (congrArg (fun z => (z 0).val) hq).symm (congrArg (fun z => (z 1).val) hq).symm
    exact (lanes1_at P s u ⟨128 + u.val, by omega⟩ rfl).trans (at_ s _ hs (by show 128 + u.val = _; omega))
  · obtain ⟨s, u, rfl, hs, hk, rfl⟩ := split 0 q (by omega) (congrArg (fun z => (z 0).val) hq).symm (congrArg (fun z => (z 1).val) hq).symm
    exact (lanes0_at P s u ⟨0 + u.val, by omega⟩ rfl).trans (at_ s _ hs (by show 0 + u.val = _; omega))

theorem left6_at (p : Fin 1024) (l : Fin 128) (r : Fin 256) (j : Fin 5632) (hr : r.val = p.val / 4)
    (hj : j.val = 1024 + 128 * (p.val % 4) + l.val) : left6 x0 x1 x2 x3 x4 (ix2 p l) = want x0 x1 x2 r j := by
  unfold left6
  exact rows_at x0 x1 x2 1024 _ p l r j hr hj _ rfl

theorem left7_at (p : Fin 1024) (l : Fin 128) (r : Fin 256) (j : Fin 5632) (hr : r.val = p.val / 4)
    (hj : j.val = 1536 + 128 * (p.val % 4) + l.val) : left7 x0 x1 x2 x3 x4 (ix2 p l) = want x0 x1 x2 r j := by
  unfold left7
  exact rows_at x0 x1 x2 1536 _ p l r j hr hj _ rfl

theorem left8_at (p : Fin 1024) (l : Fin 128) (r : Fin 256) (j : Fin 5632) (hr : r.val = p.val / 4)
    (hj : j.val = 2048 + 128 * (p.val % 4) + l.val) : left8 x0 x1 x2 x3 x4 (ix2 p l) = want x0 x1 x2 r j := by
  unfold left8
  exact rows_at x0 x1 x2 2048 _ p l r j hr hj _ rfl

/-! ## The gates and the log forget rates -/

/-- The normed row times column `l` of the small weights. -/
def wantS (r : Fin 256) (l : Fin 128) : EReal := ∑ k : Fin 2048, normed x0 x1 r k * x3 (ix2 k l)

theorem left11_at (r : Fin 256) (l : Fin 128) :
    left11 x0 x1 x2 x3 x4 (ix2 r l) = if l.val < 24 then gate (wantS x0 x1 x3 r l) else logSig (wantS x0 x1 x3 r l + x4 (ix2 (0 : Fin 1) l)) := by
  unfold left11
  refine View.canon_eq_of_allAt _ _ _ (cover_q _ _) ?_
  refine View.allAt_cons_unit _ _ _ _ _ (fun x hx => ?_) (View.allAt_nil _ _)
  obtain ⟨s, u, rfl⟩ : ∃ (s : Fin 256) (u : Fin 128), x = ix2 s u := ⟨x 0, x 1, by blk_ext⟩
  have h0 : r.val = 0 + s.val := hx 0
  have h1 : l.val = 0 + u.val := hx 1
  obtain rfl : r = s := Fin.ext (by omega)
  obtain rfl : l = u := Fin.ext (by omega)
  have e : (∑ k : Fin 2048, tile (View.ld x0 rx) (View.ld x1 rg) (ix2 r k) * View.ld x3 rs (ix2 k l)) = wantS x0 x1 x3 r l :=
    Finset.sum_congr rfl fun k _ => congrArg₂ (· * ·) (tile_ld x0 x1 r k) (ld_s x3 k l)
  refine (small_at _ _ _ r l).trans ?_
  rw [e, ld_b]

end Cert.Kernel5Ideal.Proj
end
end
-- ==== Proof.Proj.Spec.lean ====
/- The specification of the input projection: every row normed and multiplied with the columns of the weights, and where
   each result holds which column. -/
module

public import proofs.«01_k».proof.Proof.Proj.Logs
public import proofs.«01_k».proof.Proof.Rms
public import Idealize.ShloMosaic.Lib.Pipeline.ValueKit

@[expose] public section
noncomputable section
namespace Cert.Proj
open Cert.Rms Cert.Logs Idealize.ShloMosaic

/-- The gains, the weights and the biases. -/
abbrev SG : Shape := ⟨1, ![2048]⟩
abbrev SW : Shape := ⟨2, ![2048, 5664]⟩
abbrev SB : Shape := ⟨1, ![8]⟩

/-- The batch entry of row `n`, of `b` entries of `s` rows each. -/
def ent {b : ℕ} [NeZero b] (s n : ℕ) : Fin b := Fin.ofNat b (n / s)

/-- The position of row `n` in its entry, of `s` positions. -/
def pos {s : ℕ} [NeZero s] (n : ℕ) : Fin s := Fin.ofNat s n

/-- Column `j`. -/
def colm (j : ℕ) : Fin 5664 := ⟨j % 5664, Nat.mod_lt _ (by decide)⟩

/-- Bias `j`. -/
def bias (j : ℕ) : Fin 8 := ⟨j % 8, Nat.mod_lt _ (by decide)⟩

theorem ent_eq {b s : ℕ} [NeZero b] [NeZero s] (n : ℕ) (a : Fin b) (t : Fin s) (h : n = s * a.val + t.val) : ent s n = a :=
  Fin.ext (by
    show n / s % b = a.val
    rw [h, Nat.mul_add_div (NeZero.pos s), Nat.div_eq_of_lt t.isLt, Nat.add_zero, Nat.mod_eq_of_lt a.isLt])

theorem pos_eq {b s : ℕ} [NeZero s] (n : ℕ) (a : Fin b) (t : Fin s) (h : n = s * a.val + t.val) : pos n = t :=
  Fin.ext (by
    show n % s = t.val
    rw [h, Nat.mul_add_mod, Nat.mod_eq_of_lt t.isLt])

theorem colm_eq (j : ℕ) (k : Fin 5664) (h : j = k.val) : colm j = k :=
  Fin.ext (by show j % 5664 = k.val; have := k.isLt; omega)

theorem bias_eq (j : ℕ) (k : Fin 8) (h : j = k.val) : bias j = k :=
  Fin.ext (by show j % 8 = k.val; have := k.isLt; omega)

variable {b s : ℕ} [NeZero b] [NeZero s] (X : Vec Ideal ⟨3, ![b, s, 2048]⟩ .f32) (G : Vec Ideal SG .f32) (W : Vec Ideal SW .f32) (B : Vec Ideal SB .f32)

/-- Row `n`, normed. -/
def normRow (n : ℕ) : Fin 2048 → EReal := rms (fun j => X (ix3 (ent s n) (pos n) j)) (fun j => G (ix1 j))

/-- The normed row `n` times column `j` of the weights. -/
def entry (n j : ℕ) : EReal := ∑ k : Fin 2048, normRow X G n k * W (ix2 k (colm j))

/-- Lane `l` of row `n` of the small result: 24 gates, eight log forget rates, and the rest the log of one half. -/
def lanes (n l : ℕ) : EReal :=
  if l < 24 then gate (entry X G W n (2560 + l))
  else if l < 32 then logSig (entry X G W n (5632 + l) + B (ix1 (bias (l - 24))))
  else logSig (0 + 0)

/-- The columns from `o` on, as rows of `w`. -/
def flat {n w : ℕ} (o : ℕ) : Vec Ideal ⟨2, ![n, w]⟩ .f32 := fun i => entry X G W (i 0).val (o + (i 1).val)

/-- The 512 columns from `o` on, four rows of 128 lanes for each row. -/
def quad {n : ℕ} (o : ℕ) : Vec Ideal ⟨2, ![n, 128]⟩ .f32 := fun i => entry X G W ((i 0).val / 4) (o + 128 * ((i 0).val % 4) + (i 1).val)

/-- The small result. -/
def tail {n : ℕ} : Vec Ideal ⟨2, ![n, 128]⟩ .f32 := fun i => lanes X G W B (i 0).val (i 1).val

end Cert.Proj
end
end
-- ==== Proof.Proj.Host.lean ====
/- The arrays the input projection's launch reads, from the arguments. -/
module

public import proofs.«01_k».proof.Proof.Proj.Block
public import proofs.«01_k».proof.Proof.Proj.Spec
public import Idealize.ShloMosaic.Lib.StableHlo.ReadAt
public import Idealize.ShloMosaic.Lib.Routing.OpsOne

@[expose] public section
set_option maxRecDepth 16384
noncomputable section
namespace Cert.Kernel5Ideal.Proj
open Cert.Kernel5Ideal Cert.Kernel5Ideal.Gen Cert.Rms Cert.Logs Cert.Proj Idealize.ShloMosaic Idealize.ShloMosaic.TcCoe Idealize.SL.Sem
open Idealize.ShloMosaic.Routing

variable (m : (ℓ : Loc nD τ sig) → Buf (Elt Ideal) ℓ)

/-- The four arguments. -/
abbrev xA (c : Dev nD) : Vec Ideal S16x2048x2048 .f32 := m ((c : Thread nD τ).loc main_arg0)
abbrev gA (c : Dev nD) : Vec Ideal S2048 .f32 := m ((c : Thread nD τ).loc main_arg1)
abbrev wA (c : Dev nD) : Vec Ideal S2048x5664 .f32 := m ((c : Thread nD τ).loc main_arg2)
abbrev bA (c : Dev nD) : Vec Ideal S8 .f32 := m ((c : Thread nD τ).loc main_arg3)

theorem v14_at (c : Dev nD) (i : Fin 32768) (k : Fin 2048) : V m c main_v14 (ix2 i k) = xA m c (ix3 (ent 2048 i.val) (pos i.val) k) := by
  unfold V xA
  after_reads_at
  have hi := i.isLt
  have e1 : ∀ p, (⟨i.val / 2048, p⟩ : Fin 16) = ent 2048 i.val := fun p => Fin.ext (by show i.val / 2048 = i.val / 2048 % 16; omega)
  simp only [e1]
  rfl

theorem v15_at (c : Dev nD) (k : Fin 2048) : V m c main_v15 (ix2 (0 : Fin 1) k) = gA m c (ix1 k) := by
  unfold V gA
  after_reads_at

theorem v3_at (c : Dev nD) (k : Fin 2048) (j : Fin 5632) :
    V m c main_v3 (ix2 k j) = wA m c (ix2 k (colm (if j.val < 2560 then j.val else j.val + 24))) := by
  unfold V wA
  after_reads_at
  unfold StableHlo.upto
  simp only [hostOps0, List.take_succ_cons, List.take_zero]
  after_reads_at
  have hj := j.isLt
  split
  · exact congrArg (fun e => m ((c : Thread nD τ).loc main_arg2) (ix2 k e)) (colm_eq _ ⟨j.val, by omega⟩ rfl).symm
  · exact congrArg (fun e => m ((c : Thread nD τ).loc main_arg2) (ix2 k e)) (colm_eq _ ⟨2584 + (j.val - 2560), by omega⟩ (by show j.val + 24 = 2584 + (j.val - 2560); omega)).symm

theorem v8_at (c : Dev nD) (k : Fin 2048) (l : Fin 128) :
    V m c main_v8 (ix2 k l) = if l.val < 24 then wA m c (ix2 k (colm (2560 + l.val)))
      else if l.val < 32 then wA m c (ix2 k (colm (5632 + l.val))) else 0 := by
  unfold V wA
  after_reads_at
  unfold StableHlo.upto
  simp only [hostOps0, List.take_succ_cons, List.take_zero]
  after_reads_at
  have hl := l.isLt
  by_cases h : l.val < 24
  · rw [dif_pos h, if_pos h]
    exact congrArg (fun e => m ((c : Thread nD τ).loc main_arg2) (ix2 k e)) (colm_eq _ ⟨2560 + l.val, by omega⟩ rfl).symm
  · rw [dif_neg h, if_neg h]
    by_cases h' : l.val < 32
    · rw [dif_pos (by omega), if_pos h']
      exact congrArg (fun e => m ((c : Thread nD τ).loc main_arg2) (ix2 k e))
        (colm_eq _ ⟨5656 + (l.val - 24), by omega⟩ (by show 5632 + l.val = 5656 + (l.val - 24); omega)).symm
    · rw [dif_neg (by omega), if_neg h']

/-- Update `k` of the scatter lands in lane `second word + k` of the row that the first word names. -/
theorem lands (idx : IVec S2 32) (k : Fin 8) (r : Fin 1) (l : Fin 128) :
    scatter_S1x128_S2_S8_0_0_01_0.resultIdx? (ix1 k) idx = some (ix2 r l)
      ↔ (idx (ix1 (0 : Fin 2))).toInt = r.val ∧ (idx (ix1 (1 : Fin 2))).toInt + (k.val : Int) = l.val := by
  have hw0 : scatter_S1x128_S2_S8_0_0_01_0.window (ix1 k) 0 = 0 := rfl
  have hw1 : scatter_S1x128_S2_S8_0_0_01_0.window (ix1 k) 1 = k.val := rfl
  refine (resultIdx?_ix2 _ _ _ _ _).trans ?_
  have s0 : scatter_S1x128_S2_S8_0_0_01_0.start (ix1 k) idx 0 = (idx (ix1 (0 : Fin 2))).toInt :=
    start_pair scatter_S1x128_S2_S8_0_0_01_0 rfl rfl idx (ix1 k) 0
  have s1 : scatter_S1x128_S2_S8_0_0_01_0.start (ix1 k) idx 1 = (idx (ix1 (1 : Fin 2))).toInt :=
    start_pair scatter_S1x128_S2_S8_0_0_01_0 rfl rfl idx (ix1 k) 1
  rw [s0, s1, hw0, hw1]
  omega

/-- The scatter of eight values at row 0, lane 24. -/
theorem scatter_at (x0 : Vec Ideal S1x128 .f32) (idx : IVec S2 32) (upd : Vec Ideal S8 .f32) (l : Fin 128)
    (h0 : (idx (ix1 (0 : Fin 2))).toInt = 0) (h1 : (idx (ix1 (1 : Fin 2))).toInt = 24) :
    Host.scatter scatter_S1x128_S2_S8_0_0_01_0 (fun _ b => b) x0 idx upd (ix2 (0 : Fin 1) l)
      = if 24 ≤ l.val ∧ l.val < 32 then upd (ix1 (bias (l.val - 24))) else x0 (ix2 (0 : Fin 1) l) := by
  have key : ∀ k' : S8.Idx, scatter_S1x128_S2_S8_0_0_01_0.resultIdx? k' idx = some (ix2 (0 : Fin 1) l) →
      24 + (k' 0).val = l.val := fun k' hk' => by
    have q := ((lands idx (k' 0) 0 l).1 ((congrArg (fun t => scatter_S1x128_S2_S8_0_0_01_0.resultIdx? t idx) (eq_ix1 k').symm).trans hk')).2
    rw [h1] at q
    omega
  by_cases h : 24 ≤ l.val ∧ l.val < 32
  · rw [if_pos h]
    have hb : (bias (l.val - 24)).val = l.val - 24 := Nat.mod_eq_of_lt (by omega)
    refine scatter_set_hit _ x0 idx upd _ _ (fun k' hk' => ?_) (ix1 (bias (l.val - 24))) ((lands idx _ 0 l).2 ⟨by rw [h0]; rfl, by rw [h1, hb]; omega⟩)
    rw [eq_ix1 k']
    exact congrArg (fun e => upd (ix1 e)) (bias_eq _ _ (by have := key k' hk'; omega)).symm
  · rw [if_neg h]
    refine scatter_set_miss _ x0 idx upd _ fun k' hk' => h ?_
    have q := key k' hk'
    have hlt : (k' 0).val < 8 := (k' 0).isLt
    omega

theorem v13_at (c : Dev nD) (l : Fin 128) :
    V m c main_v13 (ix2 (0 : Fin 1) l) = if 24 ≤ l.val ∧ l.val < 32 then bA m c (ix1 (bias (l.val - 24))) else 0 := by
  unfold V bA
  after_reads_at
  refine (scatter_at _ _ _ l ?_ ?_).trans ?_
  · unfold StableHlo.upto
    simp only [hostOps0, List.take_succ_cons, List.take_zero]
    after_reads_at
    rfl
  · unfold StableHlo.upto
    simp only [hostOps0, List.take_succ_cons, List.take_zero]
    after_reads_at
    rfl
  · split
    · rfl
    · pointwise

end Cert.Kernel5Ideal.Proj
end
end
-- ==== Proof.Proj.Ref.lean ====
/- The reference of the input projection read at one index: every row normed and multiplied with the whole weights, the
   columns of each result, the gates and the log forget rates. -/
module

public import proofs.«01_k».proof.Proof.Gen.Reference5Ideal.Run
public import proofs.«01_k».proof.Proof.Proj.Spec
public import Idealize.ShloMosaic.Lib.Pointwise

@[expose] public section
set_option maxRecDepth 16384
noncomputable section
namespace Cert.Reference5Ideal.Proj
open Cert.Reference5Ideal Cert.Reference5Ideal.Gen Cert.Reference5Ideal.Value Cert.Rms Cert.Logs Cert.Proj
open Idealize.ShloMosaic Idealize.ShloMosaic.TcCoe Idealize.SL.Sem

/-! ## The operations, named -/

/-- The norm of every row. -/
def gNorm (x : FVec Ideal S16x2048x2048 .f32) (g : FVec Ideal S2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

/-- The product with the whole weights. -/
def gProj (x : FVec Ideal S16x2048x2048 .f32) (g : FVec Ideal S2048 .f32) (w : FVec Ideal S2048x5664 .f32) : FVec Ideal S16x2048x5664 .f32 :=
  Host.dotGeneral dot_S16x2048x2048_S2048x5664_S16x2048x5664_2_0_01_1_n_n none (gNorm x g) w

/-- The 1024 columns from 0 on. -/
def gQ (p : FVec Ideal S16x2048x5664 .f32) : FVec Ideal S32768x1024 .f32 :=
  shapeCast _ (extractStridedSlice S16x2048x1024 ![0, 0, 0] p slices_S16x2048x5664_S16x2048x1024_0_0_0) shapeCasts_S16x2048x1024_S32768x1024

/-- The 512 columns from 1024 on. -/
def gC (p : FVec Ideal S16x2048x5664 .f32) : FVec Ideal S131072x128 .f32 :=
  shapeCast _ (extractStridedSlice S16x2048x512 ![0, 0, 1024] p slices_S16x2048x5664_S16x2048x512_0_0_1024) shapeCasts_S16x2048x512_S131072x128

/-- The 512 columns from 1536 on. -/
def gS (p : FVec Ideal S16x2048x5664 .f32) : FVec Ideal S131072x128 .f32 :=
  shapeCast _ (extractStridedSlice S16x2048x512 ![0, 0, 1536] p slices_S16x2048x5664_S16x2048x512_0_0_1536) shapeCasts_S16x2048x512_S131072x128

/-- The 512 columns from 2048 on. -/
def gW (p : FVec Ideal S16x2048x5664 .f32) : FVec Ideal S131072x128 .f32 :=
  shapeCast _ (extractStridedSlice S16x2048x512 ![0, 0, 2048] p slices_S16x2048x5664_S16x2048x512_0_0_2048) shapeCasts_S16x2048x512_S131072x128

/-- The 1024 columns from 2584 on. -/
def gQF (p : FVec Ideal S16x2048x5664 .f32) : FVec Ideal S32768x1024 .f32 :=
  shapeCast _ (extractStridedSlice S16x2048x1024 ![0, 0, 2584] p slices_S16x2048x5664_S16x2048x1024_0_0_2584) shapeCasts_S16x2048x1024_S32768x1024

/-- The 2048 columns from 3608 on. -/
def gKF (p : FVec Ideal S16x2048x5664 .f32) : FVec Ideal S32768x2048 .f32 :=
  shapeCast _ (extractStridedSlice S16x2048x2048 ![0, 0, 3608] p slices_S16x2048x5664_S16x2048x2048_0_0_3608) shapeCasts_S16x2048x2048_S32768x2048

/-- The gates. -/
def gGate (p : FVec Ideal S16x2048x5664 .f32) : FVec Ideal S16x2048x24 .f32 :=
  Host.divf (broadcastInDim S16x2048x24 ![] bcast_S_S16x2048x24 (constant S_ .f32 0x3F800000#32)) (addf (broadcastInDim S16x2048x24 ![] bcast_S_S16x2048x24 (constant S_ .f32 0x3F800000#32)) (Host.exp (Host.negf (extractStridedSlice S16x2048x24 ![0, 0, 2560] p slices_S16x2048x5664_S16x2048x24_0_0_2560))))

/-- The forget rates' columns and the biases. -/
def gBias (p : FVec Ideal S16x2048x5664 .f32) (b : FVec Ideal S8 .f32) : FVec Ideal S16x2048x8 .f32 :=
  addf (extractStridedSlice S16x2048x8 ![0, 0, 5656] p slices_S16x2048x5664_S16x2048x8_0_0_5656) (broadcastInDim S16x2048x8 ![0, 1, 2] bcast_S1x1x8_S16x2048x8_0_1_2 (broadcastInDim S1x1x8 ![2] bcast_S8_S1x1x8_2 b))

/-- The log of the sigmoid, eight lanes. -/
def gLog8 (z : FVec Ideal S16x2048x8 .f32) : FVec Ideal S16x2048x8 .f32 :=
  Host.negf (select (cmpf .une (subf (Host.negf z) (broadcastInDim S16x2048x8 ![] bcast_S_S16x2048x8 (constant S_ .f32 0x00000000#32))) (subf (Host.negf z) (broadcastInDim S16x2048x8 ![] bcast_S_S16x2048x8 (constant S_ .f32 0x00000000#32)))) (addf (Host.negf z) (broadcastInDim S16x2048x8 ![] bcast_S_S16x2048x8 (constant S_ .f32 0x00000000#32))) (addf (maximumf (Host.negf z) (broadcastInDim S16x2048x8 ![] bcast_S_S16x2048x8 (constant S_ .f32 0x00000000#32))) (Host.log1p (Host.exp (Host.negf (Host.absf (subf (Host.negf z) (broadcastInDim S16x2048x8 ![] bcast_S_S16x2048x8 (constant S_ .f32 0x00000000#32)))))))))

/-- Zeros for the lanes that hold nothing. -/
def gZero : FVec Ideal S16x2048x96 .f32 := broadcastInDim S16x2048x96 ![] bcast_S_S16x2048x96 (constant S_ .f32 0x00000000#32)

/-- The log of the sigmoid, the lanes that hold nothing. -/
def gLog96 (z : FVec Ideal S16x2048x96 .f32) : FVec Ideal S16x2048x96 .f32 :=
  Host.negf (select (cmpf .une (subf (Host.negf z) (broadcastInDim S16x2048x96 ![] bcast_S_S16x2048x96 (constant S_ .f32 0x00000000#32))) (subf (Host.negf z) (broadcastInDim S16x2048x96 ![] bcast_S_S16x2048x96 (constant S_ .f32 0x00000000#32)))) (addf (Host.negf z) (broadcastInDim S16x2048x96 ![] bcast_S_S16x2048x96 (constant S_ .f32 0x00000000#32))) (addf (maximumf (Host.negf z) (broadcastInDim S16x2048x96 ![] bcast_S_S16x2048x96 (constant S_ .f32 0x00000000#32))) (Host.log1p (Host.exp (Host.negf (Host.absf (subf (Host.negf z) (broadcastInDim S16x2048x96 ![] bcast_S_S16x2048x96 (constant S_ .f32 0x00000000#32)))))))))

/-- The small result. -/
def gSmall (u : FVec Ideal S16x2048x24 .f32) (v : FVec Ideal S16x2048x8 .f32) (w : FVec Ideal S16x2048x96 .f32) : FVec Ideal S32768x128 .f32 :=
  shapeCast _ (concatenate S16x2048x128 2 [⟨S16x2048x24, u⟩, ⟨S16x2048x8, v⟩, ⟨S16x2048x96, w⟩] concatenates_S16x2048x24_S16x2048x8_S16x2048x96_S16x2048x128_d2) shapeCasts_S16x2048x128_S32768x128

theorem res_eq (m : (ℓ : Loc nD τ sig) → Buf (Elt Ideal) ℓ) (c : Dev nD) :
    res_main_v41 m c = gSmall (gGate (gProj (m ((c : Thread nD τ).loc main_arg0)) (m ((c : Thread nD τ).loc main_arg1)) (m ((c : Thread nD τ).loc main_arg2))))
      (gLog8 (gBias (gProj (m ((c : Thread nD τ).loc main_arg0)) (m ((c : Thread nD τ).loc main_arg1)) (m ((c : Thread nD τ).loc main_arg2))) (m ((c : Thread nD τ).loc main_arg3))))
      (gLog96 gZero) := rfl

/-! ## Read at an index -/

theorem idx_eq (a : Fin 16) (b : Fin 2048) (j : Fin 5664) (n q : ℕ) (ha : a.val = n / 2048 % 16) (hb : b.val = n % 2048) (hj : j.val = q) :
    (ix3 a b j : S16x2048x5664.Idx) = ix3 (ent 2048 n) (pos n) (colm q) := by
  rw [show a = ent 2048 n from Fin.ext ha, show b = pos n from Fin.ext hb, colm_eq q j hj.symm]

theorem gNorm_at (x : FVec Ideal S16x2048x2048 .f32) (g : FVec Ideal S2048 .f32) (a : Fin 16) (t k : Fin 2048) :
    gNorm x g (ix3 a t k) = rms (fun j => x (ix3 a t j)) (fun j => g (ix1 j)) k := by
  unfold gNorm rms
  pointwise

theorem dot_at (h : FVec Ideal S16x2048x2048 .f32) (w : FVec Ideal S2048x5664 .f32) (a : Fin 16) (t : Fin 2048) (j : Fin 5664) :
    Host.dotGeneral dot_S16x2048x2048_S2048x5664_S16x2048x5664_2_0_01_1_n_n none h w (ix3 a t j) = ∑ k : Fin 2048, h (ix3 a t k) * w (ix2 k j) := by
  pointwise

/-- An entry of the product. -/
theorem gProj_at (x : FVec Ideal S16x2048x2048 .f32) (g : FVec Ideal S2048 .f32) (w : FVec Ideal S2048x5664 .f32)
    (a : Fin 16) (t : Fin 2048) (j : Fin 5664) (n q : ℕ) (hn : n = 2048 * a.val + t.val) (hq : q = j.val) :
    gProj x g w (ix3 a t j) = entry x g w n q := by
  unfold gProj entry normRow
  rw [dot_at, ent_eq n a t hn, pos_eq n a t hn, colm_eq q j hq]
  exact Finset.sum_congr rfl fun k _ => congrArg (· * _) (gNorm_at x g a t k)

theorem gQ_at (p : FVec Ideal S16x2048x5664 .f32) (i : Fin 32768) (d : Fin 1024) :
    gQ p (ix2 i d) = p (ix3 (ent 2048 i.val) (pos i.val) (colm (0 + d.val))) := by
  unfold gQ
  pointwise
  have hi := i.isLt
  refine congrArg p (idx_eq _ _ _ _ _ ?_ ?_ ?_) <;> simp <;> omega

theorem gC_at (p : FVec Ideal S16x2048x5664 .f32) (i : Fin 131072) (d : Fin 128) :
    gC p (ix2 i d) = p (ix3 (ent 2048 (i.val / 4)) (pos (i.val / 4)) (colm (1024 + 128 * (i.val % 4) + d.val))) := by
  unfold gC
  pointwise
  have hi := i.isLt
  refine congrArg p (idx_eq _ _ _ _ _ ?_ ?_ ?_) <;> simp <;> omega

theorem gS_at (p : FVec Ideal S16x2048x5664 .f32) (i : Fin 131072) (d : Fin 128) :
    gS p (ix2 i d) = p (ix3 (ent 2048 (i.val / 4)) (pos (i.val / 4)) (colm (1536 + 128 * (i.val % 4) + d.val))) := by
  unfold gS
  pointwise
  have hi := i.isLt
  refine congrArg p (idx_eq _ _ _ _ _ ?_ ?_ ?_) <;> simp <;> omega

theorem gW_at (p : FVec Ideal S16x2048x5664 .f32) (i : Fin 131072) (d : Fin 128) :
    gW p (ix2 i d) = p (ix3 (ent 2048 (i.val / 4)) (pos (i.val / 4)) (colm (2048 + 128 * (i.val % 4) + d.val))) := by
  unfold gW
  pointwise
  have hi := i.isLt
  refine congrArg p (idx_eq _ _ _ _ _ ?_ ?_ ?_) <;> simp <;> omega

theorem gQF_at (p : FVec Ideal S16x2048x5664 .f32) (i : Fin 32768) (d : Fin 1024) :
    gQF p (ix2 i d) = p (ix3 (ent 2048 i.val) (pos i.val) (colm (2584 + d.val))) := by
  unfold gQF
  pointwise
  have hi := i.isLt
  refine congrArg p (idx_eq _ _ _ _ _ ?_ ?_ ?_) <;> simp <;> omega

theorem gKF_at (p : FVec Ideal S16x2048x5664 .f32) (i : Fin 32768) (d : Fin 2048) :
    gKF p (ix2 i d) = p (ix3 (ent 2048 i.val) (pos i.val) (colm (3608 + d.val))) := by
  unfold gKF
  pointwise
  have hi := i.isLt
  refine congrArg p (idx_eq _ _ _ _ _ ?_ ?_ ?_) <;> simp <;> omega

theorem gLog8_at (z : FVec Ideal S16x2048x8 .f32) (a : Fin 16) (t : Fin 2048) (l : Fin 8) :
    gLog8 z (ix3 a t l) = logSig (z (ix3 a t l)) := by
  rw [← negSoft_eq]
  unfold gLog8 negSoft
  pointwise
  rw [if_neg (fun h => h rfl)]
  rfl

theorem gLog96_at (z : FVec Ideal S16x2048x96 .f32) (a : Fin 16) (t : Fin 2048) (l : Fin 96) :
    gLog96 z (ix3 a t l) = logSig (z (ix3 a t l)) := by
  rw [← negSoft_eq]
  unfold gLog96 negSoft
  pointwise
  rw [if_neg (fun h => h rfl)]
  rfl

theorem gZero_at (a : Fin 16) (t : Fin 2048) (l : Fin 96) : gZero (ix3 a t l) = 0 := by
  unfold gZero
  pointwise

theorem gGate_at (p : FVec Ideal S16x2048x5664 .f32) (a : Fin 16) (t : Fin 2048) (l : Fin 24) :
    gGate p (ix3 a t l) = gate (p (ix3 a t (colm (2560 + l.val)))) := by
  unfold gGate gate
  pointwise
  rw [colm_eq (2560 + l.val) ⟨2560 + l.val, by have := l.isLt; omega⟩ rfl]

theorem gBias_at (p : FVec Ideal S16x2048x5664 .f32) (b : FVec Ideal S8 .f32) (a : Fin 16) (t : Fin 2048) (l : Fin 8) :
    gBias p b (ix3 a t l) = p (ix3 a t (colm (5656 + l.val))) + b (ix1 l) := by
  unfold gBias
  pointwise
  rw [colm_eq (5656 + l.val) ⟨5656 + l.val, by have := l.isLt; omega⟩ rfl]

theorem gSmall_at (u : FVec Ideal S16x2048x24 .f32) (v : FVec Ideal S16x2048x8 .f32) (w : FVec Ideal S16x2048x96 .f32) (i : Fin 32768) (l : Fin 128) :
    gSmall u v w (ix2 i l) = if h : l.val < 24 then u (ix3 (ent 2048 i.val) (pos i.val) ⟨l.val, h⟩)
      else if h' : l.val < 32 then v (ix3 (ent 2048 i.val) (pos i.val) ⟨l.val - 24, by omega⟩)
      else w (ix3 (ent 2048 i.val) (pos i.val) ⟨l.val - 32, by omega⟩) := by
  unfold gSmall
  pointwise
  have hi := i.isLt
  have hl := l.isLt
  have ea : ∀ p, (⟨i.val / 2048, p⟩ : Fin 16) = ent 2048 i.val := fun p => Fin.ext (by show i.val / 2048 = i.val / 2048 % 16; omega)
  have eb : ∀ p, (⟨i.val % 2048, p⟩ : Fin 2048) = pos i.val := fun p => rfl
  by_cases h : l.val < 24
  · rw [dif_pos h, dif_pos h]
    rw [ea, eb]
  · rw [dif_neg h, dif_neg h]
    by_cases h' : l.val < 32
    · rw [dif_pos (by omega), dif_pos h']
      rw [ea, eb]
    · rw [dif_neg (by omega), dif_neg h']
      rw [ea, eb]
      exact congrArg (fun e => w (ix3 (ent 2048 i.val) (pos i.val) e)) (Fin.ext (by show l.val - 24 - 8 = l.val - 32; omega))

end Cert.Reference5Ideal.Proj
end
end
-- ==== Proof.Proj.Equation.lean ====
/- The reference's results are the specification's arrays. -/
module

public import proofs.«01_k».proof.Proof.Proj.Ref

@[expose] public section
noncomputable section
namespace Cert.Reference5Ideal.Proj
open Cert.Reference5Ideal Cert.Rms Cert.Logs Cert.Proj Idealize.ShloMosaic Idealize.ShloMosaic.TcCoe

variable (X : FVec Ideal S16x2048x2048 .f32) (G : FVec Ideal S2048 .f32) (W : FVec Ideal S2048x5664 .f32) (B : FVec Ideal S8 .f32)

/-- An entry of the product, by its row's and its column's number. -/
theorem proj_num (n q : ℕ) (hn : n < 32768) (hq : q < 5664) : gProj X G W (ix3 (ent 2048 n) (pos n) (colm q)) = entry X G W n q := by
  refine gProj_at X G W _ _ _ n q ?_ ?_
  · show n = 2048 * (n / 2048 % 16) + n % 2048
    omega
  · show q = q % 5664
    omega

theorem gQ_eq : gQ (gProj X G W) = flat X G W 0 := by
  funext y
  obtain ⟨i, d, rfl⟩ : ∃ (i : Fin 32768) (d : Fin 1024), y = ix2 i d := ⟨y 0, y 1, by blk_ext⟩
  have hi := i.isLt
  have hd := d.isLt
  exact (gQ_at _ i d).trans (proj_num X G W i.val (0 + d.val) (by omega) (by omega))

theorem gC_eq : gC (gProj X G W) = quad X G W 1024 := by
  funext y
  obtain ⟨i, d, rfl⟩ : ∃ (i : Fin 131072) (d : Fin 128), y = ix2 i d := ⟨y 0, y 1, by blk_ext⟩
  have hi := i.isLt
  have hd := d.isLt
  exact (gC_at _ i d).trans (proj_num X G W (i.val / 4) (1024 + 128 * (i.val % 4) + d.val) (by omega) (by omega))

theorem gS_eq : gS (gProj X G W) = quad X G W 1536 := by
  funext y
  obtain ⟨i, d, rfl⟩ : ∃ (i : Fin 131072) (d : Fin 128), y = ix2 i d := ⟨y 0, y 1, by blk_ext⟩
  have hi := i.isLt
  have hd := d.isLt
  exact (gS_at _ i d).trans (proj_num X G W (i.val / 4) (1536 + 128 * (i.val % 4) + d.val) (by omega) (by omega))

theorem gW_eq : gW (gProj X G W) = quad X G W 2048 := by
  funext y
  obtain ⟨i, d, rfl⟩ : ∃ (i : Fin 131072) (d : Fin 128), y = ix2 i d := ⟨y 0, y 1, by blk_ext⟩
  have hi := i.isLt
  have hd := d.isLt
  exact (gW_at _ i d).trans (proj_num X G W (i.val / 4) (2048 + 128 * (i.val % 4) + d.val) (by omega) (by omega))

theorem gQF_eq : gQF (gProj X G W) = flat X G W 2584 := by
  funext y
  obtain ⟨i, d, rfl⟩ : ∃ (i : Fin 32768) (d : Fin 1024), y = ix2 i d := ⟨y 0, y 1, by blk_ext⟩
  have hi := i.isLt
  have hd := d.isLt
  exact (gQF_at _ i d).trans (proj_num X G W i.val (2584 + d.val) (by omega) (by omega))

theorem gKF_eq : gKF (gProj X G W) = flat X G W 3608 := by
  funext y
  obtain ⟨i, d, rfl⟩ : ∃ (i : Fin 32768) (d : Fin 2048), y = ix2 i d := ⟨y 0, y 1, by blk_ext⟩
  have hi := i.isLt
  have hd := d.isLt
  exact (gKF_at _ i d).trans (proj_num X G W i.val (3608 + d.val) (by omega) (by omega))

theorem gSmall_eq : gSmall (gGate (gProj X G W)) (gLog8 (gBias (gProj X G W) B)) (gLog96 gZero) = tail X G W B := by
  funext y
  obtain ⟨i, l, rfl⟩ : ∃ (i : Fin 32768) (l : Fin 128), y = ix2 i l := ⟨y 0, y 1, by blk_ext⟩
  have hi := i.isLt
  have hl := l.isLt
  refine (gSmall_at _ _ _ i l).trans ?_
  show _ = lanes X G W B i.val l.val
  unfold lanes
  by_cases h : l.val < 24
  · rw [dif_pos h, if_pos h, gGate_at]
    exact congrArg gate (proj_num X G W i.val (2560 + l.val) hi (by omega))
  · rw [dif_neg h, if_neg h]
    by_cases h' : l.val < 32
    · rw [dif_pos h', if_pos h', gLog8_at, gBias_at]
      have e : 5656 + (l.val - 24) = 5632 + l.val := by omega
      refine congrArg logSig (congrArg₂ (· + ·) ?_ ?_)
      · refine (congrArg (fun q => gProj X G W (ix3 (ent 2048 i.val) (pos i.val) (colm q))) e).trans ?_
        exact proj_num X G W i.val (5632 + l.val) hi (by omega)
      · exact congrArg (fun k => B (ix1 k)) (bias_eq _ _ rfl).symm
    · rw [dif_neg h', if_neg h', gLog96_at, gZero_at, add_zero]

end Cert.Reference5Ideal.Proj
end
end
-- ==== Proof.Proj.Claims.lean ====
/- The claims about the input projection, one theorem each. -/
module

public import proofs.«01_k».proof.Defs
public import proofs.«01_k».proof.Proof.Gen.Kernel5
public import proofs.«01_k».proof.Proof.Proj.Array
public import proofs.«01_k».proof.Proof.Proj.Equation
public import Idealize.ShloMosaic.Lib.Quiescent

@[expose] public section
noncomputable section

namespace Cert.Kernel5Ideal.Proj
open Cert.Kernel5Ideal Cert.Kernel5Ideal.Gen Cert.Proj Idealize.ShloMosaic Idealize.ShloMosaic.TcCoe Idealize.SL.Sem

variable (m : (ℓ : Loc nD τ sig) → Buf (Elt Ideal) ℓ) (ρ : Dev nD → PrngReg)

/-- The kernel's run: the seven arrays, and the arguments as they were. -/
theorem run_arrays : θ_run defs (onTc (τ := τ) (main (F := Ideal))) ⟨m, fun _ => 0, ρ⟩ fun r => ∀ c : Dev nD,
      r.2.mem ((c.tc : Thread nD τ).loc main_v16_0) = flat (xA m c) (gA m c) (wA m c) 0
      ∧ r.2.mem ((c.tc : Thread nD τ).loc main_v16_1) = quad (xA m c) (gA m c) (wA m c) 1024
      ∧ r.2.mem ((c.tc : Thread nD τ).loc main_v16_2) = quad (xA m c) (gA m c) (wA m c) 1536
      ∧ r.2.mem ((c.tc : Thread nD τ).loc main_v16_3) = quad (xA m c) (gA m c) (wA m c) 2048
      ∧ r.2.mem ((c.tc : Thread nD τ).loc main_v16_4) = flat (xA m c) (gA m c) (wA m c) 2584
      ∧ r.2.mem ((c.tc : Thread nD τ).loc main_v16_5) = flat (xA m c) (gA m c) (wA m c) 3608
      ∧ r.2.mem ((c.tc : Thread nD τ).loc main_v16_6) = tail (xA m c) (gA m c) (wA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 5).trans (array5 m c), ((h c).1 6).trans (array6 m c), ((h c).1 7).trans (array7 m c),
      ((h c).1 8).trans (array8 m c), ((h c).1 9).trans (array9 m c), ((h c).1 10).trans (array10 m c), ((h c).1 11).trans (array11 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run m ρ)

end Cert.Kernel5Ideal.Proj

namespace Cert.Proof.Proj
open Cert.Proj Idealize.ShloMosaic Idealize.ShloMosaic.TcCoe Idealize.SL.Sem

/-- The kernel and its idealization have the same body table. -/
theorem tables : Cert.Kernel5.defs (F := Bits) = Cert.Kernel5Ideal.defs (F := Bits) := by
  unfold Cert.Kernel5.defs Cert.Kernel5Ideal.defs Cert.Kernel5.defs₀ Cert.Kernel5Ideal.defs₀
  refine congrArg (fun D => Pipeline.defs Cert.Kernel5.pcfgs (Defs.onTc D)) (funext fun l => funext fun a => ?_)
  match l, a with
  | ⟨0, _⟩, (t, s) => rfl

/-- The kernel as written runs, keeps its arguments and ends with every counter at zero. -/
theorem frame_p : Cert.quiescent_Kernel5 (hKernel5 := Cert.Kernel5.Gen.facts) := fun m ρ _ => by
  rw [tables]
  exact Cert.Kernel5Ideal.Proj.frame (F := Bits) m ρ

/-- So does its idealization. -/
theorem frame_pi : Cert.quiescent_Kernel5Ideal (hKernel5Ideal := Cert.Kernel5Ideal.Gen.facts) :=
  fun m ρ _ => Cert.Kernel5Ideal.Proj.frame m ρ

/-- The reference runs and keeps its arguments; it declares no semaphore. -/
theorem frame_r : Cert.quiescent_Reference5Ideal (hReference5Ideal := Cert.Reference5Ideal.Gen.facts) := fun m ρ _ =>
  (θ_run Cert.Reference5Ideal.defs _ _).mono
    (fun r h => ⟨fun c => (h c).2.2.2.2.2.2.2, Idealize.ShloMosaic.sem_eq_zero_of_no_sems (by decide) r.2⟩)
    (Cert.Reference5Ideal.Value.run (F := Ideal) m ρ)

/-- Nothing was rewritten between the kernel and its idealization. -/
theorem preserves : Cert.preserves_Kernel5_Kernel5Ideal := trivial

/-- Kernel and reference end with the same seven arrays: those that the specification writes out. -/
theorem algebraic : Cert.algebraic_Kernel5Ideal_Reference5Ideal (hKernel5Ideal := Cert.Kernel5Ideal.Gen.facts)
    (hReference5Ideal := Cert.Reference5Ideal.Gen.facts) := by
  intro m g m' g' _ harg
  refine ⟨fun c => flat (Cert.Kernel5Ideal.Proj.xA m c) (Cert.Kernel5Ideal.Proj.gA m c) (Cert.Kernel5Ideal.Proj.wA m c) 0,
    fun c => quad (Cert.Kernel5Ideal.Proj.xA m c) (Cert.Kernel5Ideal.Proj.gA m c) (Cert.Kernel5Ideal.Proj.wA m c) 1024,
    fun c => quad (Cert.Kernel5Ideal.Proj.xA m c) (Cert.Kernel5Ideal.Proj.gA m c) (Cert.Kernel5Ideal.Proj.wA m c) 1536,
    fun c => quad (Cert.Kernel5Ideal.Proj.xA m c) (Cert.Kernel5Ideal.Proj.gA m c) (Cert.Kernel5Ideal.Proj.wA m c) 2048,
    fun c => flat (Cert.Kernel5Ideal.Proj.xA m c) (Cert.Kernel5Ideal.Proj.gA m c) (Cert.Kernel5Ideal.Proj.wA m c) 2584,
    fun c => flat (Cert.Kernel5Ideal.Proj.xA m c) (Cert.Kernel5Ideal.Proj.gA m c) (Cert.Kernel5Ideal.Proj.wA m c) 3608,
    fun c => tail (Cert.Kernel5Ideal.Proj.xA m c) (Cert.Kernel5Ideal.Proj.gA m c) (Cert.Kernel5Ideal.Proj.wA m c) (Cert.Kernel5Ideal.Proj.bA m c), ?_, ?_⟩
  · exact Cert.Kernel5Ideal.Proj.run_arrays m g
  · refine (θ_run Cert.Reference5Ideal.defs _ _).mono (fun r h c => ?_) (Cert.Reference5Ideal.Value.run (F := Ideal) m' g')
    obtain ⟨e0, e1, e2, e3, e4, e5, e6, k⟩ := h c
    rw [Cert.Reference5Ideal.Proj.res_eq] at e6
    rw [(harg c).1, (harg c).2.1, (harg c).2.2.1] at e0 e1 e2 e3 e4 e5
    rw [(harg c).1, (harg c).2.1, (harg c).2.2.1, (harg c).2.2.2] at e6
    exact ⟨e0.trans (Cert.Reference5Ideal.Proj.gQ_eq _ _ _), e1.trans (Cert.Reference5Ideal.Proj.gC_eq _ _ _),
      e2.trans (Cert.Reference5Ideal.Proj.gS_eq _ _ _), e3.trans (Cert.Reference5Ideal.Proj.gW_eq _ _ _),
      e4.trans (Cert.Reference5Ideal.Proj.gQF_eq _ _ _), e5.trans (Cert.Reference5Ideal.Proj.gKF_eq _ _ _),
      e6.trans (Cert.Reference5Ideal.Proj.gSmall_eq _ _ _ _), k⟩

end Cert.Proof.Proj
end
end
-- ==== Proof.ProjS.RunIdeal.lean ====
/- The sample's input projection: its body is the prompt's over the same blocks, so that each output's buffer is left
   with the prompt's values; the launch has one point, and host lines after it move the window buffer on. -/
module

public import proofs.«01_k».proof.Proof.Gen.Kernel6Ideal.Frame
public import proofs.«01_k».proof.Proof.Proj.RunIdeal
public import Idealize.ShloMosaic.Lib.Pipeline.FrameSuffix
public import Idealize.ShloMosaic.Lib.Pipeline.ValueKit.Tiles
public import Idealize.ShloMosaic.Lib.Claim

@[expose] public section

set_option synthInstance.maxSize 4096
set_option maxRecDepth 16384

noncomputable section

namespace Cert.Kernel6Ideal.Proj

open Cert.Kernel6Ideal Cert.Kernel6Ideal.Gen
open Cert.Kernel5Ideal.Proj (tile prod lanes0 lanes1 lanes2 lanes3 small left5 left6 left7 left8 left9 left10 left11 cover_h cover_k cover_q cover_r)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body over the prompt's values -/

def ops1 (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) :
    Prog (TpuEff nD τ sig (Elt F) Λ₀ .tc) (Σ' (v16 : FVec F S256x2048 .bf16) (v27 : FVec F S256x512 .f32), FVec F S256x128 .f32) := do
  let v0 : Vec F S256x2048 .f32 ← Prog.lift (.load arg1 (Rect.unit (s := S256x2048) ![0, 0] S256x2048.size inb_S256x2048_S256x2048_0_0).toLoadRect (View.loadsAt_vmem h_S256x2048))
  let v12 : Vec F S1x2048 .f32 ← Prog.lift (.load arg2 (Rect.unit (s := S1x2048) ![0, 0] S1x2048.size inb_S1x2048_S1x2048_0_0).toLoadRect (View.loadsAt_vmem h_S1x2048))
  let v17 : Vec F S2048x512 .bf16 ← Prog.lift (.load arg3 (Rect.unit (s := S2048x5632) ![0, 0] S2048x512.size inb_S2048x5632_S2048x512_0_0).toLoadRect (View.loadsAt_vmem h_S2048x512))
  let v20 : Vec F S256x512 .f32 ← Prog.lift (.load arg6 (Rect.unit (s := S256x1024) ![0, 0] S256x512.size inb_S256x1024_S256x512_0_0).toLoadRect (View.loadsAt_vmem h_S256x512))
  Prog.lift (.store arg6 (Rect.unit (s := S256x1024) ![0, 0] S256x512.size inb_S256x1024_S256x512_0_0) (prod (tile v0 v12) v17) Finset.univ (View.stores_vmem_bits_univ h_S256x512 rfl) (.inl rfl))
  let v21 : Vec F S2048x512 .bf16 ← Prog.lift (.load arg3 (Rect.unit (s := S2048x5632) ![0, 512] S2048x512.size inb_S2048x5632_S2048x512_0_512).toLoadRect (View.loadsAt_vmem h_S2048x512))
  let v24 : Vec F S256x512 .f32 ← Prog.lift (.load arg6 (Rect.unit (s := S256x1024) ![0, 512] S256x512.size inb_S256x1024_S256x512_0_512).toLoadRect (View.loadsAt_vmem h_S256x512))
  Prog.lift (.store arg6 (Rect.unit (s := S256x1024) ![0, 512] S256x512.size inb_S256x1024_S256x512_0_512) (prod (tile v0 v12) v21) Finset.univ (View.stores_vmem_bits_univ h_S256x512 rfl) (.inl rfl))
  let v25 : Vec F S2048x512 .bf16 ← Prog.lift (.load arg3 (Rect.unit (s := S2048x5632) ![0, 1024] S2048x512.size inb_S2048x5632_S2048x512_0_1024).toLoadRect (View.loadsAt_vmem h_S2048x512))
  let v29 : Vec F S256x128 .f32 ← Prog.lift (.load arg7 (⟨![0, 0], S256x128.size, ![4, 1], inb_S1024x128_S256x128_0_0_s_4_1⟩ : LoadRect S1024x128) (View.loadsAt_vmem h_S256x128))
  Prog.lift (.store arg7 ⟨(⟨![0, 0], S256x128.size, ![4, 1], inb_S1024x128_S256x128_0_0_s_4_1⟩ : LoadRect S1024x128), spos_4_1⟩ (lanes0 (prod (tile v0 v12) v25)) Finset.univ (View.stores_vmem_bits_univ h_S256x128 rfl) (.inl rfl))
  let v31 : Vec F S256x128 .f32 ← Prog.lift (.load arg7 (⟨![1, 0], S256x128.size, ![4, 1], inb_S1024x128_S256x128_1_0_s_4_1⟩ : LoadRect S1024x128) (View.loadsAt_vmem h_S256x128))
  pure ⟨(tile v0 v12), (prod (tile v0 v12) v25), (lanes1 (prod (tile v0 v12) v25))⟩

theorem ops1_eq : k0_part1 (F := F) = ops1 (F := F) := rfl

def ops2 (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) (v16 : FVec F S256x2048 .bf16) (v27 : FVec F S256x512 .f32) (v30 : FVec F S256x128 .f32) :
    Prog (TpuEff nD τ sig (Elt F) Λ₀ .tc) (FVec F S256x128 .f32) := do
  Prog.lift (.store arg7 ⟨(⟨![1, 0], S256x128.size, ![4, 1], inb_S1024x128_S256x128_1_0_s_4_1⟩ : LoadRect S1024x128), spos_4_1⟩ v30 Finset.univ (View.stores_vmem_bits_univ h_S256x128 rfl) (.inl rfl))
  let v33 : Vec F S256x128 .f32 ← Prog.lift (.load arg7 (⟨![2, 0], S256x128.size, ![4, 1], inb_S1024x128_S256x128_2_0_s_4_1⟩ : LoadRect S1024x128) (View.loadsAt_vmem h_S256x128))
  Prog.lift (.store arg7 ⟨(⟨![2, 0], S256x128.size, ![4, 1], inb_S1024x128_S256x128_2_0_s_4_1⟩ : LoadRect S1024x128), spos_4_1⟩ (lanes2 v27) Finset.univ (View.stores_vmem_bits_univ h_S256x128 rfl) (.inl rfl))
  let v35 : Vec F S256x128 .f32 ← Prog.lift (.load arg7 (⟨![3, 0], S256x128.size, ![4, 1], inb_S1024x128_S256x128_3_0_s_4_1⟩ : LoadRect S1024x128) (View.loadsAt_vmem h_S256x128))
  Prog.lift (.store arg7 ⟨(⟨![3, 0], S256x128.size, ![4, 1], inb_S1024x128_S256x128_3_0_s_4_1⟩ : LoadRect S1024x128), spos_4_1⟩ (lanes3 v27) Finset.univ (View.stores_vmem_bits_univ h_S256x128 rfl) (.inl rfl))
  let v36 : Vec F S2048x512 .bf16 ← Prog.lift (.load arg3 (Rect.unit (s := S2048x5632) ![0, 1536] S2048x512.size inb_S2048x5632_S2048x512_0_1536).toLoadRect (View.loadsAt_vmem h_S2048x512))
  let v40 : Vec F S256x128 .f32 ← Prog.lift (.load arg8 (⟨![0, 0], S256x128.size, ![4, 1], inb_S1024x128_S256x128_0_0_s_4_1⟩ : LoadRect S1024x128) (View.loadsAt_vmem h_S256x128))
  Prog.lift (.store arg8 ⟨(⟨![0, 0], S256x128.size, ![4, 1], inb_S1024x128_S256x128_0_0_s_4_1⟩ : LoadRect S1024x128), spos_4_1⟩ (lanes0 (prod v16 v36)) Finset.univ (View.stores_vmem_bits_univ h_S256x128 rfl) (.inl rfl))
  let v42 : Vec F S256x128 .f32 ← Prog.lift (.load arg8 (⟨![1, 0], S256x128.size, ![4, 1], inb_S1024x128_S256x128_1_0_s_4_1⟩ : LoadRect S1024x128) (View.loadsAt_vmem h_S256x128))
  Prog.lift (.store arg8 ⟨(⟨![1, 0], S256x128.size, ![4, 1], inb_S1024x128_S256x128_1_0_s_4_1⟩ : LoadRect S1024x128), spos_4_1⟩ (lanes1 (prod v16 v36)) Finset.univ (View.stores_vmem_bits_univ h_S256x128 rfl) (.inl rfl))
  let v44 : Vec F S256x128 .f32 ← Prog.lift (.load arg8 (⟨![2, 0], S256x128.size, ![4, 1], inb_S1024x128_S256x128_2_0_s_4_1⟩ : LoadRect S1024x128) (View.loadsAt_vmem h_S256x128))
  Prog.lift (.store arg8 ⟨(⟨![2, 0], S256x128.size, ![4, 1], inb_S1024x128_S256x128_2_0_s_4_1⟩ : LoadRect S1024x128), spos_4_1⟩ (lanes2 (prod v16 v36)) Finset.univ (View.stores_vmem_bits_univ h_S256x128 rfl) (.inl rfl))
  let v46 : Vec F S256x128 .f32 ← Prog.lift (.load arg8 (⟨![3, 0], S256x128.size, ![4, 1], inb_S1024x128_S256x128_3_0_s_4_1⟩ : LoadRect S1024x128) (View.loadsAt_vmem h_S256x128))
  Prog.lift (.store arg8 ⟨(⟨![3, 0], S256x128.size, ![4, 1], inb_S1024x128_S256x128_3_0_s_4_1⟩ : LoadRect S1024x128), spos_4_1⟩ (lanes3 (prod v16 v36)) Finset.univ (View.stores_vmem_bits_univ h_S256x128 rfl) (.inl rfl))
  let v47 : Vec F S2048x512 .bf16 ← Prog.lift (.load arg3 (Rect.unit (s := S2048x5632) ![0, 2048] S2048x512.size inb_S2048x5632_S2048x512_0_2048).toLoadRect (View.loadsAt_vmem h_S2048x512))
  let v51 : Vec F S256x128 .f32 ← Prog.lift (.load arg9 (⟨![0, 0], S256x128.size, ![4, 1], inb_S1024x128_S256x128_0_0_s_4_1⟩ : LoadRect S1024x128) (View.loadsAt_vmem h_S256x128))
  Prog.lift (.store arg9 ⟨(⟨![0, 0], S256x128.size, ![4, 1], inb_S1024x128_S256x128_0_0_s_4_1⟩ : LoadRect S1024x128), spos_4_1⟩ (lanes0 (prod v16 v47)) Finset.univ (View.stores_vmem_bits_univ h_S256x128 rfl) (.inl rfl))
  let v53 : Vec F S256x128 .f32 ← Prog.lift (.load arg9 (⟨![1, 0], S256x128.size, ![4, 1], inb_S1024x128_S256x128_1_0_s_4_1⟩ : LoadRect S1024x128) (View.loadsAt_vmem h_S256x128))
  Prog.lift (.store arg9 ⟨(⟨![1, 0], S256x128.size, ![4, 1], inb_S1024x128_S256x128_1_0_s_4_1⟩ : LoadRect S1024x128), spos_4_1⟩ (lanes1 (prod v16 v47)) Finset.univ (View.stores_vmem_bits_univ h_S256x128 rfl) (.inl rfl))
  let v55 : Vec F S256x128 .f32 ← Prog.lift (.load arg9 (⟨![2, 0], S256x128.size, ![4, 1], inb_S1024x128_S256x128_2_0_s_4_1⟩ : LoadRect S1024x128) (View.loadsAt_vmem h_S256x128))
  Prog.lift (.store arg9 ⟨(⟨![2, 0], S256x128.size, ![4, 1], inb_S1024x128_S256x128_2_0_s_4_1⟩ : LoadRect S1024x128), spos_4_1⟩ (lanes2 (prod v16 v47)) Finset.univ (View.stores_vmem_bits_univ h_S256x128 rfl) (.inl rfl))
  pure (lanes3 (prod v16 v47))

theorem ops2_eq : k0_part2 (F := F) = ops2 (F := F) := rfl

def ops3 (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) (v16 : FVec F S256x2048 .bf16) (v56 : FVec F S256x128 .f32) :
    Prog (TpuEff nD τ sig (Elt F) Λ₀ .tc) (FVec F S256x512 .f32) := do
  let v57 : Vec F S256x128 .f32 ← Prog.lift (.load arg9 (⟨![3, 0], S256x128.size, ![4, 1], inb_S1024x128_S256x128_3_0_s_4_1⟩ : LoadRect S1024x128) (View.loadsAt_vmem h_S256x128))
  Prog.lift (.store arg9 ⟨(⟨![3, 0], S256x128.size, ![4, 1], inb_S1024x128_S256x128_3_0_s_4_1⟩ : LoadRect S1024x128), spos_4_1⟩ v56 Finset.univ (View.stores_vmem_bits_univ h_S256x128 rfl) (.inl rfl))
  let v58 : Vec F S2048x512 .bf16 ← Prog.lift (.load arg3 (Rect.unit (s := S2048x5632) ![0, 2560] S2048x512.size inb_S2048x5632_S2048x512_0_2560).toLoadRect (View.loadsAt_vmem h_S2048x512))
  let v61 : Vec F S256x512 .f32 ← Prog.lift (.load arg10 (Rect.unit (s := S256x1024) ![0, 0] S256x512.size inb_S256x1024_S256x512_0_0).toLoadRect (View.loadsAt_vmem h_S256x512))
  Prog.lift (.store arg10 (Rect.unit (s := S256x1024) ![0, 0] S256x512.size inb_S256x1024_S256x512_0_0) (prod v16 v58) Finset.univ (View.stores_vmem_bits_univ h_S256x512 rfl) (.inl rfl))
  let v62 : Vec F S2048x512 .bf16 ← Prog.lift (.load arg3 (Rect.unit (s := S2048x5632) ![0, 3072] S2048x512.size inb_S2048x5632_S2048x512_0_3072).toLoadRect (View.loadsAt_vmem h_S2048x512))
  let v65 : Vec F S256x512 .f32 ← Prog.lift (.load arg10 (Rect.unit (s := S256x1024) ![0, 512] S256x512.size inb_S256x1024_S256x512_0_512).toLoadRect (View.loadsAt_vmem h_S256x512))
  Prog.lift (.store arg10 (Rect.unit (s := S256x1024) ![0, 512] S256x512.size inb_S256x1024_S256x512_0_512) (prod v16 v62) Finset.univ (View.stores_vmem_bits_univ h_S256x512 rfl) (.inl rfl))
  let v66 : Vec F S2048x512 .bf16 ← Prog.lift (.load arg3 (Rect.unit (s := S2048x5632) ![0, 3584] S2048x512.size inb_S2048x5632_S2048x512_0_3584).toLoadRect (View.loadsAt_vmem h_S2048x512))
  let v69 : Vec F S256x512 .f32 ← Prog.lift (.load arg11 (Rect.unit (s := S256x2048) ![0, 0] S256x512.size inb_S256x2048_S256x512_0_0).toLoadRect (View.loadsAt_vmem h_S256x512))
  Prog.lift (.store arg11 (Rect.unit (s := S256x2048) ![0, 0] S256x512.size inb_S256x2048_S256x512_0_0) (prod v16 v66) Finset.univ (View.stores_vmem_bits_univ h_S256x512 rfl) (.inl rfl))
  let v70 : Vec F S2048x512 .bf16 ← Prog.lift (.load arg3 (Rect.unit (s := S2048x5632) ![0, 4096] S2048x512.size inb_S2048x5632_S2048x512_0_4096).toLoadRect (View.loadsAt_vmem h_S2048x512))
  let v73 : Vec F S256x512 .f32 ← Prog.lift (.load arg11 (Rect.unit (s := S256x2048) ![0, 512] S256x512.size inb_S256x2048_S256x512_0_512).toLoadRect (View.loadsAt_vmem h_S256x512))
  Prog.lift (.store arg11 (Rect.unit (s := S256x2048) ![0, 512] S256x512.size inb_S256x2048_S256x512_0_512) (prod v16 v70) Finset.univ (View.stores_vmem_bits_univ h_S256x512 rfl) (.inl rfl))
  let v74 : Vec F S2048x512 .bf16 ← Prog.lift (.load arg3 (Rect.unit (s := S2048x5632) ![0, 4608] S2048x512.size inb_S2048x5632_S2048x512_0_4608).toLoadRect (View.loadsAt_vmem h_S2048x512))
  let v77 : Vec F S256x512 .f32 ← Prog.lift (.load arg11 (Rect.unit (s := S256x2048) ![0, 1024] S256x512.size inb_S256x2048_S256x512_0_1024).toLoadRect (View.loadsAt_vmem h_S256x512))
  Prog.lift (.store arg11 (Rect.unit (s := S256x2048) ![0, 1024] S256x512.size inb_S256x2048_S256x512_0_1024) (prod v16 v74) Finset.univ (View.stores_vmem_bits_univ h_S256x512 rfl) (.inl rfl))
  let v78 : Vec F S2048x512 .bf16 ← Prog.lift (.load arg3 (Rect.unit (s := S2048x5632) ![0, 5120] S2048x512.size inb_S2048x5632_S2048x512_0_5120).toLoadRect (View.loadsAt_vmem h_S2048x512))
  pure (prod v16 v78)

theorem ops3_eq : k0_part3 (F := F) = ops3 (F := F) := rfl

def ops (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole) :
    Prog (TpuEff nD τ sig (Elt F) Λ₀ .tc) PUnit := do
  let ⟨v16, v27, v30⟩ : Σ' (v16 : FVec F S256x2048 .bf16) (v27 : FVec F S256x512 .f32), FVec F S256x128 .f32 ← k0_part1 i arg1 harg1 arg2 harg2 arg3 harg3 arg4 harg4 arg5 harg5 arg6 harg6 arg7 harg7 arg8 harg8 arg9 harg9 arg10 harg10 arg11 harg11 arg12 harg12
  let v56 : FVec F S256x128 .f32 ← k0_part2 i arg1 harg1 arg2 harg2 arg3 harg3 arg4 harg4 arg5 harg5 arg6 harg6 arg7 harg7 arg8 harg8 arg9 harg9 arg10 harg10 arg11 harg11 arg12 harg12 v16 v27 v30
  let v80 : FVec F S256x512 .f32 ← k0_part3 i arg1 harg1 arg2 harg2 arg3 harg3 arg4 harg4 arg5 harg5 arg6 harg6 arg7 harg7 arg8 harg8 arg9 harg9 arg10 harg10 arg11 harg11 arg12 harg12 v16 v56
  let v81 : Vec F S256x512 .f32 ← Prog.lift (.load arg11 (Rect.unit (s := S256x2048) ![0, 1536] S256x512.size inb_S256x2048_S256x512_0_1536).toLoadRect (View.loadsAt_vmem h_S256x512))
  Prog.lift (.store arg11 (Rect.unit (s := S256x2048) ![0, 1536] S256x512.size inb_S256x2048_S256x512_0_1536) v80 Finset.univ (View.stores_vmem_bits_univ h_S256x512 rfl) (.inl rfl))
  let v82 : Vec F S2048x128 .bf16 ← Prog.lift (.load arg4 (Rect.unit (s := S2048x128) ![0, 0] S2048x128.size inb_S2048x128_S2048x128_0_0).toLoadRect (View.loadsAt_vmem h_S2048x128))
  let v85 : Vec F S1x128 .f32 ← Prog.lift (.load arg5 (Rect.unit (s := S1x128) ![0, 0] S1x128.size inb_S1x128_S1x128_0_0).toLoadRect (View.loadsAt_vmem h_S1x128))
  let v108 : Vec F S256x128 .f32 ← Prog.lift (.load arg12 (Rect.unit (s := S256x128) ![0, 0] S256x128.size inb_S256x128_S256x128_0_0).toLoadRect (View.loadsAt_vmem h_S256x128))
  Prog.lift (.store arg12 (Rect.unit (s := S256x128) ![0, 0] S256x128.size inb_S256x128_S256x128_0_0) (small v16 v82 v85) Finset.univ (View.stores_vmem_bits_univ h_S256x128 rfl) (.inl rfl))
  pure ⟨⟩

theorem ops_eq : cc0_in_proj (F := F) = ops (F := F) := rfl

/-! ## The body's triple -/

set_option maxHeartbeats 4000000 in
/-- From the inputs' buffers at `x0` to `x4` and the outputs' at anything, the body ends with the inputs' as they
    were and output `w`'s at `left w`. -/
theorem body_runs (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S2048x5632 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S256x1024 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S256x1024 .f32) (harg10 : arg10.IsWhole) (arg11 : Memref sig .tc .vmem S256x2048 .f32) (harg11 : arg11.IsWhole) (arg12 : Memref sig .tc .vmem S256x128 .f32) (harg12 : arg12.IsWhole)
    (x0 : Vec F S256x2048 .f32) (x1 : Vec F S1x2048 .f32) (x2 : Vec F S2048x5632 .bf16) (x3 : Vec F S2048x128 .bf16) (x4 : Vec F S1x128 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (left5 x0 x1 x2 x3 x4) ∗ owns (c : Thread nD τ) arg7 fullShare (left6 x0 x1 x2 x3 x4) ∗ owns (c : Thread nD τ) arg8 fullShare (left7 x0 x1 x2 x3 x4) ∗ owns (c : Thread nD τ) arg9 fullShare (left8 x0 x1 x2 x3 x4) ∗ owns (c : Thread nD τ) arg10 fullShare (left9 x0 x1 x2 x3 x4) ∗ owns (c : Thread nD τ) arg11 fullShare (left10 x0 x1 x2 x3 x4) ∗ owns (c : Thread nD τ) arg12 fullShare (left11 x0 x1 x2 x3 x4)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12) K := by
  rw [ops_eq]; unfold ops
  simp only [ops1_eq, ops2_eq, ops3_eq]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_h _ _)).trans ?_
    rfl
  isplitl [H6]
  · iexists _; isplitr
    swap; · iexact H6
    ipureintro
    refine (View.read_writes_eq_canon _ _ _ (cover_r _ _ _ _)).trans ?_
    rfl
  isplitl [H7]
  · iexists _; isplitr
    swap; · iexact H7
    ipureintro
    refine (View.read_writes_eq_canon _ _ _ (cover_r _ _ _ _)).trans ?_
    rfl
  isplitl [H8]
  · iexists _; isplitr
    swap; · iexact H8
    ipureintro
    refine (View.read_writes_eq_canon _ _ _ (cover_r _ _ _ _)).trans ?_
    rfl
  isplitl [H9]
  · iexists _; isplitr
    swap; · iexact H9
    ipureintro
    refine (View.read_writes_eq_canon _ _ _ (cover_h _ _)).trans ?_
    rfl
  isplitl [H10]
  · iexists _; isplitr
    swap; · iexact H10
    ipureintro
    refine (View.read_writes_eq_canon _ _ _ (cover_k _ _ _ _)).trans ?_
    rfl
  iexists _; isplitr
  swap; · iexact H11
  ipureintro
  refine (View.read_writes_eq_canon _ _ _ (cover_q _)).trans ?_
  rfl

variable (m : (ℓ : Loc nD τ sig) → Buf (Elt F) ℓ) (ρ : Dev nD → PrngReg)

/-! ## The pipeline's proof data -/

/-- The arrays as the launch finds them; after a point each input's buffer at its block and output `w`'s at `left w`
    of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 (iblk m c 0 t) (iblk m c 1 t) (iblk m c 2 t) (iblk m c 3 t) (iblk m c 4 t)
    | ⟨6, _⟩ => left6 (iblk m c 0 t) (iblk m c 1 t) (iblk m c 2 t) (iblk m c 3 t) (iblk m c 4 t)
    | ⟨7, _⟩ => left7 (iblk m c 0 t) (iblk m c 1 t) (iblk m c 2 t) (iblk m c 3 t) (iblk m c 4 t)
    | ⟨8, _⟩ => left8 (iblk m c 0 t) (iblk m c 1 t) (iblk m c 2 t) (iblk m c 3 t) (iblk m c 4 t)
    | ⟨9, _⟩ => left9 (iblk m c 0 t) (iblk m c 1 t) (iblk m c 2 t) (iblk m c 3 t) (iblk m c 4 t)
    | ⟨10, _⟩ => left10 (iblk m c 0 t) (iblk m c 1 t) (iblk m c 2 t) (iblk m c 3 t) (iblk m c 4 t)
    | ⟨11, _⟩ => left11 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = left5 (iblk m c 0 t) (iblk m c 1 t) (iblk m c 2 t) (iblk m c 3 t) (iblk m c 4 t) := by dsimp only [dats]
theorem after6 (c : Dev nD) (t : Fin cfg0.N) : (dats m 0 c).after 6 t = left6 (iblk m c 0 t) (iblk m c 1 t) (iblk m c 2 t) (iblk m c 3 t) (iblk m c 4 t) := by dsimp only [dats]
theorem after7 (c : Dev nD) (t : Fin cfg0.N) : (dats m 0 c).after 7 t = left7 (iblk m c 0 t) (iblk m c 1 t) (iblk m c 2 t) (iblk m c 3 t) (iblk m c 4 t) := by dsimp only [dats]
theorem after8 (c : Dev nD) (t : Fin cfg0.N) : (dats m 0 c).after 8 t = left8 (iblk m c 0 t) (iblk m c 1 t) (iblk m c 2 t) (iblk m c 3 t) (iblk m c 4 t) := by dsimp only [dats]
theorem after9 (c : Dev nD) (t : Fin cfg0.N) : (dats m 0 c).after 9 t = left9 (iblk m c 0 t) (iblk m c 1 t) (iblk m c 2 t) (iblk m c 3 t) (iblk m c 4 t) := by dsimp only [dats]
theorem after10 (c : Dev nD) (t : Fin cfg0.N) : (dats m 0 c).after 10 t = left10 (iblk m c 0 t) (iblk m c 1 t) (iblk m c 2 t) (iblk m c 3 t) (iblk m c 4 t) := by dsimp only [dats]
theorem after11 (c : Dev nD) (t : Fin cfg0.N) : (dats m 0 c).after 11 t = left11 (iblk m c 0 t) (iblk m c 1 t) (iblk m c 2 t) (iblk m c 3 t) (iblk m c 4 t) := by dsimp only [dats]

/-- An input's buffer holds its block before every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body at every point -/

/-- What a point starts from. -/
def starts (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it ends in. -/
def ends (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem point_runs (c : Dev nD) (t : Fin cfg0.N) :
    starts m c t ⊢ wp frame (wpE (defs₀ (F := F)) Variants.none c none) Set.univ (bodyAt0 t) (fun _ => ends m c t) := by
  unfold starts ends bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_runs c Set.univ (grid0.coords t) _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point_runs m c t) rfl .rfl fun _ => .rfl

/-! ## The run -/

/-- What the host lines after the launch leave in each buffer. -/
abbrev ending : (c : Dev nD) → (b : Ref sig .tc) → Buf (Elt F) ((c.tc : Thread nD τ).loc b) :=
  Pipeline.afterTail₀ cfgs (dats m) 0 (V0 m) [hostOps1]

set_option backward.isDefEq.respectTransparency.types false in
set_option maxHeartbeats 800000 in
/-- Every fair run ends with each array as the proof data has it, the rest as the host lines leave it, and every counter
    at zero. -/
theorem run_quiet : θ_run defs (onTc (τ := τ) (main (F := F))) (s₀ m ρ) (fun r => (Pipeline.FramePost cfgs (dats m) 0 (ending m)) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ) (Pipeline.FramePost cfgs (dats m) 0 (ending m)) :=
  (θ_run defs _ _).mono (fun _ h => h.1) (run_quiet m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiet m ρ))

end Cert.Kernel6Ideal.Proj

end
-- ==== Proof.ProjS.Host.lean ====
/- The arrays the launch of the sample's input projection reads, from the arguments. -/
module

public import proofs.«01_k».proof.Proof.Proj.Host
public import proofs.«01_k».proof.Proof.ProjS.RunIdeal
public import Idealize.ShloMosaic.Lib.StableHlo.ReadAt

@[expose] public section
set_option maxRecDepth 16384
noncomputable section
namespace Cert.Kernel6Ideal.Proj
open Cert.Kernel6Ideal Cert.Kernel6Ideal.Gen Cert.Rms Cert.Logs Cert.Proj Idealize.ShloMosaic Idealize.ShloMosaic.TcCoe Idealize.SL.Sem
open Cert.Kernel5Ideal.Proj (scatter_at)

variable (m : (ℓ : Loc nD τ sig) → Buf (Elt Ideal) ℓ)

/-- The arguments: the rows, the window buffer, the gains, the weights, the biases. -/
abbrev xA (c : Dev nD) : Vec Ideal S32x8x2048 .f32 := m ((c : Thread nD τ).loc main_arg0)
abbrev bufA (c : Dev nD) : Vec Ideal S32x512x2x2x128 .f32 := m ((c : Thread nD τ).loc main_arg1)
abbrev gA (c : Dev nD) : Vec Ideal S2048 .f32 := m ((c : Thread nD τ).loc main_arg2)
abbrev wA (c : Dev nD) : Vec Ideal S2048x5664 .f32 := m ((c : Thread nD τ).loc main_arg3)
abbrev bA (c : Dev nD) : Vec Ideal S8 .f32 := m ((c : Thread nD τ).loc main_arg4)

theorem v14_at (c : Dev nD) (i : Fin 256) (k : Fin 2048) : V m c main_v14 (ix2 i k) = xA m c (ix3 (ent 8 i.val) (pos i.val) k) := by
  unfold V xA
  after_reads_at
  have hi := i.isLt
  have e1 : ∀ p, (⟨i.val / 8, p⟩ : Fin 32) = ent 8 i.val := fun p => Fin.ext (by show i.val / 8 = i.val / 8 % 32; omega)
  simp only [e1]
  rfl

theorem v15_at (c : Dev nD) (k : Fin 2048) : V m c main_v15 (ix2 (0 : Fin 1) k) = gA m c (ix1 k) := by
  unfold V gA
  after_reads_at

theorem v3_at (c : Dev nD) (k : Fin 2048) (j : Fin 5632) :
    V m c main_v3 (ix2 k j) = wA m c (ix2 k (colm (if j.val < 2560 then j.val else j.val + 24))) := by
  unfold V wA
  after_reads_at
  unfold StableHlo.upto
  simp only [hostOps0, List.take_succ_cons, List.take_zero]
  after_reads_at
  have hj := j.isLt
  split
  · exact congrArg (fun e => m ((c : Thread nD τ).loc main_arg3) (ix2 k e)) (colm_eq _ ⟨j.val, by omega⟩ rfl).symm
  · exact congrArg (fun e => m ((c : Thread nD τ).loc main_arg3) (ix2 k e)) (colm_eq _ ⟨2584 + (j.val - 2560), by omega⟩ (by show j.val + 24 = 2584 + (j.val - 2560); omega)).symm

theorem v8_at (c : Dev nD) (k : Fin 2048) (l : Fin 128) :
    V m c main_v8 (ix2 k l) = if l.val < 24 then wA m c (ix2 k (colm (2560 + l.val)))
      else if l.val < 32 then wA m c (ix2 k (colm (5632 + l.val))) else 0 := by
  unfold V wA
  after_reads_at
  unfold StableHlo.upto
  simp only [hostOps0, List.take_succ_cons, List.take_zero]
  after_reads_at
  have hl := l.isLt
  by_cases h : l.val < 24
  · rw [dif_pos h, if_pos h]
    exact congrArg (fun e => m ((c : Thread nD τ).loc main_arg3) (ix2 k e)) (colm_eq _ ⟨2560 + l.val, by omega⟩ rfl).symm
  · rw [dif_neg h, if_neg h]
    by_cases h' : l.val < 32
    · rw [dif_pos (by omega), if_pos h']
      exact congrArg (fun e => m ((c : Thread nD τ).loc main_arg3) (ix2 k e))
        (colm_eq _ ⟨5656 + (l.val - 24), by omega⟩ (by show 5632 + l.val = 5656 + (l.val - 24); omega)).symm
    · rw [dif_neg (by omega), if_neg h']

theorem v13_at (c : Dev nD) (l : Fin 128) :
    V m c main_v13 (ix2 (0 : Fin 1) l) = if 24 ≤ l.val ∧ l.val < 32 then bA m c (ix1 (bias (l.val - 24))) else 0 := by
  unfold V bA
  after_reads_at
  refine (scatter_at _ _ _ l ?_ ?_).trans ?_
  · unfold StableHlo.upto
    simp only [hostOps0, List.take_succ_cons, List.take_zero]
    after_reads_at
    rfl
  · unfold StableHlo.upto
    simp only [hostOps0, List.take_succ_cons, List.take_zero]
    after_reads_at
    rfl
  · split
    · rfl
    · pointwise

end Cert.Kernel6Ideal.Proj
end
end
-- ==== Proof.ProjS.Array.lean ====
/- The operands' blocks at a grid point read from the arguments, and the seven output arrays of the sample's input projection. -/
module

public import proofs.«01_k».proof.Proof.ProjS.Host
public import Idealize.ShloMosaic.Lib.Pipeline.Covers

@[expose] public section
set_option maxRecDepth 16384
noncomputable section
namespace Cert.Kernel6Ideal.Proj
open Cert.Kernel6Ideal Cert.Kernel6Ideal.Gen Cert.Rms Cert.Logs Cert.Proj Idealize.ShloMosaic Idealize.ShloMosaic.TcCoe Idealize.SL.Sem
open Idealize.ShloMosaic.Pipeline (Dat)
open Cert.Kernel5Ideal.Proj (normed want wantS left5_at left6_at left7_at left8_at left9_at left10_at left11_at)

variable (m : (ℓ : Loc nD τ sig) → Buf (Elt Ideal) ℓ)

theorem coords0 (t : Fin cfg0.N) : (grid0.coords t 0).val = t.val := by
  have ht : t.val < 1 := t.isLt
  rw [Pipeline.Grid.coords_val (S := 1) (B := 1) t 0 (by decide) (by decide)]
  omega

/-- The block each window is at, by the grid point. -/
theorem idx (t : Fin cfg0.N) :
    win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0] := by
  have ht : t.val < 1 := t.isLt
  have e0 : (BitVec.ofNat 32 (grid0.coords t 0).val).toNat = t.val := by
    rw [coords0 t, BitVec.toNat_ofNat]; omega
  refine ⟨?_, ?_, ?_, ?_, ?_, ?_, ?_, ?_, ?_, ?_, ?_, ?_⟩
  · show cc0_transform_0 (grid0.coords t) = _
    unfold cc0_transform_0; rw [← e0]; rfl
  · show cc0_transform_1 (grid0.coords t) = _
    unfold cc0_transform_1; rfl
  · show cc0_transform_2 (grid0.coords t) = _
    unfold cc0_transform_2; rfl
  · show cc0_transform_3 (grid0.coords t) = _
    unfold cc0_transform_3; rfl
  · show cc0_transform_4 (grid0.coords t) = _
    unfold cc0_transform_4; rfl
  · show cc0_transform_5 (grid0.coords t) = _
    unfold cc0_transform_5; rw [← e0]; rfl
  · show cc0_transform_6 (grid0.coords t) = _
    unfold cc0_transform_6; rw [← e0]; rfl
  · show cc0_transform_7 (grid0.coords t) = _
    unfold cc0_transform_7; rw [← e0]; rfl
  · show cc0_transform_8 (grid0.coords t) = _
    unfold cc0_transform_8; rw [← e0]; rfl
  · show cc0_transform_9 (grid0.coords t) = _
    unfold cc0_transform_9; rw [← e0]; rfl
  · show cc0_transform_10 (grid0.coords t) = _
    unfold cc0_transform_10; rw [← e0]; rfl
  · show cc0_transform_11 (grid0.coords t) = _
    unfold cc0_transform_11; rw [← e0]; rfl

/-! ## The operands' blocks -/

theorem i0 (c : Dev nD) (t : Fin cfg0.N) (r : Fin 256) (k : Fin 2048) :
    iblk m c 0 t (ix2 r k) = xA m c (ix3 (ent 8 (256 * t.val + r.val)) (pos (256 * t.val + r.val)) k) := by
  have ht : t.val < 1 := t.isLt
  have hr := r.isLt
  rw [← v14_at m c ⟨256 * t.val + r.val, by omega⟩ k]
  blk_simp [iblk]
  refine congrArg (V m c main_v14) ?_
  blk_ext [idx t]

theorem i1 (c : Dev nD) (t : Fin cfg0.N) (k : Fin 2048) : iblk m c 1 t (ix2 (0 : Fin 1) k) = gA m c (ix1 k) := by
  rw [← v15_at m c k]
  blk_simp [iblk]
  refine congrArg (V m c main_v15) ?_
  blk_ext [idx t]

theorem i2 (c : Dev nD) (t : Fin cfg0.N) (k : Fin 2048) (j : Fin 5632) :
    iblk m c 2 t (ix2 k j) = wA m c (ix2 k (colm (if j.val < 2560 then j.val else j.val + 24))) := by
  rw [← v3_at m c k j]
  blk_simp [iblk]
  refine congrArg (V m c main_v3) ?_
  blk_ext [idx t]

theorem i3 (c : Dev nD) (t : Fin cfg0.N) (k : Fin 2048) (l : Fin 128) :
    iblk m c 3 t (ix2 k l) = if l.val < 24 then wA m c (ix2 k (colm (2560 + l.val)))
      else if l.val < 32 then wA m c (ix2 k (colm (5632 + l.val))) else 0 := by
  rw [← v8_at m c k l]
  blk_simp [iblk]
  refine congrArg (V m c main_v8) ?_
  blk_ext [idx t]

theorem i4 (c : Dev nD) (t : Fin cfg0.N) (l : Fin 128) :
    iblk m c 4 t (ix2 (0 : Fin 1) l) = if 24 ≤ l.val ∧ l.val < 32 then bA m c (ix1 (bias (l.val - 24))) else 0 := by
  rw [← v13_at m c l]
  blk_simp [iblk]
  refine congrArg (V m c main_v13) ?_
  blk_ext [idx t]

/-! ## What a grid point computes -/

theorem normed_eq (c : Dev nD) (t : Fin cfg0.N) (r : Fin 256) :
    normed (iblk m c 0 t) (iblk m c 1 t) r = normRow (xA m c) (gA m c) (256 * t.val + r.val) := by
  unfold normed normRow
  exact congrArg₂ rms (funext (i0 m c t r)) (funext (i1 m c t))

/-- The product with one column, by the column's number in the whole weights. -/
theorem want_eq (c : Dev nD) (t : Fin cfg0.N) (r : Fin 256) (j : Fin 5632) (n q : ℕ) (hn : n = 256 * t.val + r.val)
    (hq : q = if j.val < 2560 then j.val else j.val + 24) :
    want (iblk m c 0 t) (iblk m c 1 t) (iblk m c 2 t) r j = entry (xA m c) (gA m c) (wA m c) n q := by
  subst hn hq
  unfold want entry
  rw [normed_eq]
  exact Finset.sum_congr rfl fun k _ => congrArg _ (i2 m c t k j)

/-- One lane of the small result. -/
theorem small_eq (c : Dev nD) (t : Fin cfg0.N) (r : Fin 256) (l : Fin 128) (n q : ℕ) (hn : n = 256 * t.val + r.val) (hq : q = l.val) :
    (if l.val < 24 then gate (wantS (iblk m c 0 t) (iblk m c 1 t) (iblk m c 3 t) r l)
      else logSig (wantS (iblk m c 0 t) (iblk m c 1 t) (iblk m c 3 t) r l + iblk m c 4 t (ix2 (0 : Fin 1) l)))
      = lanes (xA m c) (gA m c) (wA m c) (bA m c) n q := by
  subst hn hq
  have e : ∀ z : Fin 2048 → EReal, (∀ k, iblk m c 3 t (ix2 k l) = z k) →
      wantS (iblk m c 0 t) (iblk m c 1 t) (iblk m c 3 t) r l = ∑ k : Fin 2048, normRow (xA m c) (gA m c) (256 * t.val + r.val) k * z k := fun z hz => by
    unfold wantS
    rw [normed_eq]
    exact Finset.sum_congr rfl fun k _ => congrArg _ (hz k)
  unfold lanes
  by_cases h : l.val < 24
  · rw [if_pos h, if_pos h, e _ fun k => (i3 m c t k l).trans (if_pos h)]
    rfl
  · rw [if_neg h, if_neg h]
    by_cases h' : l.val < 32
    · rw [if_pos h', e _ fun k => ((i3 m c t k l).trans (if_neg h)).trans (if_pos h'), (i4 m c t l).trans (if_pos ⟨by omega, h'⟩)]
      rfl
    · rw [if_neg h', e _ fun k => ((i3 m c t k l).trans (if_neg h)).trans (if_neg h'), (i4 m c t l).trans (if_neg (by omega))]
      exact congrArg (fun s => logSig (s + 0)) (Finset.sum_eq_zero fun k _ => mul_zero _)

/-! ## The output arrays -/

theorem covers5 : (cfg0.win 5).Covers :=
  (cfg0.win 5).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 5).indexMap i = cc0_transform_5 i from fun _ => rfl]
      unfold cc0_transform_5
      fin_cases a
      · exact (BitVec.toNat_ofNat _ _).trans (Nat.mod_eq_of_lt (by show (β 0).val < _; omega))
      · show _ = (β 1).val
        rw [show (β 1).val = 0 by omega]
        rfl

theorem covers6 : (cfg0.win 6).Covers :=
  (cfg0.win 6).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 6).indexMap i = cc0_transform_6 i from fun _ => rfl]
      unfold cc0_transform_6
      fin_cases a
      · exact (BitVec.toNat_ofNat _ _).trans (Nat.mod_eq_of_lt (by show (β 0).val < _; omega))
      · show _ = (β 1).val
        rw [show (β 1).val = 0 by omega]
        rfl

theorem covers7 : (cfg0.win 7).Covers :=
  (cfg0.win 7).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 7).indexMap i = cc0_transform_7 i from fun _ => rfl]
      unfold cc0_transform_7
      fin_cases a
      · exact (BitVec.toNat_ofNat _ _).trans (Nat.mod_eq_of_lt (by show (β 0).val < _; omega))
      · show _ = (β 1).val
        rw [show (β 1).val = 0 by omega]
        rfl

theorem covers8 : (cfg0.win 8).Covers :=
  (cfg0.win 8).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 8).indexMap i = cc0_transform_8 i from fun _ => rfl]
      unfold cc0_transform_8
      fin_cases a
      · exact (BitVec.toNat_ofNat _ _).trans (Nat.mod_eq_of_lt (by show (β 0).val < _; omega))
      · show _ = (β 1).val
        rw [show (β 1).val = 0 by omega]
        rfl

theorem covers9 : (cfg0.win 9).Covers :=
  (cfg0.win 9).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 9).indexMap i = cc0_transform_9 i from fun _ => rfl]
      unfold cc0_transform_9
      fin_cases a
      · exact (BitVec.toNat_ofNat _ _).trans (Nat.mod_eq_of_lt (by show (β 0).val < _; omega))
      · show _ = (β 1).val
        rw [show (β 1).val = 0 by omega]
        rfl

theorem covers10 : (cfg0.win 10).Covers :=
  (cfg0.win 10).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 10).indexMap i = cc0_transform_10 i from fun _ => rfl]
      unfold cc0_transform_10
      fin_cases a
      · exact (BitVec.toNat_ofNat _ _).trans (Nat.mod_eq_of_lt (by show (β 0).val < _; omega))
      · show _ = (β 1).val
        rw [show (β 1).val = 0 by omega]
        rfl

theorem covers11 : (cfg0.win 11).Covers :=
  (cfg0.win 11).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 11).indexMap i = cc0_transform_11 i from fun _ => rfl]
      unfold cc0_transform_11
      fin_cases a
      · exact (BitVec.toNat_ofNat _ _).trans (Nat.mod_eq_of_lt (by show (β 0).val < _; omega))
      · show _ = (β 1).val
        rw [show (β 1).val = 0 by omega]
        rfl

/-- The queries. -/
theorem array5 (c : Dev nD) : (dats m 0 c).arrAt 5 cfg0.N = flat (xA m c) (gA m c) (wA m c) 0 := by
  refine (dats m 0 c).arrAt_eq_of_covers 5 _ covers5 fun t hfl y => ?_
  blk_simp
  rw [after5]
  have ht : t.val < 1 := t.isLt
  obtain ⟨r, d, rfl⟩ : ∃ (r : Fin 256) (d : Fin 1024), y = ix2 r d := ⟨y 0, y 1, by blk_ext⟩
  have hr := r.isLt
  have hd := d.isLt
  refine (left5_at _ _ _ _ _ r d ⟨0 + d.val, by omega⟩ rfl).trans ?_
  refine (want_eq m c t r _ (256 * t.val + r.val) (0 + d.val) rfl (by show _ = if 0 + d.val < 2560 then 0 + d.val else 0 + d.val + 24; split <;> omega)).trans ?_
  show flat (xA m c) (gA m c) (wA m c) 0 (ix2 (⟨256 * t.val + r.val, by omega⟩ : Fin 256) d) = _
  refine congrArg (flat (xA m c) (gA m c) (wA m c) 0) ?_
  blk_ext [idx t]

/-- The second attention's queries. -/
theorem array9 (c : Dev nD) : (dats m 0 c).arrAt 9 cfg0.N = flat (xA m c) (gA m c) (wA m c) 2584 := by
  refine (dats m 0 c).arrAt_eq_of_covers 9 _ covers9 fun t hfl y => ?_
  blk_simp
  rw [after9]
  have ht : t.val < 1 := t.isLt
  obtain ⟨r, d, rfl⟩ : ∃ (r : Fin 256) (d : Fin 1024), y = ix2 r d := ⟨y 0, y 1, by blk_ext⟩
  have hr := r.isLt
  have hd := d.isLt
  refine (left9_at _ _ _ _ _ r d ⟨2560 + d.val, by omega⟩ rfl).trans ?_
  refine (want_eq m c t r _ (256 * t.val + r.val) (2584 + d.val) rfl (by show _ = if 2560 + d.val < 2560 then 2560 + d.val else 2560 + d.val + 24; split <;> omega)).trans ?_
  show flat (xA m c) (gA m c) (wA m c) 2584 (ix2 (⟨256 * t.val + r.val, by omega⟩ : Fin 256) d) = _
  refine congrArg (flat (xA m c) (gA m c) (wA m c) 2584) ?_
  blk_ext [idx t]

/-- The second attention's keys and values. -/
theorem array10 (c : Dev nD) : (dats m 0 c).arrAt 10 cfg0.N = flat (xA m c) (gA m c) (wA m c) 3608 := by
  refine (dats m 0 c).arrAt_eq_of_covers 10 _ covers10 fun t hfl y => ?_
  blk_simp
  rw [after10]
  have ht : t.val < 1 := t.isLt
  obtain ⟨r, d, rfl⟩ : ∃ (r : Fin 256) (d : Fin 2048), y = ix2 r d := ⟨y 0, y 1, by blk_ext⟩
  have hr := r.isLt
  have hd := d.isLt
  refine (left10_at _ _ _ _ _ r d ⟨3584 + d.val, by omega⟩ rfl).trans ?_
  refine (want_eq m c t r _ (256 * t.val + r.val) (3608 + d.val) rfl (by show _ = if 3584 + d.val < 2560 then 3584 + d.val else 3584 + d.val + 24; split <;> omega)).trans ?_
  show flat (xA m c) (gA m c) (wA m c) 3608 (ix2 (⟨256 * t.val + r.val, by omega⟩ : Fin 256) d) = _
  refine congrArg (flat (xA m c) (gA m c) (wA m c) 3608) ?_
  blk_ext [idx t]

/-- The compression keys and values. -/
theorem array6 (c : Dev nD) : (dats m 0 c).arrAt 6 cfg0.N = quad (xA m c) (gA m c) (wA m c) 1024 := by
  refine (dats m 0 c).arrAt_eq_of_covers 6 _ covers6 fun t hfl y => ?_
  blk_simp
  rw [after6]
  have ht : t.val < 1 := t.isLt
  obtain ⟨r, d, rfl⟩ : ∃ (r : Fin 1024) (d : Fin 128), y = ix2 r d := ⟨y 0, y 1, by blk_ext⟩
  have hr := r.isLt
  have hd := d.isLt
  refine (left6_at _ _ _ _ _ r d ⟨r.val / 4, by omega⟩ ⟨1024 + 128 * (r.val % 4) + d.val, by omega⟩ rfl rfl).trans ?_
  refine (want_eq m c t _ _ ((1024 * t.val + r.val) / 4) (1024 + 128 * ((1024 * t.val + r.val) % 4) + d.val)
    (by show _ = 256 * t.val + r.val / 4; omega)
    (by show _ = if 1024 + 128 * (r.val % 4) + d.val < 2560 then 1024 + 128 * (r.val % 4) + d.val else 1024 + 128 * (r.val % 4) + d.val + 24; split <;> omega)).trans ?_
  show quad (xA m c) (gA m c) (wA m c) 1024 (ix2 (⟨1024 * t.val + r.val, by omega⟩ : Fin 1024) d) = _
  refine congrArg (quad (xA m c) (gA m c) (wA m c) 1024) ?_
  blk_ext [idx t]

/-- The selection keys and values. -/
theorem array7 (c : Dev nD) : (dats m 0 c).arrAt 7 cfg0.N = quad (xA m c) (gA m c) (wA m c) 1536 := by
  refine (dats m 0 c).arrAt_eq_of_covers 7 _ covers7 fun t hfl y => ?_
  blk_simp
  rw [after7]
  have ht : t.val < 1 := t.isLt
  obtain ⟨r, d, rfl⟩ : ∃ (r : Fin 1024) (d : Fin 128), y = ix2 r d := ⟨y 0, y 1, by blk_ext⟩
  have hr := r.isLt
  have hd := d.isLt
  refine (left7_at _ _ _ _ _ r d ⟨r.val / 4, by omega⟩ ⟨1536 + 128 * (r.val % 4) + d.val, by omega⟩ rfl rfl).trans ?_
  refine (want_eq m c t _ _ ((1024 * t.val + r.val) / 4) (1536 + 128 * ((1024 * t.val + r.val) % 4) + d.val)
    (by show _ = 256 * t.val + r.val / 4; omega)
    (by show _ = if 1536 + 128 * (r.val % 4) + d.val < 2560 then 1536 + 128 * (r.val % 4) + d.val else 1536 + 128 * (r.val % 4) + d.val + 24; split <;> omega)).trans ?_
  show quad (xA m c) (gA m c) (wA m c) 1536 (ix2 (⟨1024 * t.val + r.val, by omega⟩ : Fin 1024) d) = _
  refine congrArg (quad (xA m c) (gA m c) (wA m c) 1536) ?_
  blk_ext [idx t]

/-- The window keys and values. -/
theorem array8 (c : Dev nD) : (dats m 0 c).arrAt 8 cfg0.N = quad (xA m c) (gA m c) (wA m c) 2048 := by
  refine (dats m 0 c).arrAt_eq_of_covers 8 _ covers8 fun t hfl y => ?_
  blk_simp
  rw [after8]
  have ht : t.val < 1 := t.isLt
  obtain ⟨r, d, rfl⟩ : ∃ (r : Fin 1024) (d : Fin 128), y = ix2 r d := ⟨y 0, y 1, by blk_ext⟩
  have hr := r.isLt
  have hd := d.isLt
  refine (left8_at _ _ _ _ _ r d ⟨r.val / 4, by omega⟩ ⟨2048 + 128 * (r.val % 4) + d.val, by omega⟩ rfl rfl).trans ?_
  refine (want_eq m c t _ _ ((1024 * t.val + r.val) / 4) (2048 + 128 * ((1024 * t.val + r.val) % 4) + d.val)
    (by show _ = 256 * t.val + r.val / 4; omega)
    (by show _ = if 2048 + 128 * (r.val % 4) + d.val < 2560 then 2048 + 128 * (r.val % 4) + d.val else 2048 + 128 * (r.val % 4) + d.val + 24; split <;> omega)).trans ?_
  show quad (xA m c) (gA m c) (wA m c) 2048 (ix2 (⟨1024 * t.val + r.val, by omega⟩ : Fin 1024) d) = _
  refine congrArg (quad (xA m c) (gA m c) (wA m c) 2048) ?_
  blk_ext [idx t]

/-- The gates and log forget rates. -/
theorem array11 (c : Dev nD) : (dats m 0 c).arrAt 11 cfg0.N = tail (xA m c) (gA m c) (wA m c) (bA m c) := by
  refine (dats m 0 c).arrAt_eq_of_covers 11 _ covers11 fun t hfl y => ?_
  blk_simp
  rw [after11]
  have ht : t.val < 1 := t.isLt
  obtain ⟨r, d, rfl⟩ : ∃ (r : Fin 256) (d : Fin 128), y = ix2 r d := ⟨y 0, y 1, by blk_ext⟩
  have hr := r.isLt
  have hd := d.isLt
  refine (left11_at _ _ _ _ _ r d).trans ?_
  refine (small_eq m c t r d (256 * t.val + r.val) d.val rfl rfl).trans ?_
  show tail (xA m c) (gA m c) (wA m c) (bA m c) (ix2 (⟨256 * t.val + r.val, by omega⟩ : Fin 256) d) = _
  refine congrArg (tail (xA m c) (gA m c) (wA m c) (bA m c)) ?_
  blk_ext [idx t]

end Cert.Kernel6Ideal.Proj
end
end
-- ==== Proof.ProjS.Spec.lean ====
/- The window buffer moved on by the sample's eight rows of each entry. -/
module

public import proofs.«01_k».proof.Proof.Proj.Spec

@[expose] public section
noncomputable section
namespace Cert.Proj
open Idealize.ShloMosaic

variable (X : Vec Ideal ⟨3, ![32, 8, 2048]⟩ .f32) (G : Vec Ideal SG .f32) (W : Vec Ideal SW .f32)
  (U : Vec Ideal ⟨5, ![32, 512, 2, 2, 128]⟩ .f32)

/-- Lane `l` of position `p` of entry `e`: the buffer's position eight further on, the new rows in the last eight. -/
def slot (e : Fin 32) (p l : Fin 512) : EReal :=
  if h : p.val < 504 then U (ix5 e (⟨p.val + 8, by omega⟩ : Fin 512) (⟨l.val / 256, by omega⟩ : Fin 2) (⟨l.val / 128 % 2, by omega⟩ : Fin 2) (⟨l.val % 128, by omega⟩ : Fin 128))
  else entry X G W (8 * e.val + (p.val - 504)) (2048 + l.val)

/-- The window buffer, the keys and values of a position in one row. -/
def window : Vec Ideal ⟨3, ![32, 512, 512]⟩ .f32 := fun y => slot X G W U (y 0) (y 1) (y 2)

end Cert.Proj
end
end
-- ==== Proof.ProjS.Window.lean ====
/- The window buffer after the sample's rows: the host lines after the launch read at one index. -/
module

public import proofs.«01_k».proof.Proof.ProjS.Array
public import proofs.«01_k».proof.Proof.ProjS.Spec
public import Idealize.ShloMosaic.Lib.StableHlo.ReadAt

@[expose] public section
set_option maxRecDepth 16384
noncomputable section
namespace Cert.Kernel6Ideal.Proj
open Cert.Kernel6Ideal Cert.Kernel6Ideal.Gen Cert.Rms Cert.Logs Cert.Proj Idealize.ShloMosaic Idealize.ShloMosaic.TcCoe Idealize.SL.Sem

variable (m : (ℓ : Loc nD τ sig) → Buf (Elt Ideal) ℓ)

/-- The buffers as the launch leaves them. -/
abbrev left (c : Dev nD) : Valuation τ sig (Elt Ideal) :=
  Pipeline.withArrays spec0 c (V0 m c) fun w => (dats m 0 c).arrAt w cfg0.N

theorem left_keys (c : Dev nD) : left m c (Proc.devRef .tc main_v16_3) = quad (xA m c) (gA m c) (wA m c) 2048 :=
  (Pipeline.withArrays_arr spec0 launch0.win.arr_inj c (V0 m c) _ 8).trans (array8 m c)

theorem left_buf (c : Dev nD) : left m c (Proc.devRef .tc main_arg1) = bufA m c :=
  (Pipeline.withArrays_of_ne spec0 c (V0 m c) _ main_arg1 (by exact (by decide : ∀ w, Pipeline.arrRef spec0 w ≠ main_arg1))).trans (V_main_arg1 m c)

theorem window_at (c : Dev nD) (e : Fin 32) (p l : Fin 512) :
    ending m c main_v20 (ix3 e p l) = window (xA m c) (gA m c) (wA m c) (bufA m c) (ix3 e p l) := by
  unfold ending Pipeline.afterTail₀
  after_reads_at
  unfold StableHlo.upto
  simp only [hostOps1, List.flatten_cons, List.flatten_nil, List.append_nil, List.take_succ_cons, List.take_zero]
  after_reads_at
  have he := e.isLt
  have hp := p.isLt
  have hl := l.isLt
  show _ = slot (xA m c) (gA m c) (wA m c) (bufA m c) e p l
  unfold slot
  by_cases h : p.val < 504
  · rw [dif_pos h, dif_pos (by omega)]
    refine (congrFun (left_buf m c) _).trans (congrArg (fun q => bufA m c (ix5 e q _ _ _)) (Fin.ext ?_))
    show 8 + p.val = p.val + 8
    omega
  · rw [dif_neg h, dif_neg (by omega)]
    refine (congrFun (left_keys m c) _).trans ?_
    show entry _ _ _ ((e.val * 32 + (8 + p.val - 512) * 4 + l.val / 128) / 4)
      (2048 + 128 * ((e.val * 32 + (8 + p.val - 512) * 4 + l.val / 128) % 4) + l.val % 128) = _
    exact congrArg₂ (entry _ _ _) (by omega) (by omega)

theorem window_eq (c : Dev nD) : ending m c main_v20 = window (xA m c) (gA m c) (wA m c) (bufA m c) := by
  funext y
  obtain ⟨e, p, l, rfl⟩ : ∃ (e : Fin 32) (p l : Fin 512), y = ix3 e p l := ⟨y 0, y 1, y 2, by blk_ext⟩
  exact window_at m c e p l

end Cert.Kernel6Ideal.Proj
end
end
-- ==== Proof.ProjS.Ref.lean ====
/- The reference of the input projection of the sample read at one index: every row normed and multiplied with the whole weights, the
   columns of each result, the gates and the log forget rates. -/
module

public import proofs.«01_k».proof.Proof.Gen.Reference6Ideal.Run
public import proofs.«01_k».proof.Proof.ProjS.Spec
public import Idealize.ShloMosaic.Lib.Pointwise

@[expose] public section
set_option maxRecDepth 16384
noncomputable section
namespace Cert.Reference6Ideal.Proj
open Cert.Reference6Ideal Cert.Reference6Ideal.Gen Cert.Reference6Ideal.Value Cert.Rms Cert.Logs Cert.Proj
open Idealize.ShloMosaic Idealize.ShloMosaic.TcCoe Idealize.SL.Sem

/-! ## The operations, named -/

/-- The norm of every row. -/
def gNorm (x : FVec Ideal S32x8x2048 .f32) (g : FVec Ideal S2048 .f32) : FVec Ideal S32x8x2048 .f32 :=
  mulf (mulf x (broadcastInDim S32x8x2048 ![0, 1, 2] bcast_S32x8x1_S32x8x2048_0_1_2 (Host.rsqrt (addf (Host.divf (broadcastInDim S32x8x1 ![0, 1] bcast_S32x8_S32x8x1_0_1 (Host.reduceAdd (mulf x x) (constant S_ .f32 0x00000000#32) reducesTo_S32x8x2048_S32x8_d2 h_S_)) (broadcastInDim S32x8x1 ![] bcast_S_S32x8x1 (constant S_ .f32 0x45000000#32))) (broadcastInDim S32x8x1 ![] bcast_S_S32x8x1 (constant S_ .f32 0x358637BD#32)))))) (broadcastInDim S32x8x2048 ![0, 1, 2] bcast_S1x1x2048_S32x8x2048_0_1_2 (broadcastInDim S1x1x2048 ![2] bcast_S2048_S1x1x2048_2 g))

/-- The product with the whole weights. -/
def gProj (x : FVec Ideal S32x8x2048 .f32) (g : FVec Ideal S2048 .f32) (w : FVec Ideal S2048x5664 .f32) : FVec Ideal S32x8x5664 .f32 :=
  Host.dotGeneral dot_S32x8x2048_S2048x5664_S32x8x5664_2_0_01_1_n_n none (gNorm x g) w

/-- The 1024 columns from 0 on. -/
def gQ (p : FVec Ideal S32x8x5664 .f32) : FVec Ideal S256x1024 .f32 :=
  shapeCast _ (extractStridedSlice S32x8x1024 ![0, 0, 0] p slices_S32x8x5664_S32x8x1024_0_0_0) shapeCasts_S32x8x1024_S256x1024

/-- The 512 columns from 1024 on. -/
def gC (p : FVec Ideal S32x8x5664 .f32) : FVec Ideal S1024x128 .f32 :=
  shapeCast _ (extractStridedSlice S32x8x512 ![0, 0, 1024] p slices_S32x8x5664_S32x8x512_0_0_1024) shapeCasts_S32x8x512_S1024x128

/-- The 512 columns from 1536 on. -/
def gS (p : FVec Ideal S32x8x5664 .f32) : FVec Ideal S1024x128 .f32 :=
  shapeCast _ (extractStridedSlice S32x8x512 ![0, 0, 1536] p slices_S32x8x5664_S32x8x512_0_0_1536) shapeCasts_S32x8x512_S1024x128

/-- The window buffer and the 512 columns from 2048 on, without the first eight positions. -/
def gWin (u : FVec Ideal S32x512x2x2x128 .f32) (p : FVec Ideal S32x8x5664 .f32) : FVec Ideal S32x512x512 .f32 :=
  shapeCast _ (extractStridedSlice S32x512x2x2x128 ![0, 8, 0, 0, 0] (concatenate S32x520x2x2x128 1 [⟨S32x512x2x2x128, u⟩, ⟨S32x8x2x2x128, (shapeCast _ (extractStridedSlice S32x8x512 ![0, 0, 2048] p slices_S32x8x5664_S32x8x512_0_0_2048) shapeCasts_S32x8x512_S32x8x2x2x128)⟩] concatenates_S32x512x2x2x128_S32x8x2x2x128_S32x520x2x2x128_d1) slices_S32x520x2x2x128_S32x512x2x2x128_0_8_0_0_0) shapeCasts_S32x512x2x2x128_S32x512x512

/-- The 1024 columns from 2584 on. -/
def gQF (p : FVec Ideal S32x8x5664 .f32) : FVec Ideal S256x1024 .f32 :=
  shapeCast _ (extractStridedSlice S32x8x1024 ![0, 0, 2584] p slices_S32x8x5664_S32x8x1024_0_0_2584) shapeCasts_S32x8x1024_S256x1024

/-- The 2048 columns from 3608 on. -/
def gKF (p : FVec Ideal S32x8x5664 .f32) : FVec Ideal S256x2048 .f32 :=
  shapeCast _ (extractStridedSlice S32x8x2048 ![0, 0, 3608] p slices_S32x8x5664_S32x8x2048_0_0_3608) shapeCasts_S32x8x2048_S256x2048

/-- The gates. -/
def gGate (p : FVec Ideal S32x8x5664 .f32) : FVec Ideal S32x8x24 .f32 :=
  Host.divf (broadcastInDim S32x8x24 ![] bcast_S_S32x8x24 (constant S_ .f32 0x3F800000#32)) (addf (broadcastInDim S32x8x24 ![] bcast_S_S32x8x24 (constant S_ .f32 0x3F800000#32)) (Host.exp (Host.negf (extractStridedSlice S32x8x24 ![0, 0, 2560] p slices_S32x8x5664_S32x8x24_0_0_2560))))

/-- The forget rates' columns and the biases. -/
def gBias (p : FVec Ideal S32x8x5664 .f32) (b : FVec Ideal S8 .f32) : FVec Ideal S32x8x8 .f32 :=
  addf (extractStridedSlice S32x8x8 ![0, 0, 5656] p slices_S32x8x5664_S32x8x8_0_0_5656) (broadcastInDim S32x8x8 ![0, 1, 2] bcast_S1x1x8_S32x8x8_0_1_2 (broadcastInDim S1x1x8 ![2] bcast_S8_S1x1x8_2 b))

/-- The log of the sigmoid, eight lanes. -/
def gLog8 (z : FVec Ideal S32x8x8 .f32) : FVec Ideal S32x8x8 .f32 :=
  Host.negf (select (cmpf .une (subf (Host.negf z) (broadcastInDim S32x8x8 ![] bcast_S_S32x8x8 (constant S_ .f32 0x00000000#32))) (subf (Host.negf z) (broadcastInDim S32x8x8 ![] bcast_S_S32x8x8 (constant S_ .f32 0x00000000#32)))) (addf (Host.negf z) (broadcastInDim S32x8x8 ![] bcast_S_S32x8x8 (constant S_ .f32 0x00000000#32))) (addf (maximumf (Host.negf z) (broadcastInDim S32x8x8 ![] bcast_S_S32x8x8 (constant S_ .f32 0x00000000#32))) (Host.log1p (Host.exp (Host.negf (Host.absf (subf (Host.negf z) (broadcastInDim S32x8x8 ![] bcast_S_S32x8x8 (constant S_ .f32 0x00000000#32)))))))))

/-- Zeros for the lanes that hold nothing. -/
def gZero : FVec Ideal S32x8x96 .f32 := broadcastInDim S32x8x96 ![] bcast_S_S32x8x96 (constant S_ .f32 0x00000000#32)

/-- The log of the sigmoid, the lanes that hold nothing. -/
def gLog96 (z : FVec Ideal S32x8x96 .f32) : FVec Ideal S32x8x96 .f32 :=
  Host.negf (select (cmpf .une (subf (Host.negf z) (broadcastInDim S32x8x96 ![] bcast_S_S32x8x96 (constant S_ .f32 0x00000000#32))) (subf (Host.negf z) (broadcastInDim S32x8x96 ![] bcast_S_S32x8x96 (constant S_ .f32 0x00000000#32)))) (addf (Host.negf z) (broadcastInDim S32x8x96 ![] bcast_S_S32x8x96 (constant S_ .f32 0x00000000#32))) (addf (maximumf (Host.negf z) (broadcastInDim S32x8x96 ![] bcast_S_S32x8x96 (constant S_ .f32 0x00000000#32))) (Host.log1p (Host.exp (Host.negf (Host.absf (subf (Host.negf z) (broadcastInDim S32x8x96 ![] bcast_S_S32x8x96 (constant S_ .f32 0x00000000#32)))))))))

/-- The small result. -/
def gSmall (u : FVec Ideal S32x8x24 .f32) (v : FVec Ideal S32x8x8 .f32) (w : FVec Ideal S32x8x96 .f32) : FVec Ideal S256x128 .f32 :=
  shapeCast _ (concatenate S32x8x128 2 [⟨S32x8x24, u⟩, ⟨S32x8x8, v⟩, ⟨S32x8x96, w⟩] concatenates_S32x8x24_S32x8x8_S32x8x96_S32x8x128_d2) shapeCasts_S32x8x128_S256x128

theorem res_eq (m : (ℓ : Loc nD τ sig) → Buf (Elt Ideal) ℓ) (c : Dev nD) :
    res_main_v44 m c = gSmall (gGate (gProj (m ((c : Thread nD τ).loc main_arg0)) (m ((c : Thread nD τ).loc main_arg2)) (m ((c : Thread nD τ).loc main_arg3))))
      (gLog8 (gBias (gProj (m ((c : Thread nD τ).loc main_arg0)) (m ((c : Thread nD τ).loc main_arg2)) (m ((c : Thread nD τ).loc main_arg3))) (m ((c : Thread nD τ).loc main_arg4))))
      (gLog96 gZero) := rfl

/-! ## Read at an index -/

theorem idx_eq (a : Fin 32) (b : Fin 8) (j : Fin 5664) (n q : ℕ) (ha : a.val = n / 8 % 32) (hb : b.val = n % 8) (hj : j.val = q) :
    (ix3 a b j : S32x8x5664.Idx) = ix3 (ent 8 n) (pos n) (colm q) := by
  rw [show a = ent 8 n from Fin.ext ha, show b = pos n from Fin.ext hb, colm_eq q j hj.symm]

theorem gNorm_at (x : FVec Ideal S32x8x2048 .f32) (g : FVec Ideal S2048 .f32) (a : Fin 32) (t : Fin 8) (k : Fin 2048) :
    gNorm x g (ix3 a t k) = rms (fun j => x (ix3 a t j)) (fun j => g (ix1 j)) k := by
  unfold gNorm rms
  pointwise

theorem dot_at (h : FVec Ideal S32x8x2048 .f32) (w : FVec Ideal S2048x5664 .f32) (a : Fin 32) (t : Fin 8) (j : Fin 5664) :
    Host.dotGeneral dot_S32x8x2048_S2048x5664_S32x8x5664_2_0_01_1_n_n none h w (ix3 a t j) = ∑ k : Fin 2048, h (ix3 a t k) * w (ix2 k j) := by
  pointwise

/-- An entry of the product. -/
theorem gProj_at (x : FVec Ideal S32x8x2048 .f32) (g : FVec Ideal S2048 .f32) (w : FVec Ideal S2048x5664 .f32)
    (a : Fin 32) (t : Fin 8) (j : Fin 5664) (n q : ℕ) (hn : n = 8 * a.val + t.val) (hq : q = j.val) :
    gProj x g w (ix3 a t j) = entry x g w n q := by
  unfold gProj entry normRow
  rw [dot_at, ent_eq n a t hn, pos_eq n a t hn, colm_eq q j hq]
  exact Finset.sum_congr rfl fun k _ => congrArg (· * _) (gNorm_at x g a t k)

theorem gQ_at (p : FVec Ideal S32x8x5664 .f32) (i : Fin 256) (d : Fin 1024) :
    gQ p (ix2 i d) = p (ix3 (ent 8 i.val) (pos i.val) (colm (0 + d.val))) := by
  unfold gQ
  pointwise
  have hi := i.isLt
  refine congrArg p (idx_eq _ _ _ _ _ ?_ ?_ ?_) <;> simp <;> omega

theorem gC_at (p : FVec Ideal S32x8x5664 .f32) (i : Fin 1024) (d : Fin 128) :
    gC p (ix2 i d) = p (ix3 (ent 8 (i.val / 4)) (pos (i.val / 4)) (colm (1024 + 128 * (i.val % 4) + d.val))) := by
  unfold gC
  pointwise
  have hi := i.isLt
  refine congrArg p (idx_eq _ _ _ _ _ ?_ ?_ ?_) <;> simp <;> omega

theorem gS_at (p : FVec Ideal S32x8x5664 .f32) (i : Fin 1024) (d : Fin 128) :
    gS p (ix2 i d) = p (ix3 (ent 8 (i.val / 4)) (pos (i.val / 4)) (colm (1536 + 128 * (i.val % 4) + d.val))) := by
  unfold gS
  pointwise
  have hi := i.isLt
  refine congrArg p (idx_eq _ _ _ _ _ ?_ ?_ ?_) <;> simp <;> omega

theorem gWin_at (u : FVec Ideal S32x512x2x2x128 .f32) (p : FVec Ideal S32x8x5664 .f32) (e : Fin 32) (q l : Fin 512) :
    gWin u p (ix3 e q l) = if h : q.val < 504 then u (ix5 e (⟨q.val + 8, by omega⟩ : Fin 512) (⟨l.val / 256, by omega⟩ : Fin 2) (⟨l.val / 128 % 2, by omega⟩ : Fin 2) (⟨l.val % 128, by omega⟩ : Fin 128))
      else p (ix3 e (⟨q.val - 504, by omega⟩ : Fin 8) (⟨2048 + l.val, by omega⟩ : Fin 5664)) := by
  unfold gWin
  pointwise
  by_cases h : q.val < 504
  · refine (dif_pos (show 8 + q.val < 512 by omega)).trans (Eq.trans ?_ (dif_pos h).symm)
    have hk : ∀ (a b : ℕ) (ha : a < 512) (hb : b < 512), a = b → (⟨a, ha⟩ : Fin 512) = ⟨b, hb⟩ := fun a b ha hb h => Fin.ext h
    rw [hk (8 + q.val) (q.val + 8) (by omega) (by omega) (Nat.add_comm _ _)]
  · refine (dif_neg (show ¬ 8 + q.val < 512 by omega)).trans (Eq.trans ?_ (dif_neg h).symm)
    have hk : ∀ (a b : ℕ) (ha : a < 8) (hb : b < 8), a = b → (⟨a, ha⟩ : Fin 8) = ⟨b, hb⟩ := fun a b ha hb h => Fin.ext h
    rw [hk (8 + q.val - 512) (q.val - 504) (by omega) (by omega) (by omega)]

theorem gQF_at (p : FVec Ideal S32x8x5664 .f32) (i : Fin 256) (d : Fin 1024) :
    gQF p (ix2 i d) = p (ix3 (ent 8 i.val) (pos i.val) (colm (2584 + d.val))) := by
  unfold gQF
  pointwise
  have hi := i.isLt
  refine congrArg p (idx_eq _ _ _ _ _ ?_ ?_ ?_) <;> simp <;> omega

theorem gKF_at (p : FVec Ideal S32x8x5664 .f32) (i : Fin 256) (d : Fin 2048) :
    gKF p (ix2 i d) = p (ix3 (ent 8 i.val) (pos i.val) (colm (3608 + d.val))) := by
  unfold gKF
  pointwise
  have hi := i.isLt
  refine congrArg p (idx_eq _ _ _ _ _ ?_ ?_ ?_) <;> simp <;> omega

theorem gLog8_at (z : FVec Ideal S32x8x8 .f32) (a : Fin 32) (t : Fin 8) (l : Fin 8) :
    gLog8 z (ix3 a t l) = logSig (z (ix3 a t l)) := by
  rw [← negSoft_eq]
  unfold gLog8 negSoft
  pointwise
  rw [if_neg (fun h => h rfl)]
  rfl

theorem gLog96_at (z : FVec Ideal S32x8x96 .f32) (a : Fin 32) (t : Fin 8) (l : Fin 96) :
    gLog96 z (ix3 a t l) = logSig (z (ix3 a t l)) := by
  rw [← negSoft_eq]
  unfold gLog96 negSoft
  pointwise
  rw [if_neg (fun h => h rfl)]
  rfl

theorem gZero_at (a : Fin 32) (t : Fin 8) (l : Fin 96) : gZero (ix3 a t l) = 0 := by
  unfold gZero
  pointwise

theorem gGate_at (p : FVec Ideal S32x8x5664 .f32) (a : Fin 32) (t : Fin 8) (l : Fin 24) :
    gGate p (ix3 a t l) = gate (p (ix3 a t (colm (2560 + l.val)))) := by
  unfold gGate gate
  pointwise
  rw [colm_eq (2560 + l.val) ⟨2560 + l.val, by have := l.isLt; omega⟩ rfl]

theorem gBias_at (p : FVec Ideal S32x8x5664 .f32) (b : FVec Ideal S8 .f32) (a : Fin 32) (t : Fin 8) (l : Fin 8) :
    gBias p b (ix3 a t l) = p (ix3 a t (colm (5656 + l.val))) + b (ix1 l) := by
  unfold gBias
  pointwise
  rw [colm_eq (5656 + l.val) ⟨5656 + l.val, by have := l.isLt; omega⟩ rfl]

theorem gSmall_at (u : FVec Ideal S32x8x24 .f32) (v : FVec Ideal S32x8x8 .f32) (w : FVec Ideal S32x8x96 .f32) (i : Fin 256) (l : Fin 128) :
    gSmall u v w (ix2 i l) = if h : l.val < 24 then u (ix3 (ent 8 i.val) (pos i.val) ⟨l.val, h⟩)
      else if h' : l.val < 32 then v (ix3 (ent 8 i.val) (pos i.val) ⟨l.val - 24, by omega⟩)
      else w (ix3 (ent 8 i.val) (pos i.val) ⟨l.val - 32, by omega⟩) := by
  unfold gSmall
  pointwise
  have hi := i.isLt
  have hl := l.isLt
  have ea : ∀ p, (⟨i.val / 8, p⟩ : Fin 32) = ent 8 i.val := fun p => Fin.ext (by show i.val / 8 = i.val / 8 % 32; omega)
  have eb : ∀ p, (⟨i.val % 8, p⟩ : Fin 8) = pos i.val := fun p => rfl
  by_cases h : l.val < 24
  · rw [dif_pos h, dif_pos h]
    rw [ea, eb]
  · rw [dif_neg h, dif_neg h]
    by_cases h' : l.val < 32
    · rw [dif_pos (by omega), dif_pos h']
      rw [ea, eb]
    · rw [dif_neg (by omega), dif_neg h']
      rw [ea, eb]
      exact congrArg (fun e => w (ix3 (ent 8 i.val) (pos i.val) e)) (Fin.ext (by show l.val - 24 - 8 = l.val - 32; omega))

end Cert.Reference6Ideal.Proj
end
end
-- ==== Proof.ProjS.Equation.lean ====
/- The results of the sample's reference are the specification's arrays. -/
module

public import proofs.«01_k».proof.Proof.ProjS.Ref

@[expose] public section
noncomputable section
namespace Cert.Reference6Ideal.Proj
open Cert.Reference6Ideal Cert.Rms Cert.Logs Cert.Proj Idealize.ShloMosaic Idealize.ShloMosaic.TcCoe

variable (X : FVec Ideal S32x8x2048 .f32) (G : FVec Ideal S2048 .f32) (W : FVec Ideal S2048x5664 .f32) (B : FVec Ideal S8 .f32)

/-- An entry of the product, by its row's and its column's number. -/
theorem proj_num (n q : ℕ) (hn : n < 256) (hq : q < 5664) : gProj X G W (ix3 (ent 8 n) (pos n) (colm q)) = entry X G W n q := by
  refine gProj_at X G W _ _ _ n q ?_ ?_
  · show n = 8 * (n / 8 % 32) + n % 8
    omega
  · show q = q % 5664
    omega

theorem gQ_eq : gQ (gProj X G W) = flat X G W 0 := by
  funext y
  obtain ⟨i, d, rfl⟩ : ∃ (i : Fin 256) (d : Fin 1024), y = ix2 i d := ⟨y 0, y 1, by blk_ext⟩
  have hi := i.isLt
  have hd := d.isLt
  exact (gQ_at _ i d).trans (proj_num X G W i.val (0 + d.val) (by omega) (by omega))

theorem gC_eq : gC (gProj X G W) = quad X G W 1024 := by
  funext y
  obtain ⟨i, d, rfl⟩ : ∃ (i : Fin 1024) (d : Fin 128), y = ix2 i d := ⟨y 0, y 1, by blk_ext⟩
  have hi := i.isLt
  have hd := d.isLt
  exact (gC_at _ i d).trans (proj_num X G W (i.val / 4) (1024 + 128 * (i.val % 4) + d.val) (by omega) (by omega))

theorem gS_eq : gS (gProj X G W) = quad X G W 1536 := by
  funext y
  obtain ⟨i, d, rfl⟩ : ∃ (i : Fin 1024) (d : Fin 128), y = ix2 i d := ⟨y 0, y 1, by blk_ext⟩
  have hi := i.isLt
  have hd := d.isLt
  exact (gS_at _ i d).trans (proj_num X G W (i.val / 4) (1536 + 128 * (i.val % 4) + d.val) (by omega) (by omega))

theorem gWin_eq (U : FVec Ideal S32x512x2x2x128 .f32) : gWin U (gProj X G W) = window X G W U := by
  funext y
  obtain ⟨e, q, l, rfl⟩ : ∃ (e : Fin 32) (q l : Fin 512), y = ix3 e q l := ⟨y 0, y 1, y 2, by blk_ext⟩
  refine (gWin_at U _ e q l).trans ?_
  show _ = slot X G W U e q l
  unfold slot
  by_cases h : q.val < 504
  · rw [dif_pos h, dif_pos h]
  · rw [dif_neg h, dif_neg h]
    exact gProj_at X G W e _ _ _ _ rfl rfl

theorem gQF_eq : gQF (gProj X G W) = flat X G W 2584 := by
  funext y
  obtain ⟨i, d, rfl⟩ : ∃ (i : Fin 256) (d : Fin 1024), y = ix2 i d := ⟨y 0, y 1, by blk_ext⟩
  have hi := i.isLt
  have hd := d.isLt
  exact (gQF_at _ i d).trans (proj_num X G W i.val (2584 + d.val) (by omega) (by omega))

theorem gKF_eq : gKF (gProj X G W) = flat X G W 3608 := by
  funext y
  obtain ⟨i, d, rfl⟩ : ∃ (i : Fin 256) (d : Fin 2048), y = ix2 i d := ⟨y 0, y 1, by blk_ext⟩
  have hi := i.isLt
  have hd := d.isLt
  exact (gKF_at _ i d).trans (proj_num X G W i.val (3608 + d.val) (by omega) (by omega))

theorem gSmall_eq : gSmall (gGate (gProj X G W)) (gLog8 (gBias (gProj X G W) B)) (gLog96 gZero) = tail X G W B := by
  funext y
  obtain ⟨i, l, rfl⟩ : ∃ (i : Fin 256) (l : Fin 128), y = ix2 i l := ⟨y 0, y 1, by blk_ext⟩
  have hi := i.isLt
  have hl := l.isLt
  refine (gSmall_at _ _ _ i l).trans ?_
  show _ = lanes X G W B i.val l.val
  unfold lanes
  by_cases h : l.val < 24
  · rw [dif_pos h, if_pos h, gGate_at]
    exact congrArg gate (proj_num X G W i.val (2560 + l.val) hi (by omega))
  · rw [dif_neg h, if_neg h]
    by_cases h' : l.val < 32
    · rw [dif_pos h', if_pos h', gLog8_at, gBias_at]
      have e : 5656 + (l.val - 24) = 5632 + l.val := by omega
      refine congrArg logSig (congrArg₂ (· + ·) ?_ ?_)
      · refine (congrArg (fun q => gProj X G W (ix3 (ent 8 i.val) (pos i.val) (colm q))) e).trans ?_
        exact proj_num X G W i.val (5632 + l.val) hi (by omega)
      · exact congrArg (fun k => B (ix1 k)) (bias_eq _ _ rfl).symm
    · rw [dif_neg h', if_neg h', gLog96_at, gZero_at, add_zero]

end Cert.Reference6Ideal.Proj
end
end
-- ==== Proof.ProjS.Claims.lean ====
/- The claims about the input projection of the sample and its window buffer, one theorem each. -/
module

public import proofs.«01_k».proof.Defs
public import proofs.«01_k».proof.Proof.Gen.Kernel6
public import proofs.«01_k».proof.Proof.ProjS.Array
public import proofs.«01_k».proof.Proof.ProjS.Window
public import proofs.«01_k».proof.Proof.ProjS.Equation
public import Idealize.ShloMosaic.Lib.Quiescent

@[expose] public section
noncomputable section

namespace Cert.Kernel6Ideal.Proj
open Cert.Kernel6Ideal Cert.Kernel6Ideal.Gen Cert.Proj Idealize.ShloMosaic Idealize.ShloMosaic.TcCoe Idealize.SL.Sem

variable (m : (ℓ : Loc nD τ sig) → Buf (Elt Ideal) ℓ) (ρ : Dev nD → PrngReg)

/-- The kernel's run: the seven arrays, and the arguments as they were. -/
theorem run_arrays : θ_run defs (onTc (τ := τ) (main (F := Ideal))) ⟨m, fun _ => 0, ρ⟩ fun r => ∀ c : Dev nD,
      r.2.mem ((c.tc : Thread nD τ).loc main_v16_0) = flat (xA m c) (gA m c) (wA m c) 0
      ∧ r.2.mem ((c.tc : Thread nD τ).loc main_v16_1) = quad (xA m c) (gA m c) (wA m c) 1024
      ∧ r.2.mem ((c.tc : Thread nD τ).loc main_v16_2) = quad (xA m c) (gA m c) (wA m c) 1536
      ∧ r.2.mem ((c.tc : Thread nD τ).loc main_v20) = window (xA m c) (gA m c) (wA m c) (bufA m c)
      ∧ r.2.mem ((c.tc : Thread nD τ).loc main_v16_4) = flat (xA m c) (gA m c) (wA m c) 2584
      ∧ r.2.mem ((c.tc : Thread nD τ).loc main_v16_5) = flat (xA m c) (gA m c) (wA m c) 3608
      ∧ r.2.mem ((c.tc : Thread nD τ).loc main_v16_6) = tail (xA m c) (gA m c) (wA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (array5 m c), ((h c).1 6).trans (array6 m c), ((h c).1 7).trans (array7 m c),
      ((h c).2 main_v20 (Pipeline.mem_restRefs_of main_v20 (by decide) (by decide))).trans (window_eq m c), ((h c).1 9).trans (array9 m c), ((h c).1 10).trans (array10 m c), ((h c).1 11).trans (array11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run m ρ)

end Cert.Kernel6Ideal.Proj

namespace Cert.Proof.ProjS
open Cert.Proj Idealize.ShloMosaic Idealize.ShloMosaic.TcCoe Idealize.SL.Sem

/-- The kernel and its idealization have the same body table. -/
theorem tables : Cert.Kernel6.defs (F := Bits) = Cert.Kernel6Ideal.defs (F := Bits) := by
  unfold Cert.Kernel6.defs Cert.Kernel6Ideal.defs Cert.Kernel6.defs₀ Cert.Kernel6Ideal.defs₀
  refine congrArg (fun D => Pipeline.defs Cert.Kernel6.pcfgs (Defs.onTc D)) (funext fun l => funext fun a => ?_)
  match l, a with
  | ⟨0, _⟩, (t, s) => rfl

/-- The kernel as written runs, keeps its arguments and ends with every counter at zero. -/
theorem frame_p : Cert.quiescent_Kernel6 (hKernel6 := Cert.Kernel6.Gen.facts) := fun m ρ _ => by
  rw [tables]
  exact Cert.Kernel6Ideal.Proj.frame (F := Bits) m ρ

/-- So does its idealization. -/
theorem frame_pi : Cert.quiescent_Kernel6Ideal (hKernel6Ideal := Cert.Kernel6Ideal.Gen.facts) :=
  fun m ρ _ => Cert.Kernel6Ideal.Proj.frame m ρ

/-- The reference runs and keeps its arguments; it declares no semaphore. -/
theorem frame_r : Cert.quiescent_Reference6Ideal (hReference6Ideal := Cert.Reference6Ideal.Gen.facts) := fun m ρ _ =>
  (θ_run Cert.Reference6Ideal.defs _ _).mono
    (fun r h => ⟨fun c => (h c).2.2.2.2.2.2.2, Idealize.ShloMosaic.sem_eq_zero_of_no_sems (by decide) r.2⟩)
    (Cert.Reference6Ideal.Value.run (F := Ideal) m ρ)

/-- Nothing was rewritten between the kernel and its idealization. -/
theorem preserves : Cert.preserves_Kernel6_Kernel6Ideal := trivial

/-- Kernel and reference end with the same seven arrays: those that the specification writes out. -/
theorem algebraic : Cert.algebraic_Kernel6Ideal_Reference6Ideal (hKernel6Ideal := Cert.Kernel6Ideal.Gen.facts)
    (hReference6Ideal := Cert.Reference6Ideal.Gen.facts) := by
  intro m g m' g' _ harg
  refine ⟨fun c => flat (Cert.Kernel6Ideal.Proj.xA m c) (Cert.Kernel6Ideal.Proj.gA m c) (Cert.Kernel6Ideal.Proj.wA m c) 0,
    fun c => quad (Cert.Kernel6Ideal.Proj.xA m c) (Cert.Kernel6Ideal.Proj.gA m c) (Cert.Kernel6Ideal.Proj.wA m c) 1024,
    fun c => quad (Cert.Kernel6Ideal.Proj.xA m c) (Cert.Kernel6Ideal.Proj.gA m c) (Cert.Kernel6Ideal.Proj.wA m c) 1536,
    fun c => window (Cert.Kernel6Ideal.Proj.xA m c) (Cert.Kernel6Ideal.Proj.gA m c) (Cert.Kernel6Ideal.Proj.wA m c) (Cert.Kernel6Ideal.Proj.bufA m c),
    fun c => flat (Cert.Kernel6Ideal.Proj.xA m c) (Cert.Kernel6Ideal.Proj.gA m c) (Cert.Kernel6Ideal.Proj.wA m c) 2584,
    fun c => flat (Cert.Kernel6Ideal.Proj.xA m c) (Cert.Kernel6Ideal.Proj.gA m c) (Cert.Kernel6Ideal.Proj.wA m c) 3608,
    fun c => tail (Cert.Kernel6Ideal.Proj.xA m c) (Cert.Kernel6Ideal.Proj.gA m c) (Cert.Kernel6Ideal.Proj.wA m c) (Cert.Kernel6Ideal.Proj.bA m c), ?_, ?_⟩
  · exact Cert.Kernel6Ideal.Proj.run_arrays m g
  · refine (θ_run Cert.Reference6Ideal.defs _ _).mono (fun r h c => ?_) (Cert.Reference6Ideal.Value.run (F := Ideal) m' g')
    obtain ⟨e0, e1, e2, e3, e4, e5, e6, k⟩ := h c
    rw [Cert.Reference6Ideal.Proj.res_eq] at e6
    rw [(harg c).1, (harg c).2.2.1, (harg c).2.2.2.1] at e0 e1 e2 e4 e5
    rw [(harg c).1, (harg c).2.1, (harg c).2.2.1, (harg c).2.2.2.1] at e3
    rw [(harg c).1, (harg c).2.2.1, (harg c).2.2.2.1, (harg c).2.2.2.2] at e6
    exact ⟨e0.trans (Cert.Reference6Ideal.Proj.gQ_eq _ _ _), e1.trans (Cert.Reference6Ideal.Proj.gC_eq _ _ _),
      e2.trans (Cert.Reference6Ideal.Proj.gS_eq _ _ _), e3.trans (Cert.Reference6Ideal.Proj.gWin_eq _ _ _ _),
      e4.trans (Cert.Reference6Ideal.Proj.gQF_eq _ _ _), e5.trans (Cert.Reference6Ideal.Proj.gKF_eq _ _ _),
      e6.trans (Cert.Reference6Ideal.Proj.gSmall_eq _ _ _ _), k⟩

end Cert.Proof.ProjS
end
end
-- ==== Proof.OutS.Ref.lean ====
/- The reference of the output projection of the sample read at one index: the gates, the norm of each group, the residual and the
   product with the output weights. -/
module

public import proofs.«01_k».proof.Proof.Gen.Reference7Ideal.Run
public import proofs.«01_k».proof.Proof.Out.Line
public import Idealize.ShloMosaic.Lib.Pointwise

@[expose] public section
set_option maxRecDepth 16384
noncomputable section
namespace Cert.Reference7Ideal.OutS
open Cert.Reference7Ideal Cert.Reference7Ideal.Gen Cert.Reference7Ideal.Value Cert.Line Idealize.ShloMosaic Idealize.ShloMosaic.TcCoe Idealize.SL.Sem

/-- The three branches, each times its gate, added; the heads side by side. -/
def gNsa (A1 : FVec Ideal S32x8x3x2x4 .f32) (A2 A3 A4 : FVec Ideal S32x8x2x4x128 .f32) : FVec Ideal S32x8x1024 .f32 :=
  shapeCast _ (addf (addf (mulf (broadcastInDim S32x8x2x4x128 ![0, 1, 2, 3, 4] bcast_S32x8x2x4x1_S32x8x2x4x128_0_1_2_3_4 (broadcastInDim S32x8x2x4x1 ![0, 1, 2, 3] bcast_S32x8x2x4_S32x8x2x4x1_0_1_2_3 (shapeCast _ (extractStridedSlice S32x8x1x2x4 ![0, 0, 0, 0, 0] A1 slices_S32x8x3x2x4_S32x8x1x2x4_0_0_0_0_0) shapeCasts_S32x8x1x2x4_S32x8x2x4))) A2) (mulf (broadcastInDim S32x8x2x4x128 ![0, 1, 2, 3, 4] bcast_S32x8x2x4x1_S32x8x2x4x128_0_1_2_3_4 (broadcastInDim S32x8x2x4x1 ![0, 1, 2, 3] bcast_S32x8x2x4_S32x8x2x4x1_0_1_2_3 (shapeCast _ (extractStridedSlice S32x8x1x2x4 ![0, 0, 1, 0, 0] A1 slices_S32x8x3x2x4_S32x8x1x2x4_0_0_1_0_0) shapeCasts_S32x8x1x2x4_S32x8x2x4))) A3)) (mulf (broadcastInDim S32x8x2x4x128 ![0, 1, 2, 3, 4] bcast_S32x8x2x4x1_S32x8x2x4x128_0_1_2_3_4 (broadcastInDim S32x8x2x4x1 ![0, 1, 2, 3] bcast_S32x8x2x4_S32x8x2x4x1_0_1_2_3 (shapeCast _ (extractStridedSlice S32x8x1x2x4 ![0, 0, 2, 0, 0] A1 slices_S32x8x3x2x4_S32x8x1x2x4_0_0_2_0_0) shapeCasts_S32x8x1x2x4_S32x8x2x4))) A4)) shapeCasts_S32x8x2x4x128_S32x8x1024

/-- The norm of every row. -/
def gNorm (x : FVec Ideal S32x8x1024 .f32) (g : FVec Ideal S1024 .f32) : FVec Ideal S32x8x1024 .f32 :=
  mulf (mulf x (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf x x) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x358637BD#32)))))) (broadcastInDim S32x8x1024 ![0, 1, 2] bcast_S1x1x1024_S32x8x1024_0_1_2 (broadcastInDim S1x1x1024 ![2] bcast_S1024_S1x1x1024_2 g))

/-- The residual and the product of both groups with the output weights. -/
def gOut (x : FVec Ideal S32x8x2048 .f32) (n f : FVec Ideal S32x8x1024 .f32) (w : FVec Ideal S2048x2048 .f32) : FVec Ideal S32x8x2048 .f32 :=
  addf x (Host.dotGeneral dot_S32x8x2048_S2048x2048_S32x8x2048_2_0_01_1_n_n none (concatenate S32x8x2048 2 [⟨S32x8x1024, n⟩, ⟨S32x8x1024, f⟩] concatenates_S32x8x1024_S32x8x1024_S32x8x2048_d2) w)

/-- The rows of all batch entries one after the other. -/
def gFlat (x : FVec Ideal S32x8x2048 .f32) : FVec Ideal S256x2048 .f32 :=
  shapeCast _ x shapeCasts_S32x8x2048_S256x2048

theorem res_eq (m : (ℓ : Loc nD τ sig) → Buf (Elt Ideal) ℓ) (c : Dev nD) :
    res_main_v47 m c = gFlat (gOut (m ((c : Thread nD τ).loc main_arg0))
      (gNorm (gNsa (m ((c : Thread nD τ).loc main_arg1)) (m ((c : Thread nD τ).loc main_arg2)) (m ((c : Thread nD τ).loc main_arg3)) (m ((c : Thread nD τ).loc main_arg4))) (m ((c : Thread nD τ).loc main_arg6)))
      (gNorm (m ((c : Thread nD τ).loc main_arg5)) (m ((c : Thread nD τ).loc main_arg7))) (m ((c : Thread nD τ).loc main_arg8))) := rfl

theorem gNsa_at (A1 : FVec Ideal S32x8x3x2x4 .f32) (A2 A3 A4 : FVec Ideal S32x8x2x4x128 .f32) (a : Fin 32) (t : Fin 8) (k : Fin 1024) :
    gNsa A1 A2 A3 A4 (ix3 a t k) = gated (fun b h => A1 (ix5 a t b (pair h) (rep h)))
      (fun k => A2 (ix5 a t (pair (head k)) (rep (head k)) (lane k))) (fun k => A3 (ix5 a t (pair (head k)) (rep (head k)) (lane k)))
      (fun k => A4 (ix5 a t (pair (head k)) (rep (head k)) (lane k))) k := by
  unfold gNsa gated
  pointwise
  have e : ∀ p, (⟨k.val / 512, p⟩ : Fin 2) = pair (head k) := fun p => Fin.ext (by show k.val / 512 = k.val / 128 / 4; omega)
  simp only [e]
  rfl

theorem gNorm_at (x : FVec Ideal S32x8x1024 .f32) (g : FVec Ideal S1024 .f32) (a : Fin 32) (t : Fin 8) (k : Fin 1024) :
    gNorm x g (ix3 a t k) = rms (fun j => x (ix3 a t j)) (fun j => g (ix1 j)) k := by
  unfold gNorm rms
  pointwise

theorem gOut_at (x : FVec Ideal S32x8x2048 .f32) (n f : FVec Ideal S32x8x1024 .f32) (w : FVec Ideal S2048x2048 .f32)
    (a : Fin 32) (t : Fin 8) (d : Fin 2048) :
    gOut x n f w (ix3 a t d) = line (x (ix3 a t d)) (fun k => n (ix3 a t k)) (fun k => f (ix3 a t k)) (fun k => w (ix2 k d)) := by
  unfold gOut line
  pointwise

theorem gFlat_at (x : FVec Ideal S32x8x2048 .f32) (a : Fin 32) (t : Fin 8) (k : Fin 2048) (i : Fin 256) (hi : i.val = 8 * a.val + t.val) :
    gFlat x (ix2 i k) = x (ix3 a t k) := by
  unfold gFlat
  pointwise
  have ht := t.isLt
  have e1 : ∀ p, (⟨i.val / 8, p⟩ : Fin 32) = a := fun p => Fin.ext (by simp; omega)
  have e2 : ∀ p, (⟨i.val % 8, p⟩ : Fin 8) = t := fun p => Fin.ext (by simp; omega)
  simp only [e1, e2]

end Cert.Reference7Ideal.OutS
end
end
-- ==== Proof.OutS.Block.lean ====
/- What the body of the output projection of the sample writes to its block of 256 rows: the body is one half of the
   prompt's, so its values are read off that one's. -/
module

public import proofs.«01_k».proof.Proof.Gen.Kernel7Ideal.Value
public import proofs.«01_k».proof.Proof.Out.Ideal

@[expose] public section
set_option maxRecDepth 16384
noncomputable section
namespace Cert.Kernel7Ideal.OutS
open Cert.Kernel7Ideal Cert.Kernel7Ideal.Gen Cert.Line Idealize.ShloMosaic Idealize.ShloMosaic.TcCoe Idealize.SL.Sem
open Cert.Kernel4Ideal.Out (one cat cat_at nrm nrm_at same same_at tail1)

theorem tail1_at (g : FVec Ideal S256x128 .f32) (u v w : Vec Ideal S256x128 .f32) (r : Fin 256) (l : Fin 128) :
    tail1 g (k0_pay12 g u) (k0_pay13 g v) w (ix2 r l) = one g 7 15 23 u v w r l :=
  Cert.Kernel4Ideal.Out.tail1_at g u v w r l

theorem a0_at (g u v w : Vec Ideal S256x128 .f32) (r : Fin 256) (l : Fin 128) :
    k0_pay3 g u v w (ix2 r l) = one g 0 8 16 u v w r l :=
  Cert.Kernel4Ideal.Out.a0_at g u v w r l

theorem a1_at (g u v w : Vec Ideal S256x128 .f32) (r : Fin 256) (l : Fin 128) :
    k0_pay4 g u v w (ix2 r l) = one g 1 9 17 u v w r l :=
  Cert.Kernel4Ideal.Out.a1_at g u v w r l

theorem a2_at (g u v w : Vec Ideal S256x128 .f32) (r : Fin 256) (l : Fin 128) :
    k0_pay7 (k0_pay2 g) (k0_pay5 g u) (k0_pay6 g) v w (ix2 r l) = one g 2 10 18 u v w r l :=
  Cert.Kernel4Ideal.Out.a2_at g u v w r l

theorem a3_at (g u v w : Vec Ideal S256x128 .f32) (r : Fin 256) (l : Fin 128) :
    k0_pay8 g u v w (ix2 r l) = one g 3 11 19 u v w r l :=
  Cert.Kernel4Ideal.Out.a3_at g u v w r l

theorem a4_at (g u v w : Vec Ideal S256x128 .f32) (r : Fin 256) (l : Fin 128) :
    k0_pay9 g u v w (ix2 r l) = one g 4 12 20 u v w r l :=
  Cert.Kernel4Ideal.Out.a4_at g u v w r l

theorem a5_at (g u v w : Vec Ideal S256x128 .f32) (r : Fin 256) (l : Fin 128) :
    k0_pay10 g u v w (ix2 r l) = one g 5 13 21 u v w r l :=
  Cert.Kernel4Ideal.Out.a5_at g u v w r l

theorem a6_at (g u v w : Vec Ideal S256x128 .f32) (r : Fin 256) (l : Fin 128) :
    k0_pay11 g u v w (ix2 r l) = one g 6 14 22 u v w r l :=
  Cert.Kernel4Ideal.Out.a6_at g u v w r l

theorem g1_at (g : Vec Ideal S256x128 .f32) (r : Fin 256) (l : Fin 128) : k0_pay2 g (ix2 r l) = g (ix2 r l) :=
  Cert.Kernel4Ideal.Out.g1_at g r l

theorem pay14_eq (v1 v18 v35 v52 v69 v86 v103 v120 v125 v130 : FVec Ideal S256x128 .f32) (v133 : Vec Ideal S256x128 .f32) (v139 : Vec Ideal S1x1024 .f32)
    (v153 : Vec Ideal S256x1024 .f32) (v155 : Vec Ideal S1x1024 .f32) :
    k0_pay14 v1 v18 v35 v52 v69 v86 v103 v120 v125 v130 v133 v139 v153 v155
      = truncf .bf16 (concatenate S256x2048 1 [⟨S256x1024, nrm (cat v18 v35 v52 v69 v86 v103 v120 (tail1 v1 v125 v130 v133)) v139⟩, ⟨S256x1024, nrm (same v153) v155⟩] concatenates_S256x1024_S256x1024_S256x2048_d1) bitsLt_bf16_f32 := by
  unfold k0_pay14 nrm cat tail1 same
  rfl

theorem pay1_at (n f : FVec Ideal S256x1024 .f32) (x : Vec Ideal S256x2048 .f32) (w : Vec Ideal S2048x2048 .bf16) (r : Fin 256) (d : Fin 2048) :
    k0_pay1 (truncf .bf16 (concatenate S256x2048 1 [⟨S256x1024, n⟩, ⟨S256x1024, f⟩] concatenates_S256x1024_S256x1024_S256x2048_d1) bitsLt_bf16_f32) (k0_pay15 x) w (ix2 r d)
      = line (x (ix2 r d)) (fun k => n (ix2 r k)) (fun k => f (ix2 r k)) (fun k => w (ix2 k d)) :=
  Cert.Kernel4Ideal.Out.pay16_at n f x w r d

/-- A load of 256 rows and one head's columns. -/
theorem ld_head (X : Vec Ideal S256x1024 .f32) (o p : ℕ) (inb : ∀ a, (![o, p] : Fin 2 → ℕ) a + S256x128.size a ≤ S256x1024.size a)
    (r : Fin 256) (l : Fin 128) (R : Fin 256) (k : Fin 1024) (hR : R.val = o + r.val) (hk : k.val = p + l.val) :
    View.ld X (Rect.unit (s := S256x1024) ![o, p] S256x128.size inb) (ix2 r l) = X (ix2 R k) := by
  refine View.ld_unit_apply_of X _ _ inb (ix2 r l) (ix2 R k) fun a => ?_
  fin_cases a
  exacts [hR, hk]

/-- A load of 256 rows of the gates. -/
theorem ld_gate (X : Vec Ideal S256x128 .f32) (o : ℕ) (inb : ∀ a, (![o, 0] : Fin 2 → ℕ) a + S256x128.size a ≤ S256x128.size a)
    (r : Fin 256) (l : Fin 128) (R : Fin 256) (hR : R.val = o + r.val) :
    View.ld X (Rect.unit (s := S256x128) ![o, 0] S256x128.size inb) (ix2 r l) = X (ix2 R l) := by
  refine View.ld_unit_apply_of X _ _ inb (ix2 r l) (ix2 R l) fun a => ?_
  fin_cases a
  exacts [hR, (Nat.zero_add _).symm]

/-- A load of 256 rows of the heads of the other group. -/
theorem ld_fox (X : Vec Ideal S256x1024 .f32) (o : ℕ) (inb : ∀ a, (![o, 0] : Fin 2 → ℕ) a + S256x1024.size a ≤ S256x1024.size a)
    (r : Fin 256) (k : Fin 1024) (R : Fin 256) (hR : R.val = o + r.val) :
    View.ld X (Rect.unit (s := S256x1024) ![o, 0] S256x1024.size inb) (ix2 r k) = X (ix2 R k) := by
  refine View.ld_unit_apply_of X _ _ inb (ix2 r k) (ix2 R k) fun a => ?_
  fin_cases a
  exacts [hR, (Nat.zero_add _).symm]

/-- A load of 256 rows of the residual. -/
theorem ld_res (X : Vec Ideal S256x2048 .f32) (o : ℕ) (inb : ∀ a, (![o, 0] : Fin 2 → ℕ) a + S256x2048.size a ≤ S256x2048.size a)
    (r : Fin 256) (d : Fin 2048) (R : Fin 256) (hR : R.val = o + r.val) :
    View.ld X (Rect.unit (s := S256x2048) ![o, 0] S256x2048.size inb) (ix2 r d) = X (ix2 R d) := by
  refine View.ld_unit_apply_of X _ _ inb (ix2 r d) (ix2 R d) fun a => ?_
  fin_cases a
  exacts [hR, (Nat.zero_add _).symm]

/-- A load of a whole row of gains. -/
theorem ld_gain (X : Vec Ideal S1x1024 .f32) (k : Fin 1024) : View.ld X r0_9 (ix2 (0 : Fin 1) k) = X (ix2 (0 : Fin 1) k) := by
  refine View.ld_unit_apply_of X _ _ _ (ix2 (0 : Fin 1) k) (ix2 (0 : Fin 1) k) fun a => ?_
  fin_cases a
  exacts [(Nat.zero_add _).symm, (Nat.zero_add _).symm]

/-- A load of the whole weights. -/
theorem ld_w (X : Vec Ideal S2048x2048 .bf16) (k d : Fin 2048) : View.ld X r0_12 (ix2 k d) = X (ix2 k d) := by
  refine View.ld_unit_apply_of X _ _ _ (ix2 k d) (ix2 k d) fun a => ?_
  fin_cases a
  exacts [(Nat.zero_add _).symm, (Nat.zero_add _).symm]

/-- The gate of branch `b` and head `h` in the gates' row `R`. -/
def gates (x5 : Vec Ideal S256x128 .f32) (R : Fin 256) (b : Fin 3) (h : Fin 8) : EReal :=
  x5 (ix2 R ⟨8 * b.val + h.val, by have := b.isLt; have := h.isLt; omega⟩)

/-- The gated heads of row `R`. -/
def nsa (x1 x2 x3 : Vec Ideal S256x1024 .f32) (x5 : Vec Ideal S256x128 .f32) (R : Fin 256) : Fin 1024 → EReal :=
  gated (gates x5 R) (fun k => x1 (ix2 R k)) (fun k => x2 (ix2 R k)) (fun k => x3 (ix2 R k))

/-- One head's gated sum is its columns of the gated row. -/
theorem piece (x1 x2 x3 : Vec Ideal S256x1024 .f32) (x5 : Vec Ideal S256x128 .f32) (R : Fin 256) (r : Fin 256) (l : Fin 128) (k : Fin 1024)
    (g u v w : Vec Ideal S256x128 .f32) (a b c : Fin 128) (h : ℕ) (hk : k.val = 128 * h + l.val)
    (ha : a.val = h) (hb : b.val = 8 + h) (hc : c.val = 16 + h) (hg : ∀ l, g (ix2 r l) = x5 (ix2 R l))
    (hu : u (ix2 r l) = x1 (ix2 R k)) (hv : v (ix2 r l) = x2 (ix2 R k)) (hw : w (ix2 r l) = x3 (ix2 R k)) :
    one g a b c u v w r l = nsa x1 x2 x3 x5 R k := by
  have hl := l.isLt
  have e : k.val / 128 = h := by omega
  unfold one nsa gated gates
  rw [hg, hg, hg, hu, hv, hw]
  have ea : a = ⟨8 * (0 : Fin 3).val + (head k).val, by have := (head k).isLt; show 8 * 0 + _ < _; omega⟩ :=
    Fin.ext (by show a.val = 8 * 0 + k.val / 128; omega)
  have eb : b = ⟨8 * (1 : Fin 3).val + (head k).val, by have := (head k).isLt; show 8 * 1 + _ < _; omega⟩ :=
    Fin.ext (by show b.val = 8 * 1 + k.val / 128; omega)
  have ec : c = ⟨8 * (2 : Fin 3).val + (head k).val, by have := (head k).isLt; show 8 * 2 + _ < _; omega⟩ :=
    Fin.ext (by show c.val = 8 * 2 + k.val / 128; omega)
  rw [ea, eb, ec]

/-- What row `R` of the block is to hold. -/
def want (x0 : Vec Ideal S256x2048 .f32) (x1 x2 x3 x4 : Vec Ideal S256x1024 .f32) (x5 : Vec Ideal S256x128 .f32) (x6 x7 : Vec Ideal S1x1024 .f32)
    (x8 : Vec Ideal S2048x2048 .bf16) (R : Fin 256) (d : Fin 2048) : EReal :=
  line (x0 (ix2 R d)) (rms (nsa x1 x2 x3 x5 R) (fun k => x6 (ix2 (0 : Fin 1) k)))
    (rms (fun k => x4 (ix2 R k)) (fun k => x7 (ix2 (0 : Fin 1) k))) (fun k => x8 (ix2 k d))

variable (x0 : Vec Ideal S256x2048 .f32) (x1 x2 x3 x4 : Vec Ideal S256x1024 .f32) (x5 : Vec Ideal S256x128 .f32) (x6 x7 : Vec Ideal S1x1024 .f32)
  (x8 : Vec Ideal S2048x2048 .bf16)

/-- The gated heads of the block. -/
theorem heads (R : Fin 256) (r : Fin 256) (hR : R.val = 0 + r.val) (k : Fin 1024) :
    cat (k0_pay3 (View.ld x5 r0_0) (View.ld x1 r0_1) (View.ld x2 r0_1) (View.ld x3 r0_1)) (k0_pay4 (View.ld x5 r0_0) (View.ld x1 r0_2) (View.ld x2 r0_2) (View.ld x3 r0_2)) (k0_pay7 (k0_pay16 x0 x1 x2 x3 x4 x5 x6 x7 x8) (k0_pay5 (View.ld x5 r0_0) (View.ld x1 r0_3)) (k0_pay6 (View.ld x5 r0_0)) (View.ld x2 r0_3) (View.ld x3 r0_3)) (k0_pay8 (k0_pay16 x0 x1 x2 x3 x4 x5 x6 x7 x8) (View.ld x1 r0_4) (View.ld x2 r0_4) (View.ld x3 r0_4)) (k0_pay9 (k0_pay16 x0 x1 x2 x3 x4 x5 x6 x7 x8) (View.ld x1 r0_5) (View.ld x2 r0_5) (View.ld x3 r0_5)) (k0_pay10 (k0_pay16 x0 x1 x2 x3 x4 x5 x6 x7 x8) (View.ld x1 r0_6) (View.ld x2 r0_6) (View.ld x3 r0_6)) (k0_pay11 (k0_pay16 x0 x1 x2 x3 x4 x5 x6 x7 x8) (View.ld x1 r0_7) (View.ld x2 r0_7) (View.ld x3 r0_7))
      (tail1 (k0_pay16 x0 x1 x2 x3 x4 x5 x6 x7 x8) (k0_pay12 (k0_pay16 x0 x1 x2 x3 x4 x5 x6 x7 x8) (View.ld x1 r0_8)) (k0_pay13 (k0_pay16 x0 x1 x2 x3 x4 x5 x6 x7 x8) (View.ld x2 r0_8)) (View.ld x3 r0_8)) (ix2 r k) = nsa x1 x2 x3 x5 R k := by
  have hg : ∀ l, View.ld x5 r0_0 (ix2 r l) = x5 (ix2 R l) := fun l => ld_gate x5 0 _ r l R hR
  have hG : ∀ l, k0_pay16 x0 x1 x2 x3 x4 x5 x6 x7 x8 (ix2 r l) = x5 (ix2 R l) := fun l => (g1_at _ r l).trans (hg l)
  refine cat_at _ _ _ _ _ _ _ _ r _ ?_ ?_ ?_ ?_ ?_ ?_ ?_ ?_ k
  · exact fun l k hk => (a0_at _ _ _ _ r l).trans (piece x1 x2 x3 x5 R r l k _ _ _ _ 0 8 16 0 hk rfl rfl rfl hg
      (ld_head x1 0 0 _ r l R k hR hk) (ld_head x2 0 0 _ r l R k hR hk) (ld_head x3 0 0 _ r l R k hR hk))
  · exact fun l k hk => (a1_at _ _ _ _ r l).trans (piece x1 x2 x3 x5 R r l k _ _ _ _ 1 9 17 1 hk rfl rfl rfl hg
      (ld_head x1 0 128 _ r l R k hR hk) (ld_head x2 0 128 _ r l R k hR hk) (ld_head x3 0 128 _ r l R k hR hk))
  · exact fun l k hk => (a2_at _ _ _ _ r l).trans (piece x1 x2 x3 x5 R r l k _ _ _ _ 2 10 18 2 hk rfl rfl rfl hg
      (ld_head x1 0 256 _ r l R k hR hk) (ld_head x2 0 256 _ r l R k hR hk) (ld_head x3 0 256 _ r l R k hR hk))
  · exact fun l k hk => (a3_at _ _ _ _ r l).trans (piece x1 x2 x3 x5 R r l k _ _ _ _ 3 11 19 3 hk rfl rfl rfl hG
      (ld_head x1 0 384 _ r l R k hR hk) (ld_head x2 0 384 _ r l R k hR hk) (ld_head x3 0 384 _ r l R k hR hk))
  · exact fun l k hk => (a4_at _ _ _ _ r l).trans (piece x1 x2 x3 x5 R r l k _ _ _ _ 4 12 20 4 hk rfl rfl rfl hG
      (ld_head x1 0 512 _ r l R k hR hk) (ld_head x2 0 512 _ r l R k hR hk) (ld_head x3 0 512 _ r l R k hR hk))
  · exact fun l k hk => (a5_at _ _ _ _ r l).trans (piece x1 x2 x3 x5 R r l k _ _ _ _ 5 13 21 5 hk rfl rfl rfl hG
      (ld_head x1 0 640 _ r l R k hR hk) (ld_head x2 0 640 _ r l R k hR hk) (ld_head x3 0 640 _ r l R k hR hk))
  · exact fun l k hk => (a6_at _ _ _ _ r l).trans (piece x1 x2 x3 x5 R r l k _ _ _ _ 6 14 22 6 hk rfl rfl rfl hG
      (ld_head x1 0 768 _ r l R k hR hk) (ld_head x2 0 768 _ r l R k hR hk) (ld_head x3 0 768 _ r l R k hR hk))
  · exact fun l k hk => (tail1_at _ _ _ _ r l).trans (piece x1 x2 x3 x5 R r l k _ _ _ _ 7 15 23 7 hk rfl rfl rfl hG
      (ld_head x1 0 896 _ r l R k hR hk) (ld_head x2 0 896 _ r l R k hR hk) (ld_head x3 0 896 _ r l R k hR hk))

/-- The block as the body computes it. -/
theorem half (R : Fin 256) (r : Fin 256) (hR : R.val = 0 + r.val) (d : Fin 2048) :
    k0_pay1 (k0_pay14 (k0_pay16 x0 x1 x2 x3 x4 x5 x6 x7 x8) (k0_pay3 (View.ld x5 r0_0) (View.ld x1 r0_1) (View.ld x2 r0_1) (View.ld x3 r0_1)) (k0_pay4 (View.ld x5 r0_0) (View.ld x1 r0_2) (View.ld x2 r0_2) (View.ld x3 r0_2)) (k0_pay7 (k0_pay16 x0 x1 x2 x3 x4 x5 x6 x7 x8) (k0_pay5 (View.ld x5 r0_0) (View.ld x1 r0_3)) (k0_pay6 (View.ld x5 r0_0)) (View.ld x2 r0_3) (View.ld x3 r0_3)) (k0_pay8 (k0_pay16 x0 x1 x2 x3 x4 x5 x6 x7 x8) (View.ld x1 r0_4) (View.ld x2 r0_4) (View.ld x3 r0_4)) (k0_pay9 (k0_pay16 x0 x1 x2 x3 x4 x5 x6 x7 x8) (View.ld x1 r0_5) (View.ld x2 r0_5) (View.ld x3 r0_5)) (k0_pay10 (k0_pay16 x0 x1 x2 x3 x4 x5 x6 x7 x8) (View.ld x1 r0_6) (View.ld x2 r0_6) (View.ld x3 r0_6)) (k0_pay11 (k0_pay16 x0 x1 x2 x3 x4 x5 x6 x7 x8) (View.ld x1 r0_7) (View.ld x2 r0_7) (View.ld x3 r0_7)) (k0_pay12 (k0_pay16 x0 x1 x2 x3 x4 x5 x6 x7 x8) (View.ld x1 r0_8)) (k0_pay13 (k0_pay16 x0 x1 x2 x3 x4 x5 x6 x7 x8) (View.ld x2 r0_8)) (View.ld x3 r0_8) (View.ld x6 r0_9) (View.ld x4 r0_10) (View.ld x7 r0_9)) (k0_pay15 (View.ld x0 r0_11)) (View.ld x8 r0_12) (ix2 r d)
      = want x0 x1 x2 x3 x4 x5 x6 x7 x8 R d := by
  rw [pay14_eq, pay1_at]
  unfold want
  rw [ld_res x0 0 _ r d R hR]
  simp only [nrm_at, same_at, heads x0 x1 x2 x3 x4 x5 x6 x7 x8 R r hR, fun k => ld_fox x4 0 _ r k R hR]
  exact congr (congr (congrArg _ (congrArg (rms _) (funext fun k => ld_gain x6 k))) (congrArg₂ rms (funext fun k => ld_fox x4 0 _ r k R hR) (funext fun k => ld_gain x7 k)))
    (funext fun k => ld_w x8 k d)

/-- The block after the body. -/
theorem out_at (R : Fin 256) (d : Fin 2048) :
    out0_9 x0 x1 x2 x3 x4 x5 x6 x7 x8 (ix2 R d) = want x0 x1 x2 x3 x4 x5 x6 x7 x8 R d := by
  unfold out0_9
  refine View.canon_eq_of_allAt _ _ _ (View.cover_of_tiled_head _ _ _ rfl _) ?_
  refine View.allAt_cons_unit _ _ _ _ _ (fun x hx => ?_) (View.allAt_nil _ _)
  obtain ⟨r, e, rfl⟩ : ∃ (r : Fin 256) (e : Fin 2048), x = ix2 r e := ⟨x 0, x 1, by blk_ext⟩
  have h0 : R.val = 0 + r.val := hx 0
  have h1 : d.val = 0 + e.val := hx 1
  obtain rfl : d = e := Fin.ext (by omega)
  exact half x0 x1 x2 x3 x4 x5 x6 x7 x8 R r h0 d

end Cert.Kernel7Ideal.OutS
end
end
-- ==== Proof.OutS.Array.lean ====
/- The operands' blocks at a grid point read from the arguments, and the output array of the output projection of the sample. -/
module

public import proofs.«01_k».proof.Proof.OutS.Block
public import Idealize.ShloMosaic.Lib.Pipeline.Covers
public import Idealize.ShloMosaic.Lib.StableHlo.ReadAt

@[expose] public section
set_option maxRecDepth 16384
noncomputable section
namespace Cert.Kernel7Ideal.OutS
open Cert.Kernel7Ideal Cert.Kernel7Ideal.Gen Cert.Line Idealize.ShloMosaic Idealize.ShloMosaic.TcCoe Idealize.SL.Sem
open Idealize.ShloMosaic.Pipeline (Dat)

/-! ## The specification -/

/-- The columns of one branch in the row of entry `a`, position `t`. -/
def branch (O : Vec Ideal S32x8x2x4x128 .f32) (a : Fin 32) (t : Fin 8) (k : Fin 1024) : EReal :=
  O (ix5 a t (pair (head k)) (rep (head k)) (lane k))

/-- The gated heads of one row. -/
def mixed (GT : Vec Ideal S32x8x3x2x4 .f32) (OC OS OW : Vec Ideal S32x8x2x4x128 .f32) (a : Fin 32) (t : Fin 8) : Fin 1024 → EReal :=
  gated (fun b h => GT (ix5 a t b (pair h) (rep h))) (branch OC a t) (branch OS a t) (branch OW a t)

/-- Entry `d` of one row of the result. -/
def out (X : Vec Ideal S32x8x2048 .f32) (GT : Vec Ideal S32x8x3x2x4 .f32) (OC OS OW : Vec Ideal S32x8x2x4x128 .f32)
    (OF : Vec Ideal S32x8x1024 .f32) (GN GF : Vec Ideal S1024 .f32) (W : Vec Ideal S2048x2048 .f32) (a : Fin 32) (t : Fin 8) (d : Fin 2048) : EReal :=
  line (X (ix3 a t d)) (rms (mixed GT OC OS OW a t) (fun k => GN (ix1 k))) (rms (fun k => OF (ix3 a t k)) (fun k => GF (ix1 k)))
    (fun k => W (ix2 k d))

/-- The whole array, the rows of all entries one after the other. -/
def spec (X : Vec Ideal S32x8x2048 .f32) (GT : Vec Ideal S32x8x3x2x4 .f32) (OC OS OW : Vec Ideal S32x8x2x4x128 .f32)
    (OF : Vec Ideal S32x8x1024 .f32) (GN GF : Vec Ideal S1024 .f32) (W : Vec Ideal S2048x2048 .f32) : Vec Ideal S256x2048 .f32 := fun i =>
  out X GT OC OS OW OF GN GF W ⟨(i 0).val / 8, by have h : (i 0).val < 256 := (i 0).isLt; omega⟩
    ⟨(i 0).val % 8, Nat.mod_lt _ (by decide)⟩ (i 1)

theorem spec_at (X : Vec Ideal S32x8x2048 .f32) (GT : Vec Ideal S32x8x3x2x4 .f32) (OC OS OW : Vec Ideal S32x8x2x4x128 .f32)
    (OF : Vec Ideal S32x8x1024 .f32) (GN GF : Vec Ideal S1024 .f32) (W : Vec Ideal S2048x2048 .f32)
    (i : Fin 256) (a : Fin 32) (t : Fin 8) (d : Fin 2048) (hi : i.val = 8 * a.val + t.val) :
    spec X GT OC OS OW OF GN GF W (ix2 i d) = out X GT OC OS OW OF GN GF W a t d := by
  have ht := t.isLt
  exact congrArg₂ (fun x y => out X GT OC OS OW OF GN GF W x y d) (Fin.ext (by show i.val / 8 = a.val; omega))
    (Fin.ext (by show i.val % 8 = t.val; omega))

/-! ## The operands' blocks -/

variable (m : (ℓ : Loc nD τ sig) → Buf (Elt Ideal) ℓ)

theorem coords0 (t : Fin cfg0.N) : (grid0.coords t 0).val = t.val := by
  have ht : t.val < 1 := t.isLt
  rw [Pipeline.Grid.coords_val (S := 1) (B := 1) t 0 (by decide) (by decide)]
  omega

/-- The block each window is at, by the grid point. -/
theorem idx (t : Fin cfg0.N) :
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![0, 0]
    ∧ win0_8.index t = ![0, 0]
    ∧ win0_9.index t = ![t.val, 0] := by
  have ht : t.val < 1 := t.isLt
  have e0 : (BitVec.ofNat 32 (grid0.coords t 0).val).toNat = t.val := by
    rw [coords0 t, BitVec.toNat_ofNat]; omega
  refine ⟨?_, ?_, ?_, ?_, ?_, ?_, ?_, ?_, ?_, ?_⟩
  · show cc0_transform_0 (grid0.coords t) = _
    unfold cc0_transform_0; rw [← e0]; rfl
  · show cc0_transform_1 (grid0.coords t) = _
    unfold cc0_transform_1; rw [← e0]; rfl
  · show cc0_transform_2 (grid0.coords t) = _
    unfold cc0_transform_2; rw [← e0]; rfl
  · show cc0_transform_3 (grid0.coords t) = _
    unfold cc0_transform_3; rw [← e0]; rfl
  · show cc0_transform_4 (grid0.coords t) = _
    unfold cc0_transform_4; rw [← e0]; rfl
  · show cc0_transform_5 (grid0.coords t) = _
    unfold cc0_transform_5; rw [← e0]; rfl
  · show cc0_transform_6 (grid0.coords t) = _
    unfold cc0_transform_6; rfl
  · show cc0_transform_7 (grid0.coords t) = _
    unfold cc0_transform_7; rfl
  · show cc0_transform_8 (grid0.coords t) = _
    unfold cc0_transform_8; rfl
  · show cc0_transform_9 (grid0.coords t) = _
    unfold cc0_transform_9; rw [← e0]; rfl

/-- The nine arguments. -/
abbrev xA (c : Dev nD) : Vec Ideal S32x8x2048 .f32 := m ((c : Thread nD τ).loc main_arg0)
abbrev tA (c : Dev nD) : Vec Ideal S32x8x3x2x4 .f32 := m ((c : Thread nD τ).loc main_arg1)
abbrev cA (c : Dev nD) : Vec Ideal S32x8x2x4x128 .f32 := m ((c : Thread nD τ).loc main_arg2)
abbrev sA (c : Dev nD) : Vec Ideal S32x8x2x4x128 .f32 := m ((c : Thread nD τ).loc main_arg3)
abbrev wA (c : Dev nD) : Vec Ideal S32x8x2x4x128 .f32 := m ((c : Thread nD τ).loc main_arg4)
abbrev fA (c : Dev nD) : Vec Ideal S32x8x1024 .f32 := m ((c : Thread nD τ).loc main_arg5)
abbrev gnA (c : Dev nD) : Vec Ideal S1024 .f32 := m ((c : Thread nD τ).loc main_arg6)
abbrev gfA (c : Dev nD) : Vec Ideal S1024 .f32 := m ((c : Thread nD τ).loc main_arg7)
abbrev oA (c : Dev nD) : Vec Ideal S2048x2048 .f32 := m ((c : Thread nD τ).loc main_arg8)

theorem v2_at (c : Dev nD) (a : Fin 32) (b : Fin 8) (k : Fin 2048) (i : Fin 256) (hi : i.val = 8 * a.val + b.val) :
    V m c main_v2 (ix2 i k) = xA m c (ix3 a b k) := by
  unfold V xA
  unfold hostOps0 hostOps0_1 hostOps0_2
  simp only [List.flatten_cons, List.flatten_nil, List.cons_append, List.nil_append, List.append_nil]
  after_reads_at
  have hb := b.isLt
  have e1 : ∀ p, (⟨i.val / 8, p⟩ : Fin 32) = a := fun p => Fin.ext (by simp; omega)
  have e2 : ∀ p, (⟨i.val % 8, p⟩ : Fin 8) = b := fun p => Fin.ext (by simp; omega)
  simp only [e1, e2]

theorem v3_at (c : Dev nD) (a : Fin 32) (b : Fin 8) (k : Fin 1024) (i : Fin 256) (hi : i.val = 8 * a.val + b.val) :
    V m c main_v3 (ix2 i k) = branch (cA m c) a b k := by
  unfold V cA branch
  unfold hostOps0 hostOps0_1 hostOps0_2
  simp only [List.flatten_cons, List.flatten_nil, List.cons_append, List.nil_append, List.append_nil]
  after_reads_at
  have hb := b.isLt
  have e1 : ∀ p, (⟨i.val / 8, p⟩ : Fin 32) = a := fun p => Fin.ext (by simp; omega)
  have e2 : ∀ p, (⟨i.val % 8, p⟩ : Fin 8) = b := fun p => Fin.ext (by simp; omega)
  have e3 : ∀ p, (⟨k.val / 512, p⟩ : Fin 2) = pair (head k) := fun p => Fin.ext (by show k.val / 512 = k.val / 128 / 4; omega)
  simp only [e1, e2, e3]
  rfl

theorem v4_at (c : Dev nD) (a : Fin 32) (b : Fin 8) (k : Fin 1024) (i : Fin 256) (hi : i.val = 8 * a.val + b.val) :
    V m c main_v4 (ix2 i k) = branch (sA m c) a b k := by
  unfold V sA branch
  unfold hostOps0 hostOps0_1 hostOps0_2
  simp only [List.flatten_cons, List.flatten_nil, List.cons_append, List.nil_append, List.append_nil]
  after_reads_at
  have hb := b.isLt
  have e1 : ∀ p, (⟨i.val / 8, p⟩ : Fin 32) = a := fun p => Fin.ext (by simp; omega)
  have e2 : ∀ p, (⟨i.val % 8, p⟩ : Fin 8) = b := fun p => Fin.ext (by simp; omega)
  have e3 : ∀ p, (⟨k.val / 512, p⟩ : Fin 2) = pair (head k) := fun p => Fin.ext (by show k.val / 512 = k.val / 128 / 4; omega)
  simp only [e1, e2, e3]
  rfl

theorem v5_at (c : Dev nD) (a : Fin 32) (b : Fin 8) (k : Fin 1024) (i : Fin 256) (hi : i.val = 8 * a.val + b.val) :
    V m c main_v5 (ix2 i k) = branch (wA m c) a b k := by
  unfold V wA branch
  unfold hostOps0 hostOps0_1 hostOps0_2
  simp only [List.flatten_cons, List.flatten_nil, List.cons_append, List.nil_append, List.append_nil]
  after_reads_at
  have hb := b.isLt
  have e1 : ∀ p, (⟨i.val / 8, p⟩ : Fin 32) = a := fun p => Fin.ext (by simp; omega)
  have e2 : ∀ p, (⟨i.val % 8, p⟩ : Fin 8) = b := fun p => Fin.ext (by simp; omega)
  have e3 : ∀ p, (⟨k.val / 512, p⟩ : Fin 2) = pair (head k) := fun p => Fin.ext (by show k.val / 512 = k.val / 128 / 4; omega)
  simp only [e1, e2, e3]
  rfl

theorem v6_at (c : Dev nD) (a : Fin 32) (b : Fin 8) (k : Fin 1024) (i : Fin 256) (hi : i.val = 8 * a.val + b.val) :
    V m c main_v6 (ix2 i k) = fA m c (ix3 a b k) := by
  unfold V fA
  unfold hostOps0 hostOps0_1 hostOps0_2
  simp only [List.flatten_cons, List.flatten_nil, List.cons_append, List.nil_append, List.append_nil]
  after_reads_at
  have hb := b.isLt
  have e1 : ∀ p, (⟨i.val / 8, p⟩ : Fin 32) = a := fun p => Fin.ext (by simp; omega)
  have e2 : ∀ p, (⟨i.val % 8, p⟩ : Fin 8) = b := fun p => Fin.ext (by simp; omega)
  simp only [e1, e2]

theorem v1_at (c : Dev nD) (a : Fin 32) (b : Fin 8) (n : Fin 3) (h : Fin 8) (l : Fin 128) (i : Fin 256)
    (hi : i.val = 8 * a.val + b.val) (hl : l.val = 8 * n.val + h.val) :
    V m c main_v1 (ix2 i l) = tA m c (ix5 a b n (pair h) (rep h)) := by
  unfold V tA
  unfold hostOps0 hostOps0_1 hostOps0_2
  simp only [List.flatten_cons, List.flatten_nil, List.cons_append, List.nil_append, List.append_nil]
  after_reads_at
  have hb := b.isLt
  have e1 : ∀ p, (⟨i.val / 8, p⟩ : Fin 32) = a := fun p => Fin.ext (by simp; omega)
  have e2 : ∀ p, (⟨i.val % 8, p⟩ : Fin 8) = b := fun p => Fin.ext (by simp; omega)
  have hn := n.isLt
  have hh := h.isLt
  have e3 : ∀ p, (⟨l.val / 8, p⟩ : Fin 3) = n := fun p => Fin.ext (by simp; omega)
  have e4 : ∀ p, (⟨l.val / 4 % 2, p⟩ : Fin 2) = pair h := fun p => Fin.ext (by show l.val / 4 % 2 = h.val / 4; omega)
  have e5 : ∀ p, (⟨l.val % 4, p⟩ : Fin 4) = rep h := fun p => Fin.ext (by show l.val % 4 = h.val % 4; omega)
  rw [dif_pos (by omega)]
  simp only [e1, e2, e3, e4, e5]

theorem v7_at (c : Dev nD) (k d : Fin 2048) : V m c main_v7 (ix2 k d) = oA m c (ix2 k d) := by
  unfold V oA
  unfold hostOps0 hostOps0_1 hostOps0_2
  simp only [List.flatten_cons, List.flatten_nil, List.cons_append, List.nil_append, List.append_nil]
  after_reads_at

theorem v8_at (c : Dev nD) (k : Fin 1024) : V m c main_v8 (ix2 (0 : Fin 1) k) = gnA m c (ix1 k) := by
  unfold V gnA
  unfold hostOps0 hostOps0_1 hostOps0_2
  simp only [List.flatten_cons, List.flatten_nil, List.cons_append, List.nil_append, List.append_nil]
  after_reads_at

theorem v9_at (c : Dev nD) (k : Fin 1024) : V m c main_v9 (ix2 (0 : Fin 1) k) = gfA m c (ix1 k) := by
  unfold V gfA
  unfold hostOps0 hostOps0_1 hostOps0_2
  simp only [List.flatten_cons, List.flatten_nil, List.cons_append, List.nil_append, List.append_nil]
  after_reads_at

section Blocks
variable (c : Dev nD) (t : Fin cfg0.N) (r : Fin 256) (a : Fin 32) (b : Fin 8) (h : 256 * t.val + r.val = 8 * a.val + b.val)
include h

theorem i0 (k : Fin 2048) : iblk m c 0 t (ix2 r k) = xA m c (ix3 a b k) := by
  have ht : t.val < 1 := t.isLt
  have hr := r.isLt
  rw [← v2_at m c a b k ⟨256 * t.val + r.val, by omega⟩ h]
  blk_simp [iblk]
  refine congrArg (V m c main_v2) ?_
  blk_ext [idx t]

theorem i1 (k : Fin 1024) : iblk m c 1 t (ix2 r k) = branch (cA m c) a b k := by
  have ht : t.val < 1 := t.isLt
  have hr := r.isLt
  rw [← v3_at m c a b k ⟨256 * t.val + r.val, by omega⟩ h]
  blk_simp [iblk]
  refine congrArg (V m c main_v3) ?_
  blk_ext [idx t]

theorem i2 (k : Fin 1024) : iblk m c 2 t (ix2 r k) = branch (sA m c) a b k := by
  have ht : t.val < 1 := t.isLt
  have hr := r.isLt
  rw [← v4_at m c a b k ⟨256 * t.val + r.val, by omega⟩ h]
  blk_simp [iblk]
  refine congrArg (V m c main_v4) ?_
  blk_ext [idx t]

theorem i3 (k : Fin 1024) : iblk m c 3 t (ix2 r k) = branch (wA m c) a b k := by
  have ht : t.val < 1 := t.isLt
  have hr := r.isLt
  rw [← v5_at m c a b k ⟨256 * t.val + r.val, by omega⟩ h]
  blk_simp [iblk]
  refine congrArg (V m c main_v5) ?_
  blk_ext [idx t]

theorem i4 (k : Fin 1024) : iblk m c 4 t (ix2 r k) = fA m c (ix3 a b k) := by
  have ht : t.val < 1 := t.isLt
  have hr := r.isLt
  rw [← v6_at m c a b k ⟨256 * t.val + r.val, by omega⟩ h]
  blk_simp [iblk]
  refine congrArg (V m c main_v6) ?_
  blk_ext [idx t]

theorem i5 (n : Fin 3) (e : Fin 8) (l : Fin 128) (hl : l.val = 8 * n.val + e.val) :
    iblk m c 5 t (ix2 r l) = tA m c (ix5 a b n (pair e) (rep e)) := by
  have ht : t.val < 1 := t.isLt
  have hr := r.isLt
  rw [← v1_at m c a b n e l ⟨256 * t.val + r.val, by omega⟩ h hl]
  blk_simp [iblk]
  refine congrArg (V m c main_v1) ?_
  blk_ext [idx t]

end Blocks

theorem i6 (c : Dev nD) (t : Fin cfg0.N) (k : Fin 1024) : iblk m c 6 t (ix2 (0 : Fin 1) k) = gnA m c (ix1 k) := by
  rw [← v8_at m c k]
  blk_simp [iblk]
  refine congrArg (V m c main_v8) ?_
  blk_ext [idx t]

theorem i7 (c : Dev nD) (t : Fin cfg0.N) (k : Fin 1024) : iblk m c 7 t (ix2 (0 : Fin 1) k) = gfA m c (ix1 k) := by
  rw [← v9_at m c k]
  blk_simp [iblk]
  refine congrArg (V m c main_v9) ?_
  blk_ext [idx t]

theorem i8 (c : Dev nD) (t : Fin cfg0.N) (k d : Fin 2048) : iblk m c 8 t (ix2 k d) = oA m c (ix2 k d) := by
  rw [← v7_at m c k d]
  blk_simp [iblk]
  refine congrArg (V m c main_v7) ?_
  blk_ext [idx t]

/-- What a grid point writes. -/
theorem point (c : Dev nD) (t : Fin cfg0.N) (r : Fin 256) (d : Fin 2048) (a : Fin 32) (b : Fin 8)
    (h : 256 * t.val + r.val = 8 * a.val + b.val) :
    want (iblk m c 0 t) (iblk m c 1 t) (iblk m c 2 t) (iblk m c 3 t) (iblk m c 4 t) (iblk m c 5 t) (iblk m c 6 t) (iblk m c 7 t) (iblk m c 8 t) r d
      = out (xA m c) (tA m c) (cA m c) (sA m c) (wA m c) (fA m c) (gnA m c) (gfA m c) (oA m c) a b d := by
  have eg : gates (iblk m c 5 t) r = fun n e => tA m c (ix5 a b n (pair e) (rep e)) :=
    funext fun n => funext fun e => i5 m c t r a b h n e _ rfl
  unfold want out nsa mixed
  rw [eg, i0 m c t r a b h d]
  refine congr (congr (congrArg _ ?_) ?_) (funext fun k => i8 m c t k d)
  · exact congrArg₂ rms (congr (congr (congrArg _ (funext (i1 m c t r a b h))) (funext (i2 m c t r a b h))) (funext (i3 m c t r a b h)))
      (funext (i6 m c t))
  · exact congrArg₂ rms (funext (i4 m c t r a b h)) (funext (i7 m c t))

/-! ## The output array -/

/-- The output's blocks cover its array. -/
theorem covers : (cfg0.win 9).Covers :=
  (cfg0.win 9).covers_of_indexMap_surj rfl (by decide) fun β => by
    have b0 : (β 0).val < 1 := (β 0).isLt
    have b1 : (β 1).val < 1 := (β 1).isLt
    refine ⟨fun a => ⟨(![(β 0).val] : Fin 1 → ℕ) a, ?_⟩, fun a => ?_⟩
    · fin_cases a
      exact b0
    · rw [show ∀ i : grid0.Coords, (cfg0.win 9).indexMap i = cc0_transform_9 i from fun _ => rfl]
      unfold cc0_transform_9
      fin_cases a
      · exact (BitVec.toNat_ofNat _ _).trans (Nat.mod_eq_of_lt (by show (β 0).val < _; omega))
      · show _ = (β 1).val
        rw [show (β 1).val = 0 by omega]
        rfl

/-- The output array, as one function of the nine arguments. -/
theorem array (c : Dev nD) :
    (dats m 0 c).arrAt 9 cfg0.N = spec (xA m c) (tA m c) (cA m c) (sA m c) (wA m c) (fA m c) (gnA m c) (gfA m c) (oA m c) := by
  refine (dats m 0 c).arrAt_eq_of_covers 9 _ covers fun t hfl y => ?_
  blk_simp
  rw [after0_9]
  have ht : t.val < 1 := t.isLt
  obtain ⟨r, d, rfl⟩ : ∃ (r : Fin 256) (d : Fin 2048), y = ix2 r d := ⟨y 0, y 1, by blk_ext⟩
  have hr := r.isLt
  refine (out_at _ _ _ _ _ _ _ _ _ r d).trans ?_
  refine (point m c t r d ⟨(256 * t.val + r.val) / 8, by omega⟩ ⟨(256 * t.val + r.val) % 8, Nat.mod_lt _ (by decide)⟩
    (Nat.div_add_mod _ _).symm).trans ?_
  rw [← spec_at _ _ _ _ _ _ _ _ _ ⟨256 * t.val + r.val, by omega⟩ _ _ _ (Nat.div_add_mod _ _).symm]
  refine congrArg (spec (xA m c) (tA m c) (cA m c) (sA m c) (wA m c) (fA m c) (gnA m c) (gfA m c) (oA m c)) ?_
  blk_ext [idx t]

end Cert.Kernel7Ideal.OutS
end
end
-- ==== Proof.OutS.Equation.lean ====
/- The reference's result is the specification of the kernel's output array. -/
module

public import proofs.«01_k».proof.Proof.OutS.Ref
public import proofs.«01_k».proof.Proof.OutS.Array

@[expose] public section
noncomputable section
namespace Cert.Reference7Ideal.OutS
open Cert.Line Idealize.ShloMosaic Idealize.ShloMosaic.TcCoe

theorem ref_spec (X : Vec Ideal Cert.Reference7Ideal.S32x8x2048 .f32) (GT : Vec Ideal Cert.Reference7Ideal.S32x8x3x2x4 .f32)
    (OC OS OW : Vec Ideal Cert.Reference7Ideal.S32x8x2x4x128 .f32) (OF : Vec Ideal Cert.Reference7Ideal.S32x8x1024 .f32)
    (GN GF : Vec Ideal Cert.Reference7Ideal.S1024 .f32) (W : Vec Ideal Cert.Reference7Ideal.S2048x2048 .f32) :
    gFlat (gOut X (gNorm (gNsa GT OC OS OW) GN) (gNorm OF GF) W) = Cert.Kernel7Ideal.OutS.spec X GT OC OS OW OF GN GF W := by
  funext y
  obtain ⟨i, k, rfl⟩ : ∃ (i : Fin 256) (k : Fin 2048), y = ix2 i k := ⟨y 0, y 1, by blk_ext⟩
  have hi := i.isLt
  rw [gFlat_at _ ⟨i.val / 8, by omega⟩ ⟨i.val % 8, Nat.mod_lt _ (by decide)⟩ k i (Nat.div_add_mod _ _).symm, gOut_at,
    Cert.Kernel7Ideal.OutS.spec_at _ _ _ _ _ _ _ _ _ i ⟨i.val / 8, by omega⟩ ⟨i.val % 8, Nat.mod_lt _ (by decide)⟩ k (Nat.div_add_mod _ _).symm]
  simp only [gNorm_at, gNsa_at]
  rfl

end Cert.Reference7Ideal.OutS
end
end
-- ==== Proof.OutS.Claims.lean ====
/- The claims about the output projection of the sample, one theorem each. -/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.OutS.Equation
public import Idealize.ShloMosaic.Lib.Quiescent

@[expose] public section
noncomputable section
namespace Cert.Proof.OutS
open Idealize.ShloMosaic Idealize.ShloMosaic.TcCoe Idealize.SL.Sem

/-- The kernel as written runs, keeps its arguments and ends with every counter at zero. -/
theorem frame_p : Cert.quiescent_Kernel7 (hKernel7 := Cert.Kernel7.Gen.facts) := fun m ρ _ => Cert.Kernel7.Gen.frame m ρ

/-- So does its idealization. -/
theorem frame_pi : Cert.quiescent_Kernel7Ideal (hKernel7Ideal := Cert.Kernel7Ideal.Gen.facts) :=
  fun m ρ _ => Cert.Kernel7Ideal.Gen.frame m ρ

/-- The reference runs and keeps its arguments; it declares no semaphore. -/
theorem frame_r : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Nothing was rewritten between the kernel and its idealization. -/
theorem preserves : Cert.preserves_Kernel7_Kernel7Ideal := trivial

/-- Kernel and reference end with the same array: the one `spec` writes out. -/
theorem algebraic : Cert.algebraic_Kernel7Ideal_Reference7Ideal (hKernel7Ideal := Cert.Kernel7Ideal.Gen.facts)
    (hReference7Ideal := Cert.Reference7Ideal.Gen.facts) := by
  intro m g m' g' _ harg
  refine ⟨fun c => Cert.Kernel7Ideal.OutS.spec (Cert.Kernel7Ideal.OutS.xA m c) (Cert.Kernel7Ideal.OutS.tA m c) (Cert.Kernel7Ideal.OutS.cA m c) (Cert.Kernel7Ideal.OutS.sA m c)
    (Cert.Kernel7Ideal.OutS.wA m c) (Cert.Kernel7Ideal.OutS.fA m c) (Cert.Kernel7Ideal.OutS.gnA m c) (Cert.Kernel7Ideal.OutS.gfA m c)
    (Cert.Kernel7Ideal.OutS.oA m c), ?_, ?_⟩
  · exact (θ_run Cert.Kernel7Ideal.defs _ _).mono
      (fun r h c => ⟨(h c).1.trans (Cert.Kernel7Ideal.OutS.array m c), (h c).2⟩)
      (Cert.Kernel7Ideal.Value.run_blocks m g)
  · refine (θ_run Cert.Reference7Ideal.defs _ _).mono (fun r h c => ⟨(h c).1.trans ?_, (h c).2⟩)
      (Cert.Reference7Ideal.Value.run (F := Ideal) m' g')
    rw [Cert.Reference7Ideal.OutS.res_eq, (harg c).1, (harg c).2.1, (harg c).2.2.1, (harg c).2.2.2.1, (harg c).2.2.2.2.1, (harg c).2.2.2.2.2.1, (harg c).2.2.2.2.2.2.1, (harg c).2.2.2.2.2.2.2.1, (harg c).2.2.2.2.2.2.2.2]
    exact Cert.Reference7Ideal.OutS.ref_spec _ _ _ _ _ _ _ _ _

end Cert.Proof.OutS
end
end
-- ==== Proof.Cum.Sums.lean ====
/- Running sums over the extended reals: a value below infinity is the sum of the three parts it is split in, and a
   running sum is that of the blocks before it and of the entries of its own block up to it. -/
module

public import Mathlib.Data.EReal.Operations
public import Mathlib.Algebra.BigOperators.Fin
public import Mathlib.Algebra.BigOperators.Intervals

@[expose] public section
noncomputable section
namespace Cert.Running

/-- The sum of the first `n` values. -/
def acc (f : ℕ → EReal) (n : ℕ) : EReal := ∑ s ∈ Finset.range n, f s

/-- The three parts of a value other than infinity add up to it. -/
theorem parts (x : EReal) (hx : x ≠ ⊤) : x + (x - x) + ((x - x) - (x - x)) = x := by
  induction x with
  | coe r => norm_cast; simp
  | bot => simp
  | top => exact absurd rfl hx

/-- The three products with the triangle of ones add up to the sum of the values up to `r`. -/
theorem triangle (m : Fin 128 → EReal) (hm : ∀ k, m k ≠ ⊤) (r : ℕ) :
    (∑ k : Fin 128, (if k.val ≤ r then (1 : EReal) else 0) * m k) + (∑ k : Fin 128, (if k.val ≤ r then (1 : EReal) else 0) * (m k - m k))
      + (∑ k : Fin 128, (if k.val ≤ r then (1 : EReal) else 0) * ((m k - m k) - (m k - m k)))
      = ∑ k : Fin 128, if k.val ≤ r then m k else 0 := by
  rw [← Finset.sum_add_distrib, ← Finset.sum_add_distrib]
  refine Finset.sum_congr rfl fun k _ => ?_
  split
  · simp only [one_mul]; exact parts _ (hm k)
  · simp

/-- The values of one block up to its place `r`. -/
theorem upto (g : ℕ → EReal) (N r : ℕ) (hr : r < N) :
    (∑ k : Fin N, if k.val ≤ r then g k.val else 0) = ∑ k ∈ Finset.range (r + 1), g k := by
  rw [Fin.sum_univ_eq_sum_range (fun k => if k ≤ r then g k else 0) N, ← Finset.sum_filter]
  refine Finset.sum_congr (Finset.ext fun k => ?_) fun _ _ => rfl
  simp only [Finset.mem_filter, Finset.mem_range]
  omega

/-- A running sum from the sum before its block. -/
theorem block (f : ℕ → EReal) (n r : ℕ) (hr : r < 128) :
    (∑ k : Fin 128, if k.val ≤ r then f (128 * n + k.val) else 0) + acc f (128 * n) = acc f (128 * n + r + 1) := by
  rw [upto (fun k => f (128 * n + k)) 128 r hr, add_comm]
  unfold acc
  exact (Finset.sum_range_add f (128 * n) (r + 1)).symm

/-- A window of 2048 values that ends at place `t` holds those up to `t`, and nothing before the first. -/
theorem window (f : ℕ → EReal) (t : ℕ) (ht : t < 2048) :
    (∑ k : Fin 2048, if 2047 ≤ t + k.val then f (t + k.val - 2047) else 0) = acc f (t + 1) := by
  rw [Fin.sum_univ_eq_sum_range (fun k => if 2047 ≤ t + k then f (t + k - 2047) else 0) 2048,
    show 2048 = (2047 - t) + (t + 1) by omega, Finset.sum_range_add, Finset.sum_eq_zero, zero_add]
  · refine Finset.sum_congr rfl fun s _ => ?_
    rw [if_pos (by omega)]
    exact congrArg f (by omega)
  · intro k hk
    have := Finset.mem_range.mp hk
    exact if_neg (by omega)

end Cert.Running
end
end
-- ==== Proof.Cum.Step.lean ====
/- One block of 128 rows of the kernel's running sum: the triangle of ones times the three parts of the masked block,
   and the row carried from the block before. -/
module

public import proofs.«01_k».proof.Proof.Gen.Kernel8Ideal.Value
public import proofs.«01_k».proof.Proof.Cum.Sums
public import Idealize.ShloMosaic.PureOps.Ideal
public import Idealize.ShloMosaic.Lib.Pointwise

@[expose] public section
set_option maxRecDepth 16384
noncomputable section
namespace Cert.Kernel8Ideal.Cum
open Cert.Kernel8Ideal Cert.Kernel8Ideal.Gen Cert.Running Idealize.ShloMosaic Idealize.ShloMosaic.TcCoe Idealize.SL.Sem

/-- The lanes that hold the log-forget. -/
def lanes (l : ℕ) (x : EReal) : EReal := if 24 ≤ l ∧ l < 32 then x else 0

/-- One block from the row carried into it. -/
def step (c : FVec Ideal S1x128 .f32) (X : Vec Ideal S1x128x128 .f32) : FVec Ideal S128x128 .f32 :=
  k0_pay9 k0_pay3 k0_pay4 c X

/-- The row carried out of a block. -/
def last (B : FVec Ideal S128x128 .f32) : FVec Ideal S1x128 .f32 :=
  extractStridedSlice S1x128 ![127, 0] B slices_S128x128_o127_0_S1x128

theorem last_at (B : FVec Ideal S128x128 .f32) (l : Fin 128) : last B (ix2 (0 : Fin 1) l) = B (ix2 (127 : Fin 128) l) := by
  unfold last
  pointwise

theorem tri_at (r k : Fin 128) : (k0_pay3 (F := Ideal)) (ix2 r k) = if k.val ≤ r.val then (1 : EReal) else 0 := by
  have hr := r.isLt
  have hk := k.isLt
  unfold k0_pay3
  pointwise
  rw [WordCmp.cmpi_sge_ofNat (by omega) (by omega)]
  by_cases h : k.val ≤ r.val
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

theorem mask_at (x y : FVec Ideal S128x128 .f32) (r l : Fin 128) :
    select k0_pay4 x y (ix2 r l) = if 24 ≤ l.val ∧ l.val < 32 then x (ix2 r l) else y (ix2 r l) := by
  have hl := l.isLt
  unfold k0_pay4
  pointwise
  have e : IntOp.andi (IntOp.cmpi CmpIPredicate.sge (BitVec.ofNat 32 l.val) 24#32) (IntOp.cmpi CmpIPredicate.slt (BitVec.ofNat 32 l.val) 32#32)
      = BitVec.ofBool (decide (24 ≤ l.val ∧ l.val < 32)) := by
    rw [WordCmp.cmpi_sge_ofNat (by omega) (by omega), WordCmp.cmpi_slt_ofNat (by omega) (by omega)]
    by_cases h1 : 24 ≤ l.val <;> by_cases h2 : l.val < 32 <;> simp [h1, h2, IntOp.andi]
  rw [e]
  by_cases h : 24 ≤ l.val ∧ l.val < 32
  · rw [if_pos h, decide_eq_true h]; rfl
  · rw [if_neg h, decide_eq_false h]; rfl

theorem mat_at (T X : FVec Ideal S128x128 .bf16) (r l : Fin 128) :
    matmul dot_S128x128_S128x128_S128x128_1_0_0_1_n_n none T X (constant S128x128 .f32 0x00000000#32) (ix2 r l)
      = ∑ k : Fin 128, T (ix2 r k) * X (ix2 k l) := by
  pointwise

theorem step_at (c : FVec Ideal S1x128 .f32) (X : Vec Ideal S1x128x128 .f32) (r l : Fin 128)
    (hX : ∀ k : Fin 128, lanes l.val (X (ix3 (0 : Fin 1) k l)) ≠ ⊤) :
    step c X (ix2 r l) = (∑ k : Fin 128, if k.val ≤ r.val then lanes l.val (X (ix3 (0 : Fin 1) k l)) else 0) + c (ix2 (0 : Fin 1) l) := by
  rw [← triangle _ hX]
  unfold step k0_pay9
  pointwise [mat_at, tri_at, mask_at]
  rfl

end Cert.Kernel8Ideal.Cum
end
end
-- ==== Proof.Cum.Pieces.lean ====
/- What the kernel writes to its two blocks: sixteen blocks of 128 rows one after the other, each from the row the one
   before carries out, and the same blocks with rows and lanes exchanged. -/
module

public import proofs.«01_k».proof.Proof.Cum.Step

@[expose] public section
set_option maxRecDepth 16384
noncomputable section
namespace Cert.Kernel8Ideal.Cum
open Cert.Kernel8Ideal Cert.Kernel8Ideal.Gen Cert.Running Idealize.ShloMosaic Idealize.ShloMosaic.TcCoe Idealize.SL.Sem

variable (x0 : Vec Ideal S1x2048x128 .f32)

/-! ## The sixteen blocks -/

/-- Nothing is carried into the first block. -/
def zero : FVec Ideal S1x128 .f32 := broadcast S1x128 (Scalar.ofBits (F := Ideal) .f32 0x00000000#32)

def B0 : FVec Ideal S128x128 .f32 := step zero (View.ld x0 r0_0)
def B1 : FVec Ideal S128x128 .f32 := step (last (B0 x0)) (View.ld x0 r0_2)
def B2 : FVec Ideal S128x128 .f32 := step (last (B1 x0)) (View.ld x0 r0_4)
def B3 : FVec Ideal S128x128 .f32 := step (last (B2 x0)) (View.ld x0 r0_6)
def B4 : FVec Ideal S128x128 .f32 := step (last (B3 x0)) (View.ld x0 r0_8)
def B5 : FVec Ideal S128x128 .f32 := step (last (B4 x0)) (View.ld x0 r0_10)
def B6 : FVec Ideal S128x128 .f32 := step (last (B5 x0)) (View.ld x0 r0_12)
def B7 : FVec Ideal S128x128 .f32 := step (last (B6 x0)) (View.ld x0 r0_14)
def B8 : FVec Ideal S128x128 .f32 := step (last (B7 x0)) (View.ld x0 r0_16)
def B9 : FVec Ideal S128x128 .f32 := step (last (B8 x0)) (View.ld x0 r0_18)
def B10 : FVec Ideal S128x128 .f32 := step (last (B9 x0)) (View.ld x0 r0_20)
def B11 : FVec Ideal S128x128 .f32 := step (last (B10 x0)) (View.ld x0 r0_22)
def B12 : FVec Ideal S128x128 .f32 := step (last (B11 x0)) (View.ld x0 r0_24)
def B13 : FVec Ideal S128x128 .f32 := step (last (B12 x0)) (View.ld x0 r0_26)
def B14 : FVec Ideal S128x128 .f32 := step (last (B13 x0)) (View.ld x0 r0_28)
def B15 : FVec Ideal S128x128 .f32 := step (last (B14 x0)) (View.ld x0 r0_30)

/-! ## What the body carries and stores, as these blocks -/

theorem e88 : k0_pay88 x0 = last (B0 x0) := rfl

theorem e89 : k0_pay89 x0 = last (B1 x0) := by
  unfold k0_pay89
  rw [e88]
  rfl

theorem e92 : k0_pay92 x0 = last (B3 x0) := by
  unfold k0_pay92
  rw [e89]
  rfl

theorem e93 : k0_pay93 x0 = last (B4 x0) := by
  unfold k0_pay93
  rw [e92]
  rfl

theorem e97 : k0_pay97 x0 = B6 x0 := by
  unfold k0_pay97
  rw [e93]
  rfl

theorem e99 : k0_pay99 x0 = last (B7 x0) := by
  unfold k0_pay99
  rw [e97]
  rfl

theorem e103 : k0_pay103 x0 = B9 x0 := by
  unfold k0_pay103
  rw [e99]
  rfl

theorem e104 : k0_pay104 x0 = last (B10 x0) := by
  unfold k0_pay104
  rw [e103]
  rfl

theorem e109 : k0_pay109 x0 = B12 x0 := by
  unfold k0_pay109
  rw [e104]
  rfl

theorem e110 : k0_pay110 x0 = last (B13 x0) := by
  unfold k0_pay110
  rw [e109]
  rfl

theorem e114 : k0_pay114 x0 = B15 x0 := by
  unfold k0_pay114
  rw [e110]
  rfl

/-- A block as it is stored, and with rows and lanes exchanged. -/
def plain (B : FVec Ideal S128x128 .f32) : FVec Ideal S1x128x128 .f32 := k0_pay1 B
def turned (B : FVec Ideal S128x128 .f32) : FVec Ideal S1x128x128 .f32 := k0_pay2 B

theorem p15 : k0_pay1 (k0_pay114 x0) = plain (B15 x0) := by
  rw [e114]
  rfl

theorem p14 : k0_pay83 (k0_pay86 x0) (k0_pay110 x0) (k0_pay111 x0) (k0_pay112 x0) (k0_pay113 x0) = plain (B14 x0) := by
  rw [e110]
  rfl

theorem p13 : k0_pay76 (k0_pay86 x0) (k0_pay87 x0) (k0_pay109 x0) (View.ld x0 r0_26) = plain (B13 x0) := by
  rw [e109]
  rfl

theorem p12 : k0_pay73 (k0_pay86 x0) (k0_pay87 x0) (k0_pay104 x0) (k0_pay105 x0) (k0_pay106 x0) (k0_pay107 x0) (k0_pay108 x0) (View.ld x0 r0_24) = plain (B12 x0) := by
  rw [e104]
  rfl

theorem p11 : k0_pay70 (k0_pay86 x0) (k0_pay104 x0) (k0_pay105 x0) (k0_pay106 x0) (k0_pay107 x0) (k0_pay108 x0) = plain (B11 x0) := by
  rw [e104]
  rfl

theorem p10 : k0_pay61 (k0_pay86 x0) (k0_pay87 x0) (k0_pay103 x0) (View.ld x0 r0_20) = plain (B10 x0) := by
  rw [e103]
  rfl

theorem p9 : k0_pay57 (k0_pay86 x0) (k0_pay87 x0) (k0_pay99 x0) (k0_pay100 x0) (k0_pay101 x0) (k0_pay102 x0) (k0_pay98 x0) (View.ld x0 r0_18) = plain (B9 x0) := by
  rw [e99]
  rfl

theorem p8 : k0_pay54 (k0_pay86 x0) (k0_pay99 x0) (k0_pay100 x0) (k0_pay101 x0) (k0_pay102 x0) (k0_pay98 x0) = plain (B8 x0) := by
  rw [e99]
  rfl

theorem p7 : k0_pay45 (k0_pay86 x0) (k0_pay87 x0) (k0_pay97 x0) (View.ld x0 r0_14) = plain (B7 x0) := by
  rw [e97]
  rfl

theorem p6 : k0_pay41 (k0_pay86 x0) (k0_pay87 x0) (k0_pay93 x0) (k0_pay94 x0) (k0_pay95 x0) (k0_pay96 x0) (View.ld x0 r0_12) = plain (B6 x0) := by
  rw [e93]
  rfl

theorem p5 : k0_pay38 (k0_pay86 x0) (k0_pay93 x0) (k0_pay94 x0) (k0_pay95 x0) (k0_pay96 x0) = plain (B5 x0) := by
  rw [e93]
  rfl

theorem p4 : k0_pay27 (k0_pay86 x0) (k0_pay87 x0) (k0_pay92 x0) (View.ld x0 r0_8) = plain (B4 x0) := by
  rw [e92]
  rfl

theorem p3 : k0_pay23 (k0_pay86 x0) (k0_pay87 x0) (k0_pay89 x0) (k0_pay90 x0) (k0_pay91 x0) (View.ld x0 r0_6) = plain (B3 x0) := by
  rw [e89]
  rfl

theorem p2 : k0_pay20 (k0_pay89 x0) (k0_pay90 x0) (k0_pay91 x0) = plain (B2 x0) := by
  rw [e89]
  rfl

theorem p1 : k0_pay10 (k0_pay86 x0) (k0_pay87 x0) (k0_pay88 x0) (View.ld x0 r0_2) = plain (B1 x0) := by
  rw [e88]
  rfl

theorem p0 : k0_pay6 (View.ld x0 r0_0) = plain (B0 x0) := by
  rfl

theorem t15 : k0_pay2 (k0_pay114 x0) = turned (B15 x0) := by
  rw [e114]
  rfl

theorem t14 : k0_pay84 (k0_pay86 x0) (k0_pay110 x0) (k0_pay111 x0) (k0_pay112 x0) (k0_pay113 x0) = turned (B14 x0) := by
  rw [e110]
  rfl

theorem t13 : k0_pay77 (k0_pay86 x0) (k0_pay87 x0) (k0_pay109 x0) (View.ld x0 r0_26) = turned (B13 x0) := by
  rw [e109]
  rfl

theorem t12 : k0_pay74 (k0_pay109 x0) = turned (B12 x0) := by
  rw [e109]
  rfl

theorem t11 : k0_pay71 (k0_pay86 x0) (k0_pay104 x0) (k0_pay105 x0) (k0_pay106 x0) (k0_pay107 x0) (k0_pay108 x0) = turned (B11 x0) := by
  rw [e104]
  rfl

theorem t10 : k0_pay62 (k0_pay86 x0) (k0_pay87 x0) (k0_pay103 x0) (View.ld x0 r0_20) = turned (B10 x0) := by
  rw [e103]
  rfl

theorem t9 : k0_pay59 (k0_pay58 (k0_pay86 x0) (k0_pay87 x0) (k0_pay99 x0) (k0_pay100 x0) (k0_pay101 x0) (k0_pay102 x0) (k0_pay98 x0) (View.ld x0 r0_18)) = turned (B9 x0) := by
  rw [e99]
  rfl

theorem t8 : k0_pay55 (k0_pay86 x0) (k0_pay99 x0) (k0_pay100 x0) (k0_pay101 x0) (k0_pay102 x0) (k0_pay98 x0) = turned (B8 x0) := by
  rw [e99]
  rfl

theorem t7 : k0_pay46 (k0_pay86 x0) (k0_pay87 x0) (k0_pay97 x0) (View.ld x0 r0_14) = turned (B7 x0) := by
  rw [e97]
  rfl

theorem t6 : k0_pay43 (k0_pay42 (k0_pay86 x0) (k0_pay87 x0) (k0_pay93 x0) (k0_pay94 x0) (k0_pay95 x0) (k0_pay96 x0) (View.ld x0 r0_12)) = turned (B6 x0) := by
  rw [e93]
  rfl

theorem t5 : k0_pay39 (k0_pay86 x0) (k0_pay93 x0) (k0_pay94 x0) (k0_pay95 x0) (k0_pay96 x0) = turned (B5 x0) := by
  rw [e93]
  rfl

theorem t4 : k0_pay28 (k0_pay86 x0) (k0_pay87 x0) (k0_pay92 x0) (View.ld x0 r0_8) = turned (B4 x0) := by
  rw [e92]
  rfl

theorem t3 : k0_pay24 (k0_pay86 x0) (k0_pay87 x0) (k0_pay89 x0) (k0_pay90 x0) (k0_pay91 x0) (View.ld x0 r0_6) = turned (B3 x0) := by
  rw [e89]
  rfl

theorem t2 : k0_pay21 (k0_pay89 x0) (k0_pay90 x0) (k0_pay91 x0) = turned (B2 x0) := by
  rw [e89]
  rfl

theorem t1 : k0_pay11 (k0_pay86 x0) (k0_pay87 x0) (k0_pay88 x0) (View.ld x0 r0_2) = turned (B1 x0) := by
  rw [e88]
  rfl

theorem t0 : k0_pay7 (View.ld x0 r0_0) = turned (B0 x0) := by
  rfl

end Cert.Kernel8Ideal.Cum
end
end
-- ==== Proof.Cum.Block.lean ====
/- The values of the sixteen blocks, and the two blocks after the body. -/
module

public import proofs.«01_k».proof.Proof.Cum.Pieces
public import Idealize.ShloMosaic.Lib.Pipeline.Covers
public import Idealize.ShloMosaic.Lib.Pipeline.ValueKit

@[expose] public section
set_option maxRecDepth 16384
noncomputable section
namespace Cert.Kernel8Ideal.Cum
open Cert.Kernel8Ideal Cert.Kernel8Ideal.Gen Cert.Running Idealize.ShloMosaic Idealize.ShloMosaic.TcCoe Idealize.SL.Sem

/-- Row `s` of lane `l` of the block, masked, zero past the end. -/
def col (x0 : Vec Ideal S1x2048x128 .f32) (l : Fin 128) (s : ℕ) : EReal :=
  lanes l.val (if hs : s < 2048 then x0 (ix3 (0 : Fin 1) ⟨s, hs⟩ l) else 0)

/-- A load of 128 rows. -/
theorem ld_rows (x0 : Vec Ideal S1x2048x128 .f32) (o : ℕ) (inb : ∀ a, (![0, o, 0] : Fin 3 → ℕ) a + S1x128x128.size a ≤ S1x2048x128.size a)
    (k l : Fin 128) (R : Fin 2048) (hR : R.val = o + k.val) :
    View.ld x0 (Rect.unit (s := S1x2048x128) ![0, o, 0] S1x128x128.size inb) (ix3 (0 : Fin 1) k l) = x0 (ix3 (0 : Fin 1) R l) := by
  refine View.ld_unit_apply_of x0 _ _ inb (ix3 (0 : Fin 1) k l) (ix3 (0 : Fin 1) R l) fun a => ?_
  fin_cases a
  exacts [rfl, hR, (Nat.zero_add _).symm]

/-- The running sum at the row before block `n`, as block `n` is handed it. -/
def Holds (x0 : Vec Ideal S1x2048x128 .f32) (n : ℕ) (c : FVec Ideal S1x128 .f32) : Prop :=
  ∀ l : Fin 128, c (ix2 (0 : Fin 1) l) = acc (col x0 l) (128 * n)

/-- No masked value is infinity. -/
def Below (x0 : Vec Ideal S1x2048x128 .f32) : Prop := ∀ (s : Fin 2048) (l : Fin 128), lanes l.val (x0 (ix3 (0 : Fin 1) s l)) ≠ ⊤

/-- Block `n` from what it is handed. -/
theorem block_at (x0 : Vec Ideal S1x2048x128 .f32) (hb : Below x0) (n o : ℕ) (ho : o = 128 * n) (hn : n < 16)
    (inb : ∀ a, (![0, o, 0] : Fin 3 → ℕ) a + S1x128x128.size a ≤ S1x2048x128.size a)
    (c : FVec Ideal S1x128 .f32) (hc : Holds x0 n c) (r l : Fin 128) :
    step c (View.ld x0 (Rect.unit (s := S1x2048x128) ![0, o, 0] S1x128x128.size inb)) (ix2 r l) = acc (col x0 l) (128 * n + r.val + 1) := by
  subst ho
  have e : ∀ k : Fin 128, lanes l.val (View.ld x0 (Rect.unit (s := S1x2048x128) ![0, 128 * n, 0] S1x128x128.size inb) (ix3 (0 : Fin 1) k l))
      = col x0 l (128 * n + k.val) := fun k => by
    have hk := k.isLt
    have hR : 128 * n + k.val < 2048 := by omega
    unfold col
    rw [ld_rows x0 _ inb k l ⟨128 * n + k.val, hR⟩ rfl, dif_pos hR]
  have hne : ∀ k : Fin 128, lanes l.val (View.ld x0 (Rect.unit (s := S1x2048x128) ![0, 128 * n, 0] S1x128x128.size inb) (ix3 (0 : Fin 1) k l)) ≠ ⊤ := fun k => by
    have hk := k.isLt
    have hR : 128 * n + k.val < 2048 := by omega
    rw [ld_rows x0 _ inb k l ⟨128 * n + k.val, hR⟩ rfl]
    exact hb _ l
  rw [step_at _ _ r l hne, hc l, ← block (col x0 l) n r.val r.isLt]
  simp only [e]

/-- What the next block is handed. -/
theorem last_holds (x0 : Vec Ideal S1x2048x128 .f32) (n : ℕ) (B : FVec Ideal S128x128 .f32)
    (hB : ∀ r l : Fin 128, B (ix2 r l) = acc (col x0 l) (128 * n + r.val + 1)) : Holds x0 (n + 1) (last B) := fun l => by
  rw [last_at, hB]
  exact congrArg (acc (col x0 l)) (by show 128 * n + 127 + 1 = 128 * (n + 1); omega)

variable (x0 : Vec Ideal S1x2048x128 .f32) (hb : Below x0)
include hb

theorem b0 (r l : Fin 128) : B0 x0 (ix2 r l) = acc (col x0 l) (128 * 0 + r.val + 1) :=
  block_at x0 hb 0 0 rfl (by decide) _ zero (fun l => by unfold zero acc; pointwise; exact (Finset.sum_range_zero _).symm) r l

theorem b1 (r l : Fin 128) : B1 x0 (ix2 r l) = acc (col x0 l) (128 * 1 + r.val + 1) :=
  block_at x0 hb 1 128 rfl (by decide) _ _ (last_holds x0 0 _ (b0 x0 hb)) r l

theorem b2 (r l : Fin 128) : B2 x0 (ix2 r l) = acc (col x0 l) (128 * 2 + r.val + 1) :=
  block_at x0 hb 2 256 rfl (by decide) _ _ (last_holds x0 1 _ (b1 x0 hb)) r l

theorem b3 (r l : Fin 128) : B3 x0 (ix2 r l) = acc (col x0 l) (128 * 3 + r.val + 1) :=
  block_at x0 hb 3 384 rfl (by decide) _ _ (last_holds x0 2 _ (b2 x0 hb)) r l

theorem b4 (r l : Fin 128) : B4 x0 (ix2 r l) = acc (col x0 l) (128 * 4 + r.val + 1) :=
  block_at x0 hb 4 512 rfl (by decide) _ _ (last_holds x0 3 _ (b3 x0 hb)) r l

theorem b5 (r l : Fin 128) : B5 x0 (ix2 r l) = acc (col x0 l) (128 * 5 + r.val + 1) :=
  block_at x0 hb 5 640 rfl (by decide) _ _ (last_holds x0 4 _ (b4 x0 hb)) r l

theorem b6 (r l : Fin 128) : B6 x0 (ix2 r l) = acc (col x0 l) (128 * 6 + r.val + 1) :=
  block_at x0 hb 6 768 rfl (by decide) _ _ (last_holds x0 5 _ (b5 x0 hb)) r l

theorem b7 (r l : Fin 128) : B7 x0 (ix2 r l) = acc (col x0 l) (128 * 7 + r.val + 1) :=
  block_at x0 hb 7 896 rfl (by decide) _ _ (last_holds x0 6 _ (b6 x0 hb)) r l

theorem b8 (r l : Fin 128) : B8 x0 (ix2 r l) = acc (col x0 l) (128 * 8 + r.val + 1) :=
  block_at x0 hb 8 1024 rfl (by decide) _ _ (last_holds x0 7 _ (b7 x0 hb)) r l

theorem b9 (r l : Fin 128) : B9 x0 (ix2 r l) = acc (col x0 l) (128 * 9 + r.val + 1) :=
  block_at x0 hb 9 1152 rfl (by decide) _ _ (last_holds x0 8 _ (b8 x0 hb)) r l

theorem b10 (r l : Fin 128) : B10 x0 (ix2 r l) = acc (col x0 l) (128 * 10 + r.val + 1) :=
  block_at x0 hb 10 1280 rfl (by decide) _ _ (last_holds x0 9 _ (b9 x0 hb)) r l

theorem b11 (r l : Fin 128) : B11 x0 (ix2 r l) = acc (col x0 l) (128 * 11 + r.val + 1) :=
  block_at x0 hb 11 1408 rfl (by decide) _ _ (last_holds x0 10 _ (b10 x0 hb)) r l

theorem b12 (r l : Fin 128) : B12 x0 (ix2 r l) = acc (col x0 l) (128 * 12 + r.val + 1) :=
  block_at x0 hb 12 1536 rfl (by decide) _ _ (last_holds x0 11 _ (b11 x0 hb)) r l

theorem b13 (r l : Fin 128) : B13 x0 (ix2 r l) = acc (col x0 l) (128 * 13 + r.val + 1) :=
  block_at x0 hb 13 1664 rfl (by decide) _ _ (last_holds x0 12 _ (b12 x0 hb)) r l

theorem b14 (r l : Fin 128) : B14 x0 (ix2 r l) = acc (col x0 l) (128 * 14 + r.val + 1) :=
  block_at x0 hb 14 1792 rfl (by decide) _ _ (last_holds x0 13 _ (b13 x0 hb)) r l

theorem b15 (r l : Fin 128) : B15 x0 (ix2 r l) = acc (col x0 l) (128 * 15 + r.val + 1) :=
  block_at x0 hb 15 1920 rfl (by decide) _ _ (last_holds x0 14 _ (b14 x0 hb)) r l

omit hb in
theorem plain_at (B : FVec Ideal S128x128 .f32) (r l : Fin 128) : plain B (ix3 (0 : Fin 1) r l) = B (ix2 r l) := by
  unfold plain k0_pay1
  pointwise

omit hb in
theorem turned_at (B : FVec Ideal S128x128 .f32) (l r : Fin 128) : turned B (ix3 (0 : Fin 1) l r) = B (ix2 r l) := by
  unfold turned k0_pay2
  pointwise

/-- A stored block at its place in the whole. -/
theorem at_rows (n : ℕ) (B : FVec Ideal S128x128 .f32) (hB : ∀ r l : Fin 128, B (ix2 r l) = acc (col x0 l) (128 * n + r.val + 1))
    (R : Fin 2048) (l : Fin 128) (x : S1x128x128.Idx)
    (hx : ∀ a, ((ix3 (0 : Fin 1) R l : S1x2048x128.Idx) a).val = (![0, 128 * n, 0] : Fin 3 → ℕ) a + (x a).val) :
    plain B x = acc (col x0 l) (R.val + 1) := by
  obtain ⟨z, r, e, rfl⟩ : ∃ (z : Fin 1) (r e : Fin 128), x = ix3 z r e := ⟨x 0, x 1, x 2, by blk_ext⟩
  have h1 : R.val = 128 * n + r.val := hx 1
  have h2 : l.val = 0 + e.val := hx 2
  obtain rfl : l = e := Fin.ext (by omega)
  obtain rfl : z = 0 := Subsingleton.elim _ _
  rw [plain_at, hB, h1]

theorem at_cols (n : ℕ) (B : FVec Ideal S128x128 .f32) (hB : ∀ r l : Fin 128, B (ix2 r l) = acc (col x0 l) (128 * n + r.val + 1))
    (R : Fin 2048) (l : Fin 128) (x : S1x128x128.Idx)
    (hx : ∀ a, ((ix3 (0 : Fin 1) l R : S1x128x2048.Idx) a).val = (![0, 0, 128 * n] : Fin 3 → ℕ) a + (x a).val) :
    turned B x = acc (col x0 l) (R.val + 1) := by
  obtain ⟨z, e, r, rfl⟩ : ∃ (z : Fin 1) (e r : Fin 128), x = ix3 z e r := ⟨x 0, x 1, x 2, by blk_ext⟩
  have h1 : R.val = 128 * n + r.val := hx 2
  have h2 : l.val = 0 + e.val := hx 1
  obtain rfl : l = e := Fin.ext (by omega)
  obtain rfl : z = 0 := Subsingleton.elim _ _
  rw [turned_at, hB, h1]

/-- The first result's block after the body. -/
theorem out1_at (R : Fin 2048) (l : Fin 128) : out0_1 x0 (ix3 (0 : Fin 1) R l) = acc (col x0 l) (R.val + 1) := by
  unfold out0_1
  refine View.canon_eq_of_allAt _ _ _ (View.cover_of_tiled_head _ _ _ rfl _) ?_
  refine View.allAt_cons_unit _ _ _ _ _ (fun x hx => (congrFun (p15 x0) x).trans (at_rows x0 hb 15 _ (b15 x0 hb) R l x hx)) ?_
  refine View.allAt_cons_unit _ _ _ _ _ (fun x hx => (congrFun (p14 x0) x).trans (at_rows x0 hb 14 _ (b14 x0 hb) R l x hx)) ?_
  refine View.allAt_cons_unit _ _ _ _ _ (fun x hx => (congrFun (p13 x0) x).trans (at_rows x0 hb 13 _ (b13 x0 hb) R l x hx)) ?_
  refine View.allAt_cons_unit _ _ _ _ _ (fun x hx => (congrFun (p12 x0) x).trans (at_rows x0 hb 12 _ (b12 x0 hb) R l x hx)) ?_
  refine View.allAt_cons_unit _ _ _ _ _ (fun x hx => (congrFun (p11 x0) x).trans (at_rows x0 hb 11 _ (b11 x0 hb) R l x hx)) ?_
  refine View.allAt_cons_unit _ _ _ _ _ (fun x hx => (congrFun (p10 x0) x).trans (at_rows x0 hb 10 _ (b10 x0 hb) R l x hx)) ?_
  refine View.allAt_cons_unit _ _ _ _ _ (fun x hx => (congrFun (p9 x0) x).trans (at_rows x0 hb 9 _ (b9 x0 hb) R l x hx)) ?_
  refine View.allAt_cons_unit _ _ _ _ _ (fun x hx => (congrFun (p8 x0) x).trans (at_rows x0 hb 8 _ (b8 x0 hb) R l x hx)) ?_
  refine View.allAt_cons_unit _ _ _ _ _ (fun x hx => (congrFun (p7 x0) x).trans (at_rows x0 hb 7 _ (b7 x0 hb) R l x hx)) ?_
  refine View.allAt_cons_unit _ _ _ _ _ (fun x hx => (congrFun (p6 x0) x).trans (at_rows x0 hb 6 _ (b6 x0 hb) R l x hx)) ?_
  refine View.allAt_cons_unit _ _ _ _ _ (fun x hx => (congrFun (p5 x0) x).trans (at_rows x0 hb 5 _ (b5 x0 hb) R l x hx)) ?_
  refine View.allAt_cons_unit _ _ _ _ _ (fun x hx => (congrFun (p4 x0) x).trans (at_rows x0 hb 4 _ (b4 x0 hb) R l x hx)) ?_
  refine View.allAt_cons_unit _ _ _ _ _ (fun x hx => (congrFun (p3 x0) x).trans (at_rows x0 hb 3 _ (b3 x0 hb) R l x hx)) ?_
  refine View.allAt_cons_unit _ _ _ _ _ (fun x hx => (congrFun (p2 x0) x).trans (at_rows x0 hb 2 _ (b2 x0 hb) R l x hx)) ?_
  refine View.allAt_cons_unit _ _ _ _ _ (fun x hx => (congrFun (p1 x0) x).trans (at_rows x0 hb 1 _ (b1 x0 hb) R l x hx)) ?_
  refine View.allAt_cons_unit _ _ _ _ _ (fun x hx => (congrFun (p0 x0) x).trans (at_rows x0 hb 0 _ (b0 x0 hb) R l x hx)) ?_
  exact View.allAt_nil _ _

/-- The second result's block after the body. -/
theorem out2_at (l : Fin 128) (R : Fin 2048) : out0_2 x0 (ix3 (0 : Fin 1) l R) = acc (col x0 l) (R.val + 1) := by
  unfold out0_2
  refine View.canon_eq_of_allAt _ _ _ (View.cover_of_tiled_head _ _ _ rfl _) ?_
  refine View.allAt_cons_unit _ _ _ _ _ (fun x hx => (congrFun (t15 x0) x).trans (at_cols x0 hb 15 _ (b15 x0 hb) R l x hx)) ?_
  refine View.allAt_cons_unit _ _ _ _ _ (fun x hx => (congrFun (t14 x0) x).trans (at_cols x0 hb 14 _ (b14 x0 hb) R l x hx)) ?_
  refine View.allAt_cons_unit _ _ _ _ _ (fun x hx => (congrFun (t13 x0) x).trans (at_cols x0 hb 13 _ (b13 x0 hb) R l x hx)) ?_
  refine View.allAt_cons_unit _ _ _ _ _ (fun x hx => (congrFun (t12 x0) x).trans (at_cols x0 hb 12 _ (b12 x0 hb) R l x hx)) ?_
  refine View.allAt_cons_unit _ _ _ _ _ (fun x hx => (congrFun (t11 x0) x).trans (at_cols x0 hb 11 _ (b11 x0 hb) R l x hx)) ?_
  refine View.allAt_cons_unit _ _ _ _ _ (fun x hx => (congrFun (t10 x0) x).trans (at_cols x0 hb 10 _ (b10 x0 hb) R l x hx)) ?_
  refine View.allAt_cons_unit _ _ _ _ _ (fun x hx => (congrFun (t9 x0) x).trans (at_cols x0 hb 9 _ (b9 x0 hb) R l x hx)) ?_
  refine View.allAt_cons_unit _ _ _ _ _ (fun x hx => (congrFun (t8 x0) x).trans (at_cols x0 hb 8 _ (b8 x0 hb) R l x hx)) ?_
  refine View.allAt_cons_unit _ _ _ _ _ (fun x hx => (congrFun (t7 x0) x).trans (at_cols x0 hb 7 _ (b7 x0 hb) R l x hx)) ?_
  refine View.allAt_cons_unit _ _ _ _ _ (fun x hx => (congrFun (t6 x0) x).trans (at_cols x0 hb 6 _ (b6 x0 hb) R l x hx)) ?_
  refine View.allAt_cons_unit _ _ _ _ _ (fun x hx => (congrFun (t5 x0) x).trans (at_cols x0 hb 5 _ (b5 x0 hb) R l x hx)) ?_
  refine View.allAt_cons_unit _ _ _ _ _ (fun x hx => (congrFun (t4 x0) x).trans (at_cols x0 hb 4 _ (b4 x0 hb) R l x hx)) ?_
  refine View.allAt_cons_unit _ _ _ _ _ (fun x hx => (congrFun (t3 x0) x).trans (at_cols x0 hb 3 _ (b3 x0 hb) R l x hx)) ?_
  refine View.allAt_cons_unit _ _ _ _ _ (fun x hx => (congrFun (t2 x0) x).trans (at_cols x0 hb 2 _ (b2 x0 hb) R l x hx)) ?_
  refine View.allAt_cons_unit _ _ _ _ _ (fun x hx => (congrFun (t1 x0) x).trans (at_cols x0 hb 1 _ (b1 x0 hb) R l x hx)) ?_
  refine View.allAt_cons_unit _ _ _ _ _ (fun x hx => (congrFun (t0 x0) x).trans (at_cols x0 hb 0 _ (b0 x0 hb) R l x hx)) ?_
  exact View.allAt_nil _ _

end Cert.Kernel8Ideal.Cum
end
end
-- ==== Proof.Cum.Array.lean ====
/- The kernel's block of the argument at a grid point, and its two output arrays. -/
module

public import proofs.«01_k».proof.Proof.Cum.Block
public import Idealize.ShloMosaic.Lib.StableHlo.ReadAt

@[expose] public section
set_option maxRecDepth 16384
noncomputable section
namespace Cert.Kernel8Ideal.Cum
open Cert.Kernel8Ideal Cert.Kernel8Ideal.Gen Cert.Running Idealize.ShloMosaic Idealize.ShloMosaic.TcCoe Idealize.SL.Sem
open Idealize.ShloMosaic.Pipeline (Dat)

/-! ## The specification -/

/-- The log-forget of entry `a` in lane `l` at place `s`, zero past the end and outside its lanes. -/
def logf (A : Vec Ideal S32768x128 .f32) (a : Fin 16) (l : Fin 128) (s : ℕ) : EReal :=
  lanes l.val (if hs : s < 2048 then A (ix2 ⟨2048 * a.val + s, by have := a.isLt; omega⟩ l) else 0)

/-- The running sum of the log-forget, and the same with rows and lanes exchanged. -/
def spec1 (A : Vec Ideal S32768x128 .f32) : Vec Ideal S16x2048x128 .f32 := fun i => acc (logf A (i 0) (i 2)) ((i 1).val + 1)
def spec2 (A : Vec Ideal S32768x128 .f32) : Vec Ideal S16x128x2048 .f32 := fun i => acc (logf A (i 0) (i 1)) ((i 2).val + 1)

/-- No log-forget is infinity. -/
def Low (A : Vec Ideal S32768x128 .f32) : Prop := ∀ (i : Fin 32768) (l : Fin 128), lanes l.val (A (ix2 i l)) ≠ ⊤

/-! ## The block -/

variable (m : (ℓ : Loc nD τ sig) → Buf (Elt Ideal) ℓ)

theorem coords0 (t : Fin cfg0.N) : (grid0.coords t 0).val = t.val := by
  have ht : t.val < 16 := t.isLt
  rw [Pipeline.Grid.coords_val (S := 1) (B := 16) t 0 (by decide) (by decide)]
  omega

/-- The block each window is at, by the grid point. -/
theorem idx (t : Fin cfg0.N) :
    win0_0.index t = ![t.val, 0, 0]
    ∧ win0_1.index t = ![t.val, 0, 0]
    ∧ win0_2.index t = ![t.val, 0, 0] := by
  have ht : t.val < 16 := t.isLt
  have e0 : (BitVec.ofNat 32 (grid0.coords t 0).val).toNat = t.val := by
    rw [coords0 t, BitVec.toNat_ofNat]; omega
  refine ⟨?_, ?_, ?_⟩
  · show cc0_transform_0 (grid0.coords t) = _
    unfold cc0_transform_0; rw [← e0]; rfl
  · show cc0_transform_1 (grid0.coords t) = _
    unfold cc0_transform_1; rw [← e0]; rfl
  · show cc0_transform_2 (grid0.coords t) = _
    unfold cc0_transform_2; rw [← e0]; rfl

/-- The argument. -/
abbrev aA (c : Dev nD) : Vec Ideal S32768x128 .f32 := m ((c : Thread nD τ).loc main_arg0)

theorem v0_at (c : Dev nD) (a : Fin 16) (s : Fin 2048) (l : Fin 128) :
    V m c main_v0 (ix3 a s l) = aA m c (ix2 ⟨2048 * a.val + s.val, by have := a.isLt; have := s.isLt; omega⟩ l) := by
  unfold V aA
  unfold hostOps0
  after_reads_at
  refine congrArg (m _) ?_
  blk_ext

theorem i0 (c : Dev nD) (t : Fin cfg0.N) (a : Fin 16) (ha : a.val = t.val) (s : Fin 2048) (l : Fin 128) :
    iblk m c 0 t (ix3 (0 : Fin 1) s l) = aA m c (ix2 ⟨2048 * a.val + s.val, by have := a.isLt; have := s.isLt; omega⟩ l) := by
  rw [← v0_at m c a s l]
  blk_simp [iblk]
  refine congrArg (V m c main_v0) ?_
  blk_ext [idx t]

theorem col_eq (c : Dev nD) (t : Fin cfg0.N) (a : Fin 16) (ha : a.val = t.val) (l : Fin 128) :
    col (iblk m c 0 t) l = logf (aA m c) a l := funext fun s => by
  unfold col logf
  by_cases hs : s < 2048
  · rw [dif_pos hs, dif_pos hs, i0 m c t a ha]
  · rw [dif_neg hs, dif_neg hs]

theorem below (c : Dev nD) (hlow : Low (aA m c)) (t : Fin cfg0.N) : Below (iblk m c 0 t) := fun s l => by
  rw [i0 m c t ⟨t.val, t.isLt⟩ rfl]
  exact hlow _ l

/-! ## The output arrays -/

/-- Each output's blocks cover its array. -/
theorem covers1 : (cfg0.win 1).Covers :=
  (cfg0.win 1).covers_of_indexMap_surj rfl (by decide) fun β => by
    have b0 : (β 0).val < 16 := (β 0).isLt
    have b1 : (β 1).val < 1 := (β 1).isLt
    have b2 : (β 2).val < 1 := (β 2).isLt
    refine ⟨fun a => ⟨(![(β 0).val] : Fin 1 → ℕ) a, ?_⟩, fun a => ?_⟩
    · fin_cases a
      exact b0
    · rw [show ∀ i : grid0.Coords, (cfg0.win 1).indexMap i = cc0_transform_1 i from fun _ => rfl]
      unfold cc0_transform_1
      fin_cases a
      · exact (BitVec.toNat_ofNat _ _).trans (Nat.mod_eq_of_lt (by show (β 0).val < _; omega))
      · show _ = (β 1).val
        rw [show (β 1).val = 0 by omega]
        rfl
      · show _ = (β 2).val
        rw [show (β 2).val = 0 by omega]
        rfl

theorem covers2 : (cfg0.win 2).Covers :=
  (cfg0.win 2).covers_of_indexMap_surj rfl (by decide) fun β => by
    have b0 : (β 0).val < 16 := (β 0).isLt
    have b1 : (β 1).val < 1 := (β 1).isLt
    have b2 : (β 2).val < 1 := (β 2).isLt
    refine ⟨fun a => ⟨(![(β 0).val] : Fin 1 → ℕ) a, ?_⟩, fun a => ?_⟩
    · fin_cases a
      exact b0
    · rw [show ∀ i : grid0.Coords, (cfg0.win 2).indexMap i = cc0_transform_2 i from fun _ => rfl]
      unfold cc0_transform_2
      fin_cases a
      · exact (BitVec.toNat_ofNat _ _).trans (Nat.mod_eq_of_lt (by show (β 0).val < _; omega))
      · show _ = (β 1).val
        rw [show (β 1).val = 0 by omega]
        rfl
      · show _ = (β 2).val
        rw [show (β 2).val = 0 by omega]
        rfl

theorem array1 (c : Dev nD) (hlow : Low (aA m c)) : (dats m 0 c).arrAt 1 cfg0.N = spec1 (aA m c) := by
  refine (dats m 0 c).arrAt_eq_of_covers 1 _ covers1 fun t hfl y => ?_
  blk_simp
  rw [after0_1]
  have ht : t.val < 16 := t.isLt
  obtain ⟨z, r, l, rfl⟩ : ∃ (z : Fin 1) (r : Fin 2048) (l : Fin 128), y = ix3 z r l := ⟨y 0, y 1, y 2, by blk_ext⟩
  obtain rfl : z = 0 := Subsingleton.elim _ _
  refine (out1_at _ (below m c hlow t) r l).trans ?_
  rw [col_eq m c t ⟨t.val, ht⟩ rfl l]
  show spec1 (aA m c) (ix3 ⟨t.val, ht⟩ r l) = _
  refine congrArg (spec1 (aA m c)) ?_
  blk_ext [idx t]

theorem array2 (c : Dev nD) (hlow : Low (aA m c)) : (dats m 0 c).arrAt 2 cfg0.N = spec2 (aA m c) := by
  refine (dats m 0 c).arrAt_eq_of_covers 2 _ covers2 fun t hfl y => ?_
  blk_simp
  rw [after0_2]
  have ht : t.val < 16 := t.isLt
  obtain ⟨z, l, r, rfl⟩ : ∃ (z : Fin 1) (l : Fin 128) (r : Fin 2048), y = ix3 z l r := ⟨y 0, y 1, y 2, by blk_ext⟩
  obtain rfl : z = 0 := Subsingleton.elim _ _
  refine (out2_at _ (below m c hlow t) l r).trans ?_
  rw [col_eq m c t ⟨t.val, ht⟩ rfl l]
  show spec2 (aA m c) (ix3 ⟨t.val, ht⟩ l r) = _
  refine congrArg (spec2 (aA m c)) ?_
  blk_ext [idx t]

end Cert.Kernel8Ideal.Cum
end
end
-- ==== Proof.Cum.Pre.lean ====
/- The precondition read over the extended reals: no log-forget is infinity. -/
module

public import proofs.«01_k».proof.Pre_below
public import proofs.«01_k».proof.Proof.Cum.Array

@[expose] public section
set_option maxRecDepth 16384
noncomputable section
namespace Cert.Pre_below
open Cert.Pre_below Cert.Kernel8Ideal.Cum Idealize.ShloMosaic Idealize.ShloMosaic.TcCoe

theorem facts : Facts where
  slices_S32768x128_S32768x8_0_24 := by decide
  bcast_S_S32768x8 := by decide

/-- A value compared below infinity is not infinity. -/
theorem ne_top_of_lt (x : EReal) (h : BitVec.ofBool (decide (x < Ideal.ofBits .f32 2139095040#32)) = 1#1) : x ≠ ⊤ := by
  have ht : Ideal.ofBits .f32 2139095040#32 = (⊤ : EReal) := by
    simp [Ideal.ofBits, Ideal.ieee]
  rw [ht] at h
  rintro rfl
  simp at h

variable [inst : Facts]

theorem low_of (A : FVec Ideal S32768x128 .f32) (h : fn (F := Ideal) A = fun _ => 1#1) : Low A := fun i l => by
  unfold lanes
  split
  · next hl =>
    have e := congrFun h (ix2 i (⟨l.val - 24, by omega⟩ : Fin 8))
    unfold fn at e
    simp only [pointwise] at e
    refine ne_top_of_lt _ (Eq.trans ?_ e)
    refine congrArg (fun x => BitVec.ofBool (decide (x < Ideal.ofBits .f32 2139095040#32))) (congrArg A ?_)
    congr 1
    · exact Fin.ext (Nat.zero_add _).symm
    · exact Fin.ext (by show l.val = 24 + (l.val - 24); omega)
  · exact EReal.zero_ne_top

end Cert.Pre_below
end
end
-- ==== Proof.Cum.Ref.lean ====
/- The reference's running sum read at an index. -/
module

public import proofs.«01_k».proof.Proof.Gen.Reference8Ideal.Run
public import proofs.«01_k».proof.Proof.Cum.Sums
public import Idealize.ShloMosaic.PureOps.Ideal
public import Idealize.ShloMosaic.Lib.Pointwise
public import Idealize.ShloMosaic.Lib.Pipeline.ValueKit

@[expose] public section
set_option maxRecDepth 16384
noncomputable section
namespace Cert.Reference8Ideal.Cum
open Cert.Reference8Ideal Cert.Reference8Ideal.Gen Cert.Reference8Ideal.Value Cert.Running Idealize.ShloMosaic Idealize.ShloMosaic.TcCoe Idealize.SL.Sem

/-- Adding the members of a list one after the other. -/
theorem foldl_add {ι : Type} (f : ι → EReal) (l : List ι) (v : EReal) :
    l.foldl (fun r n => r + f n) v = v + (l.map f).sum := by
  induction l generalizing v with
  | nil => simp
  | cons n l ih => rw [List.foldl_cons, ih, List.map_cons, List.sum_cons, add_assoc]

/-- A window's sum: the initial value, and for each place of the window the operand's element or, outside it, the
    initial value again. -/
theorem reduceWindow_add {s t u : Shape} (w strides lo hi : Fin s.rank → ℕ) (x : s.Idx → EReal) (init : u.Idx → EReal)
    (h : s.ReduceWindows w strides lo hi t) (hu : 0 < u.numel) (j : t.Idx) :
    Host.reduceWindow (· + ·) w strides lo hi x init h hu j
      = init (Shape.Idx.first hu) + ∑ n : Fin (⟨s.rank, w⟩ : Shape).numel,
        (if hin : ∀ a, lo a ≤ (j (a.cast h.1.symm)).val * strides a + ((⟨s.rank, w⟩ : Shape).rowMajor.symm n a).val
            ∧ (j (a.cast h.1.symm)).val * strides a + ((⟨s.rank, w⟩ : Shape).rowMajor.symm n a).val - lo a < s.size a
          then x (fun a => ⟨(j (a.cast h.1.symm)).val * strides a + ((⟨s.rank, w⟩ : Shape).rowMajor.symm n a).val - lo a, (hin a).2⟩)
          else init (Shape.Idx.first hu)) := by
  rw [Fin.sum_univ_def]
  unfold Host.reduceWindow
  dsimp only
  refine (foldl_add _ _ _).trans ?_
  refine congrArg (init (Shape.Idx.first hu) + ·) (congrArg List.sum (List.map_congr_left fun n _ => ?_))
  congr 1

/-- The same of the host's window sum of extended reals. -/
theorem reduceWindowAdd_at {s t u : Shape} (w strides lo hi : Fin s.rank → ℕ) (x : FVec Ideal s .f32) (init : u.Idx → EReal)
    (h : s.ReduceWindows w strides lo hi t) (hu : 0 < u.numel) (j : t.Idx) :
    Host.reduceWindowAdd (F := Ideal) (φ := .f32) w strides lo hi x init h hu j
      = init (Shape.Idx.first hu) + ∑ n : Fin (⟨s.rank, w⟩ : Shape).numel,
        (if hin : ∀ a, lo a ≤ (j (a.cast h.1.symm)).val * strides a + ((⟨s.rank, w⟩ : Shape).rowMajor.symm n a).val
            ∧ (j (a.cast h.1.symm)).val * strides a + ((⟨s.rank, w⟩ : Shape).rowMajor.symm n a).val - lo a < s.size a
          then x (fun a => ⟨(j (a.cast h.1.symm)).val * strides a + ((⟨s.rank, w⟩ : Shape).rowMajor.symm n a).val - lo a, (hin a).2⟩)
          else init (Shape.Idx.first hu)) :=
  reduceWindow_add (u := ⟨0, ![]⟩) w strides lo hi x (fun _ => init (Shape.Idx.first hu)) h (by decide) j

/-- A sum over a window of 2048 places along the middle axis is a sum over its places. -/
theorem sum_window (f : (⟨3, ![1, 2048, 1]⟩ : Shape).Idx → EReal) :
    ∑ n : Fin (⟨3, ![1, 2048, 1]⟩ : Shape).numel, f ((⟨3, ![1, 2048, 1]⟩ : Shape).rowMajor.symm n)
      = ∑ k : Fin 2048, f (ix3 (0 : Fin 1) k (0 : Fin 1)) := by
  rw [Equiv.sum_comp (⟨3, ![1, 2048, 1]⟩ : Shape).rowMajor.symm f]
  refine (Fintype.sum_bijective (fun k : Fin 2048 => (ix3 (0 : Fin 1) k (0 : Fin 1) : (⟨3, ![1, 2048, 1]⟩ : Shape).Idx)) ⟨fun a b h => ?_, fun i => ?_⟩ _ _ fun _ => rfl).symm
  · exact congrFun h 1
  · have h0 : (i 0).val < 1 := (i 0).isLt
    have h2 : (i 2).val < 1 := (i 2).isLt
    refine ⟨i 1, funext fun a => Fin.ext ?_⟩
    fin_cases a
    · show 0 = (i 0).val
      omega
    · rfl
    · show 0 = (i 2).val
      omega

/-- The log-forget of all heads. -/
def gLog (A : FVec Ideal S32768x128 .f32) : FVec Ideal S16x2048x8 .f32 :=
  extractStridedSlice S16x2048x8 ![0, 0, 24] (shapeCast _ A shapeCasts_S32768x128_S16x2048x128) slices_S16x2048x128_S16x2048x8_0_0_24

/-- Its running sum. -/
def gSum (L : FVec Ideal S16x2048x8 .f32) : FVec Ideal S16x2048x8 .f32 :=
  Host.reduceWindowAdd ![1, 2048, 1] ![1, 1, 1] ![0, 2047, 0] ![0, 0, 0] L (broadcastInDim S_ ![] bcast_S_S_ (constant S_ .f32 0x00000000#32)) reduceWindows_S16x2048x8_S16x2048x8_w1s1p0_0_w2048s1p2047_0_w1s1p0_0 h_S_

/-- The running sum in its lanes. -/
def gPad (L : FVec Ideal S16x2048x8 .f32) : FVec Ideal S16x2048x128 .f32 :=
  pad S16x2048x128 ![0, 0, 24] ![0, 0, 96] ![0, 0, 0] L (sitofp .f32 (constantI S_ 32 0#32)) pads_S16x2048x8_S16x2048x128_000_000_24960 h_S_

/-- The same with rows and lanes exchanged. -/
def gTurn (C : FVec Ideal S16x2048x128 .f32) : FVec Ideal S16x128x2048 .f32 :=
  transpose S16x128x2048 [0, 2, 1] C transposes_S16x2048x128_S16x128x2048_0_2_1

theorem gLog_at (A : FVec Ideal S32768x128 .f32) (a : Fin 16) (t : Fin 2048) (h : Fin 8) (i : Fin 32768) (l : Fin 128)
    (hi : i.val = 2048 * a.val + t.val) (hl : l.val = 24 + h.val) : gLog A (ix3 a t h) = A (ix2 i l) := by
  unfold gLog
  pointwise
  refine congrArg A ?_
  blk_ext

/-- Row `s` of one entry and head, zero past the end. -/
def row (L : FVec Ideal S16x2048x8 .f32) (a : Fin 16) (h : Fin 8) (s : ℕ) : EReal :=
  if hs : s < 2048 then L (ix3 a ⟨s, hs⟩ h) else 0

theorem gSum_at (L : FVec Ideal S16x2048x8 .f32) (a : Fin 16) (t : Fin 2048) (h : Fin 8) :
    gSum L (ix3 a t h) = acc (row L a h) (t.val + 1) := by
  have ht := t.isLt
  have hv : (broadcastInDim S_ ![] bcast_S_S_ (constant (F := Ideal) S_ .f32 0x00000000#32)) (Shape.Idx.first h_S_) = (0 : EReal) := by
    pointwise
  rw [← window (row L a h) t.val ht]
  unfold gSum
  rw [reduceWindowAdd_at, hv, zero_add]
  refine (sum_window (fun i => if hin : ∀ b : Fin 3, (![0, 2047, 0] : Fin 3 → ℕ) b ≤ (ix3 a t h b).val * (![1, 1, 1] : Fin 3 → ℕ) b + (i b).val
      ∧ (ix3 a t h b).val * (![1, 1, 1] : Fin 3 → ℕ) b + (i b).val - (![0, 2047, 0] : Fin 3 → ℕ) b < S16x2048x8.size b
    then L (fun b => ⟨(ix3 a t h b).val * (![1, 1, 1] : Fin 3 → ℕ) b + (i b).val - (![0, 2047, 0] : Fin 3 → ℕ) b, (hin b).2⟩) else 0)).trans ?_
  refine Finset.sum_congr rfl fun k _ => ?_
  have hk := k.isLt
  by_cases hc : 2047 ≤ t.val + k.val
  · rw [if_pos hc]
    have e : row L a h (t.val + k.val - 2047) = L (ix3 a ⟨t.val + k.val - 2047, by omega⟩ h) := dif_pos _
    rw [e]
    refine (dif_pos (show ∀ b : Fin 3, _ from fun b => ?_)).trans (congrArg L ?_)
    · fin_cases b
      · exact ⟨Nat.zero_le _, by show a.val * 1 + 0 - 0 < 16; have := a.isLt; omega⟩
      · exact ⟨by show 2047 ≤ t.val * 1 + k.val; omega, by show t.val * 1 + k.val - 2047 < 2048; omega⟩
      · exact ⟨Nat.zero_le _, by show h.val * 1 + 0 - 0 < 8; have := h.isLt; omega⟩
    · refine funext fun b => Fin.ext ?_
      fin_cases b
      · show a.val * 1 + 0 - 0 = a.val
        omega
      · show t.val * 1 + k.val - 2047 = t.val + k.val - 2047
        omega
      · show h.val * 1 + 0 - 0 = h.val
        omega
  · rw [if_neg hc]
    refine dif_neg fun hin => hc ?_
    have h1 := (hin 1).1
    change 2047 ≤ t.val * 1 + k.val at h1
    omega

theorem gPad_at (L : FVec Ideal S16x2048x8 .f32) (a : Fin 16) (t : Fin 2048) (l : Fin 128) :
    gPad L (ix3 a t l) = if h : 24 ≤ l.val ∧ l.val < 32 then L (ix3 a t ⟨l.val - 24, by omega⟩) else 0 := by
  have hl := l.isLt
  unfold gPad
  pointwise
  have e : (FloatOps.sitofp (F := Ideal) FTy.f32 (0#32) : EReal) = 0 := by
    show (((0#32 : BitVec 32).toInt : ℝ) : EReal) = 0
    simp
  rw [e]
  by_cases h : 24 ≤ l.val ∧ l.val < 32
  · rw [dif_pos h, dif_pos (by omega)]
  · rw [dif_neg h, dif_neg (by omega)]

theorem gTurn_at (C : FVec Ideal S16x2048x128 .f32) (a : Fin 16) (l : Fin 128) (t : Fin 2048) : gTurn C (ix3 a l t) = C (ix3 a t l) := by
  unfold gTurn
  pointwise

end Cert.Reference8Ideal.Cum
end
end
-- ==== Proof.Cum.Equation.lean ====
/- The reference's results are the specifications of the kernel's output arrays. -/
module

public import proofs.«01_k».proof.Proof.Cum.Ref
public import proofs.«01_k».proof.Proof.Cum.Array

@[expose] public section
noncomputable section
namespace Cert.Reference8Ideal.Cum
open Cert.Running Idealize.ShloMosaic Idealize.ShloMosaic.TcCoe

theorem at_place (A : Vec Ideal Cert.Reference8Ideal.S32768x128 .f32) (a : Fin 16) (t : Fin 2048) (l : Fin 128) :
    gPad (gSum (gLog A)) (ix3 a t l) = acc (Cert.Kernel8Ideal.Cum.logf A a l) (t.val + 1) := by
  rw [gPad_at]
  by_cases h : 24 ≤ l.val ∧ l.val < 32
  · rw [dif_pos h, gSum_at]
    refine congrArg (acc · (t.val + 1)) (funext fun s => ?_)
    unfold row Cert.Kernel8Ideal.Cum.logf Cert.Kernel8Ideal.Cum.lanes
    rw [if_pos h]
    by_cases hs : s < 2048
    · rw [dif_pos hs, dif_pos hs]
      exact gLog_at A a ⟨s, hs⟩ _ _ l rfl (by show l.val = 24 + (l.val - 24); omega)
    · rw [dif_neg hs, dif_neg hs]
  · rw [dif_neg h]
    unfold acc Cert.Kernel8Ideal.Cum.logf Cert.Kernel8Ideal.Cum.lanes
    exact (Finset.sum_eq_zero fun s _ => if_neg h).symm

theorem ref_spec1 (A : Vec Ideal Cert.Reference8Ideal.S32768x128 .f32) : gPad (gSum (gLog A)) = Cert.Kernel8Ideal.Cum.spec1 A := by
  funext y
  obtain ⟨a, t, l, rfl⟩ : ∃ (a : Fin 16) (t : Fin 2048) (l : Fin 128), y = ix3 a t l := ⟨y 0, y 1, y 2, by blk_ext⟩
  exact at_place A a t l

theorem ref_spec2 (A : Vec Ideal Cert.Reference8Ideal.S32768x128 .f32) : gTurn (gPad (gSum (gLog A))) = Cert.Kernel8Ideal.Cum.spec2 A := by
  funext y
  obtain ⟨a, l, t, rfl⟩ : ∃ (a : Fin 16) (l : Fin 128) (t : Fin 2048), y = ix3 a l t := ⟨y 0, y 1, y 2, by blk_ext⟩
  exact (gTurn_at _ a l t).trans (at_place A a t l)

end Cert.Reference8Ideal.Cum
end
end
-- ==== Proof.Cum.Claims.lean ====
/- The claims about the running sum of the log-forget, one theorem each. -/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Cum.Pre
public import proofs.«01_k».proof.Proof.Cum.Equation
public import Idealize.ShloMosaic.Lib.Quiescent

@[expose] public section
noncomputable section
namespace Cert.Proof.Cum
open Idealize.ShloMosaic Idealize.ShloMosaic.TcCoe Idealize.SL.Sem

/-- The kernel as written runs, keeps its argument and ends with every counter at zero. -/
theorem frame_p : Cert.quiescent_Kernel8 (hKernel8 := Cert.Kernel8.Gen.facts) := fun m ρ _ => Cert.Kernel8.Gen.frame m ρ

/-- So does its idealization. -/
theorem frame_pi : Cert.quiescent_Kernel8Ideal (hKernel8Ideal := Cert.Kernel8Ideal.Gen.facts) :=
  fun m ρ _ => Cert.Kernel8Ideal.Gen.frame m ρ

theorem frame_pi_pre : Cert.quiescent_Kernel8Ideal_pre_below (hKernel8Ideal := Cert.Kernel8Ideal.Gen.facts)
    (hPre_below := Cert.Pre_below.facts) :=
  fun m ρ _ => Cert.Kernel8Ideal.Gen.frame m ρ

/-- The reference runs and keeps its argument; it declares no semaphore. -/
theorem frame_r : Cert.quiescent_Reference8Ideal (hReference8Ideal := Cert.Reference8Ideal.Gen.facts) := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

theorem frame_r_pre : Cert.quiescent_Reference8Ideal_pre_below (hReference8Ideal := Cert.Reference8Ideal.Gen.facts)
    (hPre_below := Cert.Pre_below.facts) :=
  fun m ρ _ => frame_r m ρ trivial

/-- Nothing was rewritten between the kernel and its idealization. -/
theorem preserves : Cert.preserves_Kernel8_Kernel8Ideal := trivial

/-- Kernel and reference end with the same two arrays: the running sum, and the same with rows and lanes exchanged. -/
theorem algebraic : Cert.algebraic_Kernel8Ideal_Reference8Ideal_pre_below (hKernel8Ideal := Cert.Kernel8Ideal.Gen.facts)
    (hReference8Ideal := Cert.Reference8Ideal.Gen.facts) (hPre_below := Cert.Pre_below.facts) := by
  intro m g m' g' hpre harg
  have hf : ∀ c : Dev Cert.Kernel8Ideal.nD, Cert.Kernel8Ideal.Cum.Low (Cert.Kernel8Ideal.Cum.aA m c) :=
    fun c => Cert.Pre_below.low_of (inst := Cert.Pre_below.facts) _ (hpre c)
  refine ⟨fun c => Cert.Kernel8Ideal.Cum.spec1 (Cert.Kernel8Ideal.Cum.aA m c),
    fun c => Cert.Kernel8Ideal.Cum.spec2 (Cert.Kernel8Ideal.Cum.aA m c), ?_, ?_⟩
  · exact (θ_run Cert.Kernel8Ideal.defs _ _).mono
      (fun r h c => ⟨(h c).1.trans (Cert.Kernel8Ideal.Cum.array1 m c (hf c)),
        (h c).2.1.trans (Cert.Kernel8Ideal.Cum.array2 m c (hf c)), (h c).2.2⟩)
      (Cert.Kernel8Ideal.Value.run_blocks m g)
  · refine (θ_run Cert.Reference8Ideal.defs _ _).mono (fun r h c => ⟨(h c).1.trans ?_, (h c).2.1.trans ?_, (h c).2.2⟩)
      (Cert.Reference8Ideal.Value.run (F := Ideal) m' g')
    · rw [harg c]
      exact Cert.Reference8Ideal.Cum.ref_spec1 _
    · rw [harg c]
      exact Cert.Reference8Ideal.Cum.ref_spec2 _

end Cert.Proof.Cum
end
end
-- ==== Proof.Bias.Bucket.lean ====
/- The distance bucket of the relative position bias, one word at a time: distances below 16 have a bucket each, the
   further ones share sixteen buckets by the logarithm of the distance. The bucket is a row of the table. -/
module

public import Idealize.ShloMosaic.PureOps.Ideal
public import Idealize.ShloMosaic.Lib.Pointwise

@[expose] public section
noncomputable section
namespace Cert.Bias
open Idealize.ShloMosaic

/-- The distance, not below zero. -/
def near (d : BitVec 32) : BitVec 32 := IntOp.maxsi d 0#32

/-- Sixteen times the logarithm of a sixteenth of the distance, to the base of eight. -/
def scaled (d : BitVec 32) : EReal :=
  Ideal.div (Ideal.log (Ideal.div (((IntOp.maxsi (near d) 1#32).toInt : ℝ) : EReal) (Ideal.ofBits .f32 0x41800000#32)))
    (Ideal.ofBits .f32 0x40051592#32) * Ideal.ofBits .f32 0x41800000#32

/-- The bucket of a distance. -/
def bucket (d : BitVec 32) : BitVec 32 :=
  if IntOp.cmpi .slt (near d) 16#32 = 1#1 then near d
  else IntOp.minsi (IntOp.addi 16#32 (Ideal.fptosi 32 (scaled d))) 31#32

theorem c16 : Ideal.ofBits .f32 0x41800000#32 = ((16 : ℝ) : EReal) := by
  simp [Ideal.ofBits, Ideal.ieee]
  norm_cast
  norm_num

theorem cbase : ∃ r : ℝ, 2 ≤ r ∧ Ideal.ofBits .f32 0x40051592#32 = (r : EReal) := by
  refine ⟨8721810 / 4194304, by norm_num, ?_⟩
  simp [Ideal.ofBits, Ideal.ieee]
  norm_cast

/-- From distance sixteen on, the scaled logarithm is a real number between zero and `2 ^ 31 - 48`. -/
theorem scaled_real (d : BitVec 32) (h : 16 ≤ (near d).toInt) : ∃ r : ℝ, 0 ≤ r ∧ r ≤ 2147483600 ∧ scaled d = (r : EReal) := by
  have hm : IntOp.maxsi (near d) 1#32 = near d := by
    unfold IntOp.maxsi
    rw [if_pos]
    rw [BitVec.slt_iff_toInt_lt]
    have : (1#32).toInt = 1 := by decide
    omega
  have hlt : (near d).toInt < 2147483648 := by
    have := BitVec.toInt_lt (x := near d)
    norm_num at this
    exact this
  obtain ⟨b, hb, eb⟩ := cbase
  unfold scaled
  rw [hm, c16, eb]
  generalize (near d).toInt = n at h hlt ⊢
  have hn : (16 : ℝ) ≤ (n : ℝ) := by exact_mod_cast h
  have hn' : (n : ℝ) ≤ 2147483648 := by exact_mod_cast hlt.le
  have hpos : (0 : ℝ) < (n : ℝ) * (1 / 16) := by linarith
  have hbpos : (0 : ℝ) < b := by linarith
  rw [Ideal.div_coe (y := 16) (by norm_num), ← EReal.coe_mul, Ideal.log_coe, if_neg (not_le.2 hpos), Ideal.div_coe hbpos.ne', ← EReal.coe_mul, ← EReal.coe_mul]
  have h0 : 0 ≤ Real.log ((n : ℝ) * (1 / 16)) := Real.log_nonneg (by linarith)
  have h1 : Real.log ((n : ℝ) * (1 / 16)) ≤ (n : ℝ) * (1 / 16) - 1 := Real.log_le_sub_one_of_pos hpos
  have hi0 : 0 ≤ 1 / b := by positivity
  have hi1 : 1 / b ≤ 1 / 2 := one_div_le_one_div_of_le (by norm_num) hb
  refine ⟨_, by positivity, ?_, rfl⟩
  have : Real.log ((n : ℝ) * (1 / 16)) * (1 / b) ≤ Real.log ((n : ℝ) * (1 / 16)) * (1 / 2) :=
    mul_le_mul_of_nonneg_left hi1 h0
  linarith

/-- A bucket is one of 32. -/
theorem bucket_lt (d : BitVec 32) : ∃ b : Fin 32, bucket d = BitVec.ofNat 32 b.val := by
  suffices h : 0 ≤ (bucket d).toInt ∧ (bucket d).toInt < 32 by
    generalize bucket d = w at h
    obtain ⟨h0, h1⟩ := h
    have hw : w.toNat < 32 := by
      rw [BitVec.toInt_eq_toNat_cond] at h0 h1
      have := w.isLt
      split at h0 <;> omega
    exact ⟨⟨w.toNat, hw⟩, BitVec.eq_of_toNat_eq (by simp)⟩
  have hnear : 0 ≤ (near d).toInt := by
    unfold near IntOp.maxsi
    split
    · rename_i h
      rw [BitVec.slt_iff_toInt_lt] at h
      have : (0#32).toInt = 0 := by decide
      omega
    · decide
  unfold bucket
  split
  · rename_i h
    have h' : (near d).slt 16#32 = true := by
      unfold IntOp.cmpi at h
      by_contra hc
      rw [Bool.not_eq_true] at hc
      simp [hc] at h
    rw [BitVec.slt_iff_toInt_lt] at h'
    have : (16#32).toInt = 16 := by decide
    omega
  · rename_i h
    have h' : ¬ (near d).slt 16#32 = true := fun hc => h (by unfold IntOp.cmpi; simp [hc])
    rw [BitVec.slt_iff_toInt_lt] at h'
    have e16 : (16#32).toInt = 16 := by decide
    obtain ⟨r, r0, r1, er⟩ := scaled_real d (by omega)
    rw [er]
    have hf0 : 0 ≤ ⌊r⌋ := Int.floor_nonneg.2 r0
    have hf1 : ⌊r⌋ ≤ 2147483600 := by
      have : (⌊r⌋ : ℝ) ≤ 2147483600 := (Int.floor_le r).trans r1
      exact_mod_cast this
    have hk : Ideal.fptosi 32 (r : EReal) = BitVec.ofInt 32 ⌊r⌋ := by
      unfold Ideal.fptosi
      refine congrArg _ ?_
      show max _ (min _ (if 0 ≤ r then ⌊r⌋ else ⌈r⌉)) = _
      rw [if_pos r0]
      norm_num
      omega
    rw [hk]
    have hs : (IntOp.addi 16#32 (BitVec.ofInt 32 ⌊r⌋)).toInt = 16 + ⌊r⌋ := by
      unfold IntOp.addi
      rw [BitVec.toInt_add, BitVec.toInt_ofInt, e16]
      simp only [Int.bmod]
      omega
    unfold IntOp.minsi
    split
    · rename_i hc
      rw [BitVec.slt_iff_toInt_lt, hs] at hc
      have : (31#32).toInt = 31 := by decide
      rw [hs]
      omega
    · decide

/-- The bucket as a row of the table. -/
def row (d : BitVec 32) : Fin 32 := ⟨(bucket d).toNat, by
  obtain ⟨b, hb⟩ := bucket_lt d
  have := b.isLt
  rw [hb, BitVec.toNat_ofNat]
  omega⟩

theorem bucket_row (d : BitVec 32) : bucket d = BitVec.ofNat 32 (row d).val :=
  BitVec.eq_of_toNat_eq (by simp [row])

/-- The distance from the end of compressed block `j` to position `i`. -/
def distTo (i j : ℕ) : BitVec 32 :=
  IntOp.subi (BitVec.ofNat 32 i) (IntOp.addi (IntOp.muli (BitVec.ofNat 32 j) 16#32) 31#32)

end Cert.Bias
end
end
-- ==== Proof.Bias.Block.lean ====
/- What the kernel writes to its block: for every head, the table's row of each distance's bucket, looked up by a chain
   of 32 comparisons. -/
module

public import proofs.«01_k».proof.Proof.Gen.Kernel9Ideal.Value
public import proofs.«01_k».proof.Proof.Bias.Bucket
public import Idealize.ShloMosaic.Lib.Pipeline.ValueKit
public import Idealize.ShloMosaic.Lib.Pointwise
public import Idealize.ShloMosaic.Lib.VecWindow

@[expose] public section
set_option maxRecDepth 65536
noncomputable section
namespace Cert.Kernel9Ideal.Bias
open Cert.Kernel9Ideal Cert.Kernel9Ideal.Gen Cert.Bias Idealize.ShloMosaic Idealize.ShloMosaic.TcCoe Idealize.SL.Sem

/-! ## The chain of comparisons -/

/-- The table's entries `T 0 … T (n - 1)` looked up by the buckets, zero where none is met. -/
def lookup (b : IVec S256x128 32) (T : ℕ → EReal) : ℕ → FVec Ideal S256x128 .f32
  | 0 => broadcast S256x128 (Scalar.ofBits (F := Ideal) .f32 0x00000000#32)
  | n + 1 => select (cmpi .eq b (broadcast S256x128 (BitVec.ofNat 32 n))) (broadcast S256x128 (T n)) (lookup b T n)

theorem lookup_at (b : IVec S256x128 32) (T : ℕ → EReal) (i : S256x128.Idx) (k : ℕ) (n : ℕ) (hn : n ≤ 32) (hk : k < n)
    (hb : b i = BitVec.ofNat 32 k) : lookup b T n i = T k := by
  induction n with
  | zero => omega
  | succ n ih =>
    show (if IntOp.cmpi .eq (b i) (BitVec.ofNat 32 n) = 1#1 then T n else lookup b T n i) = T k
    rw [hb]
    by_cases h : k = n
    · subst h
      rw [if_pos (by simp [IntOp.cmpi])]
    · rw [if_neg, ih (by omega) (by omega)]
      intro hc
      have h2 : BitVec.ofNat 32 k = BitVec.ofNat 32 n := by
        by_contra hne
        have hf : IntOp.cmpi .eq (BitVec.ofNat 32 k) (BitVec.ofNat 32 n) = 0#1 := by
          show BitVec.ofBool (BitVec.ofNat 32 k == BitVec.ofNat 32 n) = 0#1
          rw [beq_eq_false_iff_ne.2 hne]
          rfl
        rw [hf] at hc
        exact absurd hc (by decide)
      have h3 := congrArg BitVec.toNat h2
      rw [BitVec.toNat_ofNat, BitVec.toNat_ofNat] at h3
      omega

/-! ## The pieces of the block -/

theorem inb_cell (k h : ℕ) (hk : k < 32) (hh : h < 8) : ∀ a, (![k, h] : Fin 2 → ℕ) a + S1x1.size a ≤ S32x8.size a := fun a => by
  fin_cases a
  · show k + 1 ≤ 32
    omega
  · show h + 1 ≤ 8
    omega

/-- The table's entry of row `k` and head `h`, as the body loads it. -/
def cell (arg1 : Memref sig .tc .smem S32x8 .f32) (f : arg1.view.ty.Contents (Elt Ideal)) (h : ℕ) (hh : h < 8) (k : ℕ) : EReal :=
  if hk : k < 32 then
    arg1.view.readAt (Elt Ideal) (Rect.unit (s := S32x8) ![k, h] S1x1.size (inb_cell k h hk hh)).toLoadRect f
      (Shape.Idx.first (numel1_S1x1.symm ▸ Nat.one_pos))
  else 0

theorem cell_eq (arg1 : Memref sig .tc .smem S32x8 .f32) (f : arg1.view.ty.Contents (Elt Ideal)) (h : Fin 8) (k : Fin 32) :
    cell arg1 f h.val h.isLt k.val = arg1.view.read (Elt Ideal) f (ix2 k h) := by
  unfold cell
  rw [dif_pos k.isLt]
  refine congrArg (arg1.view.read (Elt Ideal) f) ?_
  have z : ∀ (x : S1x1.Idx) (a : Fin 2), (x a).val = 0 := fun x a => by
    have hx : (x a).val < (![1, 1] : Fin 2 → ℕ) a := (x a).isLt
    fin_cases a
    · have h0 : (x 0).val < 1 := hx
      show (x 0).val = 0
      omega
    · have h0 : (x 1).val < 1 := hx
      show (x 1).val = 0
      omega
  funext a
  refine Fin.ext ?_
  fin_cases a
  · show k.val + 1 * _ = k.val
    rw [z _ _, Nat.mul_zero, Nat.add_zero]
  · show h.val + 1 * _ = h.val
    rw [z _ _, Nat.mul_zero, Nat.add_zero]

def slab (B : FVec Ideal S256x128 .f32) : FVec Ideal S1x256x128 .f32 := shapeCast S1x256x128 B shapeCasts_S256x128_S1x256x128

theorem slab_at (B : FVec Ideal S256x128 .f32) (r : Fin 256) (l : Fin 128) : slab B (ix3 (0 : Fin 1) r l) = B (ix2 r l) := by
  unfold slab
  pointwise

section
variable (c : Dev nD) (i : grid0.Coords) (arg1 : Memref sig .tc .smem S32x8 .f32) (harg1 : arg1.IsWhole)
  (arg2 : Memref sig .tc .vmem S256x128 .i32) (harg2 : arg2.IsWhole) (arg3 : Memref sig .tc .vmem S8x256x128 .f32) (harg3 : arg3.IsWhole)
  (x0 : Vec Ideal S32x8 .f32) (x1 : Vec Ideal S256x128 .i32)

/-- The buckets of the block. -/
def bk : IVec S256x128 32 :=
  k0_pay2 (F := Ideal) (arg2.view.readAt (Elt Ideal) (Rect.unit (s := S256x128) ![0, 0] S256x128.size inb_S256x128_S256x128_0_0).toLoadRect (harg2.unread x1))

/-- One head's part of the block. -/
def part (h : ℕ) (hh : h < 8) : FVec Ideal S1x256x128 .f32 :=
  slab (lookup (bk arg2 harg2 x1) (cell arg1 (harg1.unread x0) h hh) 32)

theorem pieces : (kernelRun0_A (F := Ideal) c i arg1 harg1 arg2 harg2 arg3 harg3 x0 x1).1
    = [⟨Rect.unit (s := S8x256x128) ![7, 0, 0] S1x256x128.size inb_S8x256x128_S1x256x128_7_0_0, part arg1 harg1 arg2 harg2 x0 x1 7 (by decide)⟩,
       ⟨Rect.unit (s := S8x256x128) ![6, 0, 0] S1x256x128.size inb_S8x256x128_S1x256x128_6_0_0, part arg1 harg1 arg2 harg2 x0 x1 6 (by decide)⟩,
       ⟨Rect.unit (s := S8x256x128) ![5, 0, 0] S1x256x128.size inb_S8x256x128_S1x256x128_5_0_0, part arg1 harg1 arg2 harg2 x0 x1 5 (by decide)⟩,
       ⟨Rect.unit (s := S8x256x128) ![4, 0, 0] S1x256x128.size inb_S8x256x128_S1x256x128_4_0_0, part arg1 harg1 arg2 harg2 x0 x1 4 (by decide)⟩,
       ⟨Rect.unit (s := S8x256x128) ![3, 0, 0] S1x256x128.size inb_S8x256x128_S1x256x128_3_0_0, part arg1 harg1 arg2 harg2 x0 x1 3 (by decide)⟩,
       ⟨Rect.unit (s := S8x256x128) ![2, 0, 0] S1x256x128.size inb_S8x256x128_S1x256x128_2_0_0, part arg1 harg1 arg2 harg2 x0 x1 2 (by decide)⟩,
       ⟨Rect.unit (s := S8x256x128) ![1, 0, 0] S1x256x128.size inb_S8x256x128_S1x256x128_1_0_0, part arg1 harg1 arg2 harg2 x0 x1 1 (by decide)⟩,
       ⟨Rect.unit (s := S8x256x128) ![0, 0, 0] S1x256x128.size inb_S8x256x128_S1x256x128_0_0_0, part arg1 harg1 arg2 harg2 x0 x1 0 (by decide)⟩] := by
  unfold kernelRun0_A
  dsimp only
  sl_unfold_run_names
  rfl

/-- The buckets are those of the distances. -/
theorem bk_at (r : Fin 256) (l : Fin 128) : bk arg2 harg2 x1 (ix2 r l) = bucket (x1 (ix2 r l)) := by
  have e : arg2.view.readAt (Elt Ideal) (Rect.unit (s := S256x128) ![0, 0] S256x128.size inb_S256x128_S256x128_0_0).toLoadRect (harg2.unread x1) = x1 := by
    rw [View.readAt_full, harg2.read_unread]
  unfold bk
  rw [e]
  unfold k0_pay2 bucket scaled near
  pointwise
  rfl

/-- A head's part at an index: the table at the distance's bucket. -/
theorem part_at (h : Fin 8) (r : Fin 256) (l : Fin 128) (b : Fin 32) (hb : bucket (x1 (ix2 r l)) = BitVec.ofNat 32 b.val) :
    part arg1 harg1 arg2 harg2 x0 x1 h.val h.isLt (ix3 (0 : Fin 1) r l) = x0 (ix2 b h) := by
  unfold part
  rw [slab_at, lookup_at _ _ _ b.val 32 le_rfl b.isLt ((bk_at arg2 harg2 x1 r l).trans hb), cell_eq, harg1.read_unread]

theorem part_tile (h : Fin 8) (r : Fin 256) (l : Fin 128) (b : Fin 32) (hb : bucket (x1 (ix2 r l)) = BitVec.ofNat 32 b.val)
    (n : ℕ) (hn : n < 8) (x : S1x256x128.Idx)
    (hx : ∀ a, ((ix3 h r l : S8x256x128.Idx) a).val = (![n, 0, 0] : Fin 3 → ℕ) a + (x a).val) :
    part arg1 harg1 arg2 harg2 x0 x1 n hn x = x0 (ix2 b h) := by
  obtain ⟨z, r', l', rfl⟩ : ∃ (z : Fin 1) (r : Fin 256) (l : Fin 128), x = ix3 z r l := ⟨x 0, x 1, x 2, by blk_ext⟩
  obtain rfl : z = 0 := Subsingleton.elim _ _
  have h0 : h.val = n + 0 := hx 0
  have h1 : r.val = 0 + r'.val := hx 1
  have h2 : l.val = 0 + l'.val := hx 2
  obtain rfl : r = r' := Fin.ext (by omega)
  obtain rfl : l = l' := Fin.ext (by omega)
  obtain rfl : n = h.val := by omega
  exact part_at arg1 harg1 arg2 harg2 x0 x1 h r l b hb

/-- The block after the body. -/
theorem out_at (h : Fin 8) (r : Fin 256) (l : Fin 128) (b : Fin 32) (hb : bucket (x1 (ix2 r l)) = BitVec.ofNat 32 b.val) :
    out0_A_2 c i arg1 harg1 arg2 harg2 arg3 harg3 x0 x1 (ix3 h r l) = x0 (ix2 b h) := by
  unfold out0_A_2
  rw [View.read_writes_junk_apply_eq_canon]
  refine View.canon_eq_of_allAt _ _ _ (cover0_A_2 c i arg1 harg1 arg2 harg2 arg3 harg3 x0 x1 _) ?_
  rw [pieces]
  have P := part_tile arg1 harg1 arg2 harg2 x0 x1 h r l b hb
  refine View.allAt_cons_unit _ _ _ _ _ (P 7 (by decide)) ?_
  refine View.allAt_cons_unit _ _ _ _ _ (P 6 (by decide)) ?_
  refine View.allAt_cons_unit _ _ _ _ _ (P 5 (by decide)) ?_
  refine View.allAt_cons_unit _ _ _ _ _ (P 4 (by decide)) ?_
  refine View.allAt_cons_unit _ _ _ _ _ (P 3 (by decide)) ?_
  refine View.allAt_cons_unit _ _ _ _ _ (P 2 (by decide)) ?_
  refine View.allAt_cons_unit _ _ _ _ _ (P 1 (by decide)) ?_
  refine View.allAt_cons_unit _ _ _ _ _ (P 0 (by decide)) ?_
  exact View.allAt_nil _ _

end

end Cert.Kernel9Ideal.Bias
end
end
-- ==== Proof.Bias.Array.lean ====
/- The kernel's blocks of the table and of the distances at a grid point, and its output array. -/
module

public import proofs.«01_k».proof.Proof.Bias.Block
public import Idealize.ShloMosaic.Lib.Pipeline.Covers
public import Idealize.ShloMosaic.Lib.StableHlo.ReadAt

@[expose] public section
set_option maxRecDepth 16384
noncomputable section
namespace Cert.Kernel9Ideal.Bias
open Cert.Kernel9Ideal Cert.Kernel9Ideal.Gen Cert.Bias Idealize.ShloMosaic Idealize.ShloMosaic.TcCoe Idealize.SL.Sem
open Idealize.ShloMosaic.Pipeline (Dat)

/-- For each head, position and compressed block: the table's entry of the distance's bucket and the head. -/
def spec (A : Vec Ideal S32x8 .f32) : Vec Ideal S8x2048x128 .f32 := fun i => A (ix2 (row (distTo (i 1).val (i 2).val)) (i 0))

variable (m : (ℓ : Loc nD τ sig) → Buf (Elt Ideal) ℓ)

theorem coords0 (t : Fin cfg0.N) : (grid0.coords t 0).val = t.val := by
  have ht : t.val < 8 := t.isLt
  rw [Pipeline.Grid.coords_val (S := 1) (B := 8) t 0 (by decide) (by decide)]
  omega

/-- The block each window is at, by the grid point. -/
theorem idx (t : Fin cfg0.N) :
    win0_0.index t = ![0, 0]
    ∧ win0_1.index t = ![t.val, 0]
    ∧ win0_2.index t = ![0, t.val, 0] := by
  have ht : t.val < 8 := t.isLt
  have e0 : (BitVec.ofNat 32 (grid0.coords t 0).val).toNat = t.val := by
    rw [coords0 t, BitVec.toNat_ofNat]; omega
  refine ⟨?_, ?_, ?_⟩
  · show cc0_transform_0 (grid0.coords t) = _
    unfold cc0_transform_0; rfl
  · show cc0_transform_1 (grid0.coords t) = _
    unfold cc0_transform_1; rw [← e0]; rfl
  · show cc0_transform_2 (grid0.coords t) = _
    unfold cc0_transform_2; rw [← e0]; rfl

/-- The argument. -/
abbrev aA (c : Dev nD) : Vec Ideal S32x8 .f32 := m ((c : Thread nD τ).loc main_arg0)

theorem i0 (c : Dev nD) (t : Fin cfg0.N) (k : Fin 32) (h : Fin 8) : iblk m c 0 t (ix2 k h) = aA m c (ix2 k h) := by
  unfold aA
  rw [← V_main_arg0 m c]
  blk_simp [iblk]
  refine congrArg (V m c main_arg0) ?_
  blk_ext [idx t]

theorem dist_at (c : Dev nD) (i : Fin 2048) (j : Fin 128) : V m c main_v10 (ix2 i j) = distTo i.val j.val := by
  unfold V
  unfold hostOps0
  after_reads_at
  rfl

theorem i1 (c : Dev nD) (t : Fin cfg0.N) (i : Fin 2048) (r : Fin 256) (hi : i.val = 256 * t.val + r.val) (l : Fin 128) :
    iblk m c 1 t (ix2 r l) = distTo i.val l.val := by
  rw [← dist_at m c i l]
  blk_simp [iblk]
  refine congrArg (V m c main_v10) ?_
  blk_ext [idx t]

/-- The output's blocks cover its array. -/
theorem covers : (cfg0.win 2).Covers :=
  (cfg0.win 2).covers_of_indexMap_surj rfl (by decide) fun β => by
    have b0 : (β 0).val < 1 := (β 0).isLt
    have b1 : (β 1).val < 8 := (β 1).isLt
    have b2 : (β 2).val < 1 := (β 2).isLt
    refine ⟨fun a => ⟨(![(β 1).val] : Fin 1 → ℕ) a, ?_⟩, fun a => ?_⟩
    · fin_cases a
      exact b1
    · rw [show ∀ i : grid0.Coords, (cfg0.win 2).indexMap i = cc0_transform_2 i from fun _ => rfl]
      unfold cc0_transform_2
      fin_cases a
      · show _ = (β 0).val
        rw [show (β 0).val = 0 by omega]
        rfl
      · exact (BitVec.toNat_ofNat _ _).trans (Nat.mod_eq_of_lt (by show (β 1).val < _; omega))
      · show _ = (β 2).val
        rw [show (β 2).val = 0 by omega]
        rfl

theorem array (c : Dev nD) : (dats m 0 c).arrAt 2 cfg0.N = spec (aA m c) := by
  refine (dats m 0 c).arrAt_eq_of_covers 2 _ covers fun t hfl y => ?_
  blk_simp
  rw [after0_2]
  have ht : t.val < 8 := t.isLt
  obtain ⟨h, r, l, rfl⟩ : ∃ (h : Fin 8) (r : Fin 256) (l : Fin 128), y = ix3 h r l := ⟨y 0, y 1, y 2, by blk_ext⟩
  have hr := r.isLt
  unfold outsAt0
  refine (out_at c _ _ _ _ _ _ _ _ _ h r l (row (distTo (256 * t.val + r.val) l.val)) ?_).trans ?_
  · rw [i1 m c t ⟨256 * t.val + r.val, by omega⟩ r rfl l]
    exact bucket_row _
  · rw [i0]
    show spec (aA m c) (ix3 h ⟨256 * t.val + r.val, by omega⟩ l) = _
    refine congrArg (spec (aA m c)) ?_
    blk_ext [idx t]

end Cert.Kernel9Ideal.Bias
end
end
-- ==== Proof.Bias.Ref.lean ====
/- The reference's table lookup read at an index. -/
module

public import proofs.«01_k».proof.Proof.Gen.Reference9Ideal.Run
public import proofs.«01_k».proof.Proof.Bias.Bucket
public import Idealize.ShloMosaic.Lib.Pipeline.ValueKit
public import Idealize.ShloMosaic.Lib.Routing.Ops

@[expose] public section
set_option maxRecDepth 16384
noncomputable section
namespace Cert.Reference9Ideal.Bias
open Cert.Reference9Ideal Cert.Reference9Ideal.Gen Cert.Reference9Ideal.Value Cert.Bias Idealize.ShloMosaic Idealize.ShloMosaic.TcCoe Idealize.SL.Sem

/-- The table's row at a bucket: where the indices hold a row number, the result holds that row. -/
theorem gather_at (A : Vec Ideal S32x8 .f32) (I : IVec S2048x128x1 32) (i : Fin 2048) (j : Fin 128) (h : Fin 8) (b : Fin 32)
    (hb : I (ix3 i j (0 : Fin 1)) = BitVec.ofNat 32 b.val) :
    Host.gather gather_S32x8_S2048x128x1_S2048x128x8_2_0_n_n_0_2_18 A I (ix3 i j h) = A (ix2 b h) := by
  have hbl := b.isLt
  unfold Host.gather
  refine congrArg A (funext fun a => Fin.ext ?_)
  match a with
  | ⟨0, _⟩ =>
    show gather_S32x8_S2048x128x1_S2048x128x8_2_0_n_n_0_2_18.start (ix3 i j h) I 0
      + gather_S32x8_S2048x128x1_S2048x128x8_2_0_n_n_0_2_18.batchCoord (ix3 i j h) 0
      + gather_S32x8_S2048x128x1_S2048x128x8_2_0_n_n_0_2_18.offCoord (ix3 i j h) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2048x128x1_S2048x128x8_2_0_n_n_0_2_18.startIndexMap from List.mem_singleton.mpr rfl)]
    have hsi : gather_S32x8_S2048x128x1_S2048x128x8_2_0_n_n_0_2_18.siIdx (ix3 i j h)
        ⟨List.idxOf (0 : Fin 2) gather_S32x8_S2048x128x1_S2048x128x8_2_0_n_n_0_2_18.startIndexMap,
          List.idxOf_lt_length_iff.2 (List.mem_singleton.mpr rfl)⟩ = ix3 i j (0 : Fin 1) := by
      funext b'; refine Fin.ext ?_
      match b' with
      | ⟨0, _⟩ => rfl
      | ⟨1, _⟩ => rfl
      | ⟨2, _⟩ => rfl
    rw [hsi, hb]
    show min (BitVec.ofNat 32 b.val).toInt.toNat (32 - 1) = b.val
    rw [StableHlo.Predicate.toInt_ofNat_small _ (by omega)]
    omega
  | ⟨1, _⟩ =>
    show gather_S32x8_S2048x128x1_S2048x128x8_2_0_n_n_0_2_18.start (ix3 i j h) I 1
      + gather_S32x8_S2048x128x1_S2048x128x8_2_0_n_n_0_2_18.batchCoord (ix3 i j h) 1
      + gather_S32x8_S2048x128x1_S2048x128x8_2_0_n_n_0_2_18.offCoord (ix3 i j h) 1 = h.val
    rw [GatherDims.batchCoord_eq_zero _ _ _ List.not_mem_nil]
    have hs : gather_S32x8_S2048x128x1_S2048x128x8_2_0_n_n_0_2_18.start (ix3 i j h) I 1 = 0 := by
      unfold GatherDims.start
      rw [dif_neg (show (1 : Fin 2) ∉ gather_S32x8_S2048x128x1_S2048x128x8_2_0_n_n_0_2_18.startIndexMap from
        fun hm => absurd (List.mem_singleton.mp hm) (by decide))]
    rw [hs]
    simp only [Nat.add_zero, Nat.zero_add]
    rfl

/-- A bucket is not below zero, so it is not moved up by the table's length. -/
theorem not_neg (b : Fin 32) : IntOp.cmpi .slt (BitVec.ofNat 32 b.val) 0#32 = 0#1 := by
  revert b
  decide

theorem res_at (m : (ℓ : Loc nD τ sig) → Buf (Elt Ideal) ℓ) (c : Dev nD) (h : Fin 8) (i : Fin 2048) (j : Fin 128) :
    res_out0 m c (ix3 h i j) = (m ((c.tc : Thread nD τ).loc main_arg0) : Vec Ideal S32x8 .f32) (ix2 (row (distTo i.val j.val)) h) := by
  unfold res_out0 res_main_v38
  pointwise
  refine gather_at _ _ i j h _ ?_
  have hb : bucket (distTo i.val j.val) = BitVec.ofNat 32 (row (distTo i.val j.val)).val := bucket_row _
  pointwise
  show Scalar.select (IntOp.cmpi .slt (bucket (distTo i.val j.val)) 0#32)
    (IntOp.addi (bucket (distTo i.val j.val)) 32#32) (bucket (distTo i.val j.val)) = _
  rw [hb, not_neg]
  rfl

end Cert.Reference9Ideal.Bias
end
end
-- ==== Proof.Bias.Claims.lean ====
/- The claims about the relative position bias of the prompt's compressed tokens, one theorem each. -/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Bias.Array
public import proofs.«01_k».proof.Proof.Bias.Ref
public import Idealize.ShloMosaic.Lib.Quiescent

@[expose] public section
noncomputable section
namespace Cert.Proof.Bias
open Idealize.ShloMosaic Idealize.ShloMosaic.TcCoe Idealize.SL.Sem

/-- The kernel as written runs, keeps its argument and ends with every counter at zero. -/
theorem frame_p : Cert.quiescent_Kernel9 (hKernel9 := Cert.Kernel9.Gen.facts) := fun m ρ _ => Cert.Kernel9.Gen.frame m ρ

/-- So does its idealization. -/
theorem frame_pi : Cert.quiescent_Kernel9Ideal (hKernel9Ideal := Cert.Kernel9Ideal.Gen.facts) :=
  fun m ρ _ => Cert.Kernel9Ideal.Gen.frame m ρ

/-- The reference runs and keeps its argument; it declares no semaphore. -/
theorem frame_r : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- Nothing was rewritten between the kernel and its idealization. -/
theorem preserves : Cert.preserves_Kernel9_Kernel9Ideal := trivial

/-- Kernel and reference end with the same array: for each head, position and block the table's entry of their distance. -/
theorem algebraic : Cert.algebraic_Kernel9Ideal_Reference9Ideal (hKernel9Ideal := Cert.Kernel9Ideal.Gen.facts)
    (hReference9Ideal := Cert.Reference9Ideal.Gen.facts) := by
  intro m g m' g' _ harg
  refine ⟨fun c => Cert.Kernel9Ideal.Bias.spec (Cert.Kernel9Ideal.Bias.aA m c), ?_, ?_⟩
  · exact (θ_run Cert.Kernel9Ideal.defs _ _).mono
      (fun r h c => ⟨(h c).1.trans (Cert.Kernel9Ideal.Bias.array m c), (h c).2⟩)
      (Cert.Kernel9Ideal.Value.run_blocks m g)
  · refine (θ_run Cert.Reference9Ideal.defs _ _).mono (fun r h c => ⟨(h c).1.trans ?_, (h c).2⟩)
      (Cert.Reference9Ideal.Value.run (F := Ideal) m' g')
    funext y
    obtain ⟨a, i, j, rfl⟩ : ∃ (a : Fin 8) (i : Fin 2048) (j : Fin 128), y = ix3 a i j := ⟨y 0, y 1, y 2, by blk_ext⟩
    refine (Cert.Reference9Ideal.Bias.res_at m' c a i j).trans ?_
    rw [harg c]
    rfl

end Cert.Proof.Bias
end
end
-- ==== Proof.lean ====
/- The claims, put together. -/
module

public import proofs.«01_k».proof.Defs
public import proofs.«01_k».proof.Proof.Fox.Claims
public import proofs.«01_k».proof.Proof.Mlp.Claims
public import proofs.«01_k».proof.Proof.MlpS.Claims
public import proofs.«01_k».proof.Proof.Out.Claims
public import proofs.«01_k».proof.Proof.Proj.Claims
public import proofs.«01_k».proof.Proof.ProjS.Claims
public import proofs.«01_k».proof.Proof.OutS.Claims
public import proofs.«01_k».proof.Proof.Cum.Claims
public import proofs.«01_k».proof.Proof.Bias.Claims
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Pre_finite.facts, Cert.Pre_below.facts,
    Fox.frame_p, Fox.frame_pi, Fox.frame_pi_pre, Fox.frame_r, Fox.frame_r_pre,
    Mlp.frame_p, Mlp.frame_pi, Mlp.frame_r,
    MlpS.frame_p, MlpS.frame_pi, MlpS.frame_r,
    Out.frame_p, Out.frame_pi, Out.frame_r,
    Proj.frame_p, Proj.frame_pi, Proj.frame_r,
    ProjS.frame_p, ProjS.frame_pi, ProjS.frame_r,
    OutS.frame_p, OutS.frame_pi, OutS.frame_r,
    Cum.frame_p, Cum.frame_pi, Cum.frame_pi_pre, Cum.frame_r, Cum.frame_r_pre,
    Bias.frame_p, Bias.frame_pi, Bias.frame_r,
    Fox.preserves, Fox.algebraic, Mlp.preserves, Mlp.algebraic,
    MlpS.preserves, MlpS.algebraic, Out.preserves, Out.algebraic, Proj.preserves, Proj.algebraic,
    ProjS.preserves, ProjS.algebraic, OutS.preserves, OutS.algebraic,
    Cum.preserves, Cum.algebraic, Bias.preserves, Bias.algebraic⟩

end Cert.Proof

end
